-- ==== Defs.lean ====
def Pre_Kernel [hPre_experts_name_rows : Cert.Pre_experts_name_rows.Facts] (m : (ℓ : Loc Cert.Kernel.nD Cert.Kernel.τ Cert.Kernel.sig) → Buf (Elt Bits) ℓ) : Prop :=
  ∀ c : Dev Cert.Kernel.nD,
    (Cert.Pre_experts_name_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_experts_name_rows : Cert.Pre_experts_name_rows.Facts] (m : (ℓ : Loc Cert.KernelIdeal.nD Cert.KernelIdeal.τ Cert.KernelIdeal.sig) → Buf (Elt Ideal) ℓ) : Prop :=
  ∀ c : Dev Cert.KernelIdeal.nD,
    (Cert.Pre_experts_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_experts_name_rows : Cert.Pre_experts_name_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_name_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_PeerQuery (m : (ℓ : Loc Cert.PeerQuery.nD Cert.PeerQuery.τ Cert.PeerQuery.sig) → Buf (Elt Bits) ℓ) : Prop :=
  True

def Pre_PeerQueryIdeal (m : (ℓ : Loc Cert.PeerQueryIdeal.nD Cert.PeerQueryIdeal.τ Cert.PeerQueryIdeal.sig) → Buf (Elt Ideal) ℓ) : Prop :=
  True

def Pre_PeerQueryReferenceIdeal (m : (ℓ : Loc Cert.PeerQueryReferenceIdeal.nD Cert.PeerQueryReferenceIdeal.τ Cert.PeerQueryReferenceIdeal.sig) → Buf (Elt Ideal) ℓ) : Prop :=
  True

def Pre_MemQuery (m : (ℓ : Loc Cert.MemQuery.nD Cert.MemQuery.τ Cert.MemQuery.sig) → Buf (Elt Bits) ℓ) : Prop :=
  True

def Pre_MemQueryIdeal (m : (ℓ : Loc Cert.MemQueryIdeal.nD Cert.MemQueryIdeal.τ Cert.MemQueryIdeal.sig) → Buf (Elt Ideal) ℓ) : Prop :=
  True

def Pre_MemQueryReferenceIdeal (m : (ℓ : Loc Cert.MemQueryReferenceIdeal.nD Cert.MemQueryReferenceIdeal.τ Cert.MemQueryReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_queries_and_keys [hPre_finite_queries_and_keys : Cert.Pre_finite_queries_and_keys.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_queries_and_keys.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_finite_queries_and_keys [hPre_finite_queries_and_keys : Cert.Pre_finite_queries_and_keys.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_finite_queries_and_keys.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_MemOut (m : (ℓ : Loc Cert.MemOut.nD Cert.MemOut.τ Cert.MemOut.sig) → Buf (Elt Bits) ℓ) : Prop :=
  True

def Pre_MemOutIdeal (m : (ℓ : Loc Cert.MemOutIdeal.nD Cert.MemOutIdeal.τ Cert.MemOutIdeal.sig) → Buf (Elt Ideal) ℓ) : Prop :=
  True

def Pre_MemOutReferenceIdeal (m : (ℓ : Loc Cert.MemOutReferenceIdeal.nD Cert.MemOutReferenceIdeal.τ Cert.MemOutReferenceIdeal.sig) → Buf (Elt Ideal) ℓ) : Prop :=
  True

def Pre_LastNorm (m : (ℓ : Loc Cert.LastNorm.nD Cert.LastNorm.τ Cert.LastNorm.sig) → Buf (Elt Bits) ℓ) : Prop :=
  True

def Pre_LastNormIdeal (m : (ℓ : Loc Cert.LastNormIdeal.nD Cert.LastNormIdeal.τ Cert.LastNormIdeal.sig) → Buf (Elt Ideal) ℓ) : Prop :=
  True

def Pre_LastNormReferenceIdeal (m : (ℓ : Loc Cert.LastNormReferenceIdeal.nD Cert.LastNormReferenceIdeal.τ Cert.LastNormReferenceIdeal.sig) → Buf (Elt Ideal) ℓ) : Prop :=
  True

def quiescent_Kernel [hKernel : Cert.Kernel.Facts] [hPre_experts_name_rows : Cert.Pre_experts_name_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_experts_name_rows : Cert.Pre_experts_name_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_experts_name_rows : Cert.Pre_experts_name_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_PeerQuery [hPeerQuery : Cert.PeerQuery.Facts] : Prop :=
  ∀ (m : (ℓ : Loc Cert.PeerQuery.nD Cert.PeerQuery.τ Cert.PeerQuery.sig) → Buf (Elt Bits) ℓ) (g : Dev Cert.PeerQuery.nD → PrngReg), Pre_PeerQuery m →
    θ_run (Cert.PeerQuery.defs (F := Bits)) (onTc (τ := Cert.PeerQuery.τ) (Cert.PeerQuery.main (F := Bits))) ⟨m, fun _ => 0, g⟩ (fun r => (∀ c : Dev Cert.PeerQuery.nD,
      r.2.mem ((c.tc : Thread Cert.PeerQuery.nD Cert.PeerQuery.τ).loc Cert.PeerQuery.main_arg0) = m ((c.tc : Thread Cert.PeerQuery.nD Cert.PeerQuery.τ).loc Cert.PeerQuery.main_arg0)
      ∧ r.2.mem ((c.tc : Thread Cert.PeerQuery.nD Cert.PeerQuery.τ).loc Cert.PeerQuery.main_arg1) = m ((c.tc : Thread Cert.PeerQuery.nD Cert.PeerQuery.τ).loc Cert.PeerQuery.main_arg1))
      ∧ r.2.sem = fun _ => 0)

def quiescent_PeerQueryIdeal [hPeerQueryIdeal : Cert.PeerQueryIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg), Pre_PeerQueryIdeal m →
    θ_run (Cert.PeerQueryIdeal.defs (F := Ideal)) (onTc (τ := Cert.PeerQueryIdeal.τ) (Cert.PeerQueryIdeal.main (F := Ideal))) ⟨m, fun _ => 0, g⟩ (fun r => (∀ c : Dev Cert.PeerQueryIdeal.nD,
      r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
      ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1))
      ∧ r.2.sem = fun _ => 0)

def quiescent_PeerQueryReferenceIdeal [hPeerQueryReferenceIdeal : Cert.PeerQueryReferenceIdeal.Facts] : Prop :=
  ∀ (m : (ℓ : Loc Cert.PeerQueryReferenceIdeal.nD Cert.PeerQueryReferenceIdeal.τ Cert.PeerQueryReferenceIdeal.sig) → Buf (Elt Ideal) ℓ) (g : Dev Cert.PeerQueryReferenceIdeal.nD → PrngReg), Pre_PeerQueryReferenceIdeal m →
    θ_run (Cert.PeerQueryReferenceIdeal.defs (F := Ideal)) (onTc (τ := Cert.PeerQueryReferenceIdeal.τ) (Cert.PeerQueryReferenceIdeal.main (F := Ideal))) ⟨m, fun _ => 0, g⟩ (fun r => (∀ c : Dev Cert.PeerQueryReferenceIdeal.nD,
      r.2.mem ((c.tc : Thread Cert.PeerQueryReferenceIdeal.nD Cert.PeerQueryReferenceIdeal.τ).loc Cert.PeerQueryReferenceIdeal.main_arg0) = m ((c.tc : Thread Cert.PeerQueryReferenceIdeal.nD Cert.PeerQueryReferenceIdeal.τ).loc Cert.PeerQueryReferenceIdeal.main_arg0)
      ∧ r.2.mem ((c.tc : Thread Cert.PeerQueryReferenceIdeal.nD Cert.PeerQueryReferenceIdeal.τ).loc Cert.PeerQueryReferenceIdeal.main_arg1) = m ((c.tc : Thread Cert.PeerQueryReferenceIdeal.nD Cert.PeerQueryReferenceIdeal.τ).loc Cert.PeerQueryReferenceIdeal.main_arg1))
      ∧ r.2.sem = fun _ => 0)

def quiescent_MemQuery [hMemQuery : Cert.MemQuery.Facts] : Prop :=
  ∀ (m : (ℓ : Loc Cert.MemQuery.nD Cert.MemQuery.τ Cert.MemQuery.sig) → Buf (Elt Bits) ℓ) (g : Dev Cert.MemQuery.nD → PrngReg), Pre_MemQuery m →
    θ_run (Cert.MemQuery.defs (F := Bits)) (onTc (τ := Cert.MemQuery.τ) (Cert.MemQuery.main (F := Bits))) ⟨m, fun _ => 0, g⟩ (fun r => (∀ c : Dev Cert.MemQuery.nD,
      r.2.mem ((c.tc : Thread Cert.MemQuery.nD Cert.MemQuery.τ).loc Cert.MemQuery.main_arg0) = m ((c.tc : Thread Cert.MemQuery.nD Cert.MemQuery.τ).loc Cert.MemQuery.main_arg0)
      ∧ r.2.mem ((c.tc : Thread Cert.MemQuery.nD Cert.MemQuery.τ).loc Cert.MemQuery.main_arg1) = m ((c.tc : Thread Cert.MemQuery.nD Cert.MemQuery.τ).loc Cert.MemQuery.main_arg1))
      ∧ r.2.sem = fun _ => 0)

def quiescent_MemQueryIdeal [hMemQueryIdeal : Cert.MemQueryIdeal.Facts] : Prop :=
  ∀ (m : (ℓ : Loc Cert.MemQueryIdeal.nD Cert.MemQueryIdeal.τ Cert.MemQueryIdeal.sig) → Buf (Elt Ideal) ℓ) (g : Dev Cert.MemQueryIdeal.nD → PrngReg), Pre_MemQueryIdeal m →
    θ_run (Cert.MemQueryIdeal.defs (F := Ideal)) (onTc (τ := Cert.MemQueryIdeal.τ) (Cert.MemQueryIdeal.main (F := Ideal))) ⟨m, fun _ => 0, g⟩ (fun r => (∀ c : Dev Cert.MemQueryIdeal.nD,
      r.2.mem ((c.tc : Thread Cert.MemQueryIdeal.nD Cert.MemQueryIdeal.τ).loc Cert.MemQueryIdeal.main_arg0) = m ((c.tc : Thread Cert.MemQueryIdeal.nD Cert.MemQueryIdeal.τ).loc Cert.MemQueryIdeal.main_arg0)
      ∧ r.2.mem ((c.tc : Thread Cert.MemQueryIdeal.nD Cert.MemQueryIdeal.τ).loc Cert.MemQueryIdeal.main_arg1) = m ((c.tc : Thread Cert.MemQueryIdeal.nD Cert.MemQueryIdeal.τ).loc Cert.MemQueryIdeal.main_arg1))
      ∧ r.2.sem = fun _ => 0)

def quiescent_MemQueryReferenceIdeal [hMemQueryReferenceIdeal : Cert.MemQueryReferenceIdeal.Facts] : Prop :=
  ∀ (m : (ℓ : Loc Cert.MemQueryReferenceIdeal.nD Cert.MemQueryReferenceIdeal.τ Cert.MemQueryReferenceIdeal.sig) → Buf (Elt Ideal) ℓ) (g : Dev Cert.MemQueryReferenceIdeal.nD → PrngReg), Pre_MemQueryReferenceIdeal m →
    θ_run (Cert.MemQueryReferenceIdeal.defs (F := Ideal)) (onTc (τ := Cert.MemQueryReferenceIdeal.τ) (Cert.MemQueryReferenceIdeal.main (F := Ideal))) ⟨m, fun _ => 0, g⟩ (fun r => (∀ c : Dev Cert.MemQueryReferenceIdeal.nD,
      r.2.mem ((c.tc : Thread Cert.MemQueryReferenceIdeal.nD Cert.MemQueryReferenceIdeal.τ).loc Cert.MemQueryReferenceIdeal.main_arg0) = m ((c.tc : Thread Cert.MemQueryReferenceIdeal.nD Cert.MemQueryReferenceIdeal.τ).loc Cert.MemQueryReferenceIdeal.main_arg0)
      ∧ r.2.mem ((c.tc : Thread Cert.MemQueryReferenceIdeal.nD Cert.MemQueryReferenceIdeal.τ).loc Cert.MemQueryReferenceIdeal.main_arg1) = m ((c.tc : Thread Cert.MemQueryReferenceIdeal.nD Cert.MemQueryReferenceIdeal.τ).loc Cert.MemQueryReferenceIdeal.main_arg1))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ r.2.sem = fun _ => 0)

def quiescent_AttentionIdeal_pre_finite_queries_and_keys [hAttentionIdeal : Cert.AttentionIdeal.Facts] [hPre_finite_queries_and_keys : Cert.Pre_finite_queries_and_keys.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_queries_and_keys m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1))
      ∧ r.2.sem = fun _ => 0)

def quiescent_AttentionReferenceIdeal_pre_finite_queries_and_keys [hAttentionReferenceIdeal : Cert.AttentionReferenceIdeal.Facts] [hPre_finite_queries_and_keys : Cert.Pre_finite_queries_and_keys.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_finite_queries_and_keys m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5))
      ∧ r.2.sem = fun _ => 0)

def quiescent_MemOut [hMemOut : Cert.MemOut.Facts] : Prop :=
  ∀ (m : (ℓ : Loc Cert.MemOut.nD Cert.MemOut.τ Cert.MemOut.sig) → Buf (Elt Bits) ℓ) (g : Dev Cert.MemOut.nD → PrngReg), Pre_MemOut m →
    θ_run (Cert.MemOut.defs (F := Bits)) (onTc (τ := Cert.MemOut.τ) (Cert.MemOut.main (F := Bits))) ⟨m, fun _ => 0, g⟩ (fun r => (∀ c : Dev Cert.MemOut.nD,
      r.2.mem ((c.tc : Thread Cert.MemOut.nD Cert.MemOut.τ).loc Cert.MemOut.main_arg0) = m ((c.tc : Thread Cert.MemOut.nD Cert.MemOut.τ).loc Cert.MemOut.main_arg0)
      ∧ r.2.mem ((c.tc : Thread Cert.MemOut.nD Cert.MemOut.τ).loc Cert.MemOut.main_arg1) = m ((c.tc : Thread Cert.MemOut.nD Cert.MemOut.τ).loc Cert.MemOut.main_arg1)
      ∧ r.2.mem ((c.tc : Thread Cert.MemOut.nD Cert.MemOut.τ).loc Cert.MemOut.main_arg2) = m ((c.tc : Thread Cert.MemOut.nD Cert.MemOut.τ).loc Cert.MemOut.main_arg2)
      ∧ r.2.mem ((c.tc : Thread Cert.MemOut.nD Cert.MemOut.τ).loc Cert.MemOut.main_arg3) = m ((c.tc : Thread Cert.MemOut.nD Cert.MemOut.τ).loc Cert.MemOut.main_arg3)
      ∧ r.2.mem ((c.tc : Thread Cert.MemOut.nD Cert.MemOut.τ).loc Cert.MemOut.main_arg4) = m ((c.tc : Thread Cert.MemOut.nD Cert.MemOut.τ).loc Cert.MemOut.main_arg4))
      ∧ r.2.sem = fun _ => 0)

def quiescent_MemOutIdeal [hMemOutIdeal : Cert.MemOutIdeal.Facts] : Prop :=
  ∀ (m : (ℓ : Loc Cert.MemOutIdeal.nD Cert.MemOutIdeal.τ Cert.MemOutIdeal.sig) → Buf (Elt Ideal) ℓ) (g : Dev Cert.MemOutIdeal.nD → PrngReg), Pre_MemOutIdeal m →
    θ_run (Cert.MemOutIdeal.defs (F := Ideal)) (onTc (τ := Cert.MemOutIdeal.τ) (Cert.MemOutIdeal.main (F := Ideal))) ⟨m, fun _ => 0, g⟩ (fun r => (∀ c : Dev Cert.MemOutIdeal.nD,
      r.2.mem ((c.tc : Thread Cert.MemOutIdeal.nD Cert.MemOutIdeal.τ).loc Cert.MemOutIdeal.main_arg0) = m ((c.tc : Thread Cert.MemOutIdeal.nD Cert.MemOutIdeal.τ).loc Cert.MemOutIdeal.main_arg0)
      ∧ r.2.mem ((c.tc : Thread Cert.MemOutIdeal.nD Cert.MemOutIdeal.τ).loc Cert.MemOutIdeal.main_arg1) = m ((c.tc : Thread Cert.MemOutIdeal.nD Cert.MemOutIdeal.τ).loc Cert.MemOutIdeal.main_arg1)
      ∧ r.2.mem ((c.tc : Thread Cert.MemOutIdeal.nD Cert.MemOutIdeal.τ).loc Cert.MemOutIdeal.main_arg2) = m ((c.tc : Thread Cert.MemOutIdeal.nD Cert.MemOutIdeal.τ).loc Cert.MemOutIdeal.main_arg2)
      ∧ r.2.mem ((c.tc : Thread Cert.MemOutIdeal.nD Cert.MemOutIdeal.τ).loc Cert.MemOutIdeal.main_arg3) = m ((c.tc : Thread Cert.MemOutIdeal.nD Cert.MemOutIdeal.τ).loc Cert.MemOutIdeal.main_arg3)
      ∧ r.2.mem ((c.tc : Thread Cert.MemOutIdeal.nD Cert.MemOutIdeal.τ).loc Cert.MemOutIdeal.main_arg4) = m ((c.tc : Thread Cert.MemOutIdeal.nD Cert.MemOutIdeal.τ).loc Cert.MemOutIdeal.main_arg4))
      ∧ r.2.sem = fun _ => 0)

def quiescent_MemOutReferenceIdeal [hMemOutReferenceIdeal : Cert.MemOutReferenceIdeal.Facts] : Prop :=
  ∀ (m : (ℓ : Loc Cert.MemOutReferenceIdeal.nD Cert.MemOutReferenceIdeal.τ Cert.MemOutReferenceIdeal.sig) → Buf (Elt Ideal) ℓ) (g : Dev Cert.MemOutReferenceIdeal.nD → PrngReg), Pre_MemOutReferenceIdeal m →
    θ_run (Cert.MemOutReferenceIdeal.defs (F := Ideal)) (onTc (τ := Cert.MemOutReferenceIdeal.τ) (Cert.MemOutReferenceIdeal.main (F := Ideal))) ⟨m, fun _ => 0, g⟩ (fun r => (∀ c : Dev Cert.MemOutReferenceIdeal.nD,
      r.2.mem ((c.tc : Thread Cert.MemOutReferenceIdeal.nD Cert.MemOutReferenceIdeal.τ).loc Cert.MemOutReferenceIdeal.main_arg0) = m ((c.tc : Thread Cert.MemOutReferenceIdeal.nD Cert.MemOutReferenceIdeal.τ).loc Cert.MemOutReferenceIdeal.main_arg0)
      ∧ r.2.mem ((c.tc : Thread Cert.MemOutReferenceIdeal.nD Cert.MemOutReferenceIdeal.τ).loc Cert.MemOutReferenceIdeal.main_arg1) = m ((c.tc : Thread Cert.MemOutReferenceIdeal.nD Cert.MemOutReferenceIdeal.τ).loc Cert.MemOutReferenceIdeal.main_arg1)
      ∧ r.2.mem ((c.tc : Thread Cert.MemOutReferenceIdeal.nD Cert.MemOutReferenceIdeal.τ).loc Cert.MemOutReferenceIdeal.main_arg2) = m ((c.tc : Thread Cert.MemOutReferenceIdeal.nD Cert.MemOutReferenceIdeal.τ).loc Cert.MemOutReferenceIdeal.main_arg2)
      ∧ r.2.mem ((c.tc : Thread Cert.MemOutReferenceIdeal.nD Cert.MemOutReferenceIdeal.τ).loc Cert.MemOutReferenceIdeal.main_arg3) = m ((c.tc : Thread Cert.MemOutReferenceIdeal.nD Cert.MemOutReferenceIdeal.τ).loc Cert.MemOutReferenceIdeal.main_arg3)
      ∧ r.2.mem ((c.tc : Thread Cert.MemOutReferenceIdeal.nD Cert.MemOutReferenceIdeal.τ).loc Cert.MemOutReferenceIdeal.main_arg4) = m ((c.tc : Thread Cert.MemOutReferenceIdeal.nD Cert.MemOutReferenceIdeal.τ).loc Cert.MemOutReferenceIdeal.main_arg4))
      ∧ r.2.sem = fun _ => 0)

def quiescent_LastNorm [hLastNorm : Cert.LastNorm.Facts] : Prop :=
  ∀ (m : (ℓ : Loc Cert.LastNorm.nD Cert.LastNorm.τ Cert.LastNorm.sig) → Buf (Elt Bits) ℓ) (g : Dev Cert.LastNorm.nD → PrngReg), Pre_LastNorm m →
    θ_run (Cert.LastNorm.defs (F := Bits)) (onTc (τ := Cert.LastNorm.τ) (Cert.LastNorm.main (F := Bits))) ⟨m, fun _ => 0, g⟩ (fun r => (∀ c : Dev Cert.LastNorm.nD,
      r.2.mem ((c.tc : Thread Cert.LastNorm.nD Cert.LastNorm.τ).loc Cert.LastNorm.main_arg0) = m ((c.tc : Thread Cert.LastNorm.nD Cert.LastNorm.τ).loc Cert.LastNorm.main_arg0)
      ∧ r.2.mem ((c.tc : Thread Cert.LastNorm.nD Cert.LastNorm.τ).loc Cert.LastNorm.main_arg1) = m ((c.tc : Thread Cert.LastNorm.nD Cert.LastNorm.τ).loc Cert.LastNorm.main_arg1)
      ∧ r.2.mem ((c.tc : Thread Cert.LastNorm.nD Cert.LastNorm.τ).loc Cert.LastNorm.main_arg2) = m ((c.tc : Thread Cert.LastNorm.nD Cert.LastNorm.τ).loc Cert.LastNorm.main_arg2)
      ∧ r.2.mem ((c.tc : Thread Cert.LastNorm.nD Cert.LastNorm.τ).loc Cert.LastNorm.main_arg3) = m ((c.tc : Thread Cert.LastNorm.nD Cert.LastNorm.τ).loc Cert.LastNorm.main_arg3))
      ∧ r.2.sem = fun _ => 0)

def quiescent_LastNormIdeal [hLastNormIdeal : Cert.LastNormIdeal.Facts] : Prop :=
  ∀ (m : (ℓ : Loc Cert.LastNormIdeal.nD Cert.LastNormIdeal.τ Cert.LastNormIdeal.sig) → Buf (Elt Ideal) ℓ) (g : Dev Cert.LastNormIdeal.nD → PrngReg), Pre_LastNormIdeal m →
    θ_run (Cert.LastNormIdeal.defs (F := Ideal)) (onTc (τ := Cert.LastNormIdeal.τ) (Cert.LastNormIdeal.main (F := Ideal))) ⟨m, fun _ => 0, g⟩ (fun r => (∀ c : Dev Cert.LastNormIdeal.nD,
      r.2.mem ((c.tc : Thread Cert.LastNormIdeal.nD Cert.LastNormIdeal.τ).loc Cert.LastNormIdeal.main_arg0) = m ((c.tc : Thread Cert.LastNormIdeal.nD Cert.LastNormIdeal.τ).loc Cert.LastNormIdeal.main_arg0)
      ∧ r.2.mem ((c.tc : Thread Cert.LastNormIdeal.nD Cert.LastNormIdeal.τ).loc Cert.LastNormIdeal.main_arg1) = m ((c.tc : Thread Cert.LastNormIdeal.nD Cert.LastNormIdeal.τ).loc Cert.LastNormIdeal.main_arg1)
      ∧ r.2.mem ((c.tc : Thread Cert.LastNormIdeal.nD Cert.LastNormIdeal.τ).loc Cert.LastNormIdeal.main_arg2) = m ((c.tc : Thread Cert.LastNormIdeal.nD Cert.LastNormIdeal.τ).loc Cert.LastNormIdeal.main_arg2)
      ∧ r.2.mem ((c.tc : Thread Cert.LastNormIdeal.nD Cert.LastNormIdeal.τ).loc Cert.LastNormIdeal.main_arg3) = m ((c.tc : Thread Cert.LastNormIdeal.nD Cert.LastNormIdeal.τ).loc Cert.LastNormIdeal.main_arg3))
      ∧ r.2.sem = fun _ => 0)

def quiescent_LastNormReferenceIdeal [hLastNormReferenceIdeal : Cert.LastNormReferenceIdeal.Facts] : Prop :=
  ∀ (m : (ℓ : Loc Cert.LastNormReferenceIdeal.nD Cert.LastNormReferenceIdeal.τ Cert.LastNormReferenceIdeal.sig) → Buf (Elt Ideal) ℓ) (g : Dev Cert.LastNormReferenceIdeal.nD → PrngReg), Pre_LastNormReferenceIdeal m →
    θ_run (Cert.LastNormReferenceIdeal.defs (F := Ideal)) (onTc (τ := Cert.LastNormReferenceIdeal.τ) (Cert.LastNormReferenceIdeal.main (F := Ideal))) ⟨m, fun _ => 0, g⟩ (fun r => (∀ c : Dev Cert.LastNormReferenceIdeal.nD,
      r.2.mem ((c.tc : Thread Cert.LastNormReferenceIdeal.nD Cert.LastNormReferenceIdeal.τ).loc Cert.LastNormReferenceIdeal.main_arg0) = m ((c.tc : Thread Cert.LastNormReferenceIdeal.nD Cert.LastNormReferenceIdeal.τ).loc Cert.LastNormReferenceIdeal.main_arg0)
      ∧ r.2.mem ((c.tc : Thread Cert.LastNormReferenceIdeal.nD Cert.LastNormReferenceIdeal.τ).loc Cert.LastNormReferenceIdeal.main_arg1) = m ((c.tc : Thread Cert.LastNormReferenceIdeal.nD Cert.LastNormReferenceIdeal.τ).loc Cert.LastNormReferenceIdeal.main_arg1)
      ∧ r.2.mem ((c.tc : Thread Cert.LastNormReferenceIdeal.nD Cert.LastNormReferenceIdeal.τ).loc Cert.LastNormReferenceIdeal.main_arg2) = m ((c.tc : Thread Cert.LastNormReferenceIdeal.nD Cert.LastNormReferenceIdeal.τ).loc Cert.LastNormReferenceIdeal.main_arg2)
      ∧ r.2.mem ((c.tc : Thread Cert.LastNormReferenceIdeal.nD Cert.LastNormReferenceIdeal.τ).loc Cert.LastNormReferenceIdeal.main_arg3) = m ((c.tc : Thread Cert.LastNormReferenceIdeal.nD Cert.LastNormReferenceIdeal.τ).loc Cert.LastNormReferenceIdeal.main_arg3))
      ∧ r.2.sem = fun _ => 0)

def preserves_Kernel_KernelIdeal : Prop :=
  IdealRules.named_const.Statement Cert.KernelIdeal.κ "s" .f32 0x3F3504F3#32 (((Real.sqrt 2)⁻¹ : ℝ) : EReal)

def algebraic_KernelIdeal_ReferenceIdeal [hKernelIdeal : Cert.KernelIdeal.Facts] [hReferenceIdeal : Cert.ReferenceIdeal.Facts] [hPre_experts_name_rows : Cert.Pre_experts_name_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v3) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_PeerQuery_PeerQueryIdeal : Prop :=
  True

def algebraic_PeerQueryIdeal_PeerQueryReferenceIdeal [hPeerQueryIdeal : Cert.PeerQueryIdeal.Facts] [hPeerQueryReferenceIdeal : Cert.PeerQueryReferenceIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg)
    (m' : (ℓ : Loc Cert.PeerQueryReferenceIdeal.nD Cert.PeerQueryReferenceIdeal.τ Cert.PeerQueryReferenceIdeal.sig) → Buf (Elt Ideal) ℓ) (g' : Dev Cert.PeerQueryReferenceIdeal.nD → PrngReg), Pre_PeerQueryIdeal m →
    (∀ c : Dev Cert.PeerQueryIdeal.nD,
      m' ((c.tc : Thread Cert.PeerQueryReferenceIdeal.nD Cert.PeerQueryReferenceIdeal.τ).loc Cert.PeerQueryReferenceIdeal.main_arg0) = m ((c.tc : Thread Cert.PeerQueryIdeal.nD Cert.PeerQueryIdeal.τ).loc Cert.PeerQueryIdeal.main_arg0)
      ∧ m' ((c.tc : Thread Cert.PeerQueryReferenceIdeal.nD Cert.PeerQueryReferenceIdeal.τ).loc Cert.PeerQueryReferenceIdeal.main_arg1) = m ((c.tc : Thread Cert.PeerQueryIdeal.nD Cert.PeerQueryIdeal.τ).loc Cert.PeerQueryIdeal.main_arg1)) →
    ∃ (v0 : (c : Dev Cert.PeerQueryIdeal.nD) → Buf (Elt Ideal) ((c.tc : Thread Cert.PeerQueryIdeal.nD Cert.PeerQueryIdeal.τ).loc Cert.PeerQueryIdeal.main_v1)),
      θ_run (Cert.PeerQueryIdeal.defs (F := Ideal)) (onTc (τ := Cert.PeerQueryIdeal.τ) (Cert.PeerQueryIdeal.main (F := Ideal))) ⟨m, fun _ => 0, g⟩ (fun r => ∀ c : Dev Cert.PeerQueryIdeal.nD,
          r.2.mem ((c.tc : Thread Cert.PeerQueryIdeal.nD Cert.PeerQueryIdeal.τ).loc Cert.PeerQueryIdeal.main_v1) = v0 c
          ∧ r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
          ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1))
      ∧ θ_run (Cert.PeerQueryReferenceIdeal.defs (F := Ideal)) (onTc (τ := Cert.PeerQueryReferenceIdeal.τ) (Cert.PeerQueryReferenceIdeal.main (F := Ideal))) ⟨m', fun _ => 0, g'⟩ (fun r => ∀ c : Dev Cert.PeerQueryReferenceIdeal.nD,
          r.2.mem ((c.tc : Thread Cert.PeerQueryReferenceIdeal.nD Cert.PeerQueryReferenceIdeal.τ).loc Cert.PeerQueryReferenceIdeal.main_v1) = v0 c
          ∧ r.2.mem ((c.tc : Thread Cert.PeerQueryReferenceIdeal.nD Cert.PeerQueryReferenceIdeal.τ).loc Cert.PeerQueryReferenceIdeal.main_arg0) = m' ((c.tc : Thread Cert.PeerQueryReferenceIdeal.nD Cert.PeerQueryReferenceIdeal.τ).loc Cert.PeerQueryReferenceIdeal.main_arg0)
          ∧ r.2.mem ((c.tc : Thread Cert.PeerQueryReferenceIdeal.nD Cert.PeerQueryReferenceIdeal.τ).loc Cert.PeerQueryReferenceIdeal.main_arg1) = m' ((c.tc : Thread Cert.PeerQueryReferenceIdeal.nD Cert.PeerQueryReferenceIdeal.τ).loc Cert.PeerQueryReferenceIdeal.main_arg1))

def preserves_MemQuery_MemQueryIdeal : Prop :=
  True

def algebraic_MemQueryIdeal_MemQueryReferenceIdeal [hMemQueryIdeal : Cert.MemQueryIdeal.Facts] [hMemQueryReferenceIdeal : Cert.MemQueryReferenceIdeal.Facts] : Prop :=
  ∀ (m : (ℓ : Loc Cert.MemQueryIdeal.nD Cert.MemQueryIdeal.τ Cert.MemQueryIdeal.sig) → Buf (Elt Ideal) ℓ) (g : Dev Cert.MemQueryIdeal.nD → PrngReg)
    (m' : (ℓ : Loc Cert.MemQueryReferenceIdeal.nD Cert.MemQueryReferenceIdeal.τ Cert.MemQueryReferenceIdeal.sig) → Buf (Elt Ideal) ℓ) (g' : Dev Cert.MemQueryReferenceIdeal.nD → PrngReg), Pre_MemQueryIdeal m →
    (∀ c : Dev Cert.MemQueryIdeal.nD,
      m' ((c.tc : Thread Cert.MemQueryReferenceIdeal.nD Cert.MemQueryReferenceIdeal.τ).loc Cert.MemQueryReferenceIdeal.main_arg0) = m ((c.tc : Thread Cert.MemQueryIdeal.nD Cert.MemQueryIdeal.τ).loc Cert.MemQueryIdeal.main_arg0)
      ∧ m' ((c.tc : Thread Cert.MemQueryReferenceIdeal.nD Cert.MemQueryReferenceIdeal.τ).loc Cert.MemQueryReferenceIdeal.main_arg1) = m ((c.tc : Thread Cert.MemQueryIdeal.nD Cert.MemQueryIdeal.τ).loc Cert.MemQueryIdeal.main_arg1)) →
    ∃ (v0 : (c : Dev Cert.MemQueryIdeal.nD) → Buf (Elt Ideal) ((c.tc : Thread Cert.MemQueryIdeal.nD Cert.MemQueryIdeal.τ).loc Cert.MemQueryIdeal.main_v1)),
      θ_run (Cert.MemQueryIdeal.defs (F := Ideal)) (onTc (τ := Cert.MemQueryIdeal.τ) (Cert.MemQueryIdeal.main (F := Ideal))) ⟨m, fun _ => 0, g⟩ (fun r => ∀ c : Dev Cert.MemQueryIdeal.nD,
          r.2.mem ((c.tc : Thread Cert.MemQueryIdeal.nD Cert.MemQueryIdeal.τ).loc Cert.MemQueryIdeal.main_v1) = v0 c
          ∧ r.2.mem ((c.tc : Thread Cert.MemQueryIdeal.nD Cert.MemQueryIdeal.τ).loc Cert.MemQueryIdeal.main_arg0) = m ((c.tc : Thread Cert.MemQueryIdeal.nD Cert.MemQueryIdeal.τ).loc Cert.MemQueryIdeal.main_arg0)
          ∧ r.2.mem ((c.tc : Thread Cert.MemQueryIdeal.nD Cert.MemQueryIdeal.τ).loc Cert.MemQueryIdeal.main_arg1) = m ((c.tc : Thread Cert.MemQueryIdeal.nD Cert.MemQueryIdeal.τ).loc Cert.MemQueryIdeal.main_arg1))
      ∧ θ_run (Cert.MemQueryReferenceIdeal.defs (F := Ideal)) (onTc (τ := Cert.MemQueryReferenceIdeal.τ) (Cert.MemQueryReferenceIdeal.main (F := Ideal))) ⟨m', fun _ => 0, g'⟩ (fun r => ∀ c : Dev Cert.MemQueryReferenceIdeal.nD,
          r.2.mem ((c.tc : Thread Cert.MemQueryReferenceIdeal.nD Cert.MemQueryReferenceIdeal.τ).loc Cert.MemQueryReferenceIdeal.main_v3) = v0 c
          ∧ r.2.mem ((c.tc : Thread Cert.MemQueryReferenceIdeal.nD Cert.MemQueryReferenceIdeal.τ).loc Cert.MemQueryReferenceIdeal.main_arg0) = m' ((c.tc : Thread Cert.MemQueryReferenceIdeal.nD Cert.MemQueryReferenceIdeal.τ).loc Cert.MemQueryReferenceIdeal.main_arg0)
          ∧ r.2.mem ((c.tc : Thread Cert.MemQueryReferenceIdeal.nD Cert.MemQueryReferenceIdeal.τ).loc Cert.MemQueryReferenceIdeal.main_arg1) = m' ((c.tc : Thread Cert.MemQueryReferenceIdeal.nD Cert.MemQueryReferenceIdeal.τ).loc Cert.MemQueryReferenceIdeal.main_arg1))

def preserves_Attention_AttentionIdeal : Prop :=
  True

def algebraic_AttentionIdeal_AttentionReferenceIdeal_pre_finite_queries_and_keys [hAttentionIdeal : Cert.AttentionIdeal.Facts] [hAttentionReferenceIdeal : Cert.AttentionReferenceIdeal.Facts] [hPre_finite_queries_and_keys : Cert.Pre_finite_queries_and_keys.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_finite_queries_and_keys m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v25) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v5)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v28) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5))

def preserves_MemOut_MemOutIdeal : Prop :=
  True

def algebraic_MemOutIdeal_MemOutReferenceIdeal [hMemOutIdeal : Cert.MemOutIdeal.Facts] [hMemOutReferenceIdeal : Cert.MemOutReferenceIdeal.Facts] : Prop :=
  ∀ (m : (ℓ : Loc Cert.MemOutIdeal.nD Cert.MemOutIdeal.τ Cert.MemOutIdeal.sig) → Buf (Elt Ideal) ℓ) (g : Dev Cert.MemOutIdeal.nD → PrngReg)
    (m' : (ℓ : Loc Cert.MemOutReferenceIdeal.nD Cert.MemOutReferenceIdeal.τ Cert.MemOutReferenceIdeal.sig) → Buf (Elt Ideal) ℓ) (g' : Dev Cert.MemOutReferenceIdeal.nD → PrngReg), Pre_MemOutIdeal m →
    (∀ c : Dev Cert.MemOutIdeal.nD,
      m' ((c.tc : Thread Cert.MemOutReferenceIdeal.nD Cert.MemOutReferenceIdeal.τ).loc Cert.MemOutReferenceIdeal.main_arg0) = m ((c.tc : Thread Cert.MemOutIdeal.nD Cert.MemOutIdeal.τ).loc Cert.MemOutIdeal.main_arg0)
      ∧ m' ((c.tc : Thread Cert.MemOutReferenceIdeal.nD Cert.MemOutReferenceIdeal.τ).loc Cert.MemOutReferenceIdeal.main_arg1) = m ((c.tc : Thread Cert.MemOutIdeal.nD Cert.MemOutIdeal.τ).loc Cert.MemOutIdeal.main_arg1)
      ∧ m' ((c.tc : Thread Cert.MemOutReferenceIdeal.nD Cert.MemOutReferenceIdeal.τ).loc Cert.MemOutReferenceIdeal.main_arg2) = m ((c.tc : Thread Cert.MemOutIdeal.nD Cert.MemOutIdeal.τ).loc Cert.MemOutIdeal.main_arg2)
      ∧ m' ((c.tc : Thread Cert.MemOutReferenceIdeal.nD Cert.MemOutReferenceIdeal.τ).loc Cert.MemOutReferenceIdeal.main_arg3) = m ((c.tc : Thread Cert.MemOutIdeal.nD Cert.MemOutIdeal.τ).loc Cert.MemOutIdeal.main_arg3)
      ∧ m' ((c.tc : Thread Cert.MemOutReferenceIdeal.nD Cert.MemOutReferenceIdeal.τ).loc Cert.MemOutReferenceIdeal.main_arg4) = m ((c.tc : Thread Cert.MemOutIdeal.nD Cert.MemOutIdeal.τ).loc Cert.MemOutIdeal.main_arg4)) →
    ∃ (v0 : (c : Dev Cert.MemOutIdeal.nD) → Buf (Elt Ideal) ((c.tc : Thread Cert.MemOutIdeal.nD Cert.MemOutIdeal.τ).loc Cert.MemOutIdeal.main_v3)),
      θ_run (Cert.MemOutIdeal.defs (F := Ideal)) (onTc (τ := Cert.MemOutIdeal.τ) (Cert.MemOutIdeal.main (F := Ideal))) ⟨m, fun _ => 0, g⟩ (fun r => ∀ c : Dev Cert.MemOutIdeal.nD,
          r.2.mem ((c.tc : Thread Cert.MemOutIdeal.nD Cert.MemOutIdeal.τ).loc Cert.MemOutIdeal.main_v3) = v0 c
          ∧ r.2.mem ((c.tc : Thread Cert.MemOutIdeal.nD Cert.MemOutIdeal.τ).loc Cert.MemOutIdeal.main_arg0) = m ((c.tc : Thread Cert.MemOutIdeal.nD Cert.MemOutIdeal.τ).loc Cert.MemOutIdeal.main_arg0)
          ∧ r.2.mem ((c.tc : Thread Cert.MemOutIdeal.nD Cert.MemOutIdeal.τ).loc Cert.MemOutIdeal.main_arg1) = m ((c.tc : Thread Cert.MemOutIdeal.nD Cert.MemOutIdeal.τ).loc Cert.MemOutIdeal.main_arg1)
          ∧ r.2.mem ((c.tc : Thread Cert.MemOutIdeal.nD Cert.MemOutIdeal.τ).loc Cert.MemOutIdeal.main_arg2) = m ((c.tc : Thread Cert.MemOutIdeal.nD Cert.MemOutIdeal.τ).loc Cert.MemOutIdeal.main_arg2)
          ∧ r.2.mem ((c.tc : Thread Cert.MemOutIdeal.nD Cert.MemOutIdeal.τ).loc Cert.MemOutIdeal.main_arg3) = m ((c.tc : Thread Cert.MemOutIdeal.nD Cert.MemOutIdeal.τ).loc Cert.MemOutIdeal.main_arg3)
          ∧ r.2.mem ((c.tc : Thread Cert.MemOutIdeal.nD Cert.MemOutIdeal.τ).loc Cert.MemOutIdeal.main_arg4) = m ((c.tc : Thread Cert.MemOutIdeal.nD Cert.MemOutIdeal.τ).loc Cert.MemOutIdeal.main_arg4))
      ∧ θ_run (Cert.MemOutReferenceIdeal.defs (F := Ideal)) (onTc (τ := Cert.MemOutReferenceIdeal.τ) (Cert.MemOutReferenceIdeal.main (F := Ideal))) ⟨m', fun _ => 0, g'⟩ (fun r => ∀ c : Dev Cert.MemOutReferenceIdeal.nD,
          r.2.mem ((c.tc : Thread Cert.MemOutReferenceIdeal.nD Cert.MemOutReferenceIdeal.τ).loc Cert.MemOutReferenceIdeal.main_v26) = v0 c
          ∧ r.2.mem ((c.tc : Thread Cert.MemOutReferenceIdeal.nD Cert.MemOutReferenceIdeal.τ).loc Cert.MemOutReferenceIdeal.main_arg0) = m' ((c.tc : Thread Cert.MemOutReferenceIdeal.nD Cert.MemOutReferenceIdeal.τ).loc Cert.MemOutReferenceIdeal.main_arg0)
          ∧ r.2.mem ((c.tc : Thread Cert.MemOutReferenceIdeal.nD Cert.MemOutReferenceIdeal.τ).loc Cert.MemOutReferenceIdeal.main_arg1) = m' ((c.tc : Thread Cert.MemOutReferenceIdeal.nD Cert.MemOutReferenceIdeal.τ).loc Cert.MemOutReferenceIdeal.main_arg1)
          ∧ r.2.mem ((c.tc : Thread Cert.MemOutReferenceIdeal.nD Cert.MemOutReferenceIdeal.τ).loc Cert.MemOutReferenceIdeal.main_arg2) = m' ((c.tc : Thread Cert.MemOutReferenceIdeal.nD Cert.MemOutReferenceIdeal.τ).loc Cert.MemOutReferenceIdeal.main_arg2)
          ∧ r.2.mem ((c.tc : Thread Cert.MemOutReferenceIdeal.nD Cert.MemOutReferenceIdeal.τ).loc Cert.MemOutReferenceIdeal.main_arg3) = m' ((c.tc : Thread Cert.MemOutReferenceIdeal.nD Cert.MemOutReferenceIdeal.τ).loc Cert.MemOutReferenceIdeal.main_arg3)
          ∧ r.2.mem ((c.tc : Thread Cert.MemOutReferenceIdeal.nD Cert.MemOutReferenceIdeal.τ).loc Cert.MemOutReferenceIdeal.main_arg4) = m' ((c.tc : Thread Cert.MemOutReferenceIdeal.nD Cert.MemOutReferenceIdeal.τ).loc Cert.MemOutReferenceIdeal.main_arg4))

def preserves_LastNorm_LastNormIdeal : Prop :=
  True

def algebraic_LastNormIdeal_LastNormReferenceIdeal [hLastNormIdeal : Cert.LastNormIdeal.Facts] [hLastNormReferenceIdeal : Cert.LastNormReferenceIdeal.Facts] : Prop :=
  ∀ (m : (ℓ : Loc Cert.LastNormIdeal.nD Cert.LastNormIdeal.τ Cert.LastNormIdeal.sig) → Buf (Elt Ideal) ℓ) (g : Dev Cert.LastNormIdeal.nD → PrngReg)
    (m' : (ℓ : Loc Cert.LastNormReferenceIdeal.nD Cert.LastNormReferenceIdeal.τ Cert.LastNormReferenceIdeal.sig) → Buf (Elt Ideal) ℓ) (g' : Dev Cert.LastNormReferenceIdeal.nD → PrngReg), Pre_LastNormIdeal m →
    (∀ c : Dev Cert.LastNormIdeal.nD,
      m' ((c.tc : Thread Cert.LastNormReferenceIdeal.nD Cert.LastNormReferenceIdeal.τ).loc Cert.LastNormReferenceIdeal.main_arg0) = m ((c.tc : Thread Cert.LastNormIdeal.nD Cert.LastNormIdeal.τ).loc Cert.LastNormIdeal.main_arg0)
      ∧ m' ((c.tc : Thread Cert.LastNormReferenceIdeal.nD Cert.LastNormReferenceIdeal.τ).loc Cert.LastNormReferenceIdeal.main_arg1) = m ((c.tc : Thread Cert.LastNormIdeal.nD Cert.LastNormIdeal.τ).loc Cert.LastNormIdeal.main_arg1)
      ∧ m' ((c.tc : Thread Cert.LastNormReferenceIdeal.nD Cert.LastNormReferenceIdeal.τ).loc Cert.LastNormReferenceIdeal.main_arg2) = m ((c.tc : Thread Cert.LastNormIdeal.nD Cert.LastNormIdeal.τ).loc Cert.LastNormIdeal.main_arg2)
      ∧ m' ((c.tc : Thread Cert.LastNormReferenceIdeal.nD Cert.LastNormReferenceIdeal.τ).loc Cert.LastNormReferenceIdeal.main_arg3) = m ((c.tc : Thread Cert.LastNormIdeal.nD Cert.LastNormIdeal.τ).loc Cert.LastNormIdeal.main_arg3)) →
    ∃ (v0 : (c : Dev Cert.LastNormIdeal.nD) → Buf (Elt Ideal) ((c.tc : Thread Cert.LastNormIdeal.nD Cert.LastNormIdeal.τ).loc Cert.LastNormIdeal.main_v2)),
      θ_run (Cert.LastNormIdeal.defs (F := Ideal)) (onTc (τ := Cert.LastNormIdeal.τ) (Cert.LastNormIdeal.main (F := Ideal))) ⟨m, fun _ => 0, g⟩ (fun r => ∀ c : Dev Cert.LastNormIdeal.nD,
          r.2.mem ((c.tc : Thread Cert.LastNormIdeal.nD Cert.LastNormIdeal.τ).loc Cert.LastNormIdeal.main_v2) = v0 c
          ∧ r.2.mem ((c.tc : Thread Cert.LastNormIdeal.nD Cert.LastNormIdeal.τ).loc Cert.LastNormIdeal.main_arg0) = m ((c.tc : Thread Cert.LastNormIdeal.nD Cert.LastNormIdeal.τ).loc Cert.LastNormIdeal.main_arg0)
          ∧ r.2.mem ((c.tc : Thread Cert.LastNormIdeal.nD Cert.LastNormIdeal.τ).loc Cert.LastNormIdeal.main_arg1) = m ((c.tc : Thread Cert.LastNormIdeal.nD Cert.LastNormIdeal.τ).loc Cert.LastNormIdeal.main_arg1)
          ∧ r.2.mem ((c.tc : Thread Cert.LastNormIdeal.nD Cert.LastNormIdeal.τ).loc Cert.LastNormIdeal.main_arg2) = m ((c.tc : Thread Cert.LastNormIdeal.nD Cert.LastNormIdeal.τ).loc Cert.LastNormIdeal.main_arg2)
          ∧ r.2.mem ((c.tc : Thread Cert.LastNormIdeal.nD Cert.LastNormIdeal.τ).loc Cert.LastNormIdeal.main_arg3) = m ((c.tc : Thread Cert.LastNormIdeal.nD Cert.LastNormIdeal.τ).loc Cert.LastNormIdeal.main_arg3))
      ∧ θ_run (Cert.LastNormReferenceIdeal.defs (F := Ideal)) (onTc (τ := Cert.LastNormReferenceIdeal.τ) (Cert.LastNormReferenceIdeal.main (F := Ideal))) ⟨m', fun _ => 0, g'⟩ (fun r => ∀ c : Dev Cert.LastNormReferenceIdeal.nD,
          r.2.mem ((c.tc : Thread Cert.LastNormReferenceIdeal.nD Cert.LastNormReferenceIdeal.τ).loc Cert.LastNormReferenceIdeal.main_v24) = v0 c
          ∧ r.2.mem ((c.tc : Thread Cert.LastNormReferenceIdeal.nD Cert.LastNormReferenceIdeal.τ).loc Cert.LastNormReferenceIdeal.main_arg0) = m' ((c.tc : Thread Cert.LastNormReferenceIdeal.nD Cert.LastNormReferenceIdeal.τ).loc Cert.LastNormReferenceIdeal.main_arg0)
          ∧ r.2.mem ((c.tc : Thread Cert.LastNormReferenceIdeal.nD Cert.LastNormReferenceIdeal.τ).loc Cert.LastNormReferenceIdeal.main_arg1) = m' ((c.tc : Thread Cert.LastNormReferenceIdeal.nD Cert.LastNormReferenceIdeal.τ).loc Cert.LastNormReferenceIdeal.main_arg1)
          ∧ r.2.mem ((c.tc : Thread Cert.LastNormReferenceIdeal.nD Cert.LastNormReferenceIdeal.τ).loc Cert.LastNormReferenceIdeal.main_arg2) = m' ((c.tc : Thread Cert.LastNormReferenceIdeal.nD Cert.LastNormReferenceIdeal.τ).loc Cert.LastNormReferenceIdeal.main_arg2)
          ∧ r.2.mem ((c.tc : Thread Cert.LastNormReferenceIdeal.nD Cert.LastNormReferenceIdeal.τ).loc Cert.LastNormReferenceIdeal.main_arg3) = m' ((c.tc : Thread Cert.LastNormReferenceIdeal.nD Cert.LastNormReferenceIdeal.τ).loc Cert.LastNormReferenceIdeal.main_arg3))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hPeerQuery : Cert.PeerQuery.Facts) (hPeerQueryIdeal : Cert.PeerQueryIdeal.Facts) (hPeerQueryReferenceIdeal : Cert.PeerQueryReferenceIdeal.Facts) (hMemQuery : Cert.MemQuery.Facts) (hMemQueryIdeal : Cert.MemQueryIdeal.Facts) (hMemQueryReferenceIdeal : Cert.MemQueryReferenceIdeal.Facts) (hAttention : Cert.Attention.Facts) (hAttentionIdeal : Cert.AttentionIdeal.Facts) (hAttentionReferenceIdeal : Cert.AttentionReferenceIdeal.Facts) (hOutProj : Cert.OutProj.Facts) (hOutProjIdeal : Cert.OutProjIdeal.Facts) (hOutProjReferenceIdeal : Cert.OutProjReferenceIdeal.Facts) (hMemOut : Cert.MemOut.Facts) (hMemOutIdeal : Cert.MemOutIdeal.Facts) (hMemOutReferenceIdeal : Cert.MemOutReferenceIdeal.Facts) (hLastNorm : Cert.LastNorm.Facts) (hLastNormIdeal : Cert.LastNormIdeal.Facts) (hLastNormReferenceIdeal : Cert.LastNormReferenceIdeal.Facts) (hPre_experts_name_rows : Cert.Pre_experts_name_rows.Facts) (hPre_finite_queries_and_keys : Cert.Pre_finite_queries_and_keys.Facts),
    quiescent_Kernel (hKernel := hKernel) (hPre_experts_name_rows := hPre_experts_name_rows)
    ∧ quiescent_KernelIdeal (hKernelIdeal := hKernelIdeal) (hPre_experts_name_rows := hPre_experts_name_rows)
    ∧ quiescent_ReferenceIdeal (hReferenceIdeal := hReferenceIdeal) (hPre_experts_name_rows := hPre_experts_name_rows)
    ∧ quiescent_InProj (hInProj := hInProj)
    ∧ quiescent_InProjIdeal (hInProjIdeal := hInProjIdeal)
    ∧ quiescent_InProjReferenceIdeal (hInProjReferenceIdeal := hInProjReferenceIdeal)
    ∧ quiescent_PeerQuery (hPeerQuery := hPeerQuery)
    ∧ quiescent_PeerQueryIdeal (hPeerQueryIdeal := hPeerQueryIdeal)
    ∧ quiescent_PeerQueryReferenceIdeal (hPeerQueryReferenceIdeal := hPeerQueryReferenceIdeal)
    ∧ quiescent_MemQuery (hMemQuery := hMemQuery)
    ∧ quiescent_MemQueryIdeal (hMemQueryIdeal := hMemQueryIdeal)
    ∧ quiescent_MemQueryReferenceIdeal (hMemQueryReferenceIdeal := hMemQueryReferenceIdeal)
    ∧ quiescent_Attention (hAttention := hAttention)
    ∧ quiescent_AttentionIdeal (hAttentionIdeal := hAttentionIdeal)
    ∧ quiescent_AttentionIdeal_pre_finite_queries_and_keys (hAttentionIdeal := hAttentionIdeal) (hPre_finite_queries_and_keys := hPre_finite_queries_and_keys)
    ∧ quiescent_AttentionReferenceIdeal (hAttentionReferenceIdeal := hAttentionReferenceIdeal)
    ∧ quiescent_AttentionReferenceIdeal_pre_finite_queries_and_keys (hAttentionReferenceIdeal := hAttentionReferenceIdeal) (hPre_finite_queries_and_keys := hPre_finite_queries_and_keys)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_MemOut (hMemOut := hMemOut)
    ∧ quiescent_MemOutIdeal (hMemOutIdeal := hMemOutIdeal)
    ∧ quiescent_MemOutReferenceIdeal (hMemOutReferenceIdeal := hMemOutReferenceIdeal)
    ∧ quiescent_LastNorm (hLastNorm := hLastNorm)
    ∧ quiescent_LastNormIdeal (hLastNormIdeal := hLastNormIdeal)
    ∧ quiescent_LastNormReferenceIdeal (hLastNormReferenceIdeal := hLastNormReferenceIdeal)
    ∧ preserves_Kernel_KernelIdeal
    ∧ algebraic_KernelIdeal_ReferenceIdeal (hKernelIdeal := hKernelIdeal) (hReferenceIdeal := hReferenceIdeal) (hPre_experts_name_rows := hPre_experts_name_rows)
    ∧ preserves_InProj_InProjIdeal
    ∧ algebraic_InProjIdeal_InProjReferenceIdeal (hInProjIdeal := hInProjIdeal) (hInProjReferenceIdeal := hInProjReferenceIdeal)
    ∧ preserves_PeerQuery_PeerQueryIdeal
    ∧ algebraic_PeerQueryIdeal_PeerQueryReferenceIdeal (hPeerQueryIdeal := hPeerQueryIdeal) (hPeerQueryReferenceIdeal := hPeerQueryReferenceIdeal)
    ∧ preserves_MemQuery_MemQueryIdeal
    ∧ algebraic_MemQueryIdeal_MemQueryReferenceIdeal (hMemQueryIdeal := hMemQueryIdeal) (hMemQueryReferenceIdeal := hMemQueryReferenceIdeal)
    ∧ preserves_Attention_AttentionIdeal
    ∧ algebraic_AttentionIdeal_AttentionReferenceIdeal_pre_finite_queries_and_keys (hAttentionIdeal := hAttentionIdeal) (hAttentionReferenceIdeal := hAttentionReferenceIdeal) (hPre_finite_queries_and_keys := hPre_finite_queries_and_keys)
    ∧ preserves_OutProj_OutProjIdeal
    ∧ algebraic_OutProjIdeal_OutProjReferenceIdeal (hOutProjIdeal := hOutProjIdeal) (hOutProjReferenceIdeal := hOutProjReferenceIdeal)
    ∧ preserves_MemOut_MemOutIdeal
    ∧ algebraic_MemOutIdeal_MemOutReferenceIdeal (hMemOutIdeal := hMemOutIdeal) (hMemOutReferenceIdeal := hMemOutReferenceIdeal)
    ∧ preserves_LastNorm_LastNormIdeal
    ∧ algebraic_LastNormIdeal_LastNormReferenceIdeal (hLastNormIdeal := hLastNormIdeal) (hLastNormReferenceIdeal := hLastNormReferenceIdeal)
-- ==== Pre_experts_name_rows.lean ====
abbrev S16384x2048 : Shape := ⟨2, ![16384, 2048]⟩
abbrev S16384x128 : Shape := ⟨2, ![16384, 128]⟩
abbrev S16384x1x2048 : Shape := ⟨3, ![16384, 1, 2048]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x2048 .f32) (main_arg1 : IVec S16384x128 32) (main_arg2 : FVec F S16384x128 .f32) (main_arg3 : IVec S16384x1x2048 32) : IVec S_ 1 :=
  let main_c : IVec S_ 32 := constantI S_ 32 0#32
  let main_v0 : IVec S16384x128 32 := broadcastInDim S16384x128 ![] bcast_S_S16384x128 main_c
  let main_v1 : IVec S16384x128 1 := cmpi .sge main_arg1 main_v0
  let main_c_0 : IVec S_ 32 := constantI S_ 32 16384#32
  let main_v2 : IVec S16384x128 32 := broadcastInDim S16384x128 ![] bcast_S_S16384x128 main_c_0
  let main_v3 : IVec S16384x128 1 := cmpi .slt main_arg1 main_v2
  let main_v4 : IVec S16384x128 1 := andi main_v1 main_v3
  let main_c_1 : IVec S_ 1 := constantI S_ 1 1#1
  let main_v5 : IVec S_ 1 := (fun x v => Host.reduce IntOp.andi x v reducesTo_S16384x128_S_d0_1 h_S_) main_v4 main_c_1
  main_v5
-- ==== Pre_finite_queries_and_keys.lean ====
abbrev S4x4096x1280 : Shape := ⟨3, ![4, 4096, 1280]⟩
abbrev S4x4096x4608 : Shape := ⟨3, ![4, 4096, 4608]⟩
abbrev S_ : Shape := ⟨0, ![]⟩

class Facts : Prop where
  bitsLt_bf16_f32 : FTy.bits .bf16 < FTy.bits .f32
  bcast_S_S4x4096x1280 : S_.BroadcastsInDim S4x4096x1280 (![] : Fin 0 → Fin S4x4096x1280.rank)
  reducesTo_S4x4096x1280_S_d0_1_2 : S4x4096x1280.ReducesTo [0, 1, 2] S_
  h_S_ : 0 < S_.numel

variable [Facts]

def fn {F : FTy → Type} [FloatOps F] (main_arg0 : FVec F S4x4096x1280 .bf16) (main_arg1 : FVec F S4x4096x4608 .bf16) : IVec S_ 1 :=
  let main_v0 : FVec F S4x4096x1280 .f32 := (extf .f32 · bitsLt_bf16_f32) main_arg0
  let main_cst : FVec F S_ .f32 := constant S_ .f32 0xFF800000#32
  let main_v1 : FVec F S4x4096x1280 .f32 := broadcastInDim S4x4096x1280 ![] bcast_S_S4x4096x1280 main_cst
  let main_v2 : IVec S4x4096x1280 1 := cmpf .ogt main_v0 main_v1
  let main_cst_0 : FVec F S_ .f32 := constant S_ .f32 0x7F800000#32
  let main_v3 : FVec F S4x4096x1280 .f32 := broadcastInDim S4x4096x1280 ![] bcast_S_S4x4096x1280 main_cst_0
  let main_v4 : IVec S4x4096x1280 1 := cmpf .olt main_v0 main_v3
  let main_v5 : IVec S4x4096x1280 1 := andi main_v2 main_v4
  let main_c : IVec S_ 1 := constantI S_ 1 1#1
  let main_v6 : IVec S_ 1 := (fun x v => Host.reduce IntOp.andi x v reducesTo_S4x4096x1280_S_d0_1_2 h_S_) main_v5 main_c
  main_v6
-- ==== Kernel.lean ====
abbrev S16384x2048 : Shape := ⟨2, ![16384, 2048]⟩
abbrev S16384x128 : Shape := ⟨2, ![16384, 128]⟩
abbrev S16384x1x2048 : Shape := ⟨3, ![16384, 1, 2048]⟩
abbrev S2048x8x128 : Shape := ⟨3, ![2048, 8, 128]⟩
abbrev S2048x128x8 : Shape := ⟨3, ![2048, 128, 8]⟩
abbrev S8x128 : Shape := ⟨2, ![8, 128]⟩
abbrev S8x2048 : Shape := ⟨2, ![8, 2048]⟩
abbrev S1x128x8 : Shape := ⟨3, ![1, 128, 8]⟩
abbrev S1024x2048 : Shape := ⟨2, ![1024, 2048]⟩
abbrev S3 : Shape := ⟨1, ![3]⟩
abbrev S1x1 : Shape := ⟨2, ![1, 1]⟩
abbrev S1 : Shape := ⟨1, ![1]⟩
abbrev S_ : Shape := ⟨0, ![]⟩
abbrev S1x2048 : Shape := ⟨2, ![1, 2048]⟩
abbrev S1x1x2048 : Shape := ⟨3, ![1, 1, 2048]⟩
abbrev S128x8 : Shape := ⟨2, ![128, 8]⟩
abbrev S128x128 : Shape := ⟨2, ![128, 128]⟩
abbrev S1x128 : Shape := ⟨2, ![1, 128]⟩
abbrev S128 : Shape := ⟨1, ![128]⟩
abbrev S128x1 : Shape := ⟨2, ![128, 1]⟩

abbrev nBuf : Space → Nat
  | .hbm => 7
  | .vmem => 9
  | .smem => 6
  | _ => 0

abbrev bufTy : (tb : Table) → Fin (tcTables nBuf tb) → BufTy
  | .hbm, ⟨0, _⟩ => ⟨S16384x2048, .f32⟩
  | .hbm, ⟨1, _⟩ => ⟨S16384x128, .i32⟩
  | .hbm, ⟨2, _⟩ => ⟨S16384x128, .f32⟩
  | .hbm, ⟨3, _⟩ => ⟨S16384x1x2048, .i32⟩
  | .hbm, ⟨4, _⟩ => ⟨S2048x8x128, .f32⟩
  | .hbm, ⟨5, _⟩ => ⟨S2048x128x8, .f32⟩
  | .hbm, ⟨6, _⟩ => ⟨S16384x2048, .f32⟩
  | .local _ .vmem, ⟨0, _⟩ => ⟨S8x2048, .f32⟩
  | .local _ .vmem, ⟨1, _⟩ => ⟨S8x2048, .f32⟩
  | .local _ .vmem, ⟨2, _⟩ => ⟨S1x128x8, .f32⟩
  | .local _ .vmem, ⟨3, _⟩ => ⟨S1x128x8, .f32⟩
  | .local _ .vmem, ⟨4, _⟩ => ⟨S8x2048, .f32⟩
  | .local _ .vmem, ⟨5, _⟩ => ⟨S8x2048, .f32⟩
  | .local _ .vmem, ⟨6, _⟩ => ⟨S1024x2048, .i32⟩
  | .local _ .vmem, ⟨7, _⟩ => ⟨S1024x2048, .i32⟩
  | .local _ .vmem, ⟨8, _⟩ => ⟨S1024x2048, .i32⟩
  | .local _ .smem, ⟨0, _⟩ => ⟨S8x128, .i32⟩
  | .local _ .smem, ⟨1, _⟩ => ⟨S8x128, .i32⟩
  | .local _ .smem, ⟨2, _⟩ => ⟨S8x128, .i32⟩
  | .local _ .smem, ⟨3, _⟩ => ⟨S8x128, .i32⟩
  | .local _ .smem, ⟨4, _⟩ => ⟨S8x128, .i32⟩
  | .local _ .smem, ⟨5, _⟩ => ⟨S8x128, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_stg2_0 : Ref sig .tc := ⟨.smem, 4, rfl⟩
abbrev cc0_stg2_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![2048], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_24 : BitVec 32 := 0#32
  let c64_i32 : BitVec 32 := 64#32
  let v45 : BitVec 32 := Scalar.addi c0_i32_24 c64_i32
  let c1_i32_25 : BitVec 32 := 1#32
  ⟨c0_i32_24, v45, c1_i32_25⟩
def k0_off1 (k0_t1 : Fin k0_t1_loop.trips) : Fin 2 → Nat :=
  let c0 : Index := 0#32
  let c0_i32_103 : BitVec 32 := 0#32
  let c0_i32_24 : BitVec 32 := 0#32
  let c1_i32_25 : BitVec 32 := 1#32
  let arg12 : BitVec 32 := Scf.iv c0_i32_24 c1_i32_25 k0_t1
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v64 : Index := Scalar.indexCast v63
  ![0, v64.toNat]
def k0_off2 (k0_t1 : Fin k0_t1_loop.trips) : Fin 2 → Nat :=
  let c0_i32_105 : BitVec 32 := 0#32
  let c0_i32_103 : BitVec 32 := 0#32
  let c0_i32_24 : BitVec 32 := 0#32
  let c1_i32_25 : BitVec 32 := 1#32
  let arg12 : BitVec 32 := Scf.iv c0_i32_24 c1_i32_25 k0_t1
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v66 : BitVec 32 := Scalar.addi c0_i32_105 v63
  let c0_i32_106 : BitVec 32 := 0#32
  ![v66.toNat, 0]
def k0_off3 (v65 : BitVec 32) : Fin 3 → Nat :=
  let c0_i32_107 : BitVec 32 := 0#32
  let c0_i32_108 : BitVec 32 := 0#32
  ![v65.toNat, 0, 0]

def k0_chk1 (i : grid0.Coords) (v65 : BitVec 32) : Prop :=
  (∀ (k0_h1 : k0_cond1 i = 1#1), ∀ a, (k0_off3 v65) a + S1x1x2048.size a ≤ S16384x1x2048.size a)
theorem k0_off3_inb : ∀ (i : grid0.Coords) (v65 : BitVec 32) (k0_hw1 : k0_chk1 i v65), ∀ (k0_h1 : k0_cond1 i = 1#1), ∀ a, (k0_off3 v65) a + S1x1x2048.size a ≤ S16384x1x2048.size a := fun i v65 k0_hw1 k0_h1 => k0_hw1 k0_h1

def k0_off4 (k0_t1 : Fin k0_t1_loop.trips) : Fin 2 → Nat :=
  let c0_110 : Index := 0#32
  let c0_i32_103 : BitVec 32 := 0#32
  let c0_i32_24 : BitVec 32 := 0#32
  let c1_i32_25 : BitVec 32 := 1#32
  let arg12 : BitVec 32 := Scf.iv c0_i32_24 c1_i32_25 k0_t1
  let c2_i32_102 : BitVec 32 := 2#32
  let v61 : BitVec 32 := Scalar.muli arg12 c2_i32_102
  let v62 : BitVec 32 := Scalar.addi c0_i32_103 v61
  let c1_i32_109 : BitVec 32 := 1#32
  let v72 : BitVec 32 := Scalar.addi v62 c1_i32_109
  let v73 : Index := Scalar.indexCast v72
  ![0, v73.toNat]
def k0_off5 (k0_t1 : Fin k0_t1_loop.trips) : Fin 2 → Nat :=
  let c0_i32_111 : BitVec 32 := 0#32
  let c0_i32_103 : BitVec 32 := 0#32
  let c0_i32_24 : BitVec 32 := 0#32
  let c1_i32_25 : BitVec 32 := 1#32
  let arg12 : BitVec 32 := Scf.iv c0_i32_24 c1_i32_25 k0_t1
  let c2_i32_102 : BitVec 32 := 2#32
  let v61 : BitVec 32 := Scalar.muli arg12 c2_i32_102
  let v62 : BitVec 32 := Scalar.addi c0_i32_103 v61
  let c1_i32_109 : BitVec 32 := 1#32
  let v72 : BitVec 32 := Scalar.addi v62 c1_i32_109
  let v75 : BitVec 32 := Scalar.addi c0_i32_111 v72
  let c0_i32_112 : BitVec 32 := 0#32
  ![v75.toNat, 0]
def k0_off6 (v74 : BitVec 32) : Fin 3 → Nat :=
  let c0_i32_113 : BitVec 32 := 0#32
  let c0_i32_114 : BitVec 32 := 0#32
  ![v74.toNat, 0, 0]

def k0_chk2 (i : grid0.Coords) (v74 : BitVec 32) : Prop :=
  (∀ (k0_h1 : k0_cond1 i = 1#1), ∀ a, (k0_off6 v74) a + S1x1x2048.size a ≤ S16384x1x2048.size a)
theorem k0_off6_inb : ∀ (i : grid0.Coords) (v74 : BitVec 32) (k0_hw2 : k0_chk2 i v74), ∀ (k0_h1 : k0_cond1 i = 1#1), ∀ a, (k0_off6 v74) a + S1x1x2048.size a ≤ S16384x1x2048.size a := fun i v74 k0_hw2 k0_h1 => k0_hw2 k0_h1

@[reducible] def k0_t2_loop : Scf.Loop 32 :=
  let c0_i32_28 : BitVec 32 := 0#32
  let c64_i32_29 : BitVec 32 := 64#32
  let v46 : BitVec 32 := Scalar.addi c0_i32_28 c64_i32_29
  let c1_i32_30 : BitVec 32 := 1#32
  ⟨c0_i32_28, v46, c1_i32_30⟩
def k0_off7 (k0_t2 : Fin k0_t2_loop.trips) : Fin 2 → Nat :=
  let c1 : Index := 1#32
  let c0_i32_103 : BitVec 32 := 0#32
  let c0_i32_28 : BitVec 32 := 0#32
  let c1_i32_30 : BitVec 32 := 1#32
  let arg12 : BitVec 32 := Scf.iv c0_i32_28 c1_i32_30 k0_t2
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v64 : Index := Scalar.indexCast v63
  ![1, v64.toNat]
def k0_off8 (k0_t2 : Fin k0_t2_loop.trips) : Fin 2 → Nat :=
  let c128_i32 : BitVec 32 := 128#32
  let c0_i32_103 : BitVec 32 := 0#32
  let c0_i32_28 : BitVec 32 := 0#32
  let c1_i32_30 : BitVec 32 := 1#32
  let arg12 : BitVec 32 := Scf.iv c0_i32_28 c1_i32_30 k0_t2
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v66 : BitVec 32 := Scalar.addi c128_i32 v63
  let c0_i32_105 : BitVec 32 := 0#32
  ![v66.toNat, 0]
def k0_off9 (v65 : BitVec 32) : Fin 3 → Nat :=
  let c0_i32_106 : BitVec 32 := 0#32
  let c0_i32_107 : BitVec 32 := 0#32
  ![v65.toNat, 0, 0]

def k0_chk3 (i : grid0.Coords) (v65 : BitVec 32) : Prop :=
  (∀ (k0_h1 : k0_cond1 i = 1#1), ∀ a, (k0_off9 v65) a + S1x1x2048.size a ≤ S16384x1x2048.size a)
theorem k0_off9_inb : ∀ (i : grid0.Coords) (v65 : BitVec 32) (k0_hw3 : k0_chk3 i v65), ∀ (k0_h1 : k0_cond1 i = 1#1), ∀ a, (k0_off9 v65) a + S1x1x2048.size a ≤ S16384x1x2048.size a := fun i v65 k0_hw3 k0_h1 => k0_hw3 k0_h1

def k0_off10 (k0_t2 : Fin k0_t2_loop.trips) : Fin 2 → Nat :=
  let c1_109 : Index := 1#32
  let c0_i32_103 : BitVec 32 := 0#32
  let c0_i32_28 : BitVec 32 := 0#32
  let c1_i32_30 : BitVec 32 := 1#32
  let arg12 : BitVec 32 := Scf.iv c0_i32_28 c1_i32_30 k0_t2
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v73 : Index := Scalar.indexCast v72
  ![1, v73.toNat]
def k0_off11 (k0_t2 : Fin k0_t2_loop.trips) : Fin 2 → Nat :=
  let c128_i32_110 : BitVec 32 := 128#32
  let c0_i32_103 : BitVec 32 := 0#32
  let c0_i32_28 : BitVec 32 := 0#32
  let c1_i32_30 : BitVec 32 := 1#32
  let arg12 : BitVec 32 := Scf.iv c0_i32_28 c1_i32_30 k0_t2
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v75 : BitVec 32 := Scalar.addi c128_i32_110 v72
  let c0_i32_111 : BitVec 32 := 0#32
  ![v75.toNat, 0]
def k0_off12 (v74 : BitVec 32) : Fin 3 → Nat :=
  let c0_i32_112 : BitVec 32 := 0#32
  let c0_i32_113 : BitVec 32 := 0#32
  ![v74.toNat, 0, 0]

def k0_chk4 (i : grid0.Coords) (v74 : BitVec 32) : Prop :=
  (∀ (k0_h1 : k0_cond1 i = 1#1), ∀ a, (k0_off12 v74) a + S1x1x2048.size a ≤ S16384x1x2048.size a)
theorem k0_off12_inb : ∀ (i : grid0.Coords) (v74 : BitVec 32) (k0_hw4 : k0_chk4 i v74), ∀ (k0_h1 : k0_cond1 i = 1#1), ∀ a, (k0_off12 v74) a + S1x1x2048.size a ≤ S16384x1x2048.size a := fun i v74 k0_hw4 k0_h1 => k0_hw4 k0_h1

@[reducible] def k0_t3_loop : Scf.Loop 32 :=
  let c0_i32_33 : BitVec 32 := 0#32
  let c64_i32_34 : BitVec 32 := 64#32
  let v47 : BitVec 32 := Scalar.addi c0_i32_33 c64_i32_34
  let c1_i32_35 : BitVec 32 := 1#32
  ⟨c0_i32_33, v47, c1_i32_35⟩
def k0_off13 (k0_t3 : Fin k0_t3_loop.trips) : Fin 2 → Nat :=
  let c2 : Index := 2#32
  let c0_i32_103 : BitVec 32 := 0#32
  let c0_i32_33 : BitVec 32 := 0#32
  let c1_i32_35 : BitVec 32 := 1#32
  let arg12 : BitVec 32 := Scf.iv c0_i32_33 c1_i32_35 k0_t3
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v64 : Index := Scalar.indexCast v63
  ![2, v64.toNat]
def k0_off14 (k0_t3 : Fin k0_t3_loop.trips) : Fin 2 → Nat :=
  let c256_i32 : BitVec 32 := 256#32
  let c0_i32_103 : BitVec 32 := 0#32
  let c0_i32_33 : BitVec 32 := 0#32
  let c1_i32_35 : BitVec 32 := 1#32
  let arg12 : BitVec 32 := Scf.iv c0_i32_33 c1_i32_35 k0_t3
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v66 : BitVec 32 := Scalar.addi c256_i32 v63
  let c0_i32_105 : BitVec 32 := 0#32
  ![v66.toNat, 0]
def k0_off15 (v65 : BitVec 32) : Fin 3 → Nat :=
  let c0_i32_106 : BitVec 32 := 0#32
  let c0_i32_107 : BitVec 32 := 0#32
  ![v65.toNat, 0, 0]

def k0_chk5 (i : grid0.Coords) (v65 : BitVec 32) : Prop :=
  (∀ (k0_h1 : k0_cond1 i = 1#1), ∀ a, (k0_off15 v65) a + S1x1x2048.size a ≤ S16384x1x2048.size a)
theorem k0_off15_inb : ∀ (i : grid0.Coords) (v65 : BitVec 32) (k0_hw5 : k0_chk5 i v65), ∀ (k0_h1 : k0_cond1 i = 1#1), ∀ a, (k0_off15 v65) a + S1x1x2048.size a ≤ S16384x1x2048.size a := fun i v65 k0_hw5 k0_h1 => k0_hw5 k0_h1

def k0_off16 (k0_t3 : Fin k0_t3_loop.trips) : Fin 2 → Nat :=
  let c2_109 : Index := 2#32
  let c0_i32_103 : BitVec 32 := 0#32
  let c0_i32_33 : BitVec 32 := 0#32
  let c1_i32_35 : BitVec 32 := 1#32
  let arg12 : BitVec 32 := Scf.iv c0_i32_33 c1_i32_35 k0_t3
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v73 : Index := Scalar.indexCast v72
  ![2, v73.toNat]
def k0_off17 (k0_t3 : Fin k0_t3_loop.trips) : Fin 2 → Nat :=
  let c256_i32_110 : BitVec 32 := 256#32
  let c0_i32_103 : BitVec 32 := 0#32
  let c0_i32_33 : BitVec 32 := 0#32
  let c1_i32_35 : BitVec 32 := 1#32
  let arg12 : BitVec 32 := Scf.iv c0_i32_33 c1_i32_35 k0_t3
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v75 : BitVec 32 := Scalar.addi c256_i32_110 v72
  let c0_i32_111 : BitVec 32 := 0#32
  ![v75.toNat, 0]
def k0_off18 (v74 : BitVec 32) : Fin 3 → Nat :=
  let c0_i32_112 : BitVec 32 := 0#32
  let c0_i32_113 : BitVec 32 := 0#32
  ![v74.toNat, 0, 0]

def k0_chk6 (i : grid0.Coords) (v74 : BitVec 32) : Prop :=
  (∀ (k0_h1 : k0_cond1 i = 1#1), ∀ a, (k0_off18 v74) a + S1x1x2048.size a ≤ S16384x1x2048.size a)
theorem k0_off18_inb : ∀ (i : grid0.Coords) (v74 : BitVec 32) (k0_hw6 : k0_chk6 i v74), ∀ (k0_h1 : k0_cond1 i = 1#1), ∀ a, (k0_off18 v74) a + S1x1x2048.size a ≤ S16384x1x2048.size a := fun i v74 k0_hw6 k0_h1 => k0_hw6 k0_h1

@[reducible] def k0_t4_loop : Scf.Loop 32 :=
  let c0_i32_38 : BitVec 32 := 0#32
  let c64_i32_39 : BitVec 32 := 64#32
  let v48 : BitVec 32 := Scalar.addi c0_i32_38 c64_i32_39
  let c1_i32_40 : BitVec 32 := 1#32
  ⟨c0_i32_38, v48, c1_i32_40⟩
def k0_off19 (k0_t4 : Fin k0_t4_loop.trips) : Fin 2 → Nat :=
  let c3 : Index := 3#32
  let c0_i32_103 : BitVec 32 := 0#32
  let c0_i32_38 : BitVec 32 := 0#32
  let c1_i32_40 : BitVec 32 := 1#32
  let arg12 : BitVec 32 := Scf.iv c0_i32_38 c1_i32_40 k0_t4
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v64 : Index := Scalar.indexCast v63
  ![3, v64.toNat]
def k0_off20 (k0_t4 : Fin k0_t4_loop.trips) : Fin 2 → Nat :=
  let c384_i32 : BitVec 32 := 384#32
  let c0_i32_103 : BitVec 32 := 0#32
  let c0_i32_38 : BitVec 32 := 0#32
  let c1_i32_40 : BitVec 32 := 1#32
  let arg12 : BitVec 32 := Scf.iv c0_i32_38 c1_i32_40 k0_t4
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v66 : BitVec 32 := Scalar.addi c384_i32 v63
  let c0_i32_105 : BitVec 32 := 0#32
  ![v66.toNat, 0]
def k0_off21 (v65 : BitVec 32) : Fin 3 → Nat :=
  let c0_i32_106 : BitVec 32 := 0#32
  let c0_i32_107 : BitVec 32 := 0#32
  ![v65.toNat, 0, 0]

def k0_chk7 (i : grid0.Coords) (v65 : BitVec 32) : Prop :=
  (∀ (k0_h1 : k0_cond1 i = 1#1), ∀ a, (k0_off21 v65) a + S1x1x2048.size a ≤ S16384x1x2048.size a)
theorem k0_off21_inb : ∀ (i : grid0.Coords) (v65 : BitVec 32) (k0_hw7 : k0_chk7 i v65), ∀ (k0_h1 : k0_cond1 i = 1#1), ∀ a, (k0_off21 v65) a + S1x1x2048.size a ≤ S16384x1x2048.size a := fun i v65 k0_hw7 k0_h1 => k0_hw7 k0_h1

def k0_off22 (k0_t4 : Fin k0_t4_loop.trips) : Fin 2 → Nat :=
  let c3_109 : Index := 3#32
  let c0_i32_103 : BitVec 32 := 0#32
  let c0_i32_38 : BitVec 32 := 0#32
  let c1_i32_40 : BitVec 32 := 1#32
  let arg12 : BitVec 32 := Scf.iv c0_i32_38 c1_i32_40 k0_t4
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v73 : Index := Scalar.indexCast v72
  ![3, v73.toNat]
def k0_off23 (k0_t4 : Fin k0_t4_loop.trips) : Fin 2 → Nat :=
  let c384_i32_110 : BitVec 32 := 384#32
  let c0_i32_103 : BitVec 32 := 0#32
  let c0_i32_38 : BitVec 32 := 0#32
  let c1_i32_40 : BitVec 32 := 1#32
  let arg12 : BitVec 32 := Scf.iv c0_i32_38 c1_i32_40 k0_t4
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v75 : BitVec 32 := Scalar.addi c384_i32_110 v72
  let c0_i32_111 : BitVec 32 := 0#32
  ![v75.toNat, 0]
def k0_off24 (v74 : BitVec 32) : Fin 3 → Nat :=
  let c0_i32_112 : BitVec 32 := 0#32
  let c0_i32_113 : BitVec 32 := 0#32
  ![v74.toNat, 0, 0]

def k0_chk8 (i : grid0.Coords) (v74 : BitVec 32) : Prop :=
  (∀ (k0_h1 : k0_cond1 i = 1#1), ∀ a, (k0_off24 v74) a + S1x1x2048.size a ≤ S16384x1x2048.size a)
theorem k0_off24_inb : ∀ (i : grid0.Coords) (v74 : BitVec 32) (k0_hw8 : k0_chk8 i v74), ∀ (k0_h1 : k0_cond1 i = 1#1), ∀ a, (k0_off24 v74) a + S1x1x2048.size a ≤ S16384x1x2048.size a := fun i v74 k0_hw8 k0_h1 => k0_hw8 k0_h1

@[reducible] def k0_t5_loop : Scf.Loop 32 :=
  let c0_i32_43 : BitVec 32 := 0#32
  let c64_i32_44 : BitVec 32 := 64#32
  let v49 : BitVec 32 := Scalar.addi c0_i32_43 c64_i32_44
  let c1_i32_45 : BitVec 32 := 1#32
  ⟨c0_i32_43, v49, c1_i32_45⟩
def k0_off25 (k0_t5 : Fin k0_t5_loop.trips) : Fin 2 → Nat :=
  let c4 : Index := 4#32
  let c0_i32_103 : BitVec 32 := 0#32
  let c0_i32_43 : BitVec 32 := 0#32
  let c1_i32_45 : BitVec 32 := 1#32
  let arg12 : BitVec 32 := Scf.iv c0_i32_43 c1_i32_45 k0_t5
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v64 : Index := Scalar.indexCast v63
  ![4, v64.toNat]
def k0_off26 (k0_t5 : Fin k0_t5_loop.trips) : Fin 2 → Nat :=
  let c512_i32 : BitVec 32 := 512#32
  let c0_i32_103 : BitVec 32 := 0#32
  let c0_i32_43 : BitVec 32 := 0#32
  let c1_i32_45 : BitVec 32 := 1#32
  let arg12 : BitVec 32 := Scf.iv c0_i32_43 c1_i32_45 k0_t5
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v66 : BitVec 32 := Scalar.addi c512_i32 v63
  let c0_i32_105 : BitVec 32 := 0#32
  ![v66.toNat, 0]
def k0_off27 (v65 : BitVec 32) : Fin 3 → Nat :=
  let c0_i32_106 : BitVec 32 := 0#32
  let c0_i32_107 : BitVec 32 := 0#32
  ![v65.toNat, 0, 0]

def k0_chk9 (i : grid0.Coords) (v65 : BitVec 32) : Prop :=
  (∀ (k0_h1 : k0_cond1 i = 1#1), ∀ a, (k0_off27 v65) a + S1x1x2048.size a ≤ S16384x1x2048.size a)
theorem k0_off27_inb : ∀ (i : grid0.Coords) (v65 : BitVec 32) (k0_hw9 : k0_chk9 i v65), ∀ (k0_h1 : k0_cond1 i = 1#1), ∀ a, (k0_off27 v65) a + S1x1x2048.size a ≤ S16384x1x2048.size a := fun i v65 k0_hw9 k0_h1 => k0_hw9 k0_h1

def k0_off28 (k0_t5 : Fin k0_t5_loop.trips) : Fin 2 → Nat :=
  let c4_109 : Index := 4#32
  let c0_i32_103 : BitVec 32 := 0#32
  let c0_i32_43 : BitVec 32 := 0#32
  let c1_i32_45 : BitVec 32 := 1#32
  let arg12 : BitVec 32 := Scf.iv c0_i32_43 c1_i32_45 k0_t5
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v73 : Index := Scalar.indexCast v72
  ![4, v73.toNat]
def k0_off29 (k0_t5 : Fin k0_t5_loop.trips) : Fin 2 → Nat :=
  let c512_i32_110 : BitVec 32 := 512#32
  let c0_i32_103 : BitVec 32 := 0#32
  let c0_i32_43 : BitVec 32 := 0#32
  let c1_i32_45 : BitVec 32 := 1#32
  let arg12 : BitVec 32 := Scf.iv c0_i32_43 c1_i32_45 k0_t5
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v75 : BitVec 32 := Scalar.addi c512_i32_110 v72
  let c0_i32_111 : BitVec 32 := 0#32
  ![v75.toNat, 0]
def k0_off30 (v74 : BitVec 32) : Fin 3 → Nat :=
  let c0_i32_112 : BitVec 32 := 0#32
  let c0_i32_113 : BitVec 32 := 0#32
  ![v74.toNat, 0, 0]

def k0_chk10 (i : grid0.Coords) (v74 : BitVec 32) : Prop :=
  (∀ (k0_h1 : k0_cond1 i = 1#1), ∀ a, (k0_off30 v74) a + S1x1x2048.size a ≤ S16384x1x2048.size a)
theorem k0_off30_inb : ∀ (i : grid0.Coords) (v74 : BitVec 32) (k0_hw10 : k0_chk10 i v74), ∀ (k0_h1 : k0_cond1 i = 1#1), ∀ a, (k0_off30 v74) a + S1x1x2048.size a ≤ S16384x1x2048.size a := fun i v74 k0_hw10 k0_h1 => k0_hw10 k0_h1

@[reducible] def k0_t6_loop : Scf.Loop 32 :=
  let c0_i32_48 : BitVec 32 := 0#32
  let c64_i32_49 : BitVec 32 := 64#32
  let v50 : BitVec 32 := Scalar.addi c0_i32_48 c64_i32_49
  let c1_i32_50 : BitVec 32 := 1#32
  ⟨c0_i32_48, v50, c1_i32_50⟩
def k0_off31 (k0_t6 : Fin k0_t6_loop.trips) : Fin 2 → Nat :=
  let c5 : Index := 5#32
  let c0_i32_103 : BitVec 32 := 0#32
  let c0_i32_48 : BitVec 32 := 0#32
  let c1_i32_50 : BitVec 32 := 1#32
  let arg12 : BitVec 32 := Scf.iv c0_i32_48 c1_i32_50 k0_t6
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v64 : Index := Scalar.indexCast v63
  ![5, v64.toNat]
def k0_off32 (k0_t6 : Fin k0_t6_loop.trips) : Fin 2 → Nat :=
  let c640_i32 : BitVec 32 := 640#32
  let c0_i32_103 : BitVec 32 := 0#32
  let c0_i32_48 : BitVec 32 := 0#32
  let c1_i32_50 : BitVec 32 := 1#32
  let arg12 : BitVec 32 := Scf.iv c0_i32_48 c1_i32_50 k0_t6
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v66 : BitVec 32 := Scalar.addi c640_i32 v63
  let c0_i32_105 : BitVec 32 := 0#32
  ![v66.toNat, 0]
def k0_off33 (v65 : BitVec 32) : Fin 3 → Nat :=
  let c0_i32_106 : BitVec 32 := 0#32
  let c0_i32_107 : BitVec 32 := 0#32
  ![v65.toNat, 0, 0]

def k0_chk11 (i : grid0.Coords) (v65 : BitVec 32) : Prop :=
  (∀ (k0_h1 : k0_cond1 i = 1#1), ∀ a, (k0_off33 v65) a + S1x1x2048.size a ≤ S16384x1x2048.size a)
theorem k0_off33_inb : ∀ (i : grid0.Coords) (v65 : BitVec 32) (k0_hw11 : k0_chk11 i v65), ∀ (k0_h1 : k0_cond1 i = 1#1), ∀ a, (k0_off33 v65) a + S1x1x2048.size a ≤ S16384x1x2048.size a := fun i v65 k0_hw11 k0_h1 => k0_hw11 k0_h1

def k0_off34 (k0_t6 : Fin k0_t6_loop.trips) : Fin 2 → Nat :=
  let c5_109 : Index := 5#32
  let c0_i32_103 : BitVec 32 := 0#32
  let c0_i32_48 : BitVec 32 := 0#32
  let c1_i32_50 : BitVec 32 := 1#32
  let arg12 : BitVec 32 := Scf.iv c0_i32_48 c1_i32_50 k0_t6
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v73 : Index := Scalar.indexCast v72
  ![5, v73.toNat]
def k0_off35 (k0_t6 : Fin k0_t6_loop.trips) : Fin 2 → Nat :=
  let c640_i32_110 : BitVec 32 := 640#32
  let c0_i32_103 : BitVec 32 := 0#32
  let c0_i32_48 : BitVec 32 := 0#32
  let c1_i32_50 : BitVec 32 := 1#32
  let arg12 : BitVec 32 := Scf.iv c0_i32_48 c1_i32_50 k0_t6
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v75 : BitVec 32 := Scalar.addi c640_i32_110 v72
  let c0_i32_111 : BitVec 32 := 0#32
  ![v75.toNat, 0]
def k0_off36 (v74 : BitVec 32) : Fin 3 → Nat :=
  let c0_i32_112 : BitVec 32 := 0#32
  let c0_i32_113 : BitVec 32 := 0#32
  ![v74.toNat, 0, 0]

def k0_chk12 (i : grid0.Coords) (v74 : BitVec 32) : Prop :=
  (∀ (k0_h1 : k0_cond1 i = 1#1), ∀ a, (k0_off36 v74) a + S1x1x2048.size a ≤ S16384x1x2048.size a)
theorem k0_off36_inb : ∀ (i : grid0.Coords) (v74 : BitVec 32) (k0_hw12 : k0_chk12 i v74), ∀ (k0_h1 : k0_cond1 i = 1#1), ∀ a, (k0_off36 v74) a + S1x1x2048.size a ≤ S16384x1x2048.size a := fun i v74 k0_hw12 k0_h1 => k0_hw12 k0_h1

@[reducible] def k0_t7_loop : Scf.Loop 32 :=
  let c0_i32_53 : BitVec 32 := 0#32
  let c64_i32_54 : BitVec 32 := 64#32
  let v51 : BitVec 32 := Scalar.addi c0_i32_53 c64_i32_54
  let c1_i32_55 : BitVec 32 := 1#32
  ⟨c0_i32_53, v51, c1_i32_55⟩
def k0_off37 (k0_t7 : Fin k0_t7_loop.trips) : Fin 2 → Nat :=
  let c6 : Index := 6#32
  let c0_i32_103 : BitVec 32 := 0#32
  let c0_i32_53 : BitVec 32 := 0#32
  let c1_i32_55 : BitVec 32 := 1#32
  let arg12 : BitVec 32 := Scf.iv c0_i32_53 c1_i32_55 k0_t7
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v64 : Index := Scalar.indexCast v63
  ![6, v64.toNat]
def k0_off38 (k0_t7 : Fin k0_t7_loop.trips) : Fin 2 → Nat :=
  let c768_i32 : BitVec 32 := 768#32
  let c0_i32_103 : BitVec 32 := 0#32
  let c0_i32_53 : BitVec 32 := 0#32
  let c1_i32_55 : BitVec 32 := 1#32
  let arg12 : BitVec 32 := Scf.iv c0_i32_53 c1_i32_55 k0_t7
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v66 : BitVec 32 := Scalar.addi c768_i32 v63
  let c0_i32_105 : BitVec 32 := 0#32
  ![v66.toNat, 0]
def k0_off39 (v65 : BitVec 32) : Fin 3 → Nat :=
  let c0_i32_106 : BitVec 32 := 0#32
  let c0_i32_107 : BitVec 32 := 0#32
  ![v65.toNat, 0, 0]

def k0_chk13 (i : grid0.Coords) (v65 : BitVec 32) : Prop :=
  (∀ (k0_h1 : k0_cond1 i = 1#1), ∀ a, (k0_off39 v65) a + S1x1x2048.size a ≤ S16384x1x2048.size a)
theorem k0_off39_inb : ∀ (i : grid0.Coords) (v65 : BitVec 32) (k0_hw13 : k0_chk13 i v65), ∀ (k0_h1 : k0_cond1 i = 1#1), ∀ a, (k0_off39 v65) a + S1x1x2048.size a ≤ S16384x1x2048.size a := fun i v65 k0_hw13 k0_h1 => k0_hw13 k0_h1

def k0_off40 (k0_t7 : Fin k0_t7_loop.trips) : Fin 2 → Nat :=
  let c6_109 : Index := 6#32
  let c0_i32_103 : BitVec 32 := 0#32
  let c0_i32_53 : BitVec 32 := 0#32
  let c1_i32_55 : BitVec 32 := 1#32
  let arg12 : BitVec 32 := Scf.iv c0_i32_53 c1_i32_55 k0_t7
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v73 : Index := Scalar.indexCast v72
  ![6, v73.toNat]
def k0_off41 (k0_t7 : Fin k0_t7_loop.trips) : Fin 2 → Nat :=
  let c768_i32_110 : BitVec 32 := 768#32
  let c0_i32_103 : BitVec 32 := 0#32
  let c0_i32_53 : BitVec 32 := 0#32
  let c1_i32_55 : BitVec 32 := 1#32
  let arg12 : BitVec 32 := Scf.iv c0_i32_53 c1_i32_55 k0_t7
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v75 : BitVec 32 := Scalar.addi c768_i32_110 v72
  let c0_i32_111 : BitVec 32 := 0#32
  ![v75.toNat, 0]
def k0_off42 (v74 : BitVec 32) : Fin 3 → Nat :=
  let c0_i32_112 : BitVec 32 := 0#32
  let c0_i32_113 : BitVec 32 := 0#32
  ![v74.toNat, 0, 0]

def k0_chk14 (i : grid0.Coords) (v74 : BitVec 32) : Prop :=
  (∀ (k0_h1 : k0_cond1 i = 1#1), ∀ a, (k0_off42 v74) a + S1x1x2048.size a ≤ S16384x1x2048.size a)
theorem k0_off42_inb : ∀ (i : grid0.Coords) (v74 : BitVec 32) (k0_hw14 : k0_chk14 i v74), ∀ (k0_h1 : k0_cond1 i = 1#1), ∀ a, (k0_off42 v74) a + S1x1x2048.size a ≤ S16384x1x2048.size a := fun i v74 k0_hw14 k0_h1 => k0_hw14 k0_h1

@[reducible] def k0_t8_loop : Scf.Loop 32 :=
  let c0_i32_58 : BitVec 32 := 0#32
  let c64_i32_59 : BitVec 32 := 64#32
  let v52 : BitVec 32 := Scalar.addi c0_i32_58 c64_i32_59
  let c1_i32_60 : BitVec 32 := 1#32
  ⟨c0_i32_58, v52, c1_i32_60⟩
def k0_off43 (k0_t8 : Fin k0_t8_loop.trips) : Fin 2 → Nat :=
  let c7 : Index := 7#32
  let c0_i32_103 : BitVec 32 := 0#32
  let c0_i32_58 : BitVec 32 := 0#32
  let c1_i32_60 : BitVec 32 := 1#32
  let arg12 : BitVec 32 := Scf.iv c0_i32_58 c1_i32_60 k0_t8
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v64 : Index := Scalar.indexCast v63
  ![7, v64.toNat]
def k0_off44 (k0_t8 : Fin k0_t8_loop.trips) : Fin 2 → Nat :=
  let c896_i32 : BitVec 32 := 896#32
  let c0_i32_103 : BitVec 32 := 0#32
  let c0_i32_58 : BitVec 32 := 0#32
  let c1_i32_60 : BitVec 32 := 1#32
  let arg12 : BitVec 32 := Scf.iv c0_i32_58 c1_i32_60 k0_t8
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v66 : BitVec 32 := Scalar.addi c896_i32 v63
  let c0_i32_105 : BitVec 32 := 0#32
  ![v66.toNat, 0]
def k0_off45 (v65 : BitVec 32) : Fin 3 → Nat :=
  let c0_i32_106 : BitVec 32 := 0#32
  let c0_i32_107 : BitVec 32 := 0#32
  ![v65.toNat, 0, 0]

def k0_chk15 (i : grid0.Coords) (v65 : BitVec 32) : Prop :=
  (∀ (k0_h1 : k0_cond1 i = 1#1), ∀ a, (k0_off45 v65) a + S1x1x2048.size a ≤ S16384x1x2048.size a)
theorem k0_off45_inb : ∀ (i : grid0.Coords) (v65 : BitVec 32) (k0_hw15 : k0_chk15 i v65), ∀ (k0_h1 : k0_cond1 i = 1#1), ∀ a, (k0_off45 v65) a + S1x1x2048.size a ≤ S16384x1x2048.size a := fun i v65 k0_hw15 k0_h1 => k0_hw15 k0_h1

def k0_off46 (k0_t8 : Fin k0_t8_loop.trips) : Fin 2 → Nat :=
  let c7_109 : Index := 7#32
  let c0_i32_103 : BitVec 32 := 0#32
  let c0_i32_58 : BitVec 32 := 0#32
  let c1_i32_60 : BitVec 32 := 1#32
  let arg12 : BitVec 32 := Scf.iv c0_i32_58 c1_i32_60 k0_t8
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v73 : Index := Scalar.indexCast v72
  ![7, v73.toNat]
def k0_off47 (k0_t8 : Fin k0_t8_loop.trips) : Fin 2 → Nat :=
  let c896_i32_110 : BitVec 32 := 896#32
  let c0_i32_103 : BitVec 32 := 0#32
  let c0_i32_58 : BitVec 32 := 0#32
  let c1_i32_60 : BitVec 32 := 1#32
  let arg12 : BitVec 32 := Scf.iv c0_i32_58 c1_i32_60 k0_t8
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v75 : BitVec 32 := Scalar.addi c896_i32_110 v72
  let c0_i32_111 : BitVec 32 := 0#32
  ![v75.toNat, 0]
def k0_off48 (v74 : BitVec 32) : Fin 3 → Nat :=
  let c0_i32_112 : BitVec 32 := 0#32
  let c0_i32_113 : BitVec 32 := 0#32
  ![v74.toNat, 0, 0]

def k0_chk16 (i : grid0.Coords) (v74 : BitVec 32) : Prop :=
  (∀ (k0_h1 : k0_cond1 i = 1#1), ∀ a, (k0_off48 v74) a + S1x1x2048.size a ≤ S16384x1x2048.size a)
theorem k0_off48_inb : ∀ (i : grid0.Coords) (v74 : BitVec 32) (k0_hw16 : k0_chk16 i v74), ∀ (k0_h1 : k0_cond1 i = 1#1), ∀ a, (k0_off48 v74) a + S1x1x2048.size a ≤ S16384x1x2048.size a := fun i v74 k0_hw16 k0_h1 => k0_hw16 k0_h1

@[reducible] def k0_t9_loop : Scf.Loop 32 :=
  let c0_i32_63 : BitVec 32 := 0#32
  let c64_i32_64 : BitVec 32 := 64#32
  let v53 : BitVec 32 := Scalar.addi c0_i32_63 c64_i32_64
  let c1_i32_65 : BitVec 32 := 1#32
  ⟨c0_i32_63, v53, c1_i32_65⟩
def k0_off49 (k0_t9 : Fin k0_t9_loop.trips) : Fin 2 → Nat :=
  let c0 : Index := 0#32
  let c0_i32_103 : BitVec 32 := 0#32
  let c0_i32_63 : BitVec 32 := 0#32
  let c1_i32_65 : BitVec 32 := 1#32
  let arg12 : BitVec 32 := Scf.iv c0_i32_63 c1_i32_65 k0_t9
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v64 : Index := Scalar.indexCast v63
  ![0, v64.toNat]
def k0_off50 (k0_t9 : Fin k0_t9_loop.trips) : Fin 2 → Nat :=
  let c0_i32_105 : BitVec 32 := 0#32
  let c0_i32_103 : BitVec 32 := 0#32
  let c0_i32_63 : BitVec 32 := 0#32
  let c1_i32_65 : BitVec 32 := 1#32
  let arg12 : BitVec 32 := Scf.iv c0_i32_63 c1_i32_65 k0_t9
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v66 : BitVec 32 := Scalar.addi c0_i32_105 v63
  let c0_i32_106 : BitVec 32 := 0#32
  ![v66.toNat, 0]
def k0_off51 (v65 : BitVec 32) : Fin 3 → Nat :=
  let c0_i32_107 : BitVec 32 := 0#32
  let c0_i32_108 : BitVec 32 := 0#32
  ![v65.toNat, 0, 0]

def k0_chk17 (i : grid0.Coords) (v65 : BitVec 32) : Prop :=
  (∀ (k0_h1 : k0_cond1 i = 1#1), ∀ a, (k0_off51 v65) a + S1x1x2048.size a ≤ S16384x1x2048.size a)
theorem k0_off51_inb : ∀ (i : grid0.Coords) (v65 : BitVec 32) (k0_hw17 : k0_chk17 i v65), ∀ (k0_h1 : k0_cond1 i = 1#1), ∀ a, (k0_off51 v65) a + S1x1x2048.size a ≤ S16384x1x2048.size a := fun i v65 k0_hw17 k0_h1 => k0_hw17 k0_h1

def k0_off52 (k0_t9 : Fin k0_t9_loop.trips) : Fin 2 → Nat :=
  let c0_110 : Index := 0#32
  let c0_i32_103 : BitVec 32 := 0#32
  let c0_i32_63 : BitVec 32 := 0#32
  let c1_i32_65 : BitVec 32 := 1#32
  let arg12 : BitVec 32 := Scf.iv c0_i32_63 c1_i32_65 k0_t9
  let c2_i32_102 : BitVec 32 := 2#32
  let v61 : BitVec 32 := Scalar.muli arg12 c2_i32_102
  let v62 : BitVec 32 := Scalar.addi c0_i32_103 v61
  let c1_i32_109 : BitVec 32 := 1#32
  let v72 : BitVec 32 := Scalar.addi v62 c1_i32_109
  let v73 : Index := Scalar.indexCast v72
  ![0, v73.toNat]
def k0_off53 (k0_t9 : Fin k0_t9_loop.trips) : Fin 2 → Nat :=
  let c0_i32_111 : BitVec 32 := 0#32
  let c0_i32_103 : BitVec 32 := 0#32
  let c0_i32_63 : BitVec 32 := 0#32
  let c1_i32_65 : BitVec 32 := 1#32
  let arg12 : BitVec 32 := Scf.iv c0_i32_63 c1_i32_65 k0_t9
  let c2_i32_102 : BitVec 32 := 2#32
  let v61 : BitVec 32 := Scalar.muli arg12 c2_i32_102
  let v62 : BitVec 32 := Scalar.addi c0_i32_103 v61
  let c1_i32_109 : BitVec 32 := 1#32
  let v72 : BitVec 32 := Scalar.addi v62 c1_i32_109
  let v75 : BitVec 32 := Scalar.addi c0_i32_111 v72
  let c0_i32_112 : BitVec 32 := 0#32
  ![v75.toNat, 0]
def k0_off54 (v74 : BitVec 32) : Fin 3 → Nat :=
  let c0_i32_113 : BitVec 32 := 0#32
  let c0_i32_114 : BitVec 32 := 0#32
  ![v74.toNat, 0, 0]

def k0_chk18 (i : grid0.Coords) (v74 : BitVec 32) : Prop :=
  (∀ (k0_h1 : k0_cond1 i = 1#1), ∀ a, (k0_off54 v74) a + S1x1x2048.size a ≤ S16384x1x2048.size a)
theorem k0_off54_inb : ∀ (i : grid0.Coords) (v74 : BitVec 32) (k0_hw18 : k0_chk18 i v74), ∀ (k0_h1 : k0_cond1 i = 1#1), ∀ a, (k0_off54 v74) a + S1x1x2048.size a ≤ S16384x1x2048.size a := fun i v74 k0_hw18 k0_h1 => k0_hw18 k0_h1

@[reducible] def k0_t10_loop : Scf.Loop 32 :=
  let c0_i32_68 : BitVec 32 := 0#32
  let c64_i32_69 : BitVec 32 := 64#32
  let v54 : BitVec 32 := Scalar.addi c0_i32_68 c64_i32_69
  let c1_i32_70 : BitVec 32 := 1#32
  ⟨c0_i32_68, v54, c1_i32_70⟩
def k0_off55 (k0_t10 : Fin k0_t10_loop.trips) : Fin 2 → Nat :=
  let c1 : Index := 1#32
  let c0_i32_103 : BitVec 32 := 0#32
  let c0_i32_68 : BitVec 32 := 0#32
  let c1_i32_70 : BitVec 32 := 1#32
  let arg12 : BitVec 32 := Scf.iv c0_i32_68 c1_i32_70 k0_t10
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v64 : Index := Scalar.indexCast v63
  ![1, v64.toNat]
def k0_off56 (k0_t10 : Fin k0_t10_loop.trips) : Fin 2 → Nat :=
  let c128_i32 : BitVec 32 := 128#32
  let c0_i32_103 : BitVec 32 := 0#32
  let c0_i32_68 : BitVec 32 := 0#32
  let c1_i32_70 : BitVec 32 := 1#32
  let arg12 : BitVec 32 := Scf.iv c0_i32_68 c1_i32_70 k0_t10
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v66 : BitVec 32 := Scalar.addi c128_i32 v63
  let c0_i32_105 : BitVec 32 := 0#32
  ![v66.toNat, 0]
def k0_off57 (v65 : BitVec 32) : Fin 3 → Nat :=
  let c0_i32_106 : BitVec 32 := 0#32
  let c0_i32_107 : BitVec 32 := 0#32
  ![v65.toNat, 0, 0]

def k0_chk19 (i : grid0.Coords) (v65 : BitVec 32) : Prop :=
  (∀ (k0_h1 : k0_cond1 i = 1#1), ∀ a, (k0_off57 v65) a + S1x1x2048.size a ≤ S16384x1x2048.size a)
theorem k0_off57_inb : ∀ (i : grid0.Coords) (v65 : BitVec 32) (k0_hw19 : k0_chk19 i v65), ∀ (k0_h1 : k0_cond1 i = 1#1), ∀ a, (k0_off57 v65) a + S1x1x2048.size a ≤ S16384x1x2048.size a := fun i v65 k0_hw19 k0_h1 => k0_hw19 k0_h1

def k0_off58 (k0_t10 : Fin k0_t10_loop.trips) : Fin 2 → Nat :=
  let c1_109 : Index := 1#32
  let c0_i32_103 : BitVec 32 := 0#32
  let c0_i32_68 : BitVec 32 := 0#32
  let c1_i32_70 : BitVec 32 := 1#32
  let arg12 : BitVec 32 := Scf.iv c0_i32_68 c1_i32_70 k0_t10
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v73 : Index := Scalar.indexCast v72
  ![1, v73.toNat]
def k0_off59 (k0_t10 : Fin k0_t10_loop.trips) : Fin 2 → Nat :=
  let c128_i32_110 : BitVec 32 := 128#32
  let c0_i32_103 : BitVec 32 := 0#32
  let c0_i32_68 : BitVec 32 := 0#32
  let c1_i32_70 : BitVec 32 := 1#32
  let arg12 : BitVec 32 := Scf.iv c0_i32_68 c1_i32_70 k0_t10
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v75 : BitVec 32 := Scalar.addi c128_i32_110 v72
  let c0_i32_111 : BitVec 32 := 0#32
  ![v75.toNat, 0]
def k0_off60 (v74 : BitVec 32) : Fin 3 → Nat :=
  let c0_i32_112 : BitVec 32 := 0#32
  let c0_i32_113 : BitVec 32 := 0#32
  ![v74.toNat, 0, 0]

def k0_chk20 (i : grid0.Coords) (v74 : BitVec 32) : Prop :=
  (∀ (k0_h1 : k0_cond1 i = 1#1), ∀ a, (k0_off60 v74) a + S1x1x2048.size a ≤ S16384x1x2048.size a)
theorem k0_off60_inb : ∀ (i : grid0.Coords) (v74 : BitVec 32) (k0_hw20 : k0_chk20 i v74), ∀ (k0_h1 : k0_cond1 i = 1#1), ∀ a, (k0_off60 v74) a + S1x1x2048.size a ≤ S16384x1x2048.size a := fun i v74 k0_hw20 k0_h1 => k0_hw20 k0_h1

@[reducible] def k0_t11_loop : Scf.Loop 32 :=
  let c0_i32_73 : BitVec 32 := 0#32
  let c64_i32_74 : BitVec 32 := 64#32
  let v55 : BitVec 32 := Scalar.addi c0_i32_73 c64_i32_74
  let c1_i32_75 : BitVec 32 := 1#32
  ⟨c0_i32_73, v55, c1_i32_75⟩
def k0_off61 (k0_t11 : Fin k0_t11_loop.trips) : Fin 2 → Nat :=
  let c2 : Index := 2#32
  let c0_i32_103 : BitVec 32 := 0#32
  let c0_i32_73 : BitVec 32 := 0#32
  let c1_i32_75 : BitVec 32 := 1#32
  let arg12 : BitVec 32 := Scf.iv c0_i32_73 c1_i32_75 k0_t11
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v64 : Index := Scalar.indexCast v63
  ![2, v64.toNat]
def k0_off62 (k0_t11 : Fin k0_t11_loop.trips) : Fin 2 → Nat :=
  let c256_i32 : BitVec 32 := 256#32
  let c0_i32_103 : BitVec 32 := 0#32
  let c0_i32_73 : BitVec 32 := 0#32
  let c1_i32_75 : BitVec 32 := 1#32
  let arg12 : BitVec 32 := Scf.iv c0_i32_73 c1_i32_75 k0_t11
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v66 : BitVec 32 := Scalar.addi c256_i32 v63
  let c0_i32_105 : BitVec 32 := 0#32
  ![v66.toNat, 0]
def k0_off63 (v65 : BitVec 32) : Fin 3 → Nat :=
  let c0_i32_106 : BitVec 32 := 0#32
  let c0_i32_107 : BitVec 32 := 0#32
  ![v65.toNat, 0, 0]

def k0_chk21 (i : grid0.Coords) (v65 : BitVec 32) : Prop :=
  (∀ (k0_h1 : k0_cond1 i = 1#1), ∀ a, (k0_off63 v65) a + S1x1x2048.size a ≤ S16384x1x2048.size a)
theorem k0_off63_inb : ∀ (i : grid0.Coords) (v65 : BitVec 32) (k0_hw21 : k0_chk21 i v65), ∀ (k0_h1 : k0_cond1 i = 1#1), ∀ a, (k0_off63 v65) a + S1x1x2048.size a ≤ S16384x1x2048.size a := fun i v65 k0_hw21 k0_h1 => k0_hw21 k0_h1

def k0_off64 (k0_t11 : Fin k0_t11_loop.trips) : Fin 2 → Nat :=
  let c2_109 : Index := 2#32
  let c0_i32_103 : BitVec 32 := 0#32
  let c0_i32_73 : BitVec 32 := 0#32
  let c1_i32_75 : BitVec 32 := 1#32
  let arg12 : BitVec 32 := Scf.iv c0_i32_73 c1_i32_75 k0_t11
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v73 : Index := Scalar.indexCast v72
  ![2, v73.toNat]
def k0_off65 (k0_t11 : Fin k0_t11_loop.trips) : Fin 2 → Nat :=
  let c256_i32_110 : BitVec 32 := 256#32
  let c0_i32_103 : BitVec 32 := 0#32
  let c0_i32_73 : BitVec 32 := 0#32
  let c1_i32_75 : BitVec 32 := 1#32
  let arg12 : BitVec 32 := Scf.iv c0_i32_73 c1_i32_75 k0_t11
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v75 : BitVec 32 := Scalar.addi c256_i32_110 v72
  let c0_i32_111 : BitVec 32 := 0#32
  ![v75.toNat, 0]
def k0_off66 (v74 : BitVec 32) : Fin 3 → Nat :=
  let c0_i32_112 : BitVec 32 := 0#32
  let c0_i32_113 : BitVec 32 := 0#32
  ![v74.toNat, 0, 0]

def k0_chk22 (i : grid0.Coords) (v74 : BitVec 32) : Prop :=
  (∀ (k0_h1 : k0_cond1 i = 1#1), ∀ a, (k0_off66 v74) a + S1x1x2048.size a ≤ S16384x1x2048.size a)
theorem k0_off66_inb : ∀ (i : grid0.Coords) (v74 : BitVec 32) (k0_hw22 : k0_chk22 i v74), ∀ (k0_h1 : k0_cond1 i = 1#1), ∀ a, (k0_off66 v74) a + S1x1x2048.size a ≤ S16384x1x2048.size a := fun i v74 k0_hw22 k0_h1 => k0_hw22 k0_h1

@[reducible] def k0_t12_loop : Scf.Loop 32 :=
  let c0_i32_78 : BitVec 32 := 0#32
  let c64_i32_79 : BitVec 32 := 64#32
  let v56 : BitVec 32 := Scalar.addi c0_i32_78 c64_i32_79
  let c1_i32_80 : BitVec 32 := 1#32
  ⟨c0_i32_78, v56, c1_i32_80⟩
def k0_off67 (k0_t12 : Fin k0_t12_loop.trips) : Fin 2 → Nat :=
  let c3 : Index := 3#32
  let c0_i32_103 : BitVec 32 := 0#32
  let c0_i32_78 : BitVec 32 := 0#32
  let c1_i32_80 : BitVec 32 := 1#32
  let arg12 : BitVec 32 := Scf.iv c0_i32_78 c1_i32_80 k0_t12
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v64 : Index := Scalar.indexCast v63
  ![3, v64.toNat]
def k0_off68 (k0_t12 : Fin k0_t12_loop.trips) : Fin 2 → Nat :=
  let c384_i32 : BitVec 32 := 384#32
  let c0_i32_103 : BitVec 32 := 0#32
  let c0_i32_78 : BitVec 32 := 0#32
  let c1_i32_80 : BitVec 32 := 1#32
  let arg12 : BitVec 32 := Scf.iv c0_i32_78 c1_i32_80 k0_t12
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v66 : BitVec 32 := Scalar.addi c384_i32 v63
  let c0_i32_105 : BitVec 32 := 0#32
  ![v66.toNat, 0]
def k0_off69 (v65 : BitVec 32) : Fin 3 → Nat :=
  let c0_i32_106 : BitVec 32 := 0#32
  let c0_i32_107 : BitVec 32 := 0#32
  ![v65.toNat, 0, 0]

def k0_chk23 (i : grid0.Coords) (v65 : BitVec 32) : Prop :=
  (∀ (k0_h1 : k0_cond1 i = 1#1), ∀ a, (k0_off69 v65) a + S1x1x2048.size a ≤ S16384x1x2048.size a)
theorem k0_off69_inb : ∀ (i : grid0.Coords) (v65 : BitVec 32) (k0_hw23 : k0_chk23 i v65), ∀ (k0_h1 : k0_cond1 i = 1#1), ∀ a, (k0_off69 v65) a + S1x1x2048.size a ≤ S16384x1x2048.size a := fun i v65 k0_hw23 k0_h1 => k0_hw23 k0_h1

def k0_off70 (k0_t12 : Fin k0_t12_loop.trips) : Fin 2 → Nat :=
  let c3_109 : Index := 3#32
  let c0_i32_103 : BitVec 32 := 0#32
  let c0_i32_78 : BitVec 32 := 0#32
  let c1_i32_80 : BitVec 32 := 1#32
  let arg12 : BitVec 32 := Scf.iv c0_i32_78 c1_i32_80 k0_t12
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v73 : Index := Scalar.indexCast v72
  ![3, v73.toNat]
def k0_off71 (k0_t12 : Fin k0_t12_loop.trips) : Fin 2 → Nat :=
  let c384_i32_110 : BitVec 32 := 384#32
  let c0_i32_103 : BitVec 32 := 0#32
  let c0_i32_78 : BitVec 32 := 0#32
  let c1_i32_80 : BitVec 32 := 1#32
  let arg12 : BitVec 32 := Scf.iv c0_i32_78 c1_i32_80 k0_t12
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v75 : BitVec 32 := Scalar.addi c384_i32_110 v72
  let c0_i32_111 : BitVec 32 := 0#32
  ![v75.toNat, 0]
def k0_off72 (v74 : BitVec 32) : Fin 3 → Nat :=
  let c0_i32_112 : BitVec 32 := 0#32
  let c0_i32_113 : BitVec 32 := 0#32
  ![v74.toNat, 0, 0]

def k0_chk24 (i : grid0.Coords) (v74 : BitVec 32) : Prop :=
  (∀ (k0_h1 : k0_cond1 i = 1#1), ∀ a, (k0_off72 v74) a + S1x1x2048.size a ≤ S16384x1x2048.size a)
theorem k0_off72_inb : ∀ (i : grid0.Coords) (v74 : BitVec 32) (k0_hw24 : k0_chk24 i v74), ∀ (k0_h1 : k0_cond1 i = 1#1), ∀ a, (k0_off72 v74) a + S1x1x2048.size a ≤ S16384x1x2048.size a := fun i v74 k0_hw24 k0_h1 => k0_hw24 k0_h1

@[reducible] def k0_t13_loop : Scf.Loop 32 :=
  let c0_i32_83 : BitVec 32 := 0#32
  let c64_i32_84 : BitVec 32 := 64#32
  let v57 : BitVec 32 := Scalar.addi c0_i32_83 c64_i32_84
  let c1_i32_85 : BitVec 32 := 1#32
  ⟨c0_i32_83, v57, c1_i32_85⟩
def k0_off73 (k0_t13 : Fin k0_t13_loop.trips) : Fin 2 → Nat :=
  let c4 : Index := 4#32
  let c0_i32_103 : BitVec 32 := 0#32
  let c0_i32_83 : BitVec 32 := 0#32
  let c1_i32_85 : BitVec 32 := 1#32
  let arg12 : BitVec 32 := Scf.iv c0_i32_83 c1_i32_85 k0_t13
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v64 : Index := Scalar.indexCast v63
  ![4, v64.toNat]
def k0_off74 (k0_t13 : Fin k0_t13_loop.trips) : Fin 2 → Nat :=
  let c512_i32 : BitVec 32 := 512#32
  let c0_i32_103 : BitVec 32 := 0#32
  let c0_i32_83 : BitVec 32 := 0#32
  let c1_i32_85 : BitVec 32 := 1#32
  let arg12 : BitVec 32 := Scf.iv c0_i32_83 c1_i32_85 k0_t13
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v66 : BitVec 32 := Scalar.addi c512_i32 v63
  let c0_i32_105 : BitVec 32 := 0#32
  ![v66.toNat, 0]
def k0_off75 (v65 : BitVec 32) : Fin 3 → Nat :=
  let c0_i32_106 : BitVec 32 := 0#32
  let c0_i32_107 : BitVec 32 := 0#32
  ![v65.toNat, 0, 0]

def k0_chk25 (i : grid0.Coords) (v65 : BitVec 32) : Prop :=
  (∀ (k0_h1 : k0_cond1 i = 1#1), ∀ a, (k0_off75 v65) a + S1x1x2048.size a ≤ S16384x1x2048.size a)
theorem k0_off75_inb : ∀ (i : grid0.Coords) (v65 : BitVec 32) (k0_hw25 : k0_chk25 i v65), ∀ (k0_h1 : k0_cond1 i = 1#1), ∀ a, (k0_off75 v65) a + S1x1x2048.size a ≤ S16384x1x2048.size a := fun i v65 k0_hw25 k0_h1 => k0_hw25 k0_h1

def k0_off76 (k0_t13 : Fin k0_t13_loop.trips) : Fin 2 → Nat :=
  let c4_109 : Index := 4#32
  let c0_i32_103 : BitVec 32 := 0#32
  let c0_i32_83 : BitVec 32 := 0#32
  let c1_i32_85 : BitVec 32 := 1#32
  let arg12 : BitVec 32 := Scf.iv c0_i32_83 c1_i32_85 k0_t13
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v73 : Index := Scalar.indexCast v72
  ![4, v73.toNat]
def k0_off77 (k0_t13 : Fin k0_t13_loop.trips) : Fin 2 → Nat :=
  let c512_i32_110 : BitVec 32 := 512#32
  let c0_i32_103 : BitVec 32 := 0#32
  let c0_i32_83 : BitVec 32 := 0#32
  let c1_i32_85 : BitVec 32 := 1#32
  let arg12 : BitVec 32 := Scf.iv c0_i32_83 c1_i32_85 k0_t13
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v75 : BitVec 32 := Scalar.addi c512_i32_110 v72
  let c0_i32_111 : BitVec 32 := 0#32
  ![v75.toNat, 0]
def k0_off78 (v74 : BitVec 32) : Fin 3 → Nat :=
  let c0_i32_112 : BitVec 32 := 0#32
  let c0_i32_113 : BitVec 32 := 0#32
  ![v74.toNat, 0, 0]

def k0_chk26 (i : grid0.Coords) (v74 : BitVec 32) : Prop :=
  (∀ (k0_h1 : k0_cond1 i = 1#1), ∀ a, (k0_off78 v74) a + S1x1x2048.size a ≤ S16384x1x2048.size a)
theorem k0_off78_inb : ∀ (i : grid0.Coords) (v74 : BitVec 32) (k0_hw26 : k0_chk26 i v74), ∀ (k0_h1 : k0_cond1 i = 1#1), ∀ a, (k0_off78 v74) a + S1x1x2048.size a ≤ S16384x1x2048.size a := fun i v74 k0_hw26 k0_h1 => k0_hw26 k0_h1

@[reducible] def k0_t14_loop : Scf.Loop 32 :=
  let c0_i32_88 : BitVec 32 := 0#32
  let c64_i32_89 : BitVec 32 := 64#32
  let v58 : BitVec 32 := Scalar.addi c0_i32_88 c64_i32_89
  let c1_i32_90 : BitVec 32 := 1#32
  ⟨c0_i32_88, v58, c1_i32_90⟩
def k0_off79 (k0_t14 : Fin k0_t14_loop.trips) : Fin 2 → Nat :=
  let c5 : Index := 5#32
  let c0_i32_103 : BitVec 32 := 0#32
  let c0_i32_88 : BitVec 32 := 0#32
  let c1_i32_90 : BitVec 32 := 1#32
  let arg12 : BitVec 32 := Scf.iv c0_i32_88 c1_i32_90 k0_t14
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v64 : Index := Scalar.indexCast v63
  ![5, v64.toNat]
def k0_off80 (k0_t14 : Fin k0_t14_loop.trips) : Fin 2 → Nat :=
  let c640_i32 : BitVec 32 := 640#32
  let c0_i32_103 : BitVec 32 := 0#32
  let c0_i32_88 : BitVec 32 := 0#32
  let c1_i32_90 : BitVec 32 := 1#32
  let arg12 : BitVec 32 := Scf.iv c0_i32_88 c1_i32_90 k0_t14
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v66 : BitVec 32 := Scalar.addi c640_i32 v63
  let c0_i32_105 : BitVec 32 := 0#32
  ![v66.toNat, 0]
def k0_off81 (v65 : BitVec 32) : Fin 3 → Nat :=
  let c0_i32_106 : BitVec 32 := 0#32
  let c0_i32_107 : BitVec 32 := 0#32
  ![v65.toNat, 0, 0]

def k0_chk27 (i : grid0.Coords) (v65 : BitVec 32) : Prop :=
  (∀ (k0_h1 : k0_cond1 i = 1#1), ∀ a, (k0_off81 v65) a + S1x1x2048.size a ≤ S16384x1x2048.size a)
theorem k0_off81_inb : ∀ (i : grid0.Coords) (v65 : BitVec 32) (k0_hw27 : k0_chk27 i v65), ∀ (k0_h1 : k0_cond1 i = 1#1), ∀ a, (k0_off81 v65) a + S1x1x2048.size a ≤ S16384x1x2048.size a := fun i v65 k0_hw27 k0_h1 => k0_hw27 k0_h1

def k0_off82 (k0_t14 : Fin k0_t14_loop.trips) : Fin 2 → Nat :=
  let c5_109 : Index := 5#32
  let c0_i32_103 : BitVec 32 := 0#32
  let c0_i32_88 : BitVec 32 := 0#32
  let c1_i32_90 : BitVec 32 := 1#32
  let arg12 : BitVec 32 := Scf.iv c0_i32_88 c1_i32_90 k0_t14
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v73 : Index := Scalar.indexCast v72
  ![5, v73.toNat]
def k0_off83 (k0_t14 : Fin k0_t14_loop.trips) : Fin 2 → Nat :=
  let c640_i32_110 : BitVec 32 := 640#32
  let c0_i32_103 : BitVec 32 := 0#32
  let c0_i32_88 : BitVec 32 := 0#32
  let c1_i32_90 : BitVec 32 := 1#32
  let arg12 : BitVec 32 := Scf.iv c0_i32_88 c1_i32_90 k0_t14
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v75 : BitVec 32 := Scalar.addi c640_i32_110 v72
  let c0_i32_111 : BitVec 32 := 0#32
  ![v75.toNat, 0]
def k0_off84 (v74 : BitVec 32) : Fin 3 → Nat :=
  let c0_i32_112 : BitVec 32 := 0#32
  let c0_i32_113 : BitVec 32 := 0#32
  ![v74.toNat, 0, 0]

def k0_chk28 (i : grid0.Coords) (v74 : BitVec 32) : Prop :=
  (∀ (k0_h1 : k0_cond1 i = 1#1), ∀ a, (k0_off84 v74) a + S1x1x2048.size a ≤ S16384x1x2048.size a)
theorem k0_off84_inb : ∀ (i : grid0.Coords) (v74 : BitVec 32) (k0_hw28 : k0_chk28 i v74), ∀ (k0_h1 : k0_cond1 i = 1#1), ∀ a, (k0_off84 v74) a + S1x1x2048.size a ≤ S16384x1x2048.size a := fun i v74 k0_hw28 k0_h1 => k0_hw28 k0_h1

@[reducible] def k0_t15_loop : Scf.Loop 32 :=
  let c0_i32_93 : BitVec 32 := 0#32
  let c64_i32_94 : BitVec 32 := 64#32
  let v59 : BitVec 32 := Scalar.addi c0_i32_93 c64_i32_94
  let c1_i32_95 : BitVec 32 := 1#32
  ⟨c0_i32_93, v59, c1_i32_95⟩
def k0_off85 (k0_t15 : Fin k0_t15_loop.trips) : Fin 2 → Nat :=
  let c6 : Index := 6#32
  let c0_i32_103 : BitVec 32 := 0#32
  let c0_i32_93 : BitVec 32 := 0#32
  let c1_i32_95 : BitVec 32 := 1#32
  let arg12 : BitVec 32 := Scf.iv c0_i32_93 c1_i32_95 k0_t15
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v64 : Index := Scalar.indexCast v63
  ![6, v64.toNat]
def k0_off86 (k0_t15 : Fin k0_t15_loop.trips) : Fin 2 → Nat :=
  let c768_i32 : BitVec 32 := 768#32
  let c0_i32_103 : BitVec 32 := 0#32
  let c0_i32_93 : BitVec 32 := 0#32
  let c1_i32_95 : BitVec 32 := 1#32
  let arg12 : BitVec 32 := Scf.iv c0_i32_93 c1_i32_95 k0_t15
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v66 : BitVec 32 := Scalar.addi c768_i32 v63
  let c0_i32_105 : BitVec 32 := 0#32
  ![v66.toNat, 0]
def k0_off87 (v65 : BitVec 32) : Fin 3 → Nat :=
  let c0_i32_106 : BitVec 32 := 0#32
  let c0_i32_107 : BitVec 32 := 0#32
  ![v65.toNat, 0, 0]

def k0_chk29 (i : grid0.Coords) (v65 : BitVec 32) : Prop :=
  (∀ (k0_h1 : k0_cond1 i = 1#1), ∀ a, (k0_off87 v65) a + S1x1x2048.size a ≤ S16384x1x2048.size a)
theorem k0_off87_inb : ∀ (i : grid0.Coords) (v65 : BitVec 32) (k0_hw29 : k0_chk29 i v65), ∀ (k0_h1 : k0_cond1 i = 1#1), ∀ a, (k0_off87 v65) a + S1x1x2048.size a ≤ S16384x1x2048.size a := fun i v65 k0_hw29 k0_h1 => k0_hw29 k0_h1

def k0_off88 (k0_t15 : Fin k0_t15_loop.trips) : Fin 2 → Nat :=
  let c6_109 : Index := 6#32
  let c0_i32_103 : BitVec 32 := 0#32
  let c0_i32_93 : BitVec 32 := 0#32
  let c1_i32_95 : BitVec 32 := 1#32
  let arg12 : BitVec 32 := Scf.iv c0_i32_93 c1_i32_95 k0_t15
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v73 : Index := Scalar.indexCast v72
  ![6, v73.toNat]
def k0_off89 (k0_t15 : Fin k0_t15_loop.trips) : Fin 2 → Nat :=
  let c768_i32_110 : BitVec 32 := 768#32
  let c0_i32_103 : BitVec 32 := 0#32
  let c0_i32_93 : BitVec 32 := 0#32
  let c1_i32_95 : BitVec 32 := 1#32
  let arg12 : BitVec 32 := Scf.iv c0_i32_93 c1_i32_95 k0_t15
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v75 : BitVec 32 := Scalar.addi c768_i32_110 v72
  let c0_i32_111 : BitVec 32 := 0#32
  ![v75.toNat, 0]
def k0_off90 (v74 : BitVec 32) : Fin 3 → Nat :=
  let c0_i32_112 : BitVec 32 := 0#32
  let c0_i32_113 : BitVec 32 := 0#32
  ![v74.toNat, 0, 0]

def k0_chk30 (i : grid0.Coords) (v74 : BitVec 32) : Prop :=
  (∀ (k0_h1 : k0_cond1 i = 1#1), ∀ a, (k0_off90 v74) a + S1x1x2048.size a ≤ S16384x1x2048.size a)
theorem k0_off90_inb : ∀ (i : grid0.Coords) (v74 : BitVec 32) (k0_hw30 : k0_chk30 i v74), ∀ (k0_h1 : k0_cond1 i = 1#1), ∀ a, (k0_off90 v74) a + S1x1x2048.size a ≤ S16384x1x2048.size a := fun i v74 k0_hw30 k0_h1 => k0_hw30 k0_h1

@[reducible] def k0_t16_loop : Scf.Loop 32 :=
  let c0_i32_98 : BitVec 32 := 0#32
  let c64_i32_99 : BitVec 32 := 64#32
  let v60 : BitVec 32 := Scalar.addi c0_i32_98 c64_i32_99
  let c1_i32_100 : BitVec 32 := 1#32
  ⟨c0_i32_98, v60, c1_i32_100⟩
def k0_off91 (k0_t16 : Fin k0_t16_loop.trips) : Fin 2 → Nat :=
  let c7 : Index := 7#32
  let c0_i32_103 : BitVec 32 := 0#32
  let c0_i32_98 : BitVec 32 := 0#32
  let c1_i32_100 : BitVec 32 := 1#32
  let arg12 : BitVec 32 := Scf.iv c0_i32_98 c1_i32_100 k0_t16
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v64 : Index := Scalar.indexCast v63
  ![7, v64.toNat]
def k0_off92 (k0_t16 : Fin k0_t16_loop.trips) : Fin 2 → Nat :=
  let c896_i32 : BitVec 32 := 896#32
  let c0_i32_103 : BitVec 32 := 0#32
  let c0_i32_98 : BitVec 32 := 0#32
  let c1_i32_100 : BitVec 32 := 1#32
  let arg12 : BitVec 32 := Scf.iv c0_i32_98 c1_i32_100 k0_t16
  let c2_i32_102 : BitVec 32 := 2#32
  let v61 : BitVec 32 := Scalar.muli arg12 c2_i32_102
  let v62 : BitVec 32 := Scalar.addi c0_i32_103 v61
  let c0_i32_104 : BitVec 32 := 0#32
  let v63 : BitVec 32 := Scalar.addi v62 c0_i32_104
  let v66 : BitVec 32 := Scalar.addi c896_i32 v63
  let c0_i32_105 : BitVec 32 := 0#32
  ![v66.toNat, 0]
def k0_off93 (v65 : BitVec 32) : Fin 3 → Nat :=
  let c0_i32_106 : BitVec 32 := 0#32
  let c0_i32_107 : BitVec 32 := 0#32
  ![v65.toNat, 0, 0]

def k0_chk31 (i : grid0.Coords) (v65 : BitVec 32) : Prop :=
  (∀ (k0_h1 : k0_cond1 i = 1#1), ∀ a, (k0_off93 v65) a + S1x1x2048.size a ≤ S16384x1x2048.size a)
theorem k0_off93_inb : ∀ (i : grid0.Coords) (v65 : BitVec 32) (k0_hw31 : k0_chk31 i v65), ∀ (k0_h1 : k0_cond1 i = 1#1), ∀ a, (k0_off93 v65) a + S1x1x2048.size a ≤ S16384x1x2048.size a := fun i v65 k0_hw31 k0_h1 => k0_hw31 k0_h1

def k0_off94 (k0_t16 : Fin k0_t16_loop.trips) : Fin 2 → Nat :=
  let c7_109 : Index := 7#32
  let c0_i32_103 : BitVec 32 := 0#32
  let c0_i32_98 : BitVec 32 := 0#32
  let c1_i32_100 : BitVec 32 := 1#32
  let arg12 : BitVec 32 := Scf.iv c0_i32_98 c1_i32_100 k0_t16
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v73 : Index := Scalar.indexCast v72
  ![7, v73.toNat]
def k0_off95 (k0_t16 : Fin k0_t16_loop.trips) : Fin 2 → Nat :=
  let c896_i32_110 : BitVec 32 := 896#32
  let c0_i32_103 : BitVec 32 := 0#32
  let c0_i32_98 : BitVec 32 := 0#32
  let c1_i32_100 : BitVec 32 := 1#32
  let arg12 : BitVec 32 := Scf.iv c0_i32_98 c1_i32_100 k0_t16
  let c2_i32_102 : BitVec 32 := 2#32
  let v61 : BitVec 32 := Scalar.muli arg12 c2_i32_102
  let v62 : BitVec 32 := Scalar.addi c0_i32_103 v61
  let c1_i32_108 : BitVec 32 := 1#32
  let v72 : BitVec 32 := Scalar.addi v62 c1_i32_108
  let v75 : BitVec 32 := Scalar.addi c896_i32_110 v72
  let c0_i32_111 : BitVec 32 := 0#32
  ![v75.toNat, 0]
def k0_off96 (v74 : BitVec 32) : Fin 3 → Nat :=
  let c0_i32_112 : BitVec 32 := 0#32
  let c0_i32_113 : BitVec 32 := 0#32
  ![v74.toNat, 0, 0]

def k0_chk32 (i : grid0.Coords) (v74 : BitVec 32) : Prop :=
  (∀ (k0_h1 : k0_cond1 i = 1#1), ∀ a, (k0_off96 v74) a + S1x1x2048.size a ≤ S16384x1x2048.size a)
theorem k0_off96_inb : ∀ (i : grid0.Coords) (v74 : BitVec 32) (k0_hw32 : k0_chk32 i v74), ∀ (k0_h1 : k0_cond1 i = 1#1), ∀ a, (k0_off96 v74) a + S1x1x2048.size a ≤ S16384x1x2048.size a := fun i v74 k0_hw32 k0_h1 => k0_hw32 k0_h1

def k0_cond2 (i : grid0.Coords) : BitVec 1 :=
  let arg0 : BitVec 32 := BitVec.ofNat 32 (i 0).val
  let c3_i32 : BitVec 32 := 3#32
  let c0_i32_1 : BitVec 32 := 0#32
  let v3 : BitVec 1 := Scalar.cmpi .eq c3_i32 c0_i32_1
  let c1_i32 : BitVec 32 := 1#32
  let v4 : BitVec 32 := Scalar.select v3 c1_i32 c3_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

@[reducible] def k0_t17_loop : Scf.Loop 32 :=
  let c0_i32_24 : BitVec 32 := 0#32
  let c1024_i32 : BitVec 32 := 1024#32
  let v45 : BitVec 32 := Scalar.addi c0_i32_24 c1024_i32
  let c1_i32_25 : BitVec 32 := 1#32
  ⟨c0_i32_24, v45, c1_i32_25⟩
def k0_off97 (k0_t17 : Fin k0_t17_loop.trips) : Fin 2 → Nat :=
  let c0_i32_1252 : BitVec 32 := 0#32
  let c0_i32_24 : BitVec 32 := 0#32
  let c1_i32_25 : BitVec 32 := 1#32
  let arg12 : BitVec 32 := Scf.iv c0_i32_24 c1_i32_25 k0_t17
  let c1_i32_1251 : BitVec 32 := 1#32
  let v2179 : BitVec 32 := Scalar.muli arg12 c1_i32_1251
  let v2180 : BitVec 32 := Scalar.addi c0_i32_1252 v2179
  let c0_i32_1254 : BitVec 32 := 0#32
  ![v2180.toNat, 0]
@[reducible] def k0_t18_loop : Scf.Loop 32 :=
  let c0_i32_28 : BitVec 32 := 0#32
  let c32_i32 : BitVec 32 := 32#32
  let v48 : BitVec 32 := Scalar.addi c0_i32_28 c32_i32
  let c1_i32_29 : BitVec 32 := 1#32
  ⟨c0_i32_28, v48, c1_i32_29⟩
def k0_off98 (k0_t18 : Fin k0_t18_loop.trips) : Fin 2 → Nat :=
  let c0_1254 : Index := 0#32
  let c0_i32_1252 : BitVec 32 := 0#32
  let c0_i32_28 : BitVec 32 := 0#32
  let c1_i32_29 : BitVec 32 := 1#32
  let arg12 : BitVec 32 := Scf.iv c0_i32_28 c1_i32_29 k0_t18
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![0, v2182.toNat]
def k0_off99 (k0_t18 : Fin k0_t18_loop.trips) : Fin 2 → Nat :=
  let c0_i32_1255 : BitVec 32 := 0#32
  let c0_i32_1252 : BitVec 32 := 0#32
  let c0_i32_28 : BitVec 32 := 0#32
  let c1_i32_29 : BitVec 32 := 1#32
  let arg12 : BitVec 32 := Scf.iv c0_i32_28 c1_i32_29 k0_t18
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c0_i32_1255 v2181
  let c0_i32_1256 : BitVec 32 := 0#32
  ![v2184.toNat, 0]
def k0_off100 (v2183 : BitVec 32) : Fin 3 → Nat :=
  let c0_i32_1257 : BitVec 32 := 0#32
  let c0_i32_1258 : BitVec 32 := 0#32
  ![v2183.toNat, 0, 0]

def k0_chk33 (i : grid0.Coords) (v2183 : BitVec 32) : Prop :=
  (∀ (k0_h2 : k0_cond2 i = 1#1), ∀ a, (k0_off100 v2183) a + S1x1x2048.size a ≤ S16384x1x2048.size a)
theorem k0_off100_inb : ∀ (i : grid0.Coords) (v2183 : BitVec 32) (k0_hw33 : k0_chk33 i v2183), ∀ (k0_h2 : k0_cond2 i = 1#1), ∀ a, (k0_off100 v2183) a + S1x1x2048.size a ≤ S16384x1x2048.size a := fun i v2183 k0_hw33 k0_h2 => k0_hw33 k0_h2

def k0_off101 (k0_t18 : Fin k0_t18_loop.trips) : Fin 2 → Nat :=
  let c0_1260 : Index := 0#32
  let c0_i32_1252 : BitVec 32 := 0#32
  let c0_i32_28 : BitVec 32 := 0#32
  let c1_i32_29 : BitVec 32 := 1#32
  let arg12 : BitVec 32 := Scf.iv c0_i32_28 c1_i32_29 k0_t18
  let c2_i32_1251 : BitVec 32 := 2#32
  let v2179 : BitVec 32 := Scalar.muli arg12 c2_i32_1251
  let v2180 : BitVec 32 := Scalar.addi c0_i32_1252 v2179
  let c1_i32_1259 : BitVec 32 := 1#32
  let v2190 : BitVec 32 := Scalar.addi v2180 c1_i32_1259
  let v2191 : Index := Scalar.indexCast v2190
  ![0, v2191.toNat]
def k0_off102 (k0_t18 : Fin k0_t18_loop.trips) : Fin 2 → Nat :=
  let c0_i32_1261 : BitVec 32 := 0#32
  let c0_i32_1252 : BitVec 32 := 0#32
  let c0_i32_28 : BitVec 32 := 0#32
  let c1_i32_29 : BitVec 32 := 1#32
  let arg12 : BitVec 32 := Scf.iv c0_i32_28 c1_i32_29 k0_t18
  let c2_i32_1251 : BitVec 32 := 2#32
  let v2179 : BitVec 32 := Scalar.muli arg12 c2_i32_1251
  let v2180 : BitVec 32 := Scalar.addi c0_i32_1252 v2179
  let c1_i32_1259 : BitVec 32 := 1#32
  let v2190 : BitVec 32 := Scalar.addi v2180 c1_i32_1259
  let v2193 : BitVec 32 := Scalar.addi c0_i32_1261 v2190
  let c0_i32_1262 : BitVec 32 := 0#32
  ![v2193.toNat, 0]
def k0_off103 (v2192 : BitVec 32) : Fin 3 → Nat :=
  let c0_i32_1263 : BitVec 32 := 0#32
  let c0_i32_1264 : BitVec 32 := 0#32
  ![v2192.toNat, 0, 0]

def k0_chk34 (i : grid0.Coords) (v2192 : BitVec 32) : Prop :=
  (∀ (k0_h2 : k0_cond2 i = 1#1), ∀ a, (k0_off103 v2192) a + S1x1x2048.size a ≤ S16384x1x2048.size a)
theorem k0_off103_inb : ∀ (i : grid0.Coords) (v2192 : BitVec 32) (k0_hw34 : k0_chk34 i v2192), ∀ (k0_h2 : k0_cond2 i = 1#1), ∀ a, (k0_off103 v2192) a + S1x1x2048.size a ≤ S16384x1x2048.size a := fun i v2192 k0_hw34 k0_h2 => k0_hw34 k0_h2

@[reducible] def k0_t19_loop : Scf.Loop 32 :=
  let c0_i32_80 : BitVec 32 := 0#32
  let c32_i32_81 : BitVec 32 := 32#32
  let v175 : BitVec 32 := Scalar.addi c0_i32_80 c32_i32_81
  let c1_i32_82 : BitVec 32 := 1#32
  ⟨c0_i32_80, v175, c1_i32_82⟩
def k0_off104 (k0_t19 : Fin k0_t19_loop.trips) : Fin 2 → Nat :=
  let c1_1254 : Index := 1#32
  let c0_i32_1252 : BitVec 32 := 0#32
  let c0_i32_80 : BitVec 32 := 0#32
  let c1_i32_82 : BitVec 32 := 1#32
  let arg12 : BitVec 32 := Scf.iv c0_i32_80 c1_i32_82 k0_t19
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![1, v2182.toNat]
def k0_off105 (k0_t19 : Fin k0_t19_loop.trips) : Fin 2 → Nat :=
  let c128_i32 : BitVec 32 := 128#32
  let c0_i32_1252 : BitVec 32 := 0#32
  let c0_i32_80 : BitVec 32 := 0#32
  let c1_i32_82 : BitVec 32 := 1#32
  let arg12 : BitVec 32 := Scf.iv c0_i32_80 c1_i32_82 k0_t19
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c128_i32 v2181
  let c0_i32_1255 : BitVec 32 := 0#32
  ![v2184.toNat, 0]
def k0_off106 (v2183 : BitVec 32) : Fin 3 → Nat :=
  let c0_i32_1256 : BitVec 32 := 0#32
  let c0_i32_1257 : BitVec 32 := 0#32
  ![v2183.toNat, 0, 0]

def k0_chk35 (i : grid0.Coords) (v2183 : BitVec 32) : Prop :=
  (∀ (k0_h2 : k0_cond2 i = 1#1), ∀ a, (k0_off106 v2183) a + S1x1x2048.size a ≤ S16384x1x2048.size a)
theorem k0_off106_inb : ∀ (i : grid0.Coords) (v2183 : BitVec 32) (k0_hw35 : k0_chk35 i v2183), ∀ (k0_h2 : k0_cond2 i = 1#1), ∀ a, (k0_off106 v2183) a + S1x1x2048.size a ≤ S16384x1x2048.size a := fun i v2183 k0_hw35 k0_h2 => k0_hw35 k0_h2

def k0_off107 (k0_t19 : Fin k0_t19_loop.trips) : Fin 2 → Nat :=
  let c1_1259 : Index := 1#32
  let c0_i32_1252 : BitVec 32 := 0#32
  let c0_i32_80 : BitVec 32 := 0#32
  let c1_i32_82 : BitVec 32 := 1#32
  let arg12 : BitVec 32 := Scf.iv c0_i32_80 c1_i32_82 k0_t19
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![1, v2191.toNat]
def k0_off108 (k0_t19 : Fin k0_t19_loop.trips) : Fin 2 → Nat :=
  let c128_i32_1260 : BitVec 32 := 128#32
  let c0_i32_1252 : BitVec 32 := 0#32
  let c0_i32_80 : BitVec 32 := 0#32
  let c1_i32_82 : BitVec 32 := 1#32
  let arg12 : BitVec 32 := Scf.iv c0_i32_80 c1_i32_82 k0_t19
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c128_i32_1260 v2190
  let c0_i32_1261 : BitVec 32 := 0#32
  ![v2193.toNat, 0]
def k0_off109 (v2192 : BitVec 32) : Fin 3 → Nat :=
  let c0_i32_1262 : BitVec 32 := 0#32
  let c0_i32_1263 : BitVec 32 := 0#32
  ![v2192.toNat, 0, 0]

def k0_chk36 (i : grid0.Coords) (v2192 : BitVec 32) : Prop :=
  (∀ (k0_h2 : k0_cond2 i = 1#1), ∀ a, (k0_off109 v2192) a + S1x1x2048.size a ≤ S16384x1x2048.size a)
theorem k0_off109_inb : ∀ (i : grid0.Coords) (v2192 : BitVec 32) (k0_hw36 : k0_chk36 i v2192), ∀ (k0_h2 : k0_cond2 i = 1#1), ∀ a, (k0_off109 v2192) a + S1x1x2048.size a ≤ S16384x1x2048.size a := fun i v2192 k0_hw36 k0_h2 => k0_hw36 k0_h2

@[reducible] def k0_t20_loop : Scf.Loop 32 :=
  let c0_i32_150 : BitVec 32 := 0#32
  let c32_i32_151 : BitVec 32 := 32#32
  let v302 : BitVec 32 := Scalar.addi c0_i32_150 c32_i32_151
  let c1_i32_152 : BitVec 32 := 1#32
  ⟨c0_i32_150, v302, c1_i32_152⟩
def k0_off110 (k0_t20 : Fin k0_t20_loop.trips) : Fin 2 → Nat :=
  let c2_1254 : Index := 2#32
  let c0_i32_1252 : BitVec 32 := 0#32
  let c0_i32_150 : BitVec 32 := 0#32
  let c1_i32_152 : BitVec 32 := 1#32
  let arg12 : BitVec 32 := Scf.iv c0_i32_150 c1_i32_152 k0_t20
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![2, v2182.toNat]
def k0_off111 (k0_t20 : Fin k0_t20_loop.trips) : Fin 2 → Nat :=
  let c256_i32 : BitVec 32 := 256#32
  let c0_i32_1252 : BitVec 32 := 0#32
  let c0_i32_150 : BitVec 32 := 0#32
  let c1_i32_152 : BitVec 32 := 1#32
  let arg12 : BitVec 32 := Scf.iv c0_i32_150 c1_i32_152 k0_t20
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c256_i32 v2181
  let c0_i32_1255 : BitVec 32 := 0#32
  ![v2184.toNat, 0]
def k0_off112 (v2183 : BitVec 32) : Fin 3 → Nat :=
  let c0_i32_1256 : BitVec 32 := 0#32
  let c0_i32_1257 : BitVec 32 := 0#32
  ![v2183.toNat, 0, 0]

def k0_chk37 (i : grid0.Coords) (v2183 : BitVec 32) : Prop :=
  (∀ (k0_h2 : k0_cond2 i = 1#1), ∀ a, (k0_off112 v2183) a + S1x1x2048.size a ≤ S16384x1x2048.size a)
theorem k0_off112_inb : ∀ (i : grid0.Coords) (v2183 : BitVec 32) (k0_hw37 : k0_chk37 i v2183), ∀ (k0_h2 : k0_cond2 i = 1#1), ∀ a, (k0_off112 v2183) a + S1x1x2048.size a ≤ S16384x1x2048.size a := fun i v2183 k0_hw37 k0_h2 => k0_hw37 k0_h2

def k0_off113 (k0_t20 : Fin k0_t20_loop.trips) : Fin 2 → Nat :=
  let c2_1259 : Index := 2#32
  let c0_i32_1252 : BitVec 32 := 0#32
  let c0_i32_150 : BitVec 32 := 0#32
  let c1_i32_152 : BitVec 32 := 1#32
  let arg12 : BitVec 32 := Scf.iv c0_i32_150 c1_i32_152 k0_t20
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![2, v2191.toNat]
def k0_off114 (k0_t20 : Fin k0_t20_loop.trips) : Fin 2 → Nat :=
  let c256_i32_1260 : BitVec 32 := 256#32
  let c0_i32_1252 : BitVec 32 := 0#32
  let c0_i32_150 : BitVec 32 := 0#32
  let c1_i32_152 : BitVec 32 := 1#32
  let arg12 : BitVec 32 := Scf.iv c0_i32_150 c1_i32_152 k0_t20
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c256_i32_1260 v2190
  let c0_i32_1261 : BitVec 32 := 0#32
  ![v2193.toNat, 0]
def k0_off115 (v2192 : BitVec 32) : Fin 3 → Nat :=
  let c0_i32_1262 : BitVec 32 := 0#32
  let c0_i32_1263 : BitVec 32 := 0#32
  ![v2192.toNat, 0, 0]

def k0_chk38 (i : grid0.Coords) (v2192 : BitVec 32) : Prop :=
  (∀ (k0_h2 : k0_cond2 i = 1#1), ∀ a, (k0_off115 v2192) a + S1x1x2048.size a ≤ S16384x1x2048.size a)
theorem k0_off115_inb : ∀ (i : grid0.Coords) (v2192 : BitVec 32) (k0_hw38 : k0_chk38 i v2192), ∀ (k0_h2 : k0_cond2 i = 1#1), ∀ a, (k0_off115 v2192) a + S1x1x2048.size a ≤ S16384x1x2048.size a := fun i v2192 k0_hw38 k0_h2 => k0_hw38 k0_h2

@[reducible] def k0_t21_loop : Scf.Loop 32 :=
  let c0_i32_220 : BitVec 32 := 0#32
  let c32_i32_221 : BitVec 32 := 32#32
  let v429 : BitVec 32 := Scalar.addi c0_i32_220 c32_i32_221
  let c1_i32_222 : BitVec 32 := 1#32
  ⟨c0_i32_220, v429, c1_i32_222⟩
def k0_off116 (k0_t21 : Fin k0_t21_loop.trips) : Fin 2 → Nat :=
  let c3_1254 : Index := 3#32
  let c0_i32_1252 : BitVec 32 := 0#32
  let c0_i32_220 : BitVec 32 := 0#32
  let c1_i32_222 : BitVec 32 := 1#32
  let arg12 : BitVec 32 := Scf.iv c0_i32_220 c1_i32_222 k0_t21
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![3, v2182.toNat]
def k0_off117 (k0_t21 : Fin k0_t21_loop.trips) : Fin 2 → Nat :=
  let c384_i32 : BitVec 32 := 384#32
  let c0_i32_1252 : BitVec 32 := 0#32
  let c0_i32_220 : BitVec 32 := 0#32
  let c1_i32_222 : BitVec 32 := 1#32
  let arg12 : BitVec 32 := Scf.iv c0_i32_220 c1_i32_222 k0_t21
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c384_i32 v2181
  let c0_i32_1255 : BitVec 32 := 0#32
  ![v2184.toNat, 0]
def k0_off118 (v2183 : BitVec 32) : Fin 3 → Nat :=
  let c0_i32_1256 : BitVec 32 := 0#32
  let c0_i32_1257 : BitVec 32 := 0#32
  ![v2183.toNat, 0, 0]

def k0_chk39 (i : grid0.Coords) (v2183 : BitVec 32) : Prop :=
  (∀ (k0_h2 : k0_cond2 i = 1#1), ∀ a, (k0_off118 v2183) a + S1x1x2048.size a ≤ S16384x1x2048.size a)
theorem k0_off118_inb : ∀ (i : grid0.Coords) (v2183 : BitVec 32) (k0_hw39 : k0_chk39 i v2183), ∀ (k0_h2 : k0_cond2 i = 1#1), ∀ a, (k0_off118 v2183) a + S1x1x2048.size a ≤ S16384x1x2048.size a := fun i v2183 k0_hw39 k0_h2 => k0_hw39 k0_h2

def k0_off119 (k0_t21 : Fin k0_t21_loop.trips) : Fin 2 → Nat :=
  let c3_1259 : Index := 3#32
  let c0_i32_1252 : BitVec 32 := 0#32
  let c0_i32_220 : BitVec 32 := 0#32
  let c1_i32_222 : BitVec 32 := 1#32
  let arg12 : BitVec 32 := Scf.iv c0_i32_220 c1_i32_222 k0_t21
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![3, v2191.toNat]
def k0_off120 (k0_t21 : Fin k0_t21_loop.trips) : Fin 2 → Nat :=
  let c384_i32_1260 : BitVec 32 := 384#32
  let c0_i32_1252 : BitVec 32 := 0#32
  let c0_i32_220 : BitVec 32 := 0#32
  let c1_i32_222 : BitVec 32 := 1#32
  let arg12 : BitVec 32 := Scf.iv c0_i32_220 c1_i32_222 k0_t21
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c384_i32_1260 v2190
  let c0_i32_1261 : BitVec 32 := 0#32
  ![v2193.toNat, 0]
def k0_off121 (v2192 : BitVec 32) : Fin 3 → Nat :=
  let c0_i32_1262 : BitVec 32 := 0#32
  let c0_i32_1263 : BitVec 32 := 0#32
  ![v2192.toNat, 0, 0]

def k0_chk40 (i : grid0.Coords) (v2192 : BitVec 32) : Prop :=
  (∀ (k0_h2 : k0_cond2 i = 1#1), ∀ a, (k0_off121 v2192) a + S1x1x2048.size a ≤ S16384x1x2048.size a)
theorem k0_off121_inb : ∀ (i : grid0.Coords) (v2192 : BitVec 32) (k0_hw40 : k0_chk40 i v2192), ∀ (k0_h2 : k0_cond2 i = 1#1), ∀ a, (k0_off121 v2192) a + S1x1x2048.size a ≤ S16384x1x2048.size a := fun i v2192 k0_hw40 k0_h2 => k0_hw40 k0_h2

@[reducible] def k0_t22_loop : Scf.Loop 32 :=
  let c0_i32_290 : BitVec 32 := 0#32
  let c32_i32_291 : BitVec 32 := 32#32
  let v556 : BitVec 32 := Scalar.addi c0_i32_290 c32_i32_291
  let c1_i32_292 : BitVec 32 := 1#32
  ⟨c0_i32_290, v556, c1_i32_292⟩
def k0_off122 (k0_t22 : Fin k0_t22_loop.trips) : Fin 2 → Nat :=
  let c4_1254 : Index := 4#32
  let c0_i32_1252 : BitVec 32 := 0#32
  let c0_i32_290 : BitVec 32 := 0#32
  let c1_i32_292 : BitVec 32 := 1#32
  let arg12 : BitVec 32 := Scf.iv c0_i32_290 c1_i32_292 k0_t22
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![4, v2182.toNat]
def k0_off123 (k0_t22 : Fin k0_t22_loop.trips) : Fin 2 → Nat :=
  let c512_i32 : BitVec 32 := 512#32
  let c0_i32_1252 : BitVec 32 := 0#32
  let c0_i32_290 : BitVec 32 := 0#32
  let c1_i32_292 : BitVec 32 := 1#32
  let arg12 : BitVec 32 := Scf.iv c0_i32_290 c1_i32_292 k0_t22
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c512_i32 v2181
  let c0_i32_1255 : BitVec 32 := 0#32
  ![v2184.toNat, 0]
def k0_off124 (v2183 : BitVec 32) : Fin 3 → Nat :=
  let c0_i32_1256 : BitVec 32 := 0#32
  let c0_i32_1257 : BitVec 32 := 0#32
  ![v2183.toNat, 0, 0]

def k0_chk41 (i : grid0.Coords) (v2183 : BitVec 32) : Prop :=
  (∀ (k0_h2 : k0_cond2 i = 1#1), ∀ a, (k0_off124 v2183) a + S1x1x2048.size a ≤ S16384x1x2048.size a)
theorem k0_off124_inb : ∀ (i : grid0.Coords) (v2183 : BitVec 32) (k0_hw41 : k0_chk41 i v2183), ∀ (k0_h2 : k0_cond2 i = 1#1), ∀ a, (k0_off124 v2183) a + S1x1x2048.size a ≤ S16384x1x2048.size a := fun i v2183 k0_hw41 k0_h2 => k0_hw41 k0_h2

def k0_off125 (k0_t22 : Fin k0_t22_loop.trips) : Fin 2 → Nat :=
  let c4_1259 : Index := 4#32
  let c0_i32_1252 : BitVec 32 := 0#32
  let c0_i32_290 : BitVec 32 := 0#32
  let c1_i32_292 : BitVec 32 := 1#32
  let arg12 : BitVec 32 := Scf.iv c0_i32_290 c1_i32_292 k0_t22
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![4, v2191.toNat]
def k0_off126 (k0_t22 : Fin k0_t22_loop.trips) : Fin 2 → Nat :=
  let c512_i32_1260 : BitVec 32 := 512#32
  let c0_i32_1252 : BitVec 32 := 0#32
  let c0_i32_290 : BitVec 32 := 0#32
  let c1_i32_292 : BitVec 32 := 1#32
  let arg12 : BitVec 32 := Scf.iv c0_i32_290 c1_i32_292 k0_t22
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c512_i32_1260 v2190
  let c0_i32_1261 : BitVec 32 := 0#32
  ![v2193.toNat, 0]
def k0_off127 (v2192 : BitVec 32) : Fin 3 → Nat :=
  let c0_i32_1262 : BitVec 32 := 0#32
  let c0_i32_1263 : BitVec 32 := 0#32
  ![v2192.toNat, 0, 0]

def k0_chk42 (i : grid0.Coords) (v2192 : BitVec 32) : Prop :=
  (∀ (k0_h2 : k0_cond2 i = 1#1), ∀ a, (k0_off127 v2192) a + S1x1x2048.size a ≤ S16384x1x2048.size a)
theorem k0_off127_inb : ∀ (i : grid0.Coords) (v2192 : BitVec 32) (k0_hw42 : k0_chk42 i v2192), ∀ (k0_h2 : k0_cond2 i = 1#1), ∀ a, (k0_off127 v2192) a + S1x1x2048.size a ≤ S16384x1x2048.size a := fun i v2192 k0_hw42 k0_h2 => k0_hw42 k0_h2

@[reducible] def k0_t23_loop : Scf.Loop 32 :=
  let c0_i32_359 : BitVec 32 := 0#32
  let c32_i32_360 : BitVec 32 := 32#32
  let v683 : BitVec 32 := Scalar.addi c0_i32_359 c32_i32_360
  let c1_i32_361 : BitVec 32 := 1#32
  ⟨c0_i32_359, v683, c1_i32_361⟩
def k0_off128 (k0_t23 : Fin k0_t23_loop.trips) : Fin 2 → Nat :=
  let c5_1254 : Index := 5#32
  let c0_i32_1252 : BitVec 32 := 0#32
  let c0_i32_359 : BitVec 32 := 0#32
  let c1_i32_361 : BitVec 32 := 1#32
  let arg12 : BitVec 32 := Scf.iv c0_i32_359 c1_i32_361 k0_t23
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![5, v2182.toNat]
def k0_off129 (k0_t23 : Fin k0_t23_loop.trips) : Fin 2 → Nat :=
  let c640_i32 : BitVec 32 := 640#32
  let c0_i32_1252 : BitVec 32 := 0#32
  let c0_i32_359 : BitVec 32 := 0#32
  let c1_i32_361 : BitVec 32 := 1#32
  let arg12 : BitVec 32 := Scf.iv c0_i32_359 c1_i32_361 k0_t23
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c640_i32 v2181
  let c0_i32_1255 : BitVec 32 := 0#32
  ![v2184.toNat, 0]
def k0_off130 (v2183 : BitVec 32) : Fin 3 → Nat :=
  let c0_i32_1256 : BitVec 32 := 0#32
  let c0_i32_1257 : BitVec 32 := 0#32
  ![v2183.toNat, 0, 0]

def k0_chk43 (i : grid0.Coords) (v2183 : BitVec 32) : Prop :=
  (∀ (k0_h2 : k0_cond2 i = 1#1), ∀ a, (k0_off130 v2183) a + S1x1x2048.size a ≤ S16384x1x2048.size a)
theorem k0_off130_inb : ∀ (i : grid0.Coords) (v2183 : BitVec 32) (k0_hw43 : k0_chk43 i v2183), ∀ (k0_h2 : k0_cond2 i = 1#1), ∀ a, (k0_off130 v2183) a + S1x1x2048.size a ≤ S16384x1x2048.size a := fun i v2183 k0_hw43 k0_h2 => k0_hw43 k0_h2

def k0_off131 (k0_t23 : Fin k0_t23_loop.trips) : Fin 2 → Nat :=
  let c5_1259 : Index := 5#32
  let c0_i32_1252 : BitVec 32 := 0#32
  let c0_i32_359 : BitVec 32 := 0#32
  let c1_i32_361 : BitVec 32 := 1#32
  let arg12 : BitVec 32 := Scf.iv c0_i32_359 c1_i32_361 k0_t23
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![5, v2191.toNat]
def k0_off132 (k0_t23 : Fin k0_t23_loop.trips) : Fin 2 → Nat :=
  let c640_i32_1260 : BitVec 32 := 640#32
  let c0_i32_1252 : BitVec 32 := 0#32
  let c0_i32_359 : BitVec 32 := 0#32
  let c1_i32_361 : BitVec 32 := 1#32
  let arg12 : BitVec 32 := Scf.iv c0_i32_359 c1_i32_361 k0_t23
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c640_i32_1260 v2190
  let c0_i32_1261 : BitVec 32 := 0#32
  ![v2193.toNat, 0]
def k0_off133 (v2192 : BitVec 32) : Fin 3 → Nat :=
  let c0_i32_1262 : BitVec 32 := 0#32
  let c0_i32_1263 : BitVec 32 := 0#32
  ![v2192.toNat, 0, 0]

def k0_chk44 (i : grid0.Coords) (v2192 : BitVec 32) : Prop :=
  (∀ (k0_h2 : k0_cond2 i = 1#1), ∀ a, (k0_off133 v2192) a + S1x1x2048.size a ≤ S16384x1x2048.size a)
theorem k0_off133_inb : ∀ (i : grid0.Coords) (v2192 : BitVec 32) (k0_hw44 : k0_chk44 i v2192), ∀ (k0_h2 : k0_cond2 i = 1#1), ∀ a, (k0_off133 v2192) a + S1x1x2048.size a ≤ S16384x1x2048.size a := fun i v2192 k0_hw44 k0_h2 => k0_hw44 k0_h2

@[reducible] def k0_t24_loop : Scf.Loop 32 :=
  let c0_i32_428 : BitVec 32 := 0#32
  let c32_i32_429 : BitVec 32 := 32#32
  let v810 : BitVec 32 := Scalar.addi c0_i32_428 c32_i32_429
  let c1_i32_430 : BitVec 32 := 1#32
  ⟨c0_i32_428, v810, c1_i32_430⟩
def k0_off134 (k0_t24 : Fin k0_t24_loop.trips) : Fin 2 → Nat :=
  let c6_1254 : Index := 6#32
  let c0_i32_1252 : BitVec 32 := 0#32
  let c0_i32_428 : BitVec 32 := 0#32
  let c1_i32_430 : BitVec 32 := 1#32
  let arg12 : BitVec 32 := Scf.iv c0_i32_428 c1_i32_430 k0_t24
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![6, v2182.toNat]
def k0_off135 (k0_t24 : Fin k0_t24_loop.trips) : Fin 2 → Nat :=
  let c768_i32 : BitVec 32 := 768#32
  let c0_i32_1252 : BitVec 32 := 0#32
  let c0_i32_428 : BitVec 32 := 0#32
  let c1_i32_430 : BitVec 32 := 1#32
  let arg12 : BitVec 32 := Scf.iv c0_i32_428 c1_i32_430 k0_t24
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c768_i32 v2181
  let c0_i32_1255 : BitVec 32 := 0#32
  ![v2184.toNat, 0]
def k0_off136 (v2183 : BitVec 32) : Fin 3 → Nat :=
  let c0_i32_1256 : BitVec 32 := 0#32
  let c0_i32_1257 : BitVec 32 := 0#32
  ![v2183.toNat, 0, 0]

def k0_chk45 (i : grid0.Coords) (v2183 : BitVec 32) : Prop :=
  (∀ (k0_h2 : k0_cond2 i = 1#1), ∀ a, (k0_off136 v2183) a + S1x1x2048.size a ≤ S16384x1x2048.size a)
theorem k0_off136_inb : ∀ (i : grid0.Coords) (v2183 : BitVec 32) (k0_hw45 : k0_chk45 i v2183), ∀ (k0_h2 : k0_cond2 i = 1#1), ∀ a, (k0_off136 v2183) a + S1x1x2048.size a ≤ S16384x1x2048.size a := fun i v2183 k0_hw45 k0_h2 => k0_hw45 k0_h2

def k0_off137 (k0_t24 : Fin k0_t24_loop.trips) : Fin 2 → Nat :=
  let c6_1259 : Index := 6#32
  let c0_i32_1252 : BitVec 32 := 0#32
  let c0_i32_428 : BitVec 32 := 0#32
  let c1_i32_430 : BitVec 32 := 1#32
  let arg12 : BitVec 32 := Scf.iv c0_i32_428 c1_i32_430 k0_t24
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![6, v2191.toNat]
def k0_off138 (k0_t24 : Fin k0_t24_loop.trips) : Fin 2 → Nat :=
  let c768_i32_1260 : BitVec 32 := 768#32
  let c0_i32_1252 : BitVec 32 := 0#32
  let c0_i32_428 : BitVec 32 := 0#32
  let c1_i32_430 : BitVec 32 := 1#32
  let arg12 : BitVec 32 := Scf.iv c0_i32_428 c1_i32_430 k0_t24
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c768_i32_1260 v2190
  let c0_i32_1261 : BitVec 32 := 0#32
  ![v2193.toNat, 0]
def k0_off139 (v2192 : BitVec 32) : Fin 3 → Nat :=
  let c0_i32_1262 : BitVec 32 := 0#32
  let c0_i32_1263 : BitVec 32 := 0#32
  ![v2192.toNat, 0, 0]

def k0_chk46 (i : grid0.Coords) (v2192 : BitVec 32) : Prop :=
  (∀ (k0_h2 : k0_cond2 i = 1#1), ∀ a, (k0_off139 v2192) a + S1x1x2048.size a ≤ S16384x1x2048.size a)
theorem k0_off139_inb : ∀ (i : grid0.Coords) (v2192 : BitVec 32) (k0_hw46 : k0_chk46 i v2192), ∀ (k0_h2 : k0_cond2 i = 1#1), ∀ a, (k0_off139 v2192) a + S1x1x2048.size a ≤ S16384x1x2048.size a := fun i v2192 k0_hw46 k0_h2 => k0_hw46 k0_h2

@[reducible] def k0_t25_loop : Scf.Loop 32 :=
  let c0_i32_497 : BitVec 32 := 0#32
  let c32_i32_498 : BitVec 32 := 32#32
  let v937 : BitVec 32 := Scalar.addi c0_i32_497 c32_i32_498
  let c1_i32_499 : BitVec 32 := 1#32
  ⟨c0_i32_497, v937, c1_i32_499⟩
def k0_off140 (k0_t25 : Fin k0_t25_loop.trips) : Fin 2 → Nat :=
  let c7_1254 : Index := 7#32
  let c0_i32_1252 : BitVec 32 := 0#32
  let c0_i32_497 : BitVec 32 := 0#32
  let c1_i32_499 : BitVec 32 := 1#32
  let arg12 : BitVec 32 := Scf.iv c0_i32_497 c1_i32_499 k0_t25
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![7, v2182.toNat]
def k0_off141 (k0_t25 : Fin k0_t25_loop.trips) : Fin 2 → Nat :=
  let c896_i32 : BitVec 32 := 896#32
  let c0_i32_1252 : BitVec 32 := 0#32
  let c0_i32_497 : BitVec 32 := 0#32
  let c1_i32_499 : BitVec 32 := 1#32
  let arg12 : BitVec 32 := Scf.iv c0_i32_497 c1_i32_499 k0_t25
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c896_i32 v2181
  let c0_i32_1255 : BitVec 32 := 0#32
  ![v2184.toNat, 0]
def k0_off142 (v2183 : BitVec 32) : Fin 3 → Nat :=
  let c0_i32_1256 : BitVec 32 := 0#32
  let c0_i32_1257 : BitVec 32 := 0#32
  ![v2183.toNat, 0, 0]

def k0_chk47 (i : grid0.Coords) (v2183 : BitVec 32) : Prop :=
  (∀ (k0_h2 : k0_cond2 i = 1#1), ∀ a, (k0_off142 v2183) a + S1x1x2048.size a ≤ S16384x1x2048.size a)
theorem k0_off142_inb : ∀ (i : grid0.Coords) (v2183 : BitVec 32) (k0_hw47 : k0_chk47 i v2183), ∀ (k0_h2 : k0_cond2 i = 1#1), ∀ a, (k0_off142 v2183) a + S1x1x2048.size a ≤ S16384x1x2048.size a := fun i v2183 k0_hw47 k0_h2 => k0_hw47 k0_h2

def k0_off143 (k0_t25 : Fin k0_t25_loop.trips) : Fin 2 → Nat :=
  let c7_1259 : Index := 7#32
  let c0_i32_1252 : BitVec 32 := 0#32
  let c0_i32_497 : BitVec 32 := 0#32
  let c1_i32_499 : BitVec 32 := 1#32
  let arg12 : BitVec 32 := Scf.iv c0_i32_497 c1_i32_499 k0_t25
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![7, v2191.toNat]
def k0_off144 (k0_t25 : Fin k0_t25_loop.trips) : Fin 2 → Nat :=
  let c896_i32_1260 : BitVec 32 := 896#32
  let c0_i32_1252 : BitVec 32 := 0#32
  let c0_i32_497 : BitVec 32 := 0#32
  let c1_i32_499 : BitVec 32 := 1#32
  let arg12 : BitVec 32 := Scf.iv c0_i32_497 c1_i32_499 k0_t25
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c896_i32_1260 v2190
  let c0_i32_1261 : BitVec 32 := 0#32
  ![v2193.toNat, 0]
def k0_off145 (v2192 : BitVec 32) : Fin 3 → Nat :=
  let c0_i32_1262 : BitVec 32 := 0#32
  let c0_i32_1263 : BitVec 32 := 0#32
  ![v2192.toNat, 0, 0]

def k0_chk48 (i : grid0.Coords) (v2192 : BitVec 32) : Prop :=
  (∀ (k0_h2 : k0_cond2 i = 1#1), ∀ a, (k0_off145 v2192) a + S1x1x2048.size a ≤ S16384x1x2048.size a)
theorem k0_off145_inb : ∀ (i : grid0.Coords) (v2192 : BitVec 32) (k0_hw48 : k0_chk48 i v2192), ∀ (k0_h2 : k0_cond2 i = 1#1), ∀ a, (k0_off145 v2192) a + S1x1x2048.size a ≤ S16384x1x2048.size a := fun i v2192 k0_hw48 k0_h2 => k0_hw48 k0_h2

@[reducible] def k0_t26_loop : Scf.Loop 32 :=
  let c0_i32_572 : BitVec 32 := 0#32
  let c32_i32_573 : BitVec 32 := 32#32
  let v1075 : BitVec 32 := Scalar.addi c0_i32_572 c32_i32_573
  let c1_i32_574 : BitVec 32 := 1#32
  ⟨c0_i32_572, v1075, c1_i32_574⟩
def k0_off146 (k0_t26 : Fin k0_t26_loop.trips) : Fin 2 → Nat :=
  let c0_1253 : Index := 0#32
  let c64_i32 : BitVec 32 := 64#32
  let c0_i32_572 : BitVec 32 := 0#32
  let c1_i32_574 : BitVec 32 := 1#32
  let arg12 : BitVec 32 := Scf.iv c0_i32_572 c1_i32_574 k0_t26
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![0, v2182.toNat]
def k0_off147 (k0_t26 : Fin k0_t26_loop.trips) : Fin 2 → Nat :=
  let c0_i32_1254 : BitVec 32 := 0#32
  let c64_i32 : BitVec 32 := 64#32
  let c0_i32_572 : BitVec 32 := 0#32
  let c1_i32_574 : BitVec 32 := 1#32
  let arg12 : BitVec 32 := Scf.iv c0_i32_572 c1_i32_574 k0_t26
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c0_i32_1254 v2181
  let c0_i32_1255 : BitVec 32 := 0#32
  ![v2184.toNat, 0]
def k0_off148 (v2183 : BitVec 32) : Fin 3 → Nat :=
  let c0_i32_1256 : BitVec 32 := 0#32
  let c0_i32_1257 : BitVec 32 := 0#32
  ![v2183.toNat, 0, 0]

def k0_chk49 (i : grid0.Coords) (v2183 : BitVec 32) : Prop :=
  (∀ (k0_h2 : k0_cond2 i = 1#1), ∀ a, (k0_off148 v2183) a + S1x1x2048.size a ≤ S16384x1x2048.size a)
theorem k0_off148_inb : ∀ (i : grid0.Coords) (v2183 : BitVec 32) (k0_hw49 : k0_chk49 i v2183), ∀ (k0_h2 : k0_cond2 i = 1#1), ∀ a, (k0_off148 v2183) a + S1x1x2048.size a ≤ S16384x1x2048.size a := fun i v2183 k0_hw49 k0_h2 => k0_hw49 k0_h2

def k0_off149 (k0_t26 : Fin k0_t26_loop.trips) : Fin 2 → Nat :=
  let c0_1259 : Index := 0#32
  let c64_i32 : BitVec 32 := 64#32
  let c0_i32_572 : BitVec 32 := 0#32
  let c1_i32_574 : BitVec 32 := 1#32
  let arg12 : BitVec 32 := Scf.iv c0_i32_572 c1_i32_574 k0_t26
  let c2_i32_1251 : BitVec 32 := 2#32
  let v2179 : BitVec 32 := Scalar.muli arg12 c2_i32_1251
  let v2180 : BitVec 32 := Scalar.addi c64_i32 v2179
  let c1_i32_1258 : BitVec 32 := 1#32
  let v2190 : BitVec 32 := Scalar.addi v2180 c1_i32_1258
  let v2191 : Index := Scalar.indexCast v2190
  ![0, v2191.toNat]
def k0_off150 (k0_t26 : Fin k0_t26_loop.trips) : Fin 2 → Nat :=
  let c0_i32_1260 : BitVec 32 := 0#32
  let c64_i32 : BitVec 32 := 64#32
  let c0_i32_572 : BitVec 32 := 0#32
  let c1_i32_574 : BitVec 32 := 1#32
  let arg12 : BitVec 32 := Scf.iv c0_i32_572 c1_i32_574 k0_t26
  let c2_i32_1251 : BitVec 32 := 2#32
  let v2179 : BitVec 32 := Scalar.muli arg12 c2_i32_1251
  let v2180 : BitVec 32 := Scalar.addi c64_i32 v2179
  let c1_i32_1258 : BitVec 32 := 1#32
  let v2190 : BitVec 32 := Scalar.addi v2180 c1_i32_1258
  let v2193 : BitVec 32 := Scalar.addi c0_i32_1260 v2190
  let c0_i32_1261 : BitVec 32 := 0#32
  ![v2193.toNat, 0]
def k0_off151 (v2192 : BitVec 32) : Fin 3 → Nat :=
  let c0_i32_1262 : BitVec 32 := 0#32
  let c0_i32_1263 : BitVec 32 := 0#32
  ![v2192.toNat, 0, 0]

def k0_chk50 (i : grid0.Coords) (v2192 : BitVec 32) : Prop :=
  (∀ (k0_h2 : k0_cond2 i = 1#1), ∀ a, (k0_off151 v2192) a + S1x1x2048.size a ≤ S16384x1x2048.size a)
theorem k0_off151_inb : ∀ (i : grid0.Coords) (v2192 : BitVec 32) (k0_hw50 : k0_chk50 i v2192), ∀ (k0_h2 : k0_cond2 i = 1#1), ∀ a, (k0_off151 v2192) a + S1x1x2048.size a ≤ S16384x1x2048.size a := fun i v2192 k0_hw50 k0_h2 => k0_hw50 k0_h2

@[reducible] def k0_t27_loop : Scf.Loop 32 :=
  let c0_i32_657 : BitVec 32 := 0#32
  let c32_i32_658 : BitVec 32 := 32#32
  let v1213 : BitVec 32 := Scalar.addi c0_i32_657 c32_i32_658
  let c1_i32_659 : BitVec 32 := 1#32
  ⟨c0_i32_657, v1213, c1_i32_659⟩
def k0_off152 (k0_t27 : Fin k0_t27_loop.trips) : Fin 2 → Nat :=
  let c1_1253 : Index := 1#32
  let c64_i32 : BitVec 32 := 64#32
  let c0_i32_657 : BitVec 32 := 0#32
  let c1_i32_659 : BitVec 32 := 1#32
  let arg12 : BitVec 32 := Scf.iv c0_i32_657 c1_i32_659 k0_t27
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![1, v2182.toNat]
def k0_off153 (k0_t27 : Fin k0_t27_loop.trips) : Fin 2 → Nat :=
  let c128_i32 : BitVec 32 := 128#32
  let c64_i32 : BitVec 32 := 64#32
  let c0_i32_657 : BitVec 32 := 0#32
  let c1_i32_659 : BitVec 32 := 1#32
  let arg12 : BitVec 32 := Scf.iv c0_i32_657 c1_i32_659 k0_t27
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c128_i32 v2181
  let c0_i32_1254 : BitVec 32 := 0#32
  ![v2184.toNat, 0]
def k0_off154 (v2183 : BitVec 32) : Fin 3 → Nat :=
  let c0_i32_1255 : BitVec 32 := 0#32
  let c0_i32_1256 : BitVec 32 := 0#32
  ![v2183.toNat, 0, 0]

def k0_chk51 (i : grid0.Coords) (v2183 : BitVec 32) : Prop :=
  (∀ (k0_h2 : k0_cond2 i = 1#1), ∀ a, (k0_off154 v2183) a + S1x1x2048.size a ≤ S16384x1x2048.size a)
theorem k0_off154_inb : ∀ (i : grid0.Coords) (v2183 : BitVec 32) (k0_hw51 : k0_chk51 i v2183), ∀ (k0_h2 : k0_cond2 i = 1#1), ∀ a, (k0_off154 v2183) a + S1x1x2048.size a ≤ S16384x1x2048.size a := fun i v2183 k0_hw51 k0_h2 => k0_hw51 k0_h2

def k0_off155 (k0_t27 : Fin k0_t27_loop.trips) : Fin 2 → Nat :=
  let c1_1258 : Index := 1#32
  let c64_i32 : BitVec 32 := 64#32
  let c0_i32_657 : BitVec 32 := 0#32
  let c1_i32_659 : BitVec 32 := 1#32
  let arg12 : BitVec 32 := Scf.iv c0_i32_657 c1_i32_659 k0_t27
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![1, v2191.toNat]
def k0_off156 (k0_t27 : Fin k0_t27_loop.trips) : Fin 2 → Nat :=
  let c128_i32_1259 : BitVec 32 := 128#32
  let c64_i32 : BitVec 32 := 64#32
  let c0_i32_657 : BitVec 32 := 0#32
  let c1_i32_659 : BitVec 32 := 1#32
  let arg12 : BitVec 32 := Scf.iv c0_i32_657 c1_i32_659 k0_t27
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c128_i32_1259 v2190
  let c0_i32_1260 : BitVec 32 := 0#32
  ![v2193.toNat, 0]
def k0_off157 (v2192 : BitVec 32) : Fin 3 → Nat :=
  let c0_i32_1261 : BitVec 32 := 0#32
  let c0_i32_1262 : BitVec 32 := 0#32
  ![v2192.toNat, 0, 0]

def k0_chk52 (i : grid0.Coords) (v2192 : BitVec 32) : Prop :=
  (∀ (k0_h2 : k0_cond2 i = 1#1), ∀ a, (k0_off157 v2192) a + S1x1x2048.size a ≤ S16384x1x2048.size a)
theorem k0_off157_inb : ∀ (i : grid0.Coords) (v2192 : BitVec 32) (k0_hw52 : k0_chk52 i v2192), ∀ (k0_h2 : k0_cond2 i = 1#1), ∀ a, (k0_off157 v2192) a + S1x1x2048.size a ≤ S16384x1x2048.size a := fun i v2192 k0_hw52 k0_h2 => k0_hw52 k0_h2

@[reducible] def k0_t28_loop : Scf.Loop 32 :=
  let c0_i32_742 : BitVec 32 := 0#32
  let c32_i32_743 : BitVec 32 := 32#32
  let v1351 : BitVec 32 := Scalar.addi c0_i32_742 c32_i32_743
  let c1_i32_744 : BitVec 32 := 1#32
  ⟨c0_i32_742, v1351, c1_i32_744⟩
def k0_off158 (k0_t28 : Fin k0_t28_loop.trips) : Fin 2 → Nat :=
  let c2_1253 : Index := 2#32
  let c64_i32 : BitVec 32 := 64#32
  let c0_i32_742 : BitVec 32 := 0#32
  let c1_i32_744 : BitVec 32 := 1#32
  let arg12 : BitVec 32 := Scf.iv c0_i32_742 c1_i32_744 k0_t28
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![2, v2182.toNat]
def k0_off159 (k0_t28 : Fin k0_t28_loop.trips) : Fin 2 → Nat :=
  let c256_i32 : BitVec 32 := 256#32
  let c64_i32 : BitVec 32 := 64#32
  let c0_i32_742 : BitVec 32 := 0#32
  let c1_i32_744 : BitVec 32 := 1#32
  let arg12 : BitVec 32 := Scf.iv c0_i32_742 c1_i32_744 k0_t28
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c256_i32 v2181
  let c0_i32_1254 : BitVec 32 := 0#32
  ![v2184.toNat, 0]
def k0_off160 (v2183 : BitVec 32) : Fin 3 → Nat :=
  let c0_i32_1255 : BitVec 32 := 0#32
  let c0_i32_1256 : BitVec 32 := 0#32
  ![v2183.toNat, 0, 0]

def k0_chk53 (i : grid0.Coords) (v2183 : BitVec 32) : Prop :=
  (∀ (k0_h2 : k0_cond2 i = 1#1), ∀ a, (k0_off160 v2183) a + S1x1x2048.size a ≤ S16384x1x2048.size a)
theorem k0_off160_inb : ∀ (i : grid0.Coords) (v2183 : BitVec 32) (k0_hw53 : k0_chk53 i v2183), ∀ (k0_h2 : k0_cond2 i = 1#1), ∀ a, (k0_off160 v2183) a + S1x1x2048.size a ≤ S16384x1x2048.size a := fun i v2183 k0_hw53 k0_h2 => k0_hw53 k0_h2

def k0_off161 (k0_t28 : Fin k0_t28_loop.trips) : Fin 2 → Nat :=
  let c2_1258 : Index := 2#32
  let c64_i32 : BitVec 32 := 64#32
  let c0_i32_742 : BitVec 32 := 0#32
  let c1_i32_744 : BitVec 32 := 1#32
  let arg12 : BitVec 32 := Scf.iv c0_i32_742 c1_i32_744 k0_t28
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![2, v2191.toNat]
def k0_off162 (k0_t28 : Fin k0_t28_loop.trips) : Fin 2 → Nat :=
  let c256_i32_1259 : BitVec 32 := 256#32
  let c64_i32 : BitVec 32 := 64#32
  let c0_i32_742 : BitVec 32 := 0#32
  let c1_i32_744 : BitVec 32 := 1#32
  let arg12 : BitVec 32 := Scf.iv c0_i32_742 c1_i32_744 k0_t28
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c256_i32_1259 v2190
  let c0_i32_1260 : BitVec 32 := 0#32
  ![v2193.toNat, 0]
def k0_off163 (v2192 : BitVec 32) : Fin 3 → Nat :=
  let c0_i32_1261 : BitVec 32 := 0#32
  let c0_i32_1262 : BitVec 32 := 0#32
  ![v2192.toNat, 0, 0]

def k0_chk54 (i : grid0.Coords) (v2192 : BitVec 32) : Prop :=
  (∀ (k0_h2 : k0_cond2 i = 1#1), ∀ a, (k0_off163 v2192) a + S1x1x2048.size a ≤ S16384x1x2048.size a)
theorem k0_off163_inb : ∀ (i : grid0.Coords) (v2192 : BitVec 32) (k0_hw54 : k0_chk54 i v2192), ∀ (k0_h2 : k0_cond2 i = 1#1), ∀ a, (k0_off163 v2192) a + S1x1x2048.size a ≤ S16384x1x2048.size a := fun i v2192 k0_hw54 k0_h2 => k0_hw54 k0_h2

@[reducible] def k0_t29_loop : Scf.Loop 32 :=
  let c0_i32_827 : BitVec 32 := 0#32
  let c32_i32_828 : BitVec 32 := 32#32
  let v1489 : BitVec 32 := Scalar.addi c0_i32_827 c32_i32_828
  let c1_i32_829 : BitVec 32 := 1#32
  ⟨c0_i32_827, v1489, c1_i32_829⟩
def k0_off164 (k0_t29 : Fin k0_t29_loop.trips) : Fin 2 → Nat :=
  let c3_1253 : Index := 3#32
  let c64_i32 : BitVec 32 := 64#32
  let c0_i32_827 : BitVec 32 := 0#32
  let c1_i32_829 : BitVec 32 := 1#32
  let arg12 : BitVec 32 := Scf.iv c0_i32_827 c1_i32_829 k0_t29
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![3, v2182.toNat]
def k0_off165 (k0_t29 : Fin k0_t29_loop.trips) : Fin 2 → Nat :=
  let c384_i32 : BitVec 32 := 384#32
  let c64_i32 : BitVec 32 := 64#32
  let c0_i32_827 : BitVec 32 := 0#32
  let c1_i32_829 : BitVec 32 := 1#32
  let arg12 : BitVec 32 := Scf.iv c0_i32_827 c1_i32_829 k0_t29
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c384_i32 v2181
  let c0_i32_1254 : BitVec 32 := 0#32
  ![v2184.toNat, 0]
def k0_off166 (v2183 : BitVec 32) : Fin 3 → Nat :=
  let c0_i32_1255 : BitVec 32 := 0#32
  let c0_i32_1256 : BitVec 32 := 0#32
  ![v2183.toNat, 0, 0]

def k0_chk55 (i : grid0.Coords) (v2183 : BitVec 32) : Prop :=
  (∀ (k0_h2 : k0_cond2 i = 1#1), ∀ a, (k0_off166 v2183) a + S1x1x2048.size a ≤ S16384x1x2048.size a)
theorem k0_off166_inb : ∀ (i : grid0.Coords) (v2183 : BitVec 32) (k0_hw55 : k0_chk55 i v2183), ∀ (k0_h2 : k0_cond2 i = 1#1), ∀ a, (k0_off166 v2183) a + S1x1x2048.size a ≤ S16384x1x2048.size a := fun i v2183 k0_hw55 k0_h2 => k0_hw55 k0_h2

def k0_off167 (k0_t29 : Fin k0_t29_loop.trips) : Fin 2 → Nat :=
  let c3_1258 : Index := 3#32
  let c64_i32 : BitVec 32 := 64#32
  let c0_i32_827 : BitVec 32 := 0#32
  let c1_i32_829 : BitVec 32 := 1#32
  let arg12 : BitVec 32 := Scf.iv c0_i32_827 c1_i32_829 k0_t29
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![3, v2191.toNat]
def k0_off168 (k0_t29 : Fin k0_t29_loop.trips) : Fin 2 → Nat :=
  let c384_i32_1259 : BitVec 32 := 384#32
  let c64_i32 : BitVec 32 := 64#32
  let c0_i32_827 : BitVec 32 := 0#32
  let c1_i32_829 : BitVec 32 := 1#32
  let arg12 : BitVec 32 := Scf.iv c0_i32_827 c1_i32_829 k0_t29
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c384_i32_1259 v2190
  let c0_i32_1260 : BitVec 32 := 0#32
  ![v2193.toNat, 0]
def k0_off169 (v2192 : BitVec 32) : Fin 3 → Nat :=
  let c0_i32_1261 : BitVec 32 := 0#32
  let c0_i32_1262 : BitVec 32 := 0#32
  ![v2192.toNat, 0, 0]

def k0_chk56 (i : grid0.Coords) (v2192 : BitVec 32) : Prop :=
  (∀ (k0_h2 : k0_cond2 i = 1#1), ∀ a, (k0_off169 v2192) a + S1x1x2048.size a ≤ S16384x1x2048.size a)
theorem k0_off169_inb : ∀ (i : grid0.Coords) (v2192 : BitVec 32) (k0_hw56 : k0_chk56 i v2192), ∀ (k0_h2 : k0_cond2 i = 1#1), ∀ a, (k0_off169 v2192) a + S1x1x2048.size a ≤ S16384x1x2048.size a := fun i v2192 k0_hw56 k0_h2 => k0_hw56 k0_h2

@[reducible] def k0_t30_loop : Scf.Loop 32 :=
  let c0_i32_912 : BitVec 32 := 0#32
  let c32_i32_913 : BitVec 32 := 32#32
  let v1627 : BitVec 32 := Scalar.addi c0_i32_912 c32_i32_913
  let c1_i32_914 : BitVec 32 := 1#32
  ⟨c0_i32_912, v1627, c1_i32_914⟩
def k0_off170 (k0_t30 : Fin k0_t30_loop.trips) : Fin 2 → Nat :=
  let c4_1253 : Index := 4#32
  let c64_i32 : BitVec 32 := 64#32
  let c0_i32_912 : BitVec 32 := 0#32
  let c1_i32_914 : BitVec 32 := 1#32
  let arg12 : BitVec 32 := Scf.iv c0_i32_912 c1_i32_914 k0_t30
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![4, v2182.toNat]
def k0_off171 (k0_t30 : Fin k0_t30_loop.trips) : Fin 2 → Nat :=
  let c512_i32 : BitVec 32 := 512#32
  let c64_i32 : BitVec 32 := 64#32
  let c0_i32_912 : BitVec 32 := 0#32
  let c1_i32_914 : BitVec 32 := 1#32
  let arg12 : BitVec 32 := Scf.iv c0_i32_912 c1_i32_914 k0_t30
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c512_i32 v2181
  let c0_i32_1254 : BitVec 32 := 0#32
  ![v2184.toNat, 0]
def k0_off172 (v2183 : BitVec 32) : Fin 3 → Nat :=
  let c0_i32_1255 : BitVec 32 := 0#32
  let c0_i32_1256 : BitVec 32 := 0#32
  ![v2183.toNat, 0, 0]

def k0_chk57 (i : grid0.Coords) (v2183 : BitVec 32) : Prop :=
  (∀ (k0_h2 : k0_cond2 i = 1#1), ∀ a, (k0_off172 v2183) a + S1x1x2048.size a ≤ S16384x1x2048.size a)
theorem k0_off172_inb : ∀ (i : grid0.Coords) (v2183 : BitVec 32) (k0_hw57 : k0_chk57 i v2183), ∀ (k0_h2 : k0_cond2 i = 1#1), ∀ a, (k0_off172 v2183) a + S1x1x2048.size a ≤ S16384x1x2048.size a := fun i v2183 k0_hw57 k0_h2 => k0_hw57 k0_h2

def k0_off173 (k0_t30 : Fin k0_t30_loop.trips) : Fin 2 → Nat :=
  let c4_1258 : Index := 4#32
  let c64_i32 : BitVec 32 := 64#32
  let c0_i32_912 : BitVec 32 := 0#32
  let c1_i32_914 : BitVec 32 := 1#32
  let arg12 : BitVec 32 := Scf.iv c0_i32_912 c1_i32_914 k0_t30
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![4, v2191.toNat]
def k0_off174 (k0_t30 : Fin k0_t30_loop.trips) : Fin 2 → Nat :=
  let c512_i32_1259 : BitVec 32 := 512#32
  let c64_i32 : BitVec 32 := 64#32
  let c0_i32_912 : BitVec 32 := 0#32
  let c1_i32_914 : BitVec 32 := 1#32
  let arg12 : BitVec 32 := Scf.iv c0_i32_912 c1_i32_914 k0_t30
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c512_i32_1259 v2190
  let c0_i32_1260 : BitVec 32 := 0#32
  ![v2193.toNat, 0]
def k0_off175 (v2192 : BitVec 32) : Fin 3 → Nat :=
  let c0_i32_1261 : BitVec 32 := 0#32
  let c0_i32_1262 : BitVec 32 := 0#32
  ![v2192.toNat, 0, 0]

def k0_chk58 (i : grid0.Coords) (v2192 : BitVec 32) : Prop :=
  (∀ (k0_h2 : k0_cond2 i = 1#1), ∀ a, (k0_off175 v2192) a + S1x1x2048.size a ≤ S16384x1x2048.size a)
theorem k0_off175_inb : ∀ (i : grid0.Coords) (v2192 : BitVec 32) (k0_hw58 : k0_chk58 i v2192), ∀ (k0_h2 : k0_cond2 i = 1#1), ∀ a, (k0_off175 v2192) a + S1x1x2048.size a ≤ S16384x1x2048.size a := fun i v2192 k0_hw58 k0_h2 => k0_hw58 k0_h2

@[reducible] def k0_t31_loop : Scf.Loop 32 :=
  let c0_i32_997 : BitVec 32 := 0#32
  let c32_i32_998 : BitVec 32 := 32#32
  let v1765 : BitVec 32 := Scalar.addi c0_i32_997 c32_i32_998
  let c1_i32_999 : BitVec 32 := 1#32
  ⟨c0_i32_997, v1765, c1_i32_999⟩
def k0_off176 (k0_t31 : Fin k0_t31_loop.trips) : Fin 2 → Nat :=
  let c5_1253 : Index := 5#32
  let c64_i32 : BitVec 32 := 64#32
  let c0_i32_997 : BitVec 32 := 0#32
  let c1_i32_999 : BitVec 32 := 1#32
  let arg12 : BitVec 32 := Scf.iv c0_i32_997 c1_i32_999 k0_t31
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![5, v2182.toNat]
def k0_off177 (k0_t31 : Fin k0_t31_loop.trips) : Fin 2 → Nat :=
  let c640_i32 : BitVec 32 := 640#32
  let c64_i32 : BitVec 32 := 64#32
  let c0_i32_997 : BitVec 32 := 0#32
  let c1_i32_999 : BitVec 32 := 1#32
  let arg12 : BitVec 32 := Scf.iv c0_i32_997 c1_i32_999 k0_t31
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c640_i32 v2181
  let c0_i32_1254 : BitVec 32 := 0#32
  ![v2184.toNat, 0]
def k0_off178 (v2183 : BitVec 32) : Fin 3 → Nat :=
  let c0_i32_1255 : BitVec 32 := 0#32
  let c0_i32_1256 : BitVec 32 := 0#32
  ![v2183.toNat, 0, 0]

def k0_chk59 (i : grid0.Coords) (v2183 : BitVec 32) : Prop :=
  (∀ (k0_h2 : k0_cond2 i = 1#1), ∀ a, (k0_off178 v2183) a + S1x1x2048.size a ≤ S16384x1x2048.size a)
theorem k0_off178_inb : ∀ (i : grid0.Coords) (v2183 : BitVec 32) (k0_hw59 : k0_chk59 i v2183), ∀ (k0_h2 : k0_cond2 i = 1#1), ∀ a, (k0_off178 v2183) a + S1x1x2048.size a ≤ S16384x1x2048.size a := fun i v2183 k0_hw59 k0_h2 => k0_hw59 k0_h2

def k0_off179 (k0_t31 : Fin k0_t31_loop.trips) : Fin 2 → Nat :=
  let c5_1258 : Index := 5#32
  let c64_i32 : BitVec 32 := 64#32
  let c0_i32_997 : BitVec 32 := 0#32
  let c1_i32_999 : BitVec 32 := 1#32
  let arg12 : BitVec 32 := Scf.iv c0_i32_997 c1_i32_999 k0_t31
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![5, v2191.toNat]
def k0_off180 (k0_t31 : Fin k0_t31_loop.trips) : Fin 2 → Nat :=
  let c640_i32_1259 : BitVec 32 := 640#32
  let c64_i32 : BitVec 32 := 64#32
  let c0_i32_997 : BitVec 32 := 0#32
  let c1_i32_999 : BitVec 32 := 1#32
  let arg12 : BitVec 32 := Scf.iv c0_i32_997 c1_i32_999 k0_t31
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c640_i32_1259 v2190
  let c0_i32_1260 : BitVec 32 := 0#32
  ![v2193.toNat, 0]
def k0_off181 (v2192 : BitVec 32) : Fin 3 → Nat :=
  let c0_i32_1261 : BitVec 32 := 0#32
  let c0_i32_1262 : BitVec 32 := 0#32
  ![v2192.toNat, 0, 0]

def k0_chk60 (i : grid0.Coords) (v2192 : BitVec 32) : Prop :=
  (∀ (k0_h2 : k0_cond2 i = 1#1), ∀ a, (k0_off181 v2192) a + S1x1x2048.size a ≤ S16384x1x2048.size a)
theorem k0_off181_inb : ∀ (i : grid0.Coords) (v2192 : BitVec 32) (k0_hw60 : k0_chk60 i v2192), ∀ (k0_h2 : k0_cond2 i = 1#1), ∀ a, (k0_off181 v2192) a + S1x1x2048.size a ≤ S16384x1x2048.size a := fun i v2192 k0_hw60 k0_h2 => k0_hw60 k0_h2

@[reducible] def k0_t32_loop : Scf.Loop 32 :=
  let c0_i32_1082 : BitVec 32 := 0#32
  let c32_i32_1083 : BitVec 32 := 32#32
  let v1903 : BitVec 32 := Scalar.addi c0_i32_1082 c32_i32_1083
  let c1_i32_1084 : BitVec 32 := 1#32
  ⟨c0_i32_1082, v1903, c1_i32_1084⟩
def k0_off182 (k0_t32 : Fin k0_t32_loop.trips) : Fin 2 → Nat :=
  let c6_1253 : Index := 6#32
  let c64_i32 : BitVec 32 := 64#32
  let c0_i32_1082 : BitVec 32 := 0#32
  let c1_i32_1084 : BitVec 32 := 1#32
  let arg12 : BitVec 32 := Scf.iv c0_i32_1082 c1_i32_1084 k0_t32
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![6, v2182.toNat]
def k0_off183 (k0_t32 : Fin k0_t32_loop.trips) : Fin 2 → Nat :=
  let c768_i32 : BitVec 32 := 768#32
  let c64_i32 : BitVec 32 := 64#32
  let c0_i32_1082 : BitVec 32 := 0#32
  let c1_i32_1084 : BitVec 32 := 1#32
  let arg12 : BitVec 32 := Scf.iv c0_i32_1082 c1_i32_1084 k0_t32
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c768_i32 v2181
  let c0_i32_1254 : BitVec 32 := 0#32
  ![v2184.toNat, 0]
def k0_off184 (v2183 : BitVec 32) : Fin 3 → Nat :=
  let c0_i32_1255 : BitVec 32 := 0#32
  let c0_i32_1256 : BitVec 32 := 0#32
  ![v2183.toNat, 0, 0]

def k0_chk61 (i : grid0.Coords) (v2183 : BitVec 32) : Prop :=
  (∀ (k0_h2 : k0_cond2 i = 1#1), ∀ a, (k0_off184 v2183) a + S1x1x2048.size a ≤ S16384x1x2048.size a)
theorem k0_off184_inb : ∀ (i : grid0.Coords) (v2183 : BitVec 32) (k0_hw61 : k0_chk61 i v2183), ∀ (k0_h2 : k0_cond2 i = 1#1), ∀ a, (k0_off184 v2183) a + S1x1x2048.size a ≤ S16384x1x2048.size a := fun i v2183 k0_hw61 k0_h2 => k0_hw61 k0_h2

def k0_off185 (k0_t32 : Fin k0_t32_loop.trips) : Fin 2 → Nat :=
  let c6_1258 : Index := 6#32
  let c64_i32 : BitVec 32 := 64#32
  let c0_i32_1082 : BitVec 32 := 0#32
  let c1_i32_1084 : BitVec 32 := 1#32
  let arg12 : BitVec 32 := Scf.iv c0_i32_1082 c1_i32_1084 k0_t32
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![6, v2191.toNat]
def k0_off186 (k0_t32 : Fin k0_t32_loop.trips) : Fin 2 → Nat :=
  let c768_i32_1259 : BitVec 32 := 768#32
  let c64_i32 : BitVec 32 := 64#32
  let c0_i32_1082 : BitVec 32 := 0#32
  let c1_i32_1084 : BitVec 32 := 1#32
  let arg12 : BitVec 32 := Scf.iv c0_i32_1082 c1_i32_1084 k0_t32
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c768_i32_1259 v2190
  let c0_i32_1260 : BitVec 32 := 0#32
  ![v2193.toNat, 0]
def k0_off187 (v2192 : BitVec 32) : Fin 3 → Nat :=
  let c0_i32_1261 : BitVec 32 := 0#32
  let c0_i32_1262 : BitVec 32 := 0#32
  ![v2192.toNat, 0, 0]

def k0_chk62 (i : grid0.Coords) (v2192 : BitVec 32) : Prop :=
  (∀ (k0_h2 : k0_cond2 i = 1#1), ∀ a, (k0_off187 v2192) a + S1x1x2048.size a ≤ S16384x1x2048.size a)
theorem k0_off187_inb : ∀ (i : grid0.Coords) (v2192 : BitVec 32) (k0_hw62 : k0_chk62 i v2192), ∀ (k0_h2 : k0_cond2 i = 1#1), ∀ a, (k0_off187 v2192) a + S1x1x2048.size a ≤ S16384x1x2048.size a := fun i v2192 k0_hw62 k0_h2 => k0_hw62 k0_h2

@[reducible] def k0_t33_loop : Scf.Loop 32 :=
  let c0_i32_1167 : BitVec 32 := 0#32
  let c32_i32_1168 : BitVec 32 := 32#32
  let v2041 : BitVec 32 := Scalar.addi c0_i32_1167 c32_i32_1168
  let c1_i32_1169 : BitVec 32 := 1#32
  ⟨c0_i32_1167, v2041, c1_i32_1169⟩
def k0_off188 (k0_t33 : Fin k0_t33_loop.trips) : Fin 2 → Nat :=
  let c7_1253 : Index := 7#32
  let c64_i32 : BitVec 32 := 64#32
  let c0_i32_1167 : BitVec 32 := 0#32
  let c1_i32_1169 : BitVec 32 := 1#32
  let arg12 : BitVec 32 := Scf.iv c0_i32_1167 c1_i32_1169 k0_t33
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![7, v2182.toNat]
def k0_off189 (k0_t33 : Fin k0_t33_loop.trips) : Fin 2 → Nat :=
  let c896_i32 : BitVec 32 := 896#32
  let c64_i32 : BitVec 32 := 64#32
  let c0_i32_1167 : BitVec 32 := 0#32
  let c1_i32_1169 : BitVec 32 := 1#32
  let arg12 : BitVec 32 := Scf.iv c0_i32_1167 c1_i32_1169 k0_t33
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c896_i32 v2181
  let c0_i32_1254 : BitVec 32 := 0#32
  ![v2184.toNat, 0]
def k0_off190 (v2183 : BitVec 32) : Fin 3 → Nat :=
  let c0_i32_1255 : BitVec 32 := 0#32
  let c0_i32_1256 : BitVec 32 := 0#32
  ![v2183.toNat, 0, 0]

def k0_chk63 (i : grid0.Coords) (v2183 : BitVec 32) : Prop :=
  (∀ (k0_h2 : k0_cond2 i = 1#1), ∀ a, (k0_off190 v2183) a + S1x1x2048.size a ≤ S16384x1x2048.size a)
theorem k0_off190_inb : ∀ (i : grid0.Coords) (v2183 : BitVec 32) (k0_hw63 : k0_chk63 i v2183), ∀ (k0_h2 : k0_cond2 i = 1#1), ∀ a, (k0_off190 v2183) a + S1x1x2048.size a ≤ S16384x1x2048.size a := fun i v2183 k0_hw63 k0_h2 => k0_hw63 k0_h2

def k0_off191 (k0_t33 : Fin k0_t33_loop.trips) : Fin 2 → Nat :=
  let c7_1258 : Index := 7#32
  let c64_i32 : BitVec 32 := 64#32
  let c0_i32_1167 : BitVec 32 := 0#32
  let c1_i32_1169 : BitVec 32 := 1#32
  let arg12 : BitVec 32 := Scf.iv c0_i32_1167 c1_i32_1169 k0_t33
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![7, v2191.toNat]
def k0_off192 (k0_t33 : Fin k0_t33_loop.trips) : Fin 2 → Nat :=
  let c896_i32_1259 : BitVec 32 := 896#32
  let c64_i32 : BitVec 32 := 64#32
  let c0_i32_1167 : BitVec 32 := 0#32
  let c1_i32_1169 : BitVec 32 := 1#32
  let arg12 : BitVec 32 := Scf.iv c0_i32_1167 c1_i32_1169 k0_t33
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c896_i32_1259 v2190
  let c0_i32_1260 : BitVec 32 := 0#32
  ![v2193.toNat, 0]
def k0_off193 (v2192 : BitVec 32) : Fin 3 → Nat :=
  let c0_i32_1261 : BitVec 32 := 0#32
  let c0_i32_1262 : BitVec 32 := 0#32
  ![v2192.toNat, 0, 0]

def k0_chk64 (i : grid0.Coords) (v2192 : BitVec 32) : Prop :=
  (∀ (k0_h2 : k0_cond2 i = 1#1), ∀ a, (k0_off193 v2192) a + S1x1x2048.size a ≤ S16384x1x2048.size a)
theorem k0_off193_inb : ∀ (i : grid0.Coords) (v2192 : BitVec 32) (k0_hw64 : k0_chk64 i v2192), ∀ (k0_h2 : k0_cond2 i = 1#1), ∀ a, (k0_off193 v2192) a + S1x1x2048.size a ≤ S16384x1x2048.size a := fun i v2192 k0_hw64 k0_h2 => k0_hw64 k0_h2

def k0_cond3 (i : grid0.Coords) : BitVec 1 :=
  let arg0 : BitVec 32 := BitVec.ofNat 32 (i 0).val
  let c3_i32_7 : BitVec 32 := 3#32
  let c0_i32_8 : BitVec 32 := 0#32
  let v16 : BitVec 1 := Scalar.cmpi .eq c3_i32_7 c0_i32_8
  let c1_i32_9 : BitVec 32 := 1#32
  let v17 : BitVec 32 := Scalar.select v16 c1_i32_9 c3_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

@[reducible] def k0_t34_loop : Scf.Loop 32 :=
  let c0_i32_24 : BitVec 32 := 0#32
  let c1024_i32 : BitVec 32 := 1024#32
  let v45 : BitVec 32 := Scalar.addi c0_i32_24 c1024_i32
  let c1_i32_25 : BitVec 32 := 1#32
  ⟨c0_i32_24, v45, c1_i32_25⟩
def k0_off194 (k0_t34 : Fin k0_t34_loop.trips) : Fin 2 → Nat :=
  let c0_i32_1252 : BitVec 32 := 0#32
  let c0_i32_24 : BitVec 32 := 0#32
  let c1_i32_25 : BitVec 32 := 1#32
  let arg12 : BitVec 32 := Scf.iv c0_i32_24 c1_i32_25 k0_t34
  let c1_i32_1251 : BitVec 32 := 1#32
  let v2179 : BitVec 32 := Scalar.muli arg12 c1_i32_1251
  let v2180 : BitVec 32 := Scalar.addi c0_i32_1252 v2179
  let c0_i32_1254 : BitVec 32 := 0#32
  ![v2180.toNat, 0]
@[reducible] def k0_t35_loop : Scf.Loop 32 :=
  let c0_i32_28 : BitVec 32 := 0#32
  let c32_i32 : BitVec 32 := 32#32
  let v48 : BitVec 32 := Scalar.addi c0_i32_28 c32_i32
  let c1_i32_29 : BitVec 32 := 1#32
  ⟨c0_i32_28, v48, c1_i32_29⟩
def k0_off195 (k0_t35 : Fin k0_t35_loop.trips) : Fin 2 → Nat :=
  let c0_1254 : Index := 0#32
  let c0_i32_1252 : BitVec 32 := 0#32
  let c0_i32_28 : BitVec 32 := 0#32
  let c1_i32_29 : BitVec 32 := 1#32
  let arg12 : BitVec 32 := Scf.iv c0_i32_28 c1_i32_29 k0_t35
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![0, v2182.toNat]
def k0_off196 (k0_t35 : Fin k0_t35_loop.trips) : Fin 2 → Nat :=
  let c0_i32_1255 : BitVec 32 := 0#32
  let c0_i32_1252 : BitVec 32 := 0#32
  let c0_i32_28 : BitVec 32 := 0#32
  let c1_i32_29 : BitVec 32 := 1#32
  let arg12 : BitVec 32 := Scf.iv c0_i32_28 c1_i32_29 k0_t35
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c0_i32_1255 v2181
  let c0_i32_1256 : BitVec 32 := 0#32
  ![v2184.toNat, 0]
def k0_off197 (v2183 : BitVec 32) : Fin 3 → Nat :=
  let c0_i32_1257 : BitVec 32 := 0#32
  let c0_i32_1258 : BitVec 32 := 0#32
  ![v2183.toNat, 0, 0]

def k0_chk65 (i : grid0.Coords) (v2183 : BitVec 32) : Prop :=
  (∀ (k0_h3 : k0_cond3 i = 1#1), ∀ a, (k0_off197 v2183) a + S1x1x2048.size a ≤ S16384x1x2048.size a)
theorem k0_off197_inb : ∀ (i : grid0.Coords) (v2183 : BitVec 32) (k0_hw65 : k0_chk65 i v2183), ∀ (k0_h3 : k0_cond3 i = 1#1), ∀ a, (k0_off197 v2183) a + S1x1x2048.size a ≤ S16384x1x2048.size a := fun i v2183 k0_hw65 k0_h3 => k0_hw65 k0_h3

def k0_off198 (k0_t35 : Fin k0_t35_loop.trips) : Fin 2 → Nat :=
  let c0_1260 : Index := 0#32
  let c0_i32_1252 : BitVec 32 := 0#32
  let c0_i32_28 : BitVec 32 := 0#32
  let c1_i32_29 : BitVec 32 := 1#32
  let arg12 : BitVec 32 := Scf.iv c0_i32_28 c1_i32_29 k0_t35
  let c2_i32_1251 : BitVec 32 := 2#32
  let v2179 : BitVec 32 := Scalar.muli arg12 c2_i32_1251
  let v2180 : BitVec 32 := Scalar.addi c0_i32_1252 v2179
  let c1_i32_1259 : BitVec 32 := 1#32
  let v2190 : BitVec 32 := Scalar.addi v2180 c1_i32_1259
  let v2191 : Index := Scalar.indexCast v2190
  ![0, v2191.toNat]
def k0_off199 (k0_t35 : Fin k0_t35_loop.trips) : Fin 2 → Nat :=
  let c0_i32_1261 : BitVec 32 := 0#32
  let c0_i32_1252 : BitVec 32 := 0#32
  let c0_i32_28 : BitVec 32 := 0#32
  let c1_i32_29 : BitVec 32 := 1#32
  let arg12 : BitVec 32 := Scf.iv c0_i32_28 c1_i32_29 k0_t35
  let c2_i32_1251 : BitVec 32 := 2#32
  let v2179 : BitVec 32 := Scalar.muli arg12 c2_i32_1251
  let v2180 : BitVec 32 := Scalar.addi c0_i32_1252 v2179
  let c1_i32_1259 : BitVec 32 := 1#32
  let v2190 : BitVec 32 := Scalar.addi v2180 c1_i32_1259
  let v2193 : BitVec 32 := Scalar.addi c0_i32_1261 v2190
  let c0_i32_1262 : BitVec 32 := 0#32
  ![v2193.toNat, 0]
def k0_off200 (v2192 : BitVec 32) : Fin 3 → Nat :=
  let c0_i32_1263 : BitVec 32 := 0#32
  let c0_i32_1264 : BitVec 32 := 0#32
  ![v2192.toNat, 0, 0]

def k0_chk66 (i : grid0.Coords) (v2192 : BitVec 32) : Prop :=
  (∀ (k0_h3 : k0_cond3 i = 1#1), ∀ a, (k0_off200 v2192) a + S1x1x2048.size a ≤ S16384x1x2048.size a)
theorem k0_off200_inb : ∀ (i : grid0.Coords) (v2192 : BitVec 32) (k0_hw66 : k0_chk66 i v2192), ∀ (k0_h3 : k0_cond3 i = 1#1), ∀ a, (k0_off200 v2192) a + S1x1x2048.size a ≤ S16384x1x2048.size a := fun i v2192 k0_hw66 k0_h3 => k0_hw66 k0_h3

@[reducible] def k0_t36_loop : Scf.Loop 32 :=
  let c0_i32_80 : BitVec 32 := 0#32
  let c32_i32_81 : BitVec 32 := 32#32
  let v175 : BitVec 32 := Scalar.addi c0_i32_80 c32_i32_81
  let c1_i32_82 : BitVec 32 := 1#32
  ⟨c0_i32_80, v175, c1_i32_82⟩
def k0_off201 (k0_t36 : Fin k0_t36_loop.trips) : Fin 2 → Nat :=
  let c1_1254 : Index := 1#32
  let c0_i32_1252 : BitVec 32 := 0#32
  let c0_i32_80 : BitVec 32 := 0#32
  let c1_i32_82 : BitVec 32 := 1#32
  let arg12 : BitVec 32 := Scf.iv c0_i32_80 c1_i32_82 k0_t36
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![1, v2182.toNat]
def k0_off202 (k0_t36 : Fin k0_t36_loop.trips) : Fin 2 → Nat :=
  let c128_i32 : BitVec 32 := 128#32
  let c0_i32_1252 : BitVec 32 := 0#32
  let c0_i32_80 : BitVec 32 := 0#32
  let c1_i32_82 : BitVec 32 := 1#32
  let arg12 : BitVec 32 := Scf.iv c0_i32_80 c1_i32_82 k0_t36
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c128_i32 v2181
  let c0_i32_1255 : BitVec 32 := 0#32
  ![v2184.toNat, 0]
def k0_off203 (v2183 : BitVec 32) : Fin 3 → Nat :=
  let c0_i32_1256 : BitVec 32 := 0#32
  let c0_i32_1257 : BitVec 32 := 0#32
  ![v2183.toNat, 0, 0]

def k0_chk67 (i : grid0.Coords) (v2183 : BitVec 32) : Prop :=
  (∀ (k0_h3 : k0_cond3 i = 1#1), ∀ a, (k0_off203 v2183) a + S1x1x2048.size a ≤ S16384x1x2048.size a)
theorem k0_off203_inb : ∀ (i : grid0.Coords) (v2183 : BitVec 32) (k0_hw67 : k0_chk67 i v2183), ∀ (k0_h3 : k0_cond3 i = 1#1), ∀ a, (k0_off203 v2183) a + S1x1x2048.size a ≤ S16384x1x2048.size a := fun i v2183 k0_hw67 k0_h3 => k0_hw67 k0_h3

def k0_off204 (k0_t36 : Fin k0_t36_loop.trips) : Fin 2 → Nat :=
  let c1_1259 : Index := 1#32
  let c0_i32_1252 : BitVec 32 := 0#32
  let c0_i32_80 : BitVec 32 := 0#32
  let c1_i32_82 : BitVec 32 := 1#32
  let arg12 : BitVec 32 := Scf.iv c0_i32_80 c1_i32_82 k0_t36
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![1, v2191.toNat]
def k0_off205 (k0_t36 : Fin k0_t36_loop.trips) : Fin 2 → Nat :=
  let c128_i32_1260 : BitVec 32 := 128#32
  let c0_i32_1252 : BitVec 32 := 0#32
  let c0_i32_80 : BitVec 32 := 0#32
  let c1_i32_82 : BitVec 32 := 1#32
  let arg12 : BitVec 32 := Scf.iv c0_i32_80 c1_i32_82 k0_t36
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c128_i32_1260 v2190
  let c0_i32_1261 : BitVec 32 := 0#32
  ![v2193.toNat, 0]
def k0_off206 (v2192 : BitVec 32) : Fin 3 → Nat :=
  let c0_i32_1262 : BitVec 32 := 0#32
  let c0_i32_1263 : BitVec 32 := 0#32
  ![v2192.toNat, 0, 0]

def k0_chk68 (i : grid0.Coords) (v2192 : BitVec 32) : Prop :=
  (∀ (k0_h3 : k0_cond3 i = 1#1), ∀ a, (k0_off206 v2192) a + S1x1x2048.size a ≤ S16384x1x2048.size a)
theorem k0_off206_inb : ∀ (i : grid0.Coords) (v2192 : BitVec 32) (k0_hw68 : k0_chk68 i v2192), ∀ (k0_h3 : k0_cond3 i = 1#1), ∀ a, (k0_off206 v2192) a + S1x1x2048.size a ≤ S16384x1x2048.size a := fun i v2192 k0_hw68 k0_h3 => k0_hw68 k0_h3

@[reducible] def k0_t37_loop : Scf.Loop 32 :=
  let c0_i32_150 : BitVec 32 := 0#32
  let c32_i32_151 : BitVec 32 := 32#32
  let v302 : BitVec 32 := Scalar.addi c0_i32_150 c32_i32_151
  let c1_i32_152 : BitVec 32 := 1#32
  ⟨c0_i32_150, v302, c1_i32_152⟩
def k0_off207 (k0_t37 : Fin k0_t37_loop.trips) : Fin 2 → Nat :=
  let c2_1254 : Index := 2#32
  let c0_i32_1252 : BitVec 32 := 0#32
  let c0_i32_150 : BitVec 32 := 0#32
  let c1_i32_152 : BitVec 32 := 1#32
  let arg12 : BitVec 32 := Scf.iv c0_i32_150 c1_i32_152 k0_t37
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![2, v2182.toNat]
def k0_off208 (k0_t37 : Fin k0_t37_loop.trips) : Fin 2 → Nat :=
  let c256_i32 : BitVec 32 := 256#32
  let c0_i32_1252 : BitVec 32 := 0#32
  let c0_i32_150 : BitVec 32 := 0#32
  let c1_i32_152 : BitVec 32 := 1#32
  let arg12 : BitVec 32 := Scf.iv c0_i32_150 c1_i32_152 k0_t37
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c256_i32 v2181
  let c0_i32_1255 : BitVec 32 := 0#32
  ![v2184.toNat, 0]
def k0_off209 (v2183 : BitVec 32) : Fin 3 → Nat :=
  let c0_i32_1256 : BitVec 32 := 0#32
  let c0_i32_1257 : BitVec 32 := 0#32
  ![v2183.toNat, 0, 0]

def k0_chk69 (i : grid0.Coords) (v2183 : BitVec 32) : Prop :=
  (∀ (k0_h3 : k0_cond3 i = 1#1), ∀ a, (k0_off209 v2183) a + S1x1x2048.size a ≤ S16384x1x2048.size a)
theorem k0_off209_inb : ∀ (i : grid0.Coords) (v2183 : BitVec 32) (k0_hw69 : k0_chk69 i v2183), ∀ (k0_h3 : k0_cond3 i = 1#1), ∀ a, (k0_off209 v2183) a + S1x1x2048.size a ≤ S16384x1x2048.size a := fun i v2183 k0_hw69 k0_h3 => k0_hw69 k0_h3

def k0_off210 (k0_t37 : Fin k0_t37_loop.trips) : Fin 2 → Nat :=
  let c2_1259 : Index := 2#32
  let c0_i32_1252 : BitVec 32 := 0#32
  let c0_i32_150 : BitVec 32 := 0#32
  let c1_i32_152 : BitVec 32 := 1#32
  let arg12 : BitVec 32 := Scf.iv c0_i32_150 c1_i32_152 k0_t37
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![2, v2191.toNat]
def k0_off211 (k0_t37 : Fin k0_t37_loop.trips) : Fin 2 → Nat :=
  let c256_i32_1260 : BitVec 32 := 256#32
  let c0_i32_1252 : BitVec 32 := 0#32
  let c0_i32_150 : BitVec 32 := 0#32
  let c1_i32_152 : BitVec 32 := 1#32
  let arg12 : BitVec 32 := Scf.iv c0_i32_150 c1_i32_152 k0_t37
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c256_i32_1260 v2190
  let c0_i32_1261 : BitVec 32 := 0#32
  ![v2193.toNat, 0]
def k0_off212 (v2192 : BitVec 32) : Fin 3 → Nat :=
  let c0_i32_1262 : BitVec 32 := 0#32
  let c0_i32_1263 : BitVec 32 := 0#32
  ![v2192.toNat, 0, 0]

def k0_chk70 (i : grid0.Coords) (v2192 : BitVec 32) : Prop :=
  (∀ (k0_h3 : k0_cond3 i = 1#1), ∀ a, (k0_off212 v2192) a + S1x1x2048.size a ≤ S16384x1x2048.size a)
theorem k0_off212_inb : ∀ (i : grid0.Coords) (v2192 : BitVec 32) (k0_hw70 : k0_chk70 i v2192), ∀ (k0_h3 : k0_cond3 i = 1#1), ∀ a, (k0_off212 v2192) a + S1x1x2048.size a ≤ S16384x1x2048.size a := fun i v2192 k0_hw70 k0_h3 => k0_hw70 k0_h3

@[reducible] def k0_t38_loop : Scf.Loop 32 :=
  let c0_i32_220 : BitVec 32 := 0#32
  let c32_i32_221 : BitVec 32 := 32#32
  let v429 : BitVec 32 := Scalar.addi c0_i32_220 c32_i32_221
  let c1_i32_222 : BitVec 32 := 1#32
  ⟨c0_i32_220, v429, c1_i32_222⟩
def k0_off213 (k0_t38 : Fin k0_t38_loop.trips) : Fin 2 → Nat :=
  let c3_1254 : Index := 3#32
  let c0_i32_1252 : BitVec 32 := 0#32
  let c0_i32_220 : BitVec 32 := 0#32
  let c1_i32_222 : BitVec 32 := 1#32
  let arg12 : BitVec 32 := Scf.iv c0_i32_220 c1_i32_222 k0_t38
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![3, v2182.toNat]
def k0_off214 (k0_t38 : Fin k0_t38_loop.trips) : Fin 2 → Nat :=
  let c384_i32 : BitVec 32 := 384#32
  let c0_i32_1252 : BitVec 32 := 0#32
  let c0_i32_220 : BitVec 32 := 0#32
  let c1_i32_222 : BitVec 32 := 1#32
  let arg12 : BitVec 32 := Scf.iv c0_i32_220 c1_i32_222 k0_t38
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c384_i32 v2181
  let c0_i32_1255 : BitVec 32 := 0#32
  ![v2184.toNat, 0]
def k0_off215 (v2183 : BitVec 32) : Fin 3 → Nat :=
  let c0_i32_1256 : BitVec 32 := 0#32
  let c0_i32_1257 : BitVec 32 := 0#32
  ![v2183.toNat, 0, 0]

def k0_chk71 (i : grid0.Coords) (v2183 : BitVec 32) : Prop :=
  (∀ (k0_h3 : k0_cond3 i = 1#1), ∀ a, (k0_off215 v2183) a + S1x1x2048.size a ≤ S16384x1x2048.size a)
theorem k0_off215_inb : ∀ (i : grid0.Coords) (v2183 : BitVec 32) (k0_hw71 : k0_chk71 i v2183), ∀ (k0_h3 : k0_cond3 i = 1#1), ∀ a, (k0_off215 v2183) a + S1x1x2048.size a ≤ S16384x1x2048.size a := fun i v2183 k0_hw71 k0_h3 => k0_hw71 k0_h3

def k0_off216 (k0_t38 : Fin k0_t38_loop.trips) : Fin 2 → Nat :=
  let c3_1259 : Index := 3#32
  let c0_i32_1252 : BitVec 32 := 0#32
  let c0_i32_220 : BitVec 32 := 0#32
  let c1_i32_222 : BitVec 32 := 1#32
  let arg12 : BitVec 32 := Scf.iv c0_i32_220 c1_i32_222 k0_t38
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![3, v2191.toNat]
def k0_off217 (k0_t38 : Fin k0_t38_loop.trips) : Fin 2 → Nat :=
  let c384_i32_1260 : BitVec 32 := 384#32
  let c0_i32_1252 : BitVec 32 := 0#32
  let c0_i32_220 : BitVec 32 := 0#32
  let c1_i32_222 : BitVec 32 := 1#32
  let arg12 : BitVec 32 := Scf.iv c0_i32_220 c1_i32_222 k0_t38
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c384_i32_1260 v2190
  let c0_i32_1261 : BitVec 32 := 0#32
  ![v2193.toNat, 0]
def k0_off218 (v2192 : BitVec 32) : Fin 3 → Nat :=
  let c0_i32_1262 : BitVec 32 := 0#32
  let c0_i32_1263 : BitVec 32 := 0#32
  ![v2192.toNat, 0, 0]

def k0_chk72 (i : grid0.Coords) (v2192 : BitVec 32) : Prop :=
  (∀ (k0_h3 : k0_cond3 i = 1#1), ∀ a, (k0_off218 v2192) a + S1x1x2048.size a ≤ S16384x1x2048.size a)
theorem k0_off218_inb : ∀ (i : grid0.Coords) (v2192 : BitVec 32) (k0_hw72 : k0_chk72 i v2192), ∀ (k0_h3 : k0_cond3 i = 1#1), ∀ a, (k0_off218 v2192) a + S1x1x2048.size a ≤ S16384x1x2048.size a := fun i v2192 k0_hw72 k0_h3 => k0_hw72 k0_h3

@[reducible] def k0_t39_loop : Scf.Loop 32 :=
  let c0_i32_290 : BitVec 32 := 0#32
  let c32_i32_291 : BitVec 32 := 32#32
  let v556 : BitVec 32 := Scalar.addi c0_i32_290 c32_i32_291
  let c1_i32_292 : BitVec 32 := 1#32
  ⟨c0_i32_290, v556, c1_i32_292⟩
def k0_off219 (k0_t39 : Fin k0_t39_loop.trips) : Fin 2 → Nat :=
  let c4_1254 : Index := 4#32
  let c0_i32_1252 : BitVec 32 := 0#32
  let c0_i32_290 : BitVec 32 := 0#32
  let c1_i32_292 : BitVec 32 := 1#32
  let arg12 : BitVec 32 := Scf.iv c0_i32_290 c1_i32_292 k0_t39
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![4, v2182.toNat]
def k0_off220 (k0_t39 : Fin k0_t39_loop.trips) : Fin 2 → Nat :=
  let c512_i32 : BitVec 32 := 512#32
  let c0_i32_1252 : BitVec 32 := 0#32
  let c0_i32_290 : BitVec 32 := 0#32
  let c1_i32_292 : BitVec 32 := 1#32
  let arg12 : BitVec 32 := Scf.iv c0_i32_290 c1_i32_292 k0_t39
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c512_i32 v2181
  let c0_i32_1255 : BitVec 32 := 0#32
  ![v2184.toNat, 0]
def k0_off221 (v2183 : BitVec 32) : Fin 3 → Nat :=
  let c0_i32_1256 : BitVec 32 := 0#32
  let c0_i32_1257 : BitVec 32 := 0#32
  ![v2183.toNat, 0, 0]

def k0_chk73 (i : grid0.Coords) (v2183 : BitVec 32) : Prop :=
  (∀ (k0_h3 : k0_cond3 i = 1#1), ∀ a, (k0_off221 v2183) a + S1x1x2048.size a ≤ S16384x1x2048.size a)
theorem k0_off221_inb : ∀ (i : grid0.Coords) (v2183 : BitVec 32) (k0_hw73 : k0_chk73 i v2183), ∀ (k0_h3 : k0_cond3 i = 1#1), ∀ a, (k0_off221 v2183) a + S1x1x2048.size a ≤ S16384x1x2048.size a := fun i v2183 k0_hw73 k0_h3 => k0_hw73 k0_h3

def k0_off222 (k0_t39 : Fin k0_t39_loop.trips) : Fin 2 → Nat :=
  let c4_1259 : Index := 4#32
  let c0_i32_1252 : BitVec 32 := 0#32
  let c0_i32_290 : BitVec 32 := 0#32
  let c1_i32_292 : BitVec 32 := 1#32
  let arg12 : BitVec 32 := Scf.iv c0_i32_290 c1_i32_292 k0_t39
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![4, v2191.toNat]
def k0_off223 (k0_t39 : Fin k0_t39_loop.trips) : Fin 2 → Nat :=
  let c512_i32_1260 : BitVec 32 := 512#32
  let c0_i32_1252 : BitVec 32 := 0#32
  let c0_i32_290 : BitVec 32 := 0#32
  let c1_i32_292 : BitVec 32 := 1#32
  let arg12 : BitVec 32 := Scf.iv c0_i32_290 c1_i32_292 k0_t39
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c512_i32_1260 v2190
  let c0_i32_1261 : BitVec 32 := 0#32
  ![v2193.toNat, 0]
def k0_off224 (v2192 : BitVec 32) : Fin 3 → Nat :=
  let c0_i32_1262 : BitVec 32 := 0#32
  let c0_i32_1263 : BitVec 32 := 0#32
  ![v2192.toNat, 0, 0]

def k0_chk74 (i : grid0.Coords) (v2192 : BitVec 32) : Prop :=
  (∀ (k0_h3 : k0_cond3 i = 1#1), ∀ a, (k0_off224 v2192) a + S1x1x2048.size a ≤ S16384x1x2048.size a)
theorem k0_off224_inb : ∀ (i : grid0.Coords) (v2192 : BitVec 32) (k0_hw74 : k0_chk74 i v2192), ∀ (k0_h3 : k0_cond3 i = 1#1), ∀ a, (k0_off224 v2192) a + S1x1x2048.size a ≤ S16384x1x2048.size a := fun i v2192 k0_hw74 k0_h3 => k0_hw74 k0_h3

@[reducible] def k0_t40_loop : Scf.Loop 32 :=
  let c0_i32_359 : BitVec 32 := 0#32
  let c32_i32_360 : BitVec 32 := 32#32
  let v683 : BitVec 32 := Scalar.addi c0_i32_359 c32_i32_360
  let c1_i32_361 : BitVec 32 := 1#32
  ⟨c0_i32_359, v683, c1_i32_361⟩
def k0_off225 (k0_t40 : Fin k0_t40_loop.trips) : Fin 2 → Nat :=
  let c5_1254 : Index := 5#32
  let c0_i32_1252 : BitVec 32 := 0#32
  let c0_i32_359 : BitVec 32 := 0#32
  let c1_i32_361 : BitVec 32 := 1#32
  let arg12 : BitVec 32 := Scf.iv c0_i32_359 c1_i32_361 k0_t40
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![5, v2182.toNat]
def k0_off226 (k0_t40 : Fin k0_t40_loop.trips) : Fin 2 → Nat :=
  let c640_i32 : BitVec 32 := 640#32
  let c0_i32_1252 : BitVec 32 := 0#32
  let c0_i32_359 : BitVec 32 := 0#32
  let c1_i32_361 : BitVec 32 := 1#32
  let arg12 : BitVec 32 := Scf.iv c0_i32_359 c1_i32_361 k0_t40
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c640_i32 v2181
  let c0_i32_1255 : BitVec 32 := 0#32
  ![v2184.toNat, 0]
def k0_off227 (v2183 : BitVec 32) : Fin 3 → Nat :=
  let c0_i32_1256 : BitVec 32 := 0#32
  let c0_i32_1257 : BitVec 32 := 0#32
  ![v2183.toNat, 0, 0]

def k0_chk75 (i : grid0.Coords) (v2183 : BitVec 32) : Prop :=
  (∀ (k0_h3 : k0_cond3 i = 1#1), ∀ a, (k0_off227 v2183) a + S1x1x2048.size a ≤ S16384x1x2048.size a)
theorem k0_off227_inb : ∀ (i : grid0.Coords) (v2183 : BitVec 32) (k0_hw75 : k0_chk75 i v2183), ∀ (k0_h3 : k0_cond3 i = 1#1), ∀ a, (k0_off227 v2183) a + S1x1x2048.size a ≤ S16384x1x2048.size a := fun i v2183 k0_hw75 k0_h3 => k0_hw75 k0_h3

def k0_off228 (k0_t40 : Fin k0_t40_loop.trips) : Fin 2 → Nat :=
  let c5_1259 : Index := 5#32
  let c0_i32_1252 : BitVec 32 := 0#32
  let c0_i32_359 : BitVec 32 := 0#32
  let c1_i32_361 : BitVec 32 := 1#32
  let arg12 : BitVec 32 := Scf.iv c0_i32_359 c1_i32_361 k0_t40
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![5, v2191.toNat]
def k0_off229 (k0_t40 : Fin k0_t40_loop.trips) : Fin 2 → Nat :=
  let c640_i32_1260 : BitVec 32 := 640#32
  let c0_i32_1252 : BitVec 32 := 0#32
  let c0_i32_359 : BitVec 32 := 0#32
  let c1_i32_361 : BitVec 32 := 1#32
  let arg12 : BitVec 32 := Scf.iv c0_i32_359 c1_i32_361 k0_t40
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c640_i32_1260 v2190
  let c0_i32_1261 : BitVec 32 := 0#32
  ![v2193.toNat, 0]
def k0_off230 (v2192 : BitVec 32) : Fin 3 → Nat :=
  let c0_i32_1262 : BitVec 32 := 0#32
  let c0_i32_1263 : BitVec 32 := 0#32
  ![v2192.toNat, 0, 0]

def k0_chk76 (i : grid0.Coords) (v2192 : BitVec 32) : Prop :=
  (∀ (k0_h3 : k0_cond3 i = 1#1), ∀ a, (k0_off230 v2192) a + S1x1x2048.size a ≤ S16384x1x2048.size a)
theorem k0_off230_inb : ∀ (i : grid0.Coords) (v2192 : BitVec 32) (k0_hw76 : k0_chk76 i v2192), ∀ (k0_h3 : k0_cond3 i = 1#1), ∀ a, (k0_off230 v2192) a + S1x1x2048.size a ≤ S16384x1x2048.size a := fun i v2192 k0_hw76 k0_h3 => k0_hw76 k0_h3

@[reducible] def k0_t41_loop : Scf.Loop 32 :=
  let c0_i32_428 : BitVec 32 := 0#32
  let c32_i32_429 : BitVec 32 := 32#32
  let v810 : BitVec 32 := Scalar.addi c0_i32_428 c32_i32_429
  let c1_i32_430 : BitVec 32 := 1#32
  ⟨c0_i32_428, v810, c1_i32_430⟩
def k0_off231 (k0_t41 : Fin k0_t41_loop.trips) : Fin 2 → Nat :=
  let c6_1254 : Index := 6#32
  let c0_i32_1252 : BitVec 32 := 0#32
  let c0_i32_428 : BitVec 32 := 0#32
  let c1_i32_430 : BitVec 32 := 1#32
  let arg12 : BitVec 32 := Scf.iv c0_i32_428 c1_i32_430 k0_t41
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![6, v2182.toNat]
def k0_off232 (k0_t41 : Fin k0_t41_loop.trips) : Fin 2 → Nat :=
  let c768_i32 : BitVec 32 := 768#32
  let c0_i32_1252 : BitVec 32 := 0#32
  let c0_i32_428 : BitVec 32 := 0#32
  let c1_i32_430 : BitVec 32 := 1#32
  let arg12 : BitVec 32 := Scf.iv c0_i32_428 c1_i32_430 k0_t41
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c768_i32 v2181
  let c0_i32_1255 : BitVec 32 := 0#32
  ![v2184.toNat, 0]
def k0_off233 (v2183 : BitVec 32) : Fin 3 → Nat :=
  let c0_i32_1256 : BitVec 32 := 0#32
  let c0_i32_1257 : BitVec 32 := 0#32
  ![v2183.toNat, 0, 0]

def k0_chk77 (i : grid0.Coords) (v2183 : BitVec 32) : Prop :=
  (∀ (k0_h3 : k0_cond3 i = 1#1), ∀ a, (k0_off233 v2183) a + S1x1x2048.size a ≤ S16384x1x2048.size a)
theorem k0_off233_inb : ∀ (i : grid0.Coords) (v2183 : BitVec 32) (k0_hw77 : k0_chk77 i v2183), ∀ (k0_h3 : k0_cond3 i = 1#1), ∀ a, (k0_off233 v2183) a + S1x1x2048.size a ≤ S16384x1x2048.size a := fun i v2183 k0_hw77 k0_h3 => k0_hw77 k0_h3

def k0_off234 (k0_t41 : Fin k0_t41_loop.trips) : Fin 2 → Nat :=
  let c6_1259 : Index := 6#32
  let c0_i32_1252 : BitVec 32 := 0#32
  let c0_i32_428 : BitVec 32 := 0#32
  let c1_i32_430 : BitVec 32 := 1#32
  let arg12 : BitVec 32 := Scf.iv c0_i32_428 c1_i32_430 k0_t41
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![6, v2191.toNat]
def k0_off235 (k0_t41 : Fin k0_t41_loop.trips) : Fin 2 → Nat :=
  let c768_i32_1260 : BitVec 32 := 768#32
  let c0_i32_1252 : BitVec 32 := 0#32
  let c0_i32_428 : BitVec 32 := 0#32
  let c1_i32_430 : BitVec 32 := 1#32
  let arg12 : BitVec 32 := Scf.iv c0_i32_428 c1_i32_430 k0_t41
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c768_i32_1260 v2190
  let c0_i32_1261 : BitVec 32 := 0#32
  ![v2193.toNat, 0]
def k0_off236 (v2192 : BitVec 32) : Fin 3 → Nat :=
  let c0_i32_1262 : BitVec 32 := 0#32
  let c0_i32_1263 : BitVec 32 := 0#32
  ![v2192.toNat, 0, 0]

def k0_chk78 (i : grid0.Coords) (v2192 : BitVec 32) : Prop :=
  (∀ (k0_h3 : k0_cond3 i = 1#1), ∀ a, (k0_off236 v2192) a + S1x1x2048.size a ≤ S16384x1x2048.size a)
theorem k0_off236_inb : ∀ (i : grid0.Coords) (v2192 : BitVec 32) (k0_hw78 : k0_chk78 i v2192), ∀ (k0_h3 : k0_cond3 i = 1#1), ∀ a, (k0_off236 v2192) a + S1x1x2048.size a ≤ S16384x1x2048.size a := fun i v2192 k0_hw78 k0_h3 => k0_hw78 k0_h3

@[reducible] def k0_t42_loop : Scf.Loop 32 :=
  let c0_i32_497 : BitVec 32 := 0#32
  let c32_i32_498 : BitVec 32 := 32#32
  let v937 : BitVec 32 := Scalar.addi c0_i32_497 c32_i32_498
  let c1_i32_499 : BitVec 32 := 1#32
  ⟨c0_i32_497, v937, c1_i32_499⟩
def k0_off237 (k0_t42 : Fin k0_t42_loop.trips) : Fin 2 → Nat :=
  let c7_1254 : Index := 7#32
  let c0_i32_1252 : BitVec 32 := 0#32
  let c0_i32_497 : BitVec 32 := 0#32
  let c1_i32_499 : BitVec 32 := 1#32
  let arg12 : BitVec 32 := Scf.iv c0_i32_497 c1_i32_499 k0_t42
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![7, v2182.toNat]
def k0_off238 (k0_t42 : Fin k0_t42_loop.trips) : Fin 2 → Nat :=
  let c896_i32 : BitVec 32 := 896#32
  let c0_i32_1252 : BitVec 32 := 0#32
  let c0_i32_497 : BitVec 32 := 0#32
  let c1_i32_499 : BitVec 32 := 1#32
  let arg12 : BitVec 32 := Scf.iv c0_i32_497 c1_i32_499 k0_t42
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c896_i32 v2181
  let c0_i32_1255 : BitVec 32 := 0#32
  ![v2184.toNat, 0]
def k0_off239 (v2183 : BitVec 32) : Fin 3 → Nat :=
  let c0_i32_1256 : BitVec 32 := 0#32
  let c0_i32_1257 : BitVec 32 := 0#32
  ![v2183.toNat, 0, 0]

def k0_chk79 (i : grid0.Coords) (v2183 : BitVec 32) : Prop :=
  (∀ (k0_h3 : k0_cond3 i = 1#1), ∀ a, (k0_off239 v2183) a + S1x1x2048.size a ≤ S16384x1x2048.size a)
theorem k0_off239_inb : ∀ (i : grid0.Coords) (v2183 : BitVec 32) (k0_hw79 : k0_chk79 i v2183), ∀ (k0_h3 : k0_cond3 i = 1#1), ∀ a, (k0_off239 v2183) a + S1x1x2048.size a ≤ S16384x1x2048.size a := fun i v2183 k0_hw79 k0_h3 => k0_hw79 k0_h3

def k0_off240 (k0_t42 : Fin k0_t42_loop.trips) : Fin 2 → Nat :=
  let c7_1259 : Index := 7#32
  let c0_i32_1252 : BitVec 32 := 0#32
  let c0_i32_497 : BitVec 32 := 0#32
  let c1_i32_499 : BitVec 32 := 1#32
  let arg12 : BitVec 32 := Scf.iv c0_i32_497 c1_i32_499 k0_t42
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![7, v2191.toNat]
def k0_off241 (k0_t42 : Fin k0_t42_loop.trips) : Fin 2 → Nat :=
  let c896_i32_1260 : BitVec 32 := 896#32
  let c0_i32_1252 : BitVec 32 := 0#32
  let c0_i32_497 : BitVec 32 := 0#32
  let c1_i32_499 : BitVec 32 := 1#32
  let arg12 : BitVec 32 := Scf.iv c0_i32_497 c1_i32_499 k0_t42
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c896_i32_1260 v2190
  let c0_i32_1261 : BitVec 32 := 0#32
  ![v2193.toNat, 0]
def k0_off242 (v2192 : BitVec 32) : Fin 3 → Nat :=
  let c0_i32_1262 : BitVec 32 := 0#32
  let c0_i32_1263 : BitVec 32 := 0#32
  ![v2192.toNat, 0, 0]

def k0_chk80 (i : grid0.Coords) (v2192 : BitVec 32) : Prop :=
  (∀ (k0_h3 : k0_cond3 i = 1#1), ∀ a, (k0_off242 v2192) a + S1x1x2048.size a ≤ S16384x1x2048.size a)
theorem k0_off242_inb : ∀ (i : grid0.Coords) (v2192 : BitVec 32) (k0_hw80 : k0_chk80 i v2192), ∀ (k0_h3 : k0_cond3 i = 1#1), ∀ a, (k0_off242 v2192) a + S1x1x2048.size a ≤ S16384x1x2048.size a := fun i v2192 k0_hw80 k0_h3 => k0_hw80 k0_h3

@[reducible] def k0_t43_loop : Scf.Loop 32 :=
  let c0_i32_572 : BitVec 32 := 0#32
  let c32_i32_573 : BitVec 32 := 32#32
  let v1075 : BitVec 32 := Scalar.addi c0_i32_572 c32_i32_573
  let c1_i32_574 : BitVec 32 := 1#32
  ⟨c0_i32_572, v1075, c1_i32_574⟩
def k0_off243 (k0_t43 : Fin k0_t43_loop.trips) : Fin 2 → Nat :=
  let c0_1253 : Index := 0#32
  let c64_i32 : BitVec 32 := 64#32
  let c0_i32_572 : BitVec 32 := 0#32
  let c1_i32_574 : BitVec 32 := 1#32
  let arg12 : BitVec 32 := Scf.iv c0_i32_572 c1_i32_574 k0_t43
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![0, v2182.toNat]
def k0_off244 (k0_t43 : Fin k0_t43_loop.trips) : Fin 2 → Nat :=
  let c0_i32_1254 : BitVec 32 := 0#32
  let c64_i32 : BitVec 32 := 64#32
  let c0_i32_572 : BitVec 32 := 0#32
  let c1_i32_574 : BitVec 32 := 1#32
  let arg12 : BitVec 32 := Scf.iv c0_i32_572 c1_i32_574 k0_t43
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c0_i32_1254 v2181
  let c0_i32_1255 : BitVec 32 := 0#32
  ![v2184.toNat, 0]
def k0_off245 (v2183 : BitVec 32) : Fin 3 → Nat :=
  let c0_i32_1256 : BitVec 32 := 0#32
  let c0_i32_1257 : BitVec 32 := 0#32
  ![v2183.toNat, 0, 0]

def k0_chk81 (i : grid0.Coords) (v2183 : BitVec 32) : Prop :=
  (∀ (k0_h3 : k0_cond3 i = 1#1), ∀ a, (k0_off245 v2183) a + S1x1x2048.size a ≤ S16384x1x2048.size a)
theorem k0_off245_inb : ∀ (i : grid0.Coords) (v2183 : BitVec 32) (k0_hw81 : k0_chk81 i v2183), ∀ (k0_h3 : k0_cond3 i = 1#1), ∀ a, (k0_off245 v2183) a + S1x1x2048.size a ≤ S16384x1x2048.size a := fun i v2183 k0_hw81 k0_h3 => k0_hw81 k0_h3

def k0_off246 (k0_t43 : Fin k0_t43_loop.trips) : Fin 2 → Nat :=
  let c0_1259 : Index := 0#32
  let c64_i32 : BitVec 32 := 64#32
  let c0_i32_572 : BitVec 32 := 0#32
  let c1_i32_574 : BitVec 32 := 1#32
  let arg12 : BitVec 32 := Scf.iv c0_i32_572 c1_i32_574 k0_t43
  let c2_i32_1251 : BitVec 32 := 2#32
  let v2179 : BitVec 32 := Scalar.muli arg12 c2_i32_1251
  let v2180 : BitVec 32 := Scalar.addi c64_i32 v2179
  let c1_i32_1258 : BitVec 32 := 1#32
  let v2190 : BitVec 32 := Scalar.addi v2180 c1_i32_1258
  let v2191 : Index := Scalar.indexCast v2190
  ![0, v2191.toNat]
def k0_off247 (k0_t43 : Fin k0_t43_loop.trips) : Fin 2 → Nat :=
  let c0_i32_1260 : BitVec 32 := 0#32
  let c64_i32 : BitVec 32 := 64#32
  let c0_i32_572 : BitVec 32 := 0#32
  let c1_i32_574 : BitVec 32 := 1#32
  let arg12 : BitVec 32 := Scf.iv c0_i32_572 c1_i32_574 k0_t43
  let c2_i32_1251 : BitVec 32 := 2#32
  let v2179 : BitVec 32 := Scalar.muli arg12 c2_i32_1251
  let v2180 : BitVec 32 := Scalar.addi c64_i32 v2179
  let c1_i32_1258 : BitVec 32 := 1#32
  let v2190 : BitVec 32 := Scalar.addi v2180 c1_i32_1258
  let v2193 : BitVec 32 := Scalar.addi c0_i32_1260 v2190
  let c0_i32_1261 : BitVec 32 := 0#32
  ![v2193.toNat, 0]
def k0_off248 (v2192 : BitVec 32) : Fin 3 → Nat :=
  let c0_i32_1262 : BitVec 32 := 0#32
  let c0_i32_1263 : BitVec 32 := 0#32
  ![v2192.toNat, 0, 0]

def k0_chk82 (i : grid0.Coords) (v2192 : BitVec 32) : Prop :=
  (∀ (k0_h3 : k0_cond3 i = 1#1), ∀ a, (k0_off248 v2192) a + S1x1x2048.size a ≤ S16384x1x2048.size a)
theorem k0_off248_inb : ∀ (i : grid0.Coords) (v2192 : BitVec 32) (k0_hw82 : k0_chk82 i v2192), ∀ (k0_h3 : k0_cond3 i = 1#1), ∀ a, (k0_off248 v2192) a + S1x1x2048.size a ≤ S16384x1x2048.size a := fun i v2192 k0_hw82 k0_h3 => k0_hw82 k0_h3

@[reducible] def k0_t44_loop : Scf.Loop 32 :=
  let c0_i32_657 : BitVec 32 := 0#32
  let c32_i32_658 : BitVec 32 := 32#32
  let v1213 : BitVec 32 := Scalar.addi c0_i32_657 c32_i32_658
  let c1_i32_659 : BitVec 32 := 1#32
  ⟨c0_i32_657, v1213, c1_i32_659⟩
def k0_off249 (k0_t44 : Fin k0_t44_loop.trips) : Fin 2 → Nat :=
  let c1_1253 : Index := 1#32
  let c64_i32 : BitVec 32 := 64#32
  let c0_i32_657 : BitVec 32 := 0#32
  let c1_i32_659 : BitVec 32 := 1#32
  let arg12 : BitVec 32 := Scf.iv c0_i32_657 c1_i32_659 k0_t44
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![1, v2182.toNat]
def k0_off250 (k0_t44 : Fin k0_t44_loop.trips) : Fin 2 → Nat :=
  let c128_i32 : BitVec 32 := 128#32
  let c64_i32 : BitVec 32 := 64#32
  let c0_i32_657 : BitVec 32 := 0#32
  let c1_i32_659 : BitVec 32 := 1#32
  let arg12 : BitVec 32 := Scf.iv c0_i32_657 c1_i32_659 k0_t44
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c128_i32 v2181
  let c0_i32_1254 : BitVec 32 := 0#32
  ![v2184.toNat, 0]
def k0_off251 (v2183 : BitVec 32) : Fin 3 → Nat :=
  let c0_i32_1255 : BitVec 32 := 0#32
  let c0_i32_1256 : BitVec 32 := 0#32
  ![v2183.toNat, 0, 0]

def k0_chk83 (i : grid0.Coords) (v2183 : BitVec 32) : Prop :=
  (∀ (k0_h3 : k0_cond3 i = 1#1), ∀ a, (k0_off251 v2183) a + S1x1x2048.size a ≤ S16384x1x2048.size a)
theorem k0_off251_inb : ∀ (i : grid0.Coords) (v2183 : BitVec 32) (k0_hw83 : k0_chk83 i v2183), ∀ (k0_h3 : k0_cond3 i = 1#1), ∀ a, (k0_off251 v2183) a + S1x1x2048.size a ≤ S16384x1x2048.size a := fun i v2183 k0_hw83 k0_h3 => k0_hw83 k0_h3

def k0_off252 (k0_t44 : Fin k0_t44_loop.trips) : Fin 2 → Nat :=
  let c1_1258 : Index := 1#32
  let c64_i32 : BitVec 32 := 64#32
  let c0_i32_657 : BitVec 32 := 0#32
  let c1_i32_659 : BitVec 32 := 1#32
  let arg12 : BitVec 32 := Scf.iv c0_i32_657 c1_i32_659 k0_t44
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![1, v2191.toNat]
def k0_off253 (k0_t44 : Fin k0_t44_loop.trips) : Fin 2 → Nat :=
  let c128_i32_1259 : BitVec 32 := 128#32
  let c64_i32 : BitVec 32 := 64#32
  let c0_i32_657 : BitVec 32 := 0#32
  let c1_i32_659 : BitVec 32 := 1#32
  let arg12 : BitVec 32 := Scf.iv c0_i32_657 c1_i32_659 k0_t44
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c128_i32_1259 v2190
  let c0_i32_1260 : BitVec 32 := 0#32
  ![v2193.toNat, 0]
def k0_off254 (v2192 : BitVec 32) : Fin 3 → Nat :=
  let c0_i32_1261 : BitVec 32 := 0#32
  let c0_i32_1262 : BitVec 32 := 0#32
  ![v2192.toNat, 0, 0]

def k0_chk84 (i : grid0.Coords) (v2192 : BitVec 32) : Prop :=
  (∀ (k0_h3 : k0_cond3 i = 1#1), ∀ a, (k0_off254 v2192) a + S1x1x2048.size a ≤ S16384x1x2048.size a)
theorem k0_off254_inb : ∀ (i : grid0.Coords) (v2192 : BitVec 32) (k0_hw84 : k0_chk84 i v2192), ∀ (k0_h3 : k0_cond3 i = 1#1), ∀ a, (k0_off254 v2192) a + S1x1x2048.size a ≤ S16384x1x2048.size a := fun i v2192 k0_hw84 k0_h3 => k0_hw84 k0_h3

@[reducible] def k0_t45_loop : Scf.Loop 32 :=
  let c0_i32_742 : BitVec 32 := 0#32
  let c32_i32_743 : BitVec 32 := 32#32
  let v1351 : BitVec 32 := Scalar.addi c0_i32_742 c32_i32_743
  let c1_i32_744 : BitVec 32 := 1#32
  ⟨c0_i32_742, v1351, c1_i32_744⟩
def k0_off255 (k0_t45 : Fin k0_t45_loop.trips) : Fin 2 → Nat :=
  let c2_1253 : Index := 2#32
  let c64_i32 : BitVec 32 := 64#32
  let c0_i32_742 : BitVec 32 := 0#32
  let c1_i32_744 : BitVec 32 := 1#32
  let arg12 : BitVec 32 := Scf.iv c0_i32_742 c1_i32_744 k0_t45
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![2, v2182.toNat]
def k0_off256 (k0_t45 : Fin k0_t45_loop.trips) : Fin 2 → Nat :=
  let c256_i32 : BitVec 32 := 256#32
  let c64_i32 : BitVec 32 := 64#32
  let c0_i32_742 : BitVec 32 := 0#32
  let c1_i32_744 : BitVec 32 := 1#32
  let arg12 : BitVec 32 := Scf.iv c0_i32_742 c1_i32_744 k0_t45
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c256_i32 v2181
  let c0_i32_1254 : BitVec 32 := 0#32
  ![v2184.toNat, 0]
def k0_off257 (v2183 : BitVec 32) : Fin 3 → Nat :=
  let c0_i32_1255 : BitVec 32 := 0#32
  let c0_i32_1256 : BitVec 32 := 0#32
  ![v2183.toNat, 0, 0]

def k0_chk85 (i : grid0.Coords) (v2183 : BitVec 32) : Prop :=
  (∀ (k0_h3 : k0_cond3 i = 1#1), ∀ a, (k0_off257 v2183) a + S1x1x2048.size a ≤ S16384x1x2048.size a)
theorem k0_off257_inb : ∀ (i : grid0.Coords) (v2183 : BitVec 32) (k0_hw85 : k0_chk85 i v2183), ∀ (k0_h3 : k0_cond3 i = 1#1), ∀ a, (k0_off257 v2183) a + S1x1x2048.size a ≤ S16384x1x2048.size a := fun i v2183 k0_hw85 k0_h3 => k0_hw85 k0_h3

def k0_off258 (k0_t45 : Fin k0_t45_loop.trips) : Fin 2 → Nat :=
  let c2_1258 : Index := 2#32
  let c64_i32 : BitVec 32 := 64#32
  let c0_i32_742 : BitVec 32 := 0#32
  let c1_i32_744 : BitVec 32 := 1#32
  let arg12 : BitVec 32 := Scf.iv c0_i32_742 c1_i32_744 k0_t45
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![2, v2191.toNat]
def k0_off259 (k0_t45 : Fin k0_t45_loop.trips) : Fin 2 → Nat :=
  let c256_i32_1259 : BitVec 32 := 256#32
  let c64_i32 : BitVec 32 := 64#32
  let c0_i32_742 : BitVec 32 := 0#32
  let c1_i32_744 : BitVec 32 := 1#32
  let arg12 : BitVec 32 := Scf.iv c0_i32_742 c1_i32_744 k0_t45
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c256_i32_1259 v2190
  let c0_i32_1260 : BitVec 32 := 0#32
  ![v2193.toNat, 0]
def k0_off260 (v2192 : BitVec 32) : Fin 3 → Nat :=
  let c0_i32_1261 : BitVec 32 := 0#32
  let c0_i32_1262 : BitVec 32 := 0#32
  ![v2192.toNat, 0, 0]

def k0_chk86 (i : grid0.Coords) (v2192 : BitVec 32) : Prop :=
  (∀ (k0_h3 : k0_cond3 i = 1#1), ∀ a, (k0_off260 v2192) a + S1x1x2048.size a ≤ S16384x1x2048.size a)
theorem k0_off260_inb : ∀ (i : grid0.Coords) (v2192 : BitVec 32) (k0_hw86 : k0_chk86 i v2192), ∀ (k0_h3 : k0_cond3 i = 1#1), ∀ a, (k0_off260 v2192) a + S1x1x2048.size a ≤ S16384x1x2048.size a := fun i v2192 k0_hw86 k0_h3 => k0_hw86 k0_h3

@[reducible] def k0_t46_loop : Scf.Loop 32 :=
  let c0_i32_827 : BitVec 32 := 0#32
  let c32_i32_828 : BitVec 32 := 32#32
  let v1489 : BitVec 32 := Scalar.addi c0_i32_827 c32_i32_828
  let c1_i32_829 : BitVec 32 := 1#32
  ⟨c0_i32_827, v1489, c1_i32_829⟩
def k0_off261 (k0_t46 : Fin k0_t46_loop.trips) : Fin 2 → Nat :=
  let c3_1253 : Index := 3#32
  let c64_i32 : BitVec 32 := 64#32
  let c0_i32_827 : BitVec 32 := 0#32
  let c1_i32_829 : BitVec 32 := 1#32
  let arg12 : BitVec 32 := Scf.iv c0_i32_827 c1_i32_829 k0_t46
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![3, v2182.toNat]
def k0_off262 (k0_t46 : Fin k0_t46_loop.trips) : Fin 2 → Nat :=
  let c384_i32 : BitVec 32 := 384#32
  let c64_i32 : BitVec 32 := 64#32
  let c0_i32_827 : BitVec 32 := 0#32
  let c1_i32_829 : BitVec 32 := 1#32
  let arg12 : BitVec 32 := Scf.iv c0_i32_827 c1_i32_829 k0_t46
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c384_i32 v2181
  let c0_i32_1254 : BitVec 32 := 0#32
  ![v2184.toNat, 0]
def k0_off263 (v2183 : BitVec 32) : Fin 3 → Nat :=
  let c0_i32_1255 : BitVec 32 := 0#32
  let c0_i32_1256 : BitVec 32 := 0#32
  ![v2183.toNat, 0, 0]

def k0_chk87 (i : grid0.Coords) (v2183 : BitVec 32) : Prop :=
  (∀ (k0_h3 : k0_cond3 i = 1#1), ∀ a, (k0_off263 v2183) a + S1x1x2048.size a ≤ S16384x1x2048.size a)
theorem k0_off263_inb : ∀ (i : grid0.Coords) (v2183 : BitVec 32) (k0_hw87 : k0_chk87 i v2183), ∀ (k0_h3 : k0_cond3 i = 1#1), ∀ a, (k0_off263 v2183) a + S1x1x2048.size a ≤ S16384x1x2048.size a := fun i v2183 k0_hw87 k0_h3 => k0_hw87 k0_h3

def k0_off264 (k0_t46 : Fin k0_t46_loop.trips) : Fin 2 → Nat :=
  let c3_1258 : Index := 3#32
  let c64_i32 : BitVec 32 := 64#32
  let c0_i32_827 : BitVec 32 := 0#32
  let c1_i32_829 : BitVec 32 := 1#32
  let arg12 : BitVec 32 := Scf.iv c0_i32_827 c1_i32_829 k0_t46
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![3, v2191.toNat]
def k0_off265 (k0_t46 : Fin k0_t46_loop.trips) : Fin 2 → Nat :=
  let c384_i32_1259 : BitVec 32 := 384#32
  let c64_i32 : BitVec 32 := 64#32
  let c0_i32_827 : BitVec 32 := 0#32
  let c1_i32_829 : BitVec 32 := 1#32
  let arg12 : BitVec 32 := Scf.iv c0_i32_827 c1_i32_829 k0_t46
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c384_i32_1259 v2190
  let c0_i32_1260 : BitVec 32 := 0#32
  ![v2193.toNat, 0]
def k0_off266 (v2192 : BitVec 32) : Fin 3 → Nat :=
  let c0_i32_1261 : BitVec 32 := 0#32
  let c0_i32_1262 : BitVec 32 := 0#32
  ![v2192.toNat, 0, 0]

def k0_chk88 (i : grid0.Coords) (v2192 : BitVec 32) : Prop :=
  (∀ (k0_h3 : k0_cond3 i = 1#1), ∀ a, (k0_off266 v2192) a + S1x1x2048.size a ≤ S16384x1x2048.size a)
theorem k0_off266_inb : ∀ (i : grid0.Coords) (v2192 : BitVec 32) (k0_hw88 : k0_chk88 i v2192), ∀ (k0_h3 : k0_cond3 i = 1#1), ∀ a, (k0_off266 v2192) a + S1x1x2048.size a ≤ S16384x1x2048.size a := fun i v2192 k0_hw88 k0_h3 => k0_hw88 k0_h3

@[reducible] def k0_t47_loop : Scf.Loop 32 :=
  let c0_i32_912 : BitVec 32 := 0#32
  let c32_i32_913 : BitVec 32 := 32#32
  let v1627 : BitVec 32 := Scalar.addi c0_i32_912 c32_i32_913
  let c1_i32_914 : BitVec 32 := 1#32
  ⟨c0_i32_912, v1627, c1_i32_914⟩
def k0_off267 (k0_t47 : Fin k0_t47_loop.trips) : Fin 2 → Nat :=
  let c4_1253 : Index := 4#32
  let c64_i32 : BitVec 32 := 64#32
  let c0_i32_912 : BitVec 32 := 0#32
  let c1_i32_914 : BitVec 32 := 1#32
  let arg12 : BitVec 32 := Scf.iv c0_i32_912 c1_i32_914 k0_t47
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![4, v2182.toNat]
def k0_off268 (k0_t47 : Fin k0_t47_loop.trips) : Fin 2 → Nat :=
  let c512_i32 : BitVec 32 := 512#32
  let c64_i32 : BitVec 32 := 64#32
  let c0_i32_912 : BitVec 32 := 0#32
  let c1_i32_914 : BitVec 32 := 1#32
  let arg12 : BitVec 32 := Scf.iv c0_i32_912 c1_i32_914 k0_t47
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c512_i32 v2181
  let c0_i32_1254 : BitVec 32 := 0#32
  ![v2184.toNat, 0]
def k0_off269 (v2183 : BitVec 32) : Fin 3 → Nat :=
  let c0_i32_1255 : BitVec 32 := 0#32
  let c0_i32_1256 : BitVec 32 := 0#32
  ![v2183.toNat, 0, 0]

def k0_chk89 (i : grid0.Coords) (v2183 : BitVec 32) : Prop :=
  (∀ (k0_h3 : k0_cond3 i = 1#1), ∀ a, (k0_off269 v2183) a + S1x1x2048.size a ≤ S16384x1x2048.size a)
theorem k0_off269_inb : ∀ (i : grid0.Coords) (v2183 : BitVec 32) (k0_hw89 : k0_chk89 i v2183), ∀ (k0_h3 : k0_cond3 i = 1#1), ∀ a, (k0_off269 v2183) a + S1x1x2048.size a ≤ S16384x1x2048.size a := fun i v2183 k0_hw89 k0_h3 => k0_hw89 k0_h3

def k0_off270 (k0_t47 : Fin k0_t47_loop.trips) : Fin 2 → Nat :=
  let c4_1258 : Index := 4#32
  let c64_i32 : BitVec 32 := 64#32
  let c0_i32_912 : BitVec 32 := 0#32
  let c1_i32_914 : BitVec 32 := 1#32
  let arg12 : BitVec 32 := Scf.iv c0_i32_912 c1_i32_914 k0_t47
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![4, v2191.toNat]
def k0_off271 (k0_t47 : Fin k0_t47_loop.trips) : Fin 2 → Nat :=
  let c512_i32_1259 : BitVec 32 := 512#32
  let c64_i32 : BitVec 32 := 64#32
  let c0_i32_912 : BitVec 32 := 0#32
  let c1_i32_914 : BitVec 32 := 1#32
  let arg12 : BitVec 32 := Scf.iv c0_i32_912 c1_i32_914 k0_t47
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c512_i32_1259 v2190
  let c0_i32_1260 : BitVec 32 := 0#32
  ![v2193.toNat, 0]
def k0_off272 (v2192 : BitVec 32) : Fin 3 → Nat :=
  let c0_i32_1261 : BitVec 32 := 0#32
  let c0_i32_1262 : BitVec 32 := 0#32
  ![v2192.toNat, 0, 0]

def k0_chk90 (i : grid0.Coords) (v2192 : BitVec 32) : Prop :=
  (∀ (k0_h3 : k0_cond3 i = 1#1), ∀ a, (k0_off272 v2192) a + S1x1x2048.size a ≤ S16384x1x2048.size a)
theorem k0_off272_inb : ∀ (i : grid0.Coords) (v2192 : BitVec 32) (k0_hw90 : k0_chk90 i v2192), ∀ (k0_h3 : k0_cond3 i = 1#1), ∀ a, (k0_off272 v2192) a + S1x1x2048.size a ≤ S16384x1x2048.size a := fun i v2192 k0_hw90 k0_h3 => k0_hw90 k0_h3

@[reducible] def k0_t48_loop : Scf.Loop 32 :=
  let c0_i32_997 : BitVec 32 := 0#32
  let c32_i32_998 : BitVec 32 := 32#32
  let v1765 : BitVec 32 := Scalar.addi c0_i32_997 c32_i32_998
  let c1_i32_999 : BitVec 32 := 1#32
  ⟨c0_i32_997, v1765, c1_i32_999⟩
def k0_off273 (k0_t48 : Fin k0_t48_loop.trips) : Fin 2 → Nat :=
  let c5_1253 : Index := 5#32
  let c64_i32 : BitVec 32 := 64#32
  let c0_i32_997 : BitVec 32 := 0#32
  let c1_i32_999 : BitVec 32 := 1#32
  let arg12 : BitVec 32 := Scf.iv c0_i32_997 c1_i32_999 k0_t48
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![5, v2182.toNat]
def k0_off274 (k0_t48 : Fin k0_t48_loop.trips) : Fin 2 → Nat :=
  let c640_i32 : BitVec 32 := 640#32
  let c64_i32 : BitVec 32 := 64#32
  let c0_i32_997 : BitVec 32 := 0#32
  let c1_i32_999 : BitVec 32 := 1#32
  let arg12 : BitVec 32 := Scf.iv c0_i32_997 c1_i32_999 k0_t48
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c640_i32 v2181
  let c0_i32_1254 : BitVec 32 := 0#32
  ![v2184.toNat, 0]
def k0_off275 (v2183 : BitVec 32) : Fin 3 → Nat :=
  let c0_i32_1255 : BitVec 32 := 0#32
  let c0_i32_1256 : BitVec 32 := 0#32
  ![v2183.toNat, 0, 0]

def k0_chk91 (i : grid0.Coords) (v2183 : BitVec 32) : Prop :=
  (∀ (k0_h3 : k0_cond3 i = 1#1), ∀ a, (k0_off275 v2183) a + S1x1x2048.size a ≤ S16384x1x2048.size a)
theorem k0_off275_inb : ∀ (i : grid0.Coords) (v2183 : BitVec 32) (k0_hw91 : k0_chk91 i v2183), ∀ (k0_h3 : k0_cond3 i = 1#1), ∀ a, (k0_off275 v2183) a + S1x1x2048.size a ≤ S16384x1x2048.size a := fun i v2183 k0_hw91 k0_h3 => k0_hw91 k0_h3

def k0_off276 (k0_t48 : Fin k0_t48_loop.trips) : Fin 2 → Nat :=
  let c5_1258 : Index := 5#32
  let c64_i32 : BitVec 32 := 64#32
  let c0_i32_997 : BitVec 32 := 0#32
  let c1_i32_999 : BitVec 32 := 1#32
  let arg12 : BitVec 32 := Scf.iv c0_i32_997 c1_i32_999 k0_t48
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![5, v2191.toNat]
def k0_off277 (k0_t48 : Fin k0_t48_loop.trips) : Fin 2 → Nat :=
  let c640_i32_1259 : BitVec 32 := 640#32
  let c64_i32 : BitVec 32 := 64#32
  let c0_i32_997 : BitVec 32 := 0#32
  let c1_i32_999 : BitVec 32 := 1#32
  let arg12 : BitVec 32 := Scf.iv c0_i32_997 c1_i32_999 k0_t48
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c640_i32_1259 v2190
  let c0_i32_1260 : BitVec 32 := 0#32
  ![v2193.toNat, 0]
def k0_off278 (v2192 : BitVec 32) : Fin 3 → Nat :=
  let c0_i32_1261 : BitVec 32 := 0#32
  let c0_i32_1262 : BitVec 32 := 0#32
  ![v2192.toNat, 0, 0]

def k0_chk92 (i : grid0.Coords) (v2192 : BitVec 32) : Prop :=
  (∀ (k0_h3 : k0_cond3 i = 1#1), ∀ a, (k0_off278 v2192) a + S1x1x2048.size a ≤ S16384x1x2048.size a)
theorem k0_off278_inb : ∀ (i : grid0.Coords) (v2192 : BitVec 32) (k0_hw92 : k0_chk92 i v2192), ∀ (k0_h3 : k0_cond3 i = 1#1), ∀ a, (k0_off278 v2192) a + S1x1x2048.size a ≤ S16384x1x2048.size a := fun i v2192 k0_hw92 k0_h3 => k0_hw92 k0_h3

@[reducible] def k0_t49_loop : Scf.Loop 32 :=
  let c0_i32_1082 : BitVec 32 := 0#32
  let c32_i32_1083 : BitVec 32 := 32#32
  let v1903 : BitVec 32 := Scalar.addi c0_i32_1082 c32_i32_1083
  let c1_i32_1084 : BitVec 32 := 1#32
  ⟨c0_i32_1082, v1903, c1_i32_1084⟩
def k0_off279 (k0_t49 : Fin k0_t49_loop.trips) : Fin 2 → Nat :=
  let c6_1253 : Index := 6#32
  let c64_i32 : BitVec 32 := 64#32
  let c0_i32_1082 : BitVec 32 := 0#32
  let c1_i32_1084 : BitVec 32 := 1#32
  let arg12 : BitVec 32 := Scf.iv c0_i32_1082 c1_i32_1084 k0_t49
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![6, v2182.toNat]
def k0_off280 (k0_t49 : Fin k0_t49_loop.trips) : Fin 2 → Nat :=
  let c768_i32 : BitVec 32 := 768#32
  let c64_i32 : BitVec 32 := 64#32
  let c0_i32_1082 : BitVec 32 := 0#32
  let c1_i32_1084 : BitVec 32 := 1#32
  let arg12 : BitVec 32 := Scf.iv c0_i32_1082 c1_i32_1084 k0_t49
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c768_i32 v2181
  let c0_i32_1254 : BitVec 32 := 0#32
  ![v2184.toNat, 0]
def k0_off281 (v2183 : BitVec 32) : Fin 3 → Nat :=
  let c0_i32_1255 : BitVec 32 := 0#32
  let c0_i32_1256 : BitVec 32 := 0#32
  ![v2183.toNat, 0, 0]

def k0_chk93 (i : grid0.Coords) (v2183 : BitVec 32) : Prop :=
  (∀ (k0_h3 : k0_cond3 i = 1#1), ∀ a, (k0_off281 v2183) a + S1x1x2048.size a ≤ S16384x1x2048.size a)
theorem k0_off281_inb : ∀ (i : grid0.Coords) (v2183 : BitVec 32) (k0_hw93 : k0_chk93 i v2183), ∀ (k0_h3 : k0_cond3 i = 1#1), ∀ a, (k0_off281 v2183) a + S1x1x2048.size a ≤ S16384x1x2048.size a := fun i v2183 k0_hw93 k0_h3 => k0_hw93 k0_h3

def k0_off282 (k0_t49 : Fin k0_t49_loop.trips) : Fin 2 → Nat :=
  let c6_1258 : Index := 6#32
  let c64_i32 : BitVec 32 := 64#32
  let c0_i32_1082 : BitVec 32 := 0#32
  let c1_i32_1084 : BitVec 32 := 1#32
  let arg12 : BitVec 32 := Scf.iv c0_i32_1082 c1_i32_1084 k0_t49
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![6, v2191.toNat]
def k0_off283 (k0_t49 : Fin k0_t49_loop.trips) : Fin 2 → Nat :=
  let c768_i32_1259 : BitVec 32 := 768#32
  let c64_i32 : BitVec 32 := 64#32
  let c0_i32_1082 : BitVec 32 := 0#32
  let c1_i32_1084 : BitVec 32 := 1#32
  let arg12 : BitVec 32 := Scf.iv c0_i32_1082 c1_i32_1084 k0_t49
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c768_i32_1259 v2190
  let c0_i32_1260 : BitVec 32 := 0#32
  ![v2193.toNat, 0]
def k0_off284 (v2192 : BitVec 32) : Fin 3 → Nat :=
  let c0_i32_1261 : BitVec 32 := 0#32
  let c0_i32_1262 : BitVec 32 := 0#32
  ![v2192.toNat, 0, 0]

def k0_chk94 (i : grid0.Coords) (v2192 : BitVec 32) : Prop :=
  (∀ (k0_h3 : k0_cond3 i = 1#1), ∀ a, (k0_off284 v2192) a + S1x1x2048.size a ≤ S16384x1x2048.size a)
theorem k0_off284_inb : ∀ (i : grid0.Coords) (v2192 : BitVec 32) (k0_hw94 : k0_chk94 i v2192), ∀ (k0_h3 : k0_cond3 i = 1#1), ∀ a, (k0_off284 v2192) a + S1x1x2048.size a ≤ S16384x1x2048.size a := fun i v2192 k0_hw94 k0_h3 => k0_hw94 k0_h3

@[reducible] def k0_t50_loop : Scf.Loop 32 :=
  let c0_i32_1167 : BitVec 32 := 0#32
  let c32_i32_1168 : BitVec 32 := 32#32
  let v2041 : BitVec 32 := Scalar.addi c0_i32_1167 c32_i32_1168
  let c1_i32_1169 : BitVec 32 := 1#32
  ⟨c0_i32_1167, v2041, c1_i32_1169⟩
def k0_off285 (k0_t50 : Fin k0_t50_loop.trips) : Fin 2 → Nat :=
  let c7_1253 : Index := 7#32
  let c64_i32 : BitVec 32 := 64#32
  let c0_i32_1167 : BitVec 32 := 0#32
  let c1_i32_1169 : BitVec 32 := 1#32
  let arg12 : BitVec 32 := Scf.iv c0_i32_1167 c1_i32_1169 k0_t50
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![7, v2182.toNat]
def k0_off286 (k0_t50 : Fin k0_t50_loop.trips) : Fin 2 → Nat :=
  let c896_i32 : BitVec 32 := 896#32
  let c64_i32 : BitVec 32 := 64#32
  let c0_i32_1167 : BitVec 32 := 0#32
  let c1_i32_1169 : BitVec 32 := 1#32
  let arg12 : BitVec 32 := Scf.iv c0_i32_1167 c1_i32_1169 k0_t50
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c896_i32 v2181
  let c0_i32_1254 : BitVec 32 := 0#32
  ![v2184.toNat, 0]
def k0_off287 (v2183 : BitVec 32) : Fin 3 → Nat :=
  let c0_i32_1255 : BitVec 32 := 0#32
  let c0_i32_1256 : BitVec 32 := 0#32
  ![v2183.toNat, 0, 0]

def k0_chk95 (i : grid0.Coords) (v2183 : BitVec 32) : Prop :=
  (∀ (k0_h3 : k0_cond3 i = 1#1), ∀ a, (k0_off287 v2183) a + S1x1x2048.size a ≤ S16384x1x2048.size a)
theorem k0_off287_inb : ∀ (i : grid0.Coords) (v2183 : BitVec 32) (k0_hw95 : k0_chk95 i v2183), ∀ (k0_h3 : k0_cond3 i = 1#1), ∀ a, (k0_off287 v2183) a + S1x1x2048.size a ≤ S16384x1x2048.size a := fun i v2183 k0_hw95 k0_h3 => k0_hw95 k0_h3

def k0_off288 (k0_t50 : Fin k0_t50_loop.trips) : Fin 2 → Nat :=
  let c7_1258 : Index := 7#32
  let c64_i32 : BitVec 32 := 64#32
  let c0_i32_1167 : BitVec 32 := 0#32
  let c1_i32_1169 : BitVec 32 := 1#32
  let arg12 : BitVec 32 := Scf.iv c0_i32_1167 c1_i32_1169 k0_t50
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![7, v2191.toNat]
def k0_off289 (k0_t50 : Fin k0_t50_loop.trips) : Fin 2 → Nat :=
  let c896_i32_1259 : BitVec 32 := 896#32
  let c64_i32 : BitVec 32 := 64#32
  let c0_i32_1167 : BitVec 32 := 0#32
  let c1_i32_1169 : BitVec 32 := 1#32
  let arg12 : BitVec 32 := Scf.iv c0_i32_1167 c1_i32_1169 k0_t50
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c896_i32_1259 v2190
  let c0_i32_1260 : BitVec 32 := 0#32
  ![v2193.toNat, 0]
def k0_off290 (v2192 : BitVec 32) : Fin 3 → Nat :=
  let c0_i32_1261 : BitVec 32 := 0#32
  let c0_i32_1262 : BitVec 32 := 0#32
  ![v2192.toNat, 0, 0]

def k0_chk96 (i : grid0.Coords) (v2192 : BitVec 32) : Prop :=
  (∀ (k0_h3 : k0_cond3 i = 1#1), ∀ a, (k0_off290 v2192) a + S1x1x2048.size a ≤ S16384x1x2048.size a)
theorem k0_off290_inb : ∀ (i : grid0.Coords) (v2192 : BitVec 32) (k0_hw96 : k0_chk96 i v2192), ∀ (k0_h3 : k0_cond3 i = 1#1), ∀ a, (k0_off290 v2192) a + S1x1x2048.size a ≤ S16384x1x2048.size a := fun i v2192 k0_hw96 k0_h3 => k0_hw96 k0_h3

def k0_cond4 (i : grid0.Coords) : BitVec 1 :=
  let arg0 : BitVec 32 := BitVec.ofNat 32 (i 0).val
  let c3_i32_15 : BitVec 32 := 3#32
  let c0_i32_16 : BitVec 32 := 0#32
  let v29 : BitVec 1 := Scalar.cmpi .eq c3_i32_15 c0_i32_16
  let c1_i32_17 : BitVec 32 := 1#32
  let v30 : BitVec 32 := Scalar.select v29 c1_i32_17 c3_i32_15
  let v31 : BitVec 32 := Scalar.remsi arg0 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c2_i32 : BitVec 32 := 2#32
  let v39 : BitVec 1 := Scalar.cmpi .eq v38 c2_i32
  let v40 : BitVec 32 := Scalar.extui v39
  let c0_i32_21 : BitVec 32 := 0#32
  let v41 : BitVec 1 := Scalar.cmpi .ne v40 c0_i32_21
  v41

@[reducible] def k0_t51_loop : Scf.Loop 32 :=
  let c0_i32_24 : BitVec 32 := 0#32
  let c1024_i32 : BitVec 32 := 1024#32
  let v45 : BitVec 32 := Scalar.addi c0_i32_24 c1024_i32
  let c1_i32_25 : BitVec 32 := 1#32
  ⟨c0_i32_24, v45, c1_i32_25⟩
def k0_off291 (k0_t51 : Fin k0_t51_loop.trips) : Fin 2 → Nat :=
  let c0_i32_1252 : BitVec 32 := 0#32
  let c0_i32_24 : BitVec 32 := 0#32
  let c1_i32_25 : BitVec 32 := 1#32
  let arg12 : BitVec 32 := Scf.iv c0_i32_24 c1_i32_25 k0_t51
  let c1_i32_1251 : BitVec 32 := 1#32
  let v2179 : BitVec 32 := Scalar.muli arg12 c1_i32_1251
  let v2180 : BitVec 32 := Scalar.addi c0_i32_1252 v2179
  let c0_i32_1254 : BitVec 32 := 0#32
  ![v2180.toNat, 0]
@[reducible] def k0_t52_loop : Scf.Loop 32 :=
  let c0_i32_28 : BitVec 32 := 0#32
  let c32_i32 : BitVec 32 := 32#32
  let v48 : BitVec 32 := Scalar.addi c0_i32_28 c32_i32
  let c1_i32_29 : BitVec 32 := 1#32
  ⟨c0_i32_28, v48, c1_i32_29⟩
def k0_off292 (k0_t52 : Fin k0_t52_loop.trips) : Fin 2 → Nat :=
  let c0_1254 : Index := 0#32
  let c0_i32_1252 : BitVec 32 := 0#32
  let c0_i32_28 : BitVec 32 := 0#32
  let c1_i32_29 : BitVec 32 := 1#32
  let arg12 : BitVec 32 := Scf.iv c0_i32_28 c1_i32_29 k0_t52
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![0, v2182.toNat]
def k0_off293 (k0_t52 : Fin k0_t52_loop.trips) : Fin 2 → Nat :=
  let c0_i32_1255 : BitVec 32 := 0#32
  let c0_i32_1252 : BitVec 32 := 0#32
  let c0_i32_28 : BitVec 32 := 0#32
  let c1_i32_29 : BitVec 32 := 1#32
  let arg12 : BitVec 32 := Scf.iv c0_i32_28 c1_i32_29 k0_t52
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c0_i32_1255 v2181
  let c0_i32_1256 : BitVec 32 := 0#32
  ![v2184.toNat, 0]
def k0_off294 (v2183 : BitVec 32) : Fin 3 → Nat :=
  let c0_i32_1257 : BitVec 32 := 0#32
  let c0_i32_1258 : BitVec 32 := 0#32
  ![v2183.toNat, 0, 0]

def k0_chk97 (i : grid0.Coords) (v2183 : BitVec 32) : Prop :=
  (∀ (k0_h4 : k0_cond4 i = 1#1), ∀ a, (k0_off294 v2183) a + S1x1x2048.size a ≤ S16384x1x2048.size a)
theorem k0_off294_inb : ∀ (i : grid0.Coords) (v2183 : BitVec 32) (k0_hw97 : k0_chk97 i v2183), ∀ (k0_h4 : k0_cond4 i = 1#1), ∀ a, (k0_off294 v2183) a + S1x1x2048.size a ≤ S16384x1x2048.size a := fun i v2183 k0_hw97 k0_h4 => k0_hw97 k0_h4

def k0_off295 (k0_t52 : Fin k0_t52_loop.trips) : Fin 2 → Nat :=
  let c0_1260 : Index := 0#32
  let c0_i32_1252 : BitVec 32 := 0#32
  let c0_i32_28 : BitVec 32 := 0#32
  let c1_i32_29 : BitVec 32 := 1#32
  let arg12 : BitVec 32 := Scf.iv c0_i32_28 c1_i32_29 k0_t52
  let c2_i32_1251 : BitVec 32 := 2#32
  let v2179 : BitVec 32 := Scalar.muli arg12 c2_i32_1251
  let v2180 : BitVec 32 := Scalar.addi c0_i32_1252 v2179
  let c1_i32_1259 : BitVec 32 := 1#32
  let v2190 : BitVec 32 := Scalar.addi v2180 c1_i32_1259
  let v2191 : Index := Scalar.indexCast v2190
  ![0, v2191.toNat]
def k0_off296 (k0_t52 : Fin k0_t52_loop.trips) : Fin 2 → Nat :=
  let c0_i32_1261 : BitVec 32 := 0#32
  let c0_i32_1252 : BitVec 32 := 0#32
  let c0_i32_28 : BitVec 32 := 0#32
  let c1_i32_29 : BitVec 32 := 1#32
  let arg12 : BitVec 32 := Scf.iv c0_i32_28 c1_i32_29 k0_t52
  let c2_i32_1251 : BitVec 32 := 2#32
  let v2179 : BitVec 32 := Scalar.muli arg12 c2_i32_1251
  let v2180 : BitVec 32 := Scalar.addi c0_i32_1252 v2179
  let c1_i32_1259 : BitVec 32 := 1#32
  let v2190 : BitVec 32 := Scalar.addi v2180 c1_i32_1259
  let v2193 : BitVec 32 := Scalar.addi c0_i32_1261 v2190
  let c0_i32_1262 : BitVec 32 := 0#32
  ![v2193.toNat, 0]
def k0_off297 (v2192 : BitVec 32) : Fin 3 → Nat :=
  let c0_i32_1263 : BitVec 32 := 0#32
  let c0_i32_1264 : BitVec 32 := 0#32
  ![v2192.toNat, 0, 0]

def k0_chk98 (i : grid0.Coords) (v2192 : BitVec 32) : Prop :=
  (∀ (k0_h4 : k0_cond4 i = 1#1), ∀ a, (k0_off297 v2192) a + S1x1x2048.size a ≤ S16384x1x2048.size a)
theorem k0_off297_inb : ∀ (i : grid0.Coords) (v2192 : BitVec 32) (k0_hw98 : k0_chk98 i v2192), ∀ (k0_h4 : k0_cond4 i = 1#1), ∀ a, (k0_off297 v2192) a + S1x1x2048.size a ≤ S16384x1x2048.size a := fun i v2192 k0_hw98 k0_h4 => k0_hw98 k0_h4

@[reducible] def k0_t53_loop : Scf.Loop 32 :=
  let c0_i32_80 : BitVec 32 := 0#32
  let c32_i32_81 : BitVec 32 := 32#32
  let v175 : BitVec 32 := Scalar.addi c0_i32_80 c32_i32_81
  let c1_i32_82 : BitVec 32 := 1#32
  ⟨c0_i32_80, v175, c1_i32_82⟩
def k0_off298 (k0_t53 : Fin k0_t53_loop.trips) : Fin 2 → Nat :=
  let c1_1254 : Index := 1#32
  let c0_i32_1252 : BitVec 32 := 0#32
  let c0_i32_80 : BitVec 32 := 0#32
  let c1_i32_82 : BitVec 32 := 1#32
  let arg12 : BitVec 32 := Scf.iv c0_i32_80 c1_i32_82 k0_t53
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![1, v2182.toNat]
def k0_off299 (k0_t53 : Fin k0_t53_loop.trips) : Fin 2 → Nat :=
  let c128_i32 : BitVec 32 := 128#32
  let c0_i32_1252 : BitVec 32 := 0#32
  let c0_i32_80 : BitVec 32 := 0#32
  let c1_i32_82 : BitVec 32 := 1#32
  let arg12 : BitVec 32 := Scf.iv c0_i32_80 c1_i32_82 k0_t53
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c128_i32 v2181
  let c0_i32_1255 : BitVec 32 := 0#32
  ![v2184.toNat, 0]
def k0_off300 (v2183 : BitVec 32) : Fin 3 → Nat :=
  let c0_i32_1256 : BitVec 32 := 0#32
  let c0_i32_1257 : BitVec 32 := 0#32
  ![v2183.toNat, 0, 0]

def k0_chk99 (i : grid0.Coords) (v2183 : BitVec 32) : Prop :=
  (∀ (k0_h4 : k0_cond4 i = 1#1), ∀ a, (k0_off300 v2183) a + S1x1x2048.size a ≤ S16384x1x2048.size a)
theorem k0_off300_inb : ∀ (i : grid0.Coords) (v2183 : BitVec 32) (k0_hw99 : k0_chk99 i v2183), ∀ (k0_h4 : k0_cond4 i = 1#1), ∀ a, (k0_off300 v2183) a + S1x1x2048.size a ≤ S16384x1x2048.size a := fun i v2183 k0_hw99 k0_h4 => k0_hw99 k0_h4

def k0_off301 (k0_t53 : Fin k0_t53_loop.trips) : Fin 2 → Nat :=
  let c1_1259 : Index := 1#32
  let c0_i32_1252 : BitVec 32 := 0#32
  let c0_i32_80 : BitVec 32 := 0#32
  let c1_i32_82 : BitVec 32 := 1#32
  let arg12 : BitVec 32 := Scf.iv c0_i32_80 c1_i32_82 k0_t53
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![1, v2191.toNat]
def k0_off302 (k0_t53 : Fin k0_t53_loop.trips) : Fin 2 → Nat :=
  let c128_i32_1260 : BitVec 32 := 128#32
  let c0_i32_1252 : BitVec 32 := 0#32
  let c0_i32_80 : BitVec 32 := 0#32
  let c1_i32_82 : BitVec 32 := 1#32
  let arg12 : BitVec 32 := Scf.iv c0_i32_80 c1_i32_82 k0_t53
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c128_i32_1260 v2190
  let c0_i32_1261 : BitVec 32 := 0#32
  ![v2193.toNat, 0]
def k0_off303 (v2192 : BitVec 32) : Fin 3 → Nat :=
  let c0_i32_1262 : BitVec 32 := 0#32
  let c0_i32_1263 : BitVec 32 := 0#32
  ![v2192.toNat, 0, 0]

def k0_chk100 (i : grid0.Coords) (v2192 : BitVec 32) : Prop :=
  (∀ (k0_h4 : k0_cond4 i = 1#1), ∀ a, (k0_off303 v2192) a + S1x1x2048.size a ≤ S16384x1x2048.size a)
theorem k0_off303_inb : ∀ (i : grid0.Coords) (v2192 : BitVec 32) (k0_hw100 : k0_chk100 i v2192), ∀ (k0_h4 : k0_cond4 i = 1#1), ∀ a, (k0_off303 v2192) a + S1x1x2048.size a ≤ S16384x1x2048.size a := fun i v2192 k0_hw100 k0_h4 => k0_hw100 k0_h4

@[reducible] def k0_t54_loop : Scf.Loop 32 :=
  let c0_i32_150 : BitVec 32 := 0#32
  let c32_i32_151 : BitVec 32 := 32#32
  let v302 : BitVec 32 := Scalar.addi c0_i32_150 c32_i32_151
  let c1_i32_152 : BitVec 32 := 1#32
  ⟨c0_i32_150, v302, c1_i32_152⟩
def k0_off304 (k0_t54 : Fin k0_t54_loop.trips) : Fin 2 → Nat :=
  let c2_1254 : Index := 2#32
  let c0_i32_1252 : BitVec 32 := 0#32
  let c0_i32_150 : BitVec 32 := 0#32
  let c1_i32_152 : BitVec 32 := 1#32
  let arg12 : BitVec 32 := Scf.iv c0_i32_150 c1_i32_152 k0_t54
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![2, v2182.toNat]
def k0_off305 (k0_t54 : Fin k0_t54_loop.trips) : Fin 2 → Nat :=
  let c256_i32 : BitVec 32 := 256#32
  let c0_i32_1252 : BitVec 32 := 0#32
  let c0_i32_150 : BitVec 32 := 0#32
  let c1_i32_152 : BitVec 32 := 1#32
  let arg12 : BitVec 32 := Scf.iv c0_i32_150 c1_i32_152 k0_t54
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c256_i32 v2181
  let c0_i32_1255 : BitVec 32 := 0#32
  ![v2184.toNat, 0]
def k0_off306 (v2183 : BitVec 32) : Fin 3 → Nat :=
  let c0_i32_1256 : BitVec 32 := 0#32
  let c0_i32_1257 : BitVec 32 := 0#32
  ![v2183.toNat, 0, 0]

def k0_chk101 (i : grid0.Coords) (v2183 : BitVec 32) : Prop :=
  (∀ (k0_h4 : k0_cond4 i = 1#1), ∀ a, (k0_off306 v2183) a + S1x1x2048.size a ≤ S16384x1x2048.size a)
theorem k0_off306_inb : ∀ (i : grid0.Coords) (v2183 : BitVec 32) (k0_hw101 : k0_chk101 i v2183), ∀ (k0_h4 : k0_cond4 i = 1#1), ∀ a, (k0_off306 v2183) a + S1x1x2048.size a ≤ S16384x1x2048.size a := fun i v2183 k0_hw101 k0_h4 => k0_hw101 k0_h4

def k0_off307 (k0_t54 : Fin k0_t54_loop.trips) : Fin 2 → Nat :=
  let c2_1259 : Index := 2#32
  let c0_i32_1252 : BitVec 32 := 0#32
  let c0_i32_150 : BitVec 32 := 0#32
  let c1_i32_152 : BitVec 32 := 1#32
  let arg12 : BitVec 32 := Scf.iv c0_i32_150 c1_i32_152 k0_t54
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![2, v2191.toNat]
def k0_off308 (k0_t54 : Fin k0_t54_loop.trips) : Fin 2 → Nat :=
  let c256_i32_1260 : BitVec 32 := 256#32
  let c0_i32_1252 : BitVec 32 := 0#32
  let c0_i32_150 : BitVec 32 := 0#32
  let c1_i32_152 : BitVec 32 := 1#32
  let arg12 : BitVec 32 := Scf.iv c0_i32_150 c1_i32_152 k0_t54
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c256_i32_1260 v2190
  let c0_i32_1261 : BitVec 32 := 0#32
  ![v2193.toNat, 0]
def k0_off309 (v2192 : BitVec 32) : Fin 3 → Nat :=
  let c0_i32_1262 : BitVec 32 := 0#32
  let c0_i32_1263 : BitVec 32 := 0#32
  ![v2192.toNat, 0, 0]

def k0_chk102 (i : grid0.Coords) (v2192 : BitVec 32) : Prop :=
  (∀ (k0_h4 : k0_cond4 i = 1#1), ∀ a, (k0_off309 v2192) a + S1x1x2048.size a ≤ S16384x1x2048.size a)
theorem k0_off309_inb : ∀ (i : grid0.Coords) (v2192 : BitVec 32) (k0_hw102 : k0_chk102 i v2192), ∀ (k0_h4 : k0_cond4 i = 1#1), ∀ a, (k0_off309 v2192) a + S1x1x2048.size a ≤ S16384x1x2048.size a := fun i v2192 k0_hw102 k0_h4 => k0_hw102 k0_h4

@[reducible] def k0_t55_loop : Scf.Loop 32 :=
  let c0_i32_220 : BitVec 32 := 0#32
  let c32_i32_221 : BitVec 32 := 32#32
  let v429 : BitVec 32 := Scalar.addi c0_i32_220 c32_i32_221
  let c1_i32_222 : BitVec 32 := 1#32
  ⟨c0_i32_220, v429, c1_i32_222⟩
def k0_off310 (k0_t55 : Fin k0_t55_loop.trips) : Fin 2 → Nat :=
  let c3_1254 : Index := 3#32
  let c0_i32_1252 : BitVec 32 := 0#32
  let c0_i32_220 : BitVec 32 := 0#32
  let c1_i32_222 : BitVec 32 := 1#32
  let arg12 : BitVec 32 := Scf.iv c0_i32_220 c1_i32_222 k0_t55
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![3, v2182.toNat]
def k0_off311 (k0_t55 : Fin k0_t55_loop.trips) : Fin 2 → Nat :=
  let c384_i32 : BitVec 32 := 384#32
  let c0_i32_1252 : BitVec 32 := 0#32
  let c0_i32_220 : BitVec 32 := 0#32
  let c1_i32_222 : BitVec 32 := 1#32
  let arg12 : BitVec 32 := Scf.iv c0_i32_220 c1_i32_222 k0_t55
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c384_i32 v2181
  let c0_i32_1255 : BitVec 32 := 0#32
  ![v2184.toNat, 0]
def k0_off312 (v2183 : BitVec 32) : Fin 3 → Nat :=
  let c0_i32_1256 : BitVec 32 := 0#32
  let c0_i32_1257 : BitVec 32 := 0#32
  ![v2183.toNat, 0, 0]

def k0_chk103 (i : grid0.Coords) (v2183 : BitVec 32) : Prop :=
  (∀ (k0_h4 : k0_cond4 i = 1#1), ∀ a, (k0_off312 v2183) a + S1x1x2048.size a ≤ S16384x1x2048.size a)
theorem k0_off312_inb : ∀ (i : grid0.Coords) (v2183 : BitVec 32) (k0_hw103 : k0_chk103 i v2183), ∀ (k0_h4 : k0_cond4 i = 1#1), ∀ a, (k0_off312 v2183) a + S1x1x2048.size a ≤ S16384x1x2048.size a := fun i v2183 k0_hw103 k0_h4 => k0_hw103 k0_h4

def k0_off313 (k0_t55 : Fin k0_t55_loop.trips) : Fin 2 → Nat :=
  let c3_1259 : Index := 3#32
  let c0_i32_1252 : BitVec 32 := 0#32
  let c0_i32_220 : BitVec 32 := 0#32
  let c1_i32_222 : BitVec 32 := 1#32
  let arg12 : BitVec 32 := Scf.iv c0_i32_220 c1_i32_222 k0_t55
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![3, v2191.toNat]
def k0_off314 (k0_t55 : Fin k0_t55_loop.trips) : Fin 2 → Nat :=
  let c384_i32_1260 : BitVec 32 := 384#32
  let c0_i32_1252 : BitVec 32 := 0#32
  let c0_i32_220 : BitVec 32 := 0#32
  let c1_i32_222 : BitVec 32 := 1#32
  let arg12 : BitVec 32 := Scf.iv c0_i32_220 c1_i32_222 k0_t55
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c384_i32_1260 v2190
  let c0_i32_1261 : BitVec 32 := 0#32
  ![v2193.toNat, 0]
def k0_off315 (v2192 : BitVec 32) : Fin 3 → Nat :=
  let c0_i32_1262 : BitVec 32 := 0#32
  let c0_i32_1263 : BitVec 32 := 0#32
  ![v2192.toNat, 0, 0]

def k0_chk104 (i : grid0.Coords) (v2192 : BitVec 32) : Prop :=
  (∀ (k0_h4 : k0_cond4 i = 1#1), ∀ a, (k0_off315 v2192) a + S1x1x2048.size a ≤ S16384x1x2048.size a)
theorem k0_off315_inb : ∀ (i : grid0.Coords) (v2192 : BitVec 32) (k0_hw104 : k0_chk104 i v2192), ∀ (k0_h4 : k0_cond4 i = 1#1), ∀ a, (k0_off315 v2192) a + S1x1x2048.size a ≤ S16384x1x2048.size a := fun i v2192 k0_hw104 k0_h4 => k0_hw104 k0_h4

@[reducible] def k0_t56_loop : Scf.Loop 32 :=
  let c0_i32_290 : BitVec 32 := 0#32
  let c32_i32_291 : BitVec 32 := 32#32
  let v556 : BitVec 32 := Scalar.addi c0_i32_290 c32_i32_291
  let c1_i32_292 : BitVec 32 := 1#32
  ⟨c0_i32_290, v556, c1_i32_292⟩
def k0_off316 (k0_t56 : Fin k0_t56_loop.trips) : Fin 2 → Nat :=
  let c4_1254 : Index := 4#32
  let c0_i32_1252 : BitVec 32 := 0#32
  let c0_i32_290 : BitVec 32 := 0#32
  let c1_i32_292 : BitVec 32 := 1#32
  let arg12 : BitVec 32 := Scf.iv c0_i32_290 c1_i32_292 k0_t56
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![4, v2182.toNat]
def k0_off317 (k0_t56 : Fin k0_t56_loop.trips) : Fin 2 → Nat :=
  let c512_i32 : BitVec 32 := 512#32
  let c0_i32_1252 : BitVec 32 := 0#32
  let c0_i32_290 : BitVec 32 := 0#32
  let c1_i32_292 : BitVec 32 := 1#32
  let arg12 : BitVec 32 := Scf.iv c0_i32_290 c1_i32_292 k0_t56
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c512_i32 v2181
  let c0_i32_1255 : BitVec 32 := 0#32
  ![v2184.toNat, 0]
def k0_off318 (v2183 : BitVec 32) : Fin 3 → Nat :=
  let c0_i32_1256 : BitVec 32 := 0#32
  let c0_i32_1257 : BitVec 32 := 0#32
  ![v2183.toNat, 0, 0]

def k0_chk105 (i : grid0.Coords) (v2183 : BitVec 32) : Prop :=
  (∀ (k0_h4 : k0_cond4 i = 1#1), ∀ a, (k0_off318 v2183) a + S1x1x2048.size a ≤ S16384x1x2048.size a)
theorem k0_off318_inb : ∀ (i : grid0.Coords) (v2183 : BitVec 32) (k0_hw105 : k0_chk105 i v2183), ∀ (k0_h4 : k0_cond4 i = 1#1), ∀ a, (k0_off318 v2183) a + S1x1x2048.size a ≤ S16384x1x2048.size a := fun i v2183 k0_hw105 k0_h4 => k0_hw105 k0_h4

def k0_off319 (k0_t56 : Fin k0_t56_loop.trips) : Fin 2 → Nat :=
  let c4_1259 : Index := 4#32
  let c0_i32_1252 : BitVec 32 := 0#32
  let c0_i32_290 : BitVec 32 := 0#32
  let c1_i32_292 : BitVec 32 := 1#32
  let arg12 : BitVec 32 := Scf.iv c0_i32_290 c1_i32_292 k0_t56
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![4, v2191.toNat]
def k0_off320 (k0_t56 : Fin k0_t56_loop.trips) : Fin 2 → Nat :=
  let c512_i32_1260 : BitVec 32 := 512#32
  let c0_i32_1252 : BitVec 32 := 0#32
  let c0_i32_290 : BitVec 32 := 0#32
  let c1_i32_292 : BitVec 32 := 1#32
  let arg12 : BitVec 32 := Scf.iv c0_i32_290 c1_i32_292 k0_t56
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c512_i32_1260 v2190
  let c0_i32_1261 : BitVec 32 := 0#32
  ![v2193.toNat, 0]
def k0_off321 (v2192 : BitVec 32) : Fin 3 → Nat :=
  let c0_i32_1262 : BitVec 32 := 0#32
  let c0_i32_1263 : BitVec 32 := 0#32
  ![v2192.toNat, 0, 0]

def k0_chk106 (i : grid0.Coords) (v2192 : BitVec 32) : Prop :=
  (∀ (k0_h4 : k0_cond4 i = 1#1), ∀ a, (k0_off321 v2192) a + S1x1x2048.size a ≤ S16384x1x2048.size a)
theorem k0_off321_inb : ∀ (i : grid0.Coords) (v2192 : BitVec 32) (k0_hw106 : k0_chk106 i v2192), ∀ (k0_h4 : k0_cond4 i = 1#1), ∀ a, (k0_off321 v2192) a + S1x1x2048.size a ≤ S16384x1x2048.size a := fun i v2192 k0_hw106 k0_h4 => k0_hw106 k0_h4

@[reducible] def k0_t57_loop : Scf.Loop 32 :=
  let c0_i32_359 : BitVec 32 := 0#32
  let c32_i32_360 : BitVec 32 := 32#32
  let v683 : BitVec 32 := Scalar.addi c0_i32_359 c32_i32_360
  let c1_i32_361 : BitVec 32 := 1#32
  ⟨c0_i32_359, v683, c1_i32_361⟩
def k0_off322 (k0_t57 : Fin k0_t57_loop.trips) : Fin 2 → Nat :=
  let c5_1254 : Index := 5#32
  let c0_i32_1252 : BitVec 32 := 0#32
  let c0_i32_359 : BitVec 32 := 0#32
  let c1_i32_361 : BitVec 32 := 1#32
  let arg12 : BitVec 32 := Scf.iv c0_i32_359 c1_i32_361 k0_t57
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![5, v2182.toNat]
def k0_off323 (k0_t57 : Fin k0_t57_loop.trips) : Fin 2 → Nat :=
  let c640_i32 : BitVec 32 := 640#32
  let c0_i32_1252 : BitVec 32 := 0#32
  let c0_i32_359 : BitVec 32 := 0#32
  let c1_i32_361 : BitVec 32 := 1#32
  let arg12 : BitVec 32 := Scf.iv c0_i32_359 c1_i32_361 k0_t57
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c640_i32 v2181
  let c0_i32_1255 : BitVec 32 := 0#32
  ![v2184.toNat, 0]
def k0_off324 (v2183 : BitVec 32) : Fin 3 → Nat :=
  let c0_i32_1256 : BitVec 32 := 0#32
  let c0_i32_1257 : BitVec 32 := 0#32
  ![v2183.toNat, 0, 0]

def k0_chk107 (i : grid0.Coords) (v2183 : BitVec 32) : Prop :=
  (∀ (k0_h4 : k0_cond4 i = 1#1), ∀ a, (k0_off324 v2183) a + S1x1x2048.size a ≤ S16384x1x2048.size a)
theorem k0_off324_inb : ∀ (i : grid0.Coords) (v2183 : BitVec 32) (k0_hw107 : k0_chk107 i v2183), ∀ (k0_h4 : k0_cond4 i = 1#1), ∀ a, (k0_off324 v2183) a + S1x1x2048.size a ≤ S16384x1x2048.size a := fun i v2183 k0_hw107 k0_h4 => k0_hw107 k0_h4

def k0_off325 (k0_t57 : Fin k0_t57_loop.trips) : Fin 2 → Nat :=
  let c5_1259 : Index := 5#32
  let c0_i32_1252 : BitVec 32 := 0#32
  let c0_i32_359 : BitVec 32 := 0#32
  let c1_i32_361 : BitVec 32 := 1#32
  let arg12 : BitVec 32 := Scf.iv c0_i32_359 c1_i32_361 k0_t57
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![5, v2191.toNat]
def k0_off326 (k0_t57 : Fin k0_t57_loop.trips) : Fin 2 → Nat :=
  let c640_i32_1260 : BitVec 32 := 640#32
  let c0_i32_1252 : BitVec 32 := 0#32
  let c0_i32_359 : BitVec 32 := 0#32
  let c1_i32_361 : BitVec 32 := 1#32
  let arg12 : BitVec 32 := Scf.iv c0_i32_359 c1_i32_361 k0_t57
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c640_i32_1260 v2190
  let c0_i32_1261 : BitVec 32 := 0#32
  ![v2193.toNat, 0]
def k0_off327 (v2192 : BitVec 32) : Fin 3 → Nat :=
  let c0_i32_1262 : BitVec 32 := 0#32
  let c0_i32_1263 : BitVec 32 := 0#32
  ![v2192.toNat, 0, 0]

def k0_chk108 (i : grid0.Coords) (v2192 : BitVec 32) : Prop :=
  (∀ (k0_h4 : k0_cond4 i = 1#1), ∀ a, (k0_off327 v2192) a + S1x1x2048.size a ≤ S16384x1x2048.size a)
theorem k0_off327_inb : ∀ (i : grid0.Coords) (v2192 : BitVec 32) (k0_hw108 : k0_chk108 i v2192), ∀ (k0_h4 : k0_cond4 i = 1#1), ∀ a, (k0_off327 v2192) a + S1x1x2048.size a ≤ S16384x1x2048.size a := fun i v2192 k0_hw108 k0_h4 => k0_hw108 k0_h4

@[reducible] def k0_t58_loop : Scf.Loop 32 :=
  let c0_i32_428 : BitVec 32 := 0#32
  let c32_i32_429 : BitVec 32 := 32#32
  let v810 : BitVec 32 := Scalar.addi c0_i32_428 c32_i32_429
  let c1_i32_430 : BitVec 32 := 1#32
  ⟨c0_i32_428, v810, c1_i32_430⟩
def k0_off328 (k0_t58 : Fin k0_t58_loop.trips) : Fin 2 → Nat :=
  let c6_1254 : Index := 6#32
  let c0_i32_1252 : BitVec 32 := 0#32
  let c0_i32_428 : BitVec 32 := 0#32
  let c1_i32_430 : BitVec 32 := 1#32
  let arg12 : BitVec 32 := Scf.iv c0_i32_428 c1_i32_430 k0_t58
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![6, v2182.toNat]
def k0_off329 (k0_t58 : Fin k0_t58_loop.trips) : Fin 2 → Nat :=
  let c768_i32 : BitVec 32 := 768#32
  let c0_i32_1252 : BitVec 32 := 0#32
  let c0_i32_428 : BitVec 32 := 0#32
  let c1_i32_430 : BitVec 32 := 1#32
  let arg12 : BitVec 32 := Scf.iv c0_i32_428 c1_i32_430 k0_t58
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c768_i32 v2181
  let c0_i32_1255 : BitVec 32 := 0#32
  ![v2184.toNat, 0]
def k0_off330 (v2183 : BitVec 32) : Fin 3 → Nat :=
  let c0_i32_1256 : BitVec 32 := 0#32
  let c0_i32_1257 : BitVec 32 := 0#32
  ![v2183.toNat, 0, 0]

def k0_chk109 (i : grid0.Coords) (v2183 : BitVec 32) : Prop :=
  (∀ (k0_h4 : k0_cond4 i = 1#1), ∀ a, (k0_off330 v2183) a + S1x1x2048.size a ≤ S16384x1x2048.size a)
theorem k0_off330_inb : ∀ (i : grid0.Coords) (v2183 : BitVec 32) (k0_hw109 : k0_chk109 i v2183), ∀ (k0_h4 : k0_cond4 i = 1#1), ∀ a, (k0_off330 v2183) a + S1x1x2048.size a ≤ S16384x1x2048.size a := fun i v2183 k0_hw109 k0_h4 => k0_hw109 k0_h4

def k0_off331 (k0_t58 : Fin k0_t58_loop.trips) : Fin 2 → Nat :=
  let c6_1259 : Index := 6#32
  let c0_i32_1252 : BitVec 32 := 0#32
  let c0_i32_428 : BitVec 32 := 0#32
  let c1_i32_430 : BitVec 32 := 1#32
  let arg12 : BitVec 32 := Scf.iv c0_i32_428 c1_i32_430 k0_t58
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![6, v2191.toNat]
def k0_off332 (k0_t58 : Fin k0_t58_loop.trips) : Fin 2 → Nat :=
  let c768_i32_1260 : BitVec 32 := 768#32
  let c0_i32_1252 : BitVec 32 := 0#32
  let c0_i32_428 : BitVec 32 := 0#32
  let c1_i32_430 : BitVec 32 := 1#32
  let arg12 : BitVec 32 := Scf.iv c0_i32_428 c1_i32_430 k0_t58
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c768_i32_1260 v2190
  let c0_i32_1261 : BitVec 32 := 0#32
  ![v2193.toNat, 0]
def k0_off333 (v2192 : BitVec 32) : Fin 3 → Nat :=
  let c0_i32_1262 : BitVec 32 := 0#32
  let c0_i32_1263 : BitVec 32 := 0#32
  ![v2192.toNat, 0, 0]

def k0_chk110 (i : grid0.Coords) (v2192 : BitVec 32) : Prop :=
  (∀ (k0_h4 : k0_cond4 i = 1#1), ∀ a, (k0_off333 v2192) a + S1x1x2048.size a ≤ S16384x1x2048.size a)
theorem k0_off333_inb : ∀ (i : grid0.Coords) (v2192 : BitVec 32) (k0_hw110 : k0_chk110 i v2192), ∀ (k0_h4 : k0_cond4 i = 1#1), ∀ a, (k0_off333 v2192) a + S1x1x2048.size a ≤ S16384x1x2048.size a := fun i v2192 k0_hw110 k0_h4 => k0_hw110 k0_h4

@[reducible] def k0_t59_loop : Scf.Loop 32 :=
  let c0_i32_497 : BitVec 32 := 0#32
  let c32_i32_498 : BitVec 32 := 32#32
  let v937 : BitVec 32 := Scalar.addi c0_i32_497 c32_i32_498
  let c1_i32_499 : BitVec 32 := 1#32
  ⟨c0_i32_497, v937, c1_i32_499⟩
def k0_off334 (k0_t59 : Fin k0_t59_loop.trips) : Fin 2 → Nat :=
  let c7_1254 : Index := 7#32
  let c0_i32_1252 : BitVec 32 := 0#32
  let c0_i32_497 : BitVec 32 := 0#32
  let c1_i32_499 : BitVec 32 := 1#32
  let arg12 : BitVec 32 := Scf.iv c0_i32_497 c1_i32_499 k0_t59
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2182 : Index := Scalar.indexCast v2181
  ![7, v2182.toNat]
def k0_off335 (k0_t59 : Fin k0_t59_loop.trips) : Fin 2 → Nat :=
  let c896_i32 : BitVec 32 := 896#32
  let c0_i32_1252 : BitVec 32 := 0#32
  let c0_i32_497 : BitVec 32 := 0#32
  let c1_i32_499 : BitVec 32 := 1#32
  let arg12 : BitVec 32 := Scf.iv c0_i32_497 c1_i32_499 k0_t59
  let c2_i32_1251 : BitVec 32 := 2#32
  let v2179 : BitVec 32 := Scalar.muli arg12 c2_i32_1251
  let v2180 : BitVec 32 := Scalar.addi c0_i32_1252 v2179
  let c0_i32_1253 : BitVec 32 := 0#32
  let v2181 : BitVec 32 := Scalar.addi v2180 c0_i32_1253
  let v2184 : BitVec 32 := Scalar.addi c896_i32 v2181
  let c0_i32_1255 : BitVec 32 := 0#32
  ![v2184.toNat, 0]
def k0_off336 (v2183 : BitVec 32) : Fin 3 → Nat :=
  let c0_i32_1256 : BitVec 32 := 0#32
  let c0_i32_1257 : BitVec 32 := 0#32
  ![v2183.toNat, 0, 0]

def k0_chk111 (i : grid0.Coords) (v2183 : BitVec 32) : Prop :=
  (∀ (k0_h4 : k0_cond4 i = 1#1), ∀ a, (k0_off336 v2183) a + S1x1x2048.size a ≤ S16384x1x2048.size a)
theorem k0_off336_inb : ∀ (i : grid0.Coords) (v2183 : BitVec 32) (k0_hw111 : k0_chk111 i v2183), ∀ (k0_h4 : k0_cond4 i = 1#1), ∀ a, (k0_off336 v2183) a + S1x1x2048.size a ≤ S16384x1x2048.size a := fun i v2183 k0_hw111 k0_h4 => k0_hw111 k0_h4

def k0_off337 (k0_t59 : Fin k0_t59_loop.trips) : Fin 2 → Nat :=
  let c7_1259 : Index := 7#32
  let c0_i32_1252 : BitVec 32 := 0#32
  let c0_i32_497 : BitVec 32 := 0#32
  let c1_i32_499 : BitVec 32 := 1#32
  let arg12 : BitVec 32 := Scf.iv c0_i32_497 c1_i32_499 k0_t59
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2191 : Index := Scalar.indexCast v2190
  ![7, v2191.toNat]
def k0_off338 (k0_t59 : Fin k0_t59_loop.trips) : Fin 2 → Nat :=
  let c896_i32_1260 : BitVec 32 := 896#32
  let c0_i32_1252 : BitVec 32 := 0#32
  let c0_i32_497 : BitVec 32 := 0#32
  let c1_i32_499 : BitVec 32 := 1#32
  let arg12 : BitVec 32 := Scf.iv c0_i32_497 c1_i32_499 k0_t59
  let c2_i32_1251 : BitVec 32 := 2#32
  let v2179 : BitVec 32 := Scalar.muli arg12 c2_i32_1251
  let v2180 : BitVec 32 := Scalar.addi c0_i32_1252 v2179
  let c1_i32_1258 : BitVec 32 := 1#32
  let v2190 : BitVec 32 := Scalar.addi v2180 c1_i32_1258
  let v2193 : BitVec 32 := Scalar.addi c896_i32_1260 v2190
  let c0_i32_1261 : BitVec 32 := 0#32
  ![v2193.toNat, 0]
def k0_off339 (v2192 : BitVec 32) : Fin 3 → Nat :=
  let c0_i32_1262 : BitVec 32 := 0#32
  let c0_i32_1263 : BitVec 32 := 0#32
  ![v2192.toNat, 0, 0]

def k0_chk112 (i : grid0.Coords) (v2192 : BitVec 32) : Prop :=
  (∀ (k0_h4 : k0_cond4 i = 1#1), ∀ a, (k0_off339 v2192) a + S1x1x2048.size a ≤ S16384x1x2048.size a)
theorem k0_off339_inb : ∀ (i : grid0.Coords) (v2192 : BitVec 32) (k0_hw112 : k0_chk112 i v2192), ∀ (k0_h4 : k0_cond4 i = 1#1), ∀ a, (k0_off339 v2192) a + S1x1x2048.size a ≤ S16384x1x2048.size a := fun i v2192 k0_hw112 k0_h4 => k0_hw112 k0_h4

@[reducible] def k0_t60_loop : Scf.Loop 32 :=
  let c0_i32_572 : BitVec 32 := 0#32
  let c32_i32_573 : BitVec 32 := 32#32
  let v1075 : BitVec 32 := Scalar.addi c0_i32_572 c32_i32_573
  let c1_i32_574 : BitVec 32 := 1#32
  ⟨c0_i32_572, v1075, c1_i32_574⟩
def k0_off340 (k0_t60 : Fin k0_t60_loop.trips) : Fin 2 → Nat :=
  let c0_1253 : Index := 0#32
  let c64_i32 : BitVec 32 := 64#32
  let c0_i32_572 : BitVec 32 := 0#32
  let c1_i32_574 : BitVec 32 := 1#32
  let arg12 : BitVec 32 := Scf.iv c0_i32_572 c1_i32_574 k0_t60
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![0, v2182.toNat]
def k0_off341 (k0_t60 : Fin k0_t60_loop.trips) : Fin 2 → Nat :=
  let c0_i32_1254 : BitVec 32 := 0#32
  let c64_i32 : BitVec 32 := 64#32
  let c0_i32_572 : BitVec 32 := 0#32
  let c1_i32_574 : BitVec 32 := 1#32
  let arg12 : BitVec 32 := Scf.iv c0_i32_572 c1_i32_574 k0_t60
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c0_i32_1254 v2181
  let c0_i32_1255 : BitVec 32 := 0#32
  ![v2184.toNat, 0]
def k0_off342 (v2183 : BitVec 32) : Fin 3 → Nat :=
  let c0_i32_1256 : BitVec 32 := 0#32
  let c0_i32_1257 : BitVec 32 := 0#32
  ![v2183.toNat, 0, 0]

def k0_chk113 (i : grid0.Coords) (v2183 : BitVec 32) : Prop :=
  (∀ (k0_h4 : k0_cond4 i = 1#1), ∀ a, (k0_off342 v2183) a + S1x1x2048.size a ≤ S16384x1x2048.size a)
theorem k0_off342_inb : ∀ (i : grid0.Coords) (v2183 : BitVec 32) (k0_hw113 : k0_chk113 i v2183), ∀ (k0_h4 : k0_cond4 i = 1#1), ∀ a, (k0_off342 v2183) a + S1x1x2048.size a ≤ S16384x1x2048.size a := fun i v2183 k0_hw113 k0_h4 => k0_hw113 k0_h4

def k0_off343 (k0_t60 : Fin k0_t60_loop.trips) : Fin 2 → Nat :=
  let c0_1259 : Index := 0#32
  let c64_i32 : BitVec 32 := 64#32
  let c0_i32_572 : BitVec 32 := 0#32
  let c1_i32_574 : BitVec 32 := 1#32
  let arg12 : BitVec 32 := Scf.iv c0_i32_572 c1_i32_574 k0_t60
  let c2_i32_1251 : BitVec 32 := 2#32
  let v2179 : BitVec 32 := Scalar.muli arg12 c2_i32_1251
  let v2180 : BitVec 32 := Scalar.addi c64_i32 v2179
  let c1_i32_1258 : BitVec 32 := 1#32
  let v2190 : BitVec 32 := Scalar.addi v2180 c1_i32_1258
  let v2191 : Index := Scalar.indexCast v2190
  ![0, v2191.toNat]
def k0_off344 (k0_t60 : Fin k0_t60_loop.trips) : Fin 2 → Nat :=
  let c0_i32_1260 : BitVec 32 := 0#32
  let c64_i32 : BitVec 32 := 64#32
  let c0_i32_572 : BitVec 32 := 0#32
  let c1_i32_574 : BitVec 32 := 1#32
  let arg12 : BitVec 32 := Scf.iv c0_i32_572 c1_i32_574 k0_t60
  let c2_i32_1251 : BitVec 32 := 2#32
  let v2179 : BitVec 32 := Scalar.muli arg12 c2_i32_1251
  let v2180 : BitVec 32 := Scalar.addi c64_i32 v2179
  let c1_i32_1258 : BitVec 32 := 1#32
  let v2190 : BitVec 32 := Scalar.addi v2180 c1_i32_1258
  let v2193 : BitVec 32 := Scalar.addi c0_i32_1260 v2190
  let c0_i32_1261 : BitVec 32 := 0#32
  ![v2193.toNat, 0]
def k0_off345 (v2192 : BitVec 32) : Fin 3 → Nat :=
  let c0_i32_1262 : BitVec 32 := 0#32
  let c0_i32_1263 : BitVec 32 := 0#32
  ![v2192.toNat, 0, 0]

def k0_chk114 (i : grid0.Coords) (v2192 : BitVec 32) : Prop :=
  (∀ (k0_h4 : k0_cond4 i = 1#1), ∀ a, (k0_off345 v2192) a + S1x1x2048.size a ≤ S16384x1x2048.size a)
theorem k0_off345_inb : ∀ (i : grid0.Coords) (v2192 : BitVec 32) (k0_hw114 : k0_chk114 i v2192), ∀ (k0_h4 : k0_cond4 i = 1#1), ∀ a, (k0_off345 v2192) a + S1x1x2048.size a ≤ S16384x1x2048.size a := fun i v2192 k0_hw114 k0_h4 => k0_hw114 k0_h4

@[reducible] def k0_t61_loop : Scf.Loop 32 :=
  let c0_i32_657 : BitVec 32 := 0#32
  let c32_i32_658 : BitVec 32 := 32#32
  let v1213 : BitVec 32 := Scalar.addi c0_i32_657 c32_i32_658
  let c1_i32_659 : BitVec 32 := 1#32
  ⟨c0_i32_657, v1213, c1_i32_659⟩
def k0_off346 (k0_t61 : Fin k0_t61_loop.trips) : Fin 2 → Nat :=
  let c1_1253 : Index := 1#32
  let c64_i32 : BitVec 32 := 64#32
  let c0_i32_657 : BitVec 32 := 0#32
  let c1_i32_659 : BitVec 32 := 1#32
  let arg12 : BitVec 32 := Scf.iv c0_i32_657 c1_i32_659 k0_t61
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![1, v2182.toNat]
def k0_off347 (k0_t61 : Fin k0_t61_loop.trips) : Fin 2 → Nat :=
  let c128_i32 : BitVec 32 := 128#32
  let c64_i32 : BitVec 32 := 64#32
  let c0_i32_657 : BitVec 32 := 0#32
  let c1_i32_659 : BitVec 32 := 1#32
  let arg12 : BitVec 32 := Scf.iv c0_i32_657 c1_i32_659 k0_t61
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c128_i32 v2181
  let c0_i32_1254 : BitVec 32 := 0#32
  ![v2184.toNat, 0]
def k0_off348 (v2183 : BitVec 32) : Fin 3 → Nat :=
  let c0_i32_1255 : BitVec 32 := 0#32
  let c0_i32_1256 : BitVec 32 := 0#32
  ![v2183.toNat, 0, 0]

def k0_chk115 (i : grid0.Coords) (v2183 : BitVec 32) : Prop :=
  (∀ (k0_h4 : k0_cond4 i = 1#1), ∀ a, (k0_off348 v2183) a + S1x1x2048.size a ≤ S16384x1x2048.size a)
theorem k0_off348_inb : ∀ (i : grid0.Coords) (v2183 : BitVec 32) (k0_hw115 : k0_chk115 i v2183), ∀ (k0_h4 : k0_cond4 i = 1#1), ∀ a, (k0_off348 v2183) a + S1x1x2048.size a ≤ S16384x1x2048.size a := fun i v2183 k0_hw115 k0_h4 => k0_hw115 k0_h4

def k0_off349 (k0_t61 : Fin k0_t61_loop.trips) : Fin 2 → Nat :=
  let c1_1258 : Index := 1#32
  let c64_i32 : BitVec 32 := 64#32
  let c0_i32_657 : BitVec 32 := 0#32
  let c1_i32_659 : BitVec 32 := 1#32
  let arg12 : BitVec 32 := Scf.iv c0_i32_657 c1_i32_659 k0_t61
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![1, v2191.toNat]
def k0_off350 (k0_t61 : Fin k0_t61_loop.trips) : Fin 2 → Nat :=
  let c128_i32_1259 : BitVec 32 := 128#32
  let c64_i32 : BitVec 32 := 64#32
  let c0_i32_657 : BitVec 32 := 0#32
  let c1_i32_659 : BitVec 32 := 1#32
  let arg12 : BitVec 32 := Scf.iv c0_i32_657 c1_i32_659 k0_t61
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c128_i32_1259 v2190
  let c0_i32_1260 : BitVec 32 := 0#32
  ![v2193.toNat, 0]
def k0_off351 (v2192 : BitVec 32) : Fin 3 → Nat :=
  let c0_i32_1261 : BitVec 32 := 0#32
  let c0_i32_1262 : BitVec 32 := 0#32
  ![v2192.toNat, 0, 0]

def k0_chk116 (i : grid0.Coords) (v2192 : BitVec 32) : Prop :=
  (∀ (k0_h4 : k0_cond4 i = 1#1), ∀ a, (k0_off351 v2192) a + S1x1x2048.size a ≤ S16384x1x2048.size a)
theorem k0_off351_inb : ∀ (i : grid0.Coords) (v2192 : BitVec 32) (k0_hw116 : k0_chk116 i v2192), ∀ (k0_h4 : k0_cond4 i = 1#1), ∀ a, (k0_off351 v2192) a + S1x1x2048.size a ≤ S16384x1x2048.size a := fun i v2192 k0_hw116 k0_h4 => k0_hw116 k0_h4

@[reducible] def k0_t62_loop : Scf.Loop 32 :=
  let c0_i32_742 : BitVec 32 := 0#32
  let c32_i32_743 : BitVec 32 := 32#32
  let v1351 : BitVec 32 := Scalar.addi c0_i32_742 c32_i32_743
  let c1_i32_744 : BitVec 32 := 1#32
  ⟨c0_i32_742, v1351, c1_i32_744⟩
def k0_off352 (k0_t62 : Fin k0_t62_loop.trips) : Fin 2 → Nat :=
  let c2_1253 : Index := 2#32
  let c64_i32 : BitVec 32 := 64#32
  let c0_i32_742 : BitVec 32 := 0#32
  let c1_i32_744 : BitVec 32 := 1#32
  let arg12 : BitVec 32 := Scf.iv c0_i32_742 c1_i32_744 k0_t62
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![2, v2182.toNat]
def k0_off353 (k0_t62 : Fin k0_t62_loop.trips) : Fin 2 → Nat :=
  let c256_i32 : BitVec 32 := 256#32
  let c64_i32 : BitVec 32 := 64#32
  let c0_i32_742 : BitVec 32 := 0#32
  let c1_i32_744 : BitVec 32 := 1#32
  let arg12 : BitVec 32 := Scf.iv c0_i32_742 c1_i32_744 k0_t62
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c256_i32 v2181
  let c0_i32_1254 : BitVec 32 := 0#32
  ![v2184.toNat, 0]
def k0_off354 (v2183 : BitVec 32) : Fin 3 → Nat :=
  let c0_i32_1255 : BitVec 32 := 0#32
  let c0_i32_1256 : BitVec 32 := 0#32
  ![v2183.toNat, 0, 0]

def k0_chk117 (i : grid0.Coords) (v2183 : BitVec 32) : Prop :=
  (∀ (k0_h4 : k0_cond4 i = 1#1), ∀ a, (k0_off354 v2183) a + S1x1x2048.size a ≤ S16384x1x2048.size a)
theorem k0_off354_inb : ∀ (i : grid0.Coords) (v2183 : BitVec 32) (k0_hw117 : k0_chk117 i v2183), ∀ (k0_h4 : k0_cond4 i = 1#1), ∀ a, (k0_off354 v2183) a + S1x1x2048.size a ≤ S16384x1x2048.size a := fun i v2183 k0_hw117 k0_h4 => k0_hw117 k0_h4

def k0_off355 (k0_t62 : Fin k0_t62_loop.trips) : Fin 2 → Nat :=
  let c2_1258 : Index := 2#32
  let c64_i32 : BitVec 32 := 64#32
  let c0_i32_742 : BitVec 32 := 0#32
  let c1_i32_744 : BitVec 32 := 1#32
  let arg12 : BitVec 32 := Scf.iv c0_i32_742 c1_i32_744 k0_t62
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![2, v2191.toNat]
def k0_off356 (k0_t62 : Fin k0_t62_loop.trips) : Fin 2 → Nat :=
  let c256_i32_1259 : BitVec 32 := 256#32
  let c64_i32 : BitVec 32 := 64#32
  let c0_i32_742 : BitVec 32 := 0#32
  let c1_i32_744 : BitVec 32 := 1#32
  let arg12 : BitVec 32 := Scf.iv c0_i32_742 c1_i32_744 k0_t62
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c256_i32_1259 v2190
  let c0_i32_1260 : BitVec 32 := 0#32
  ![v2193.toNat, 0]
def k0_off357 (v2192 : BitVec 32) : Fin 3 → Nat :=
  let c0_i32_1261 : BitVec 32 := 0#32
  let c0_i32_1262 : BitVec 32 := 0#32
  ![v2192.toNat, 0, 0]

def k0_chk118 (i : grid0.Coords) (v2192 : BitVec 32) : Prop :=
  (∀ (k0_h4 : k0_cond4 i = 1#1), ∀ a, (k0_off357 v2192) a + S1x1x2048.size a ≤ S16384x1x2048.size a)
theorem k0_off357_inb : ∀ (i : grid0.Coords) (v2192 : BitVec 32) (k0_hw118 : k0_chk118 i v2192), ∀ (k0_h4 : k0_cond4 i = 1#1), ∀ a, (k0_off357 v2192) a + S1x1x2048.size a ≤ S16384x1x2048.size a := fun i v2192 k0_hw118 k0_h4 => k0_hw118 k0_h4

@[reducible] def k0_t63_loop : Scf.Loop 32 :=
  let c0_i32_827 : BitVec 32 := 0#32
  let c32_i32_828 : BitVec 32 := 32#32
  let v1489 : BitVec 32 := Scalar.addi c0_i32_827 c32_i32_828
  let c1_i32_829 : BitVec 32 := 1#32
  ⟨c0_i32_827, v1489, c1_i32_829⟩
def k0_off358 (k0_t63 : Fin k0_t63_loop.trips) : Fin 2 → Nat :=
  let c3_1253 : Index := 3#32
  let c64_i32 : BitVec 32 := 64#32
  let c0_i32_827 : BitVec 32 := 0#32
  let c1_i32_829 : BitVec 32 := 1#32
  let arg12 : BitVec 32 := Scf.iv c0_i32_827 c1_i32_829 k0_t63
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![3, v2182.toNat]
def k0_off359 (k0_t63 : Fin k0_t63_loop.trips) : Fin 2 → Nat :=
  let c384_i32 : BitVec 32 := 384#32
  let c64_i32 : BitVec 32 := 64#32
  let c0_i32_827 : BitVec 32 := 0#32
  let c1_i32_829 : BitVec 32 := 1#32
  let arg12 : BitVec 32 := Scf.iv c0_i32_827 c1_i32_829 k0_t63
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c384_i32 v2181
  let c0_i32_1254 : BitVec 32 := 0#32
  ![v2184.toNat, 0]
def k0_off360 (v2183 : BitVec 32) : Fin 3 → Nat :=
  let c0_i32_1255 : BitVec 32 := 0#32
  let c0_i32_1256 : BitVec 32 := 0#32
  ![v2183.toNat, 0, 0]

def k0_chk119 (i : grid0.Coords) (v2183 : BitVec 32) : Prop :=
  (∀ (k0_h4 : k0_cond4 i = 1#1), ∀ a, (k0_off360 v2183) a + S1x1x2048.size a ≤ S16384x1x2048.size a)
theorem k0_off360_inb : ∀ (i : grid0.Coords) (v2183 : BitVec 32) (k0_hw119 : k0_chk119 i v2183), ∀ (k0_h4 : k0_cond4 i = 1#1), ∀ a, (k0_off360 v2183) a + S1x1x2048.size a ≤ S16384x1x2048.size a := fun i v2183 k0_hw119 k0_h4 => k0_hw119 k0_h4

def k0_off361 (k0_t63 : Fin k0_t63_loop.trips) : Fin 2 → Nat :=
  let c3_1258 : Index := 3#32
  let c64_i32 : BitVec 32 := 64#32
  let c0_i32_827 : BitVec 32 := 0#32
  let c1_i32_829 : BitVec 32 := 1#32
  let arg12 : BitVec 32 := Scf.iv c0_i32_827 c1_i32_829 k0_t63
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![3, v2191.toNat]
def k0_off362 (k0_t63 : Fin k0_t63_loop.trips) : Fin 2 → Nat :=
  let c384_i32_1259 : BitVec 32 := 384#32
  let c64_i32 : BitVec 32 := 64#32
  let c0_i32_827 : BitVec 32 := 0#32
  let c1_i32_829 : BitVec 32 := 1#32
  let arg12 : BitVec 32 := Scf.iv c0_i32_827 c1_i32_829 k0_t63
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c384_i32_1259 v2190
  let c0_i32_1260 : BitVec 32 := 0#32
  ![v2193.toNat, 0]
def k0_off363 (v2192 : BitVec 32) : Fin 3 → Nat :=
  let c0_i32_1261 : BitVec 32 := 0#32
  let c0_i32_1262 : BitVec 32 := 0#32
  ![v2192.toNat, 0, 0]

def k0_chk120 (i : grid0.Coords) (v2192 : BitVec 32) : Prop :=
  (∀ (k0_h4 : k0_cond4 i = 1#1), ∀ a, (k0_off363 v2192) a + S1x1x2048.size a ≤ S16384x1x2048.size a)
theorem k0_off363_inb : ∀ (i : grid0.Coords) (v2192 : BitVec 32) (k0_hw120 : k0_chk120 i v2192), ∀ (k0_h4 : k0_cond4 i = 1#1), ∀ a, (k0_off363 v2192) a + S1x1x2048.size a ≤ S16384x1x2048.size a := fun i v2192 k0_hw120 k0_h4 => k0_hw120 k0_h4

@[reducible] def k0_t64_loop : Scf.Loop 32 :=
  let c0_i32_912 : BitVec 32 := 0#32
  let c32_i32_913 : BitVec 32 := 32#32
  let v1627 : BitVec 32 := Scalar.addi c0_i32_912 c32_i32_913
  let c1_i32_914 : BitVec 32 := 1#32
  ⟨c0_i32_912, v1627, c1_i32_914⟩
def k0_off364 (k0_t64 : Fin k0_t64_loop.trips) : Fin 2 → Nat :=
  let c4_1253 : Index := 4#32
  let c64_i32 : BitVec 32 := 64#32
  let c0_i32_912 : BitVec 32 := 0#32
  let c1_i32_914 : BitVec 32 := 1#32
  let arg12 : BitVec 32 := Scf.iv c0_i32_912 c1_i32_914 k0_t64
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![4, v2182.toNat]
def k0_off365 (k0_t64 : Fin k0_t64_loop.trips) : Fin 2 → Nat :=
  let c512_i32 : BitVec 32 := 512#32
  let c64_i32 : BitVec 32 := 64#32
  let c0_i32_912 : BitVec 32 := 0#32
  let c1_i32_914 : BitVec 32 := 1#32
  let arg12 : BitVec 32 := Scf.iv c0_i32_912 c1_i32_914 k0_t64
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c512_i32 v2181
  let c0_i32_1254 : BitVec 32 := 0#32
  ![v2184.toNat, 0]
def k0_off366 (v2183 : BitVec 32) : Fin 3 → Nat :=
  let c0_i32_1255 : BitVec 32 := 0#32
  let c0_i32_1256 : BitVec 32 := 0#32
  ![v2183.toNat, 0, 0]

def k0_chk121 (i : grid0.Coords) (v2183 : BitVec 32) : Prop :=
  (∀ (k0_h4 : k0_cond4 i = 1#1), ∀ a, (k0_off366 v2183) a + S1x1x2048.size a ≤ S16384x1x2048.size a)
theorem k0_off366_inb : ∀ (i : grid0.Coords) (v2183 : BitVec 32) (k0_hw121 : k0_chk121 i v2183), ∀ (k0_h4 : k0_cond4 i = 1#1), ∀ a, (k0_off366 v2183) a + S1x1x2048.size a ≤ S16384x1x2048.size a := fun i v2183 k0_hw121 k0_h4 => k0_hw121 k0_h4

def k0_off367 (k0_t64 : Fin k0_t64_loop.trips) : Fin 2 → Nat :=
  let c4_1258 : Index := 4#32
  let c64_i32 : BitVec 32 := 64#32
  let c0_i32_912 : BitVec 32 := 0#32
  let c1_i32_914 : BitVec 32 := 1#32
  let arg12 : BitVec 32 := Scf.iv c0_i32_912 c1_i32_914 k0_t64
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![4, v2191.toNat]
def k0_off368 (k0_t64 : Fin k0_t64_loop.trips) : Fin 2 → Nat :=
  let c512_i32_1259 : BitVec 32 := 512#32
  let c64_i32 : BitVec 32 := 64#32
  let c0_i32_912 : BitVec 32 := 0#32
  let c1_i32_914 : BitVec 32 := 1#32
  let arg12 : BitVec 32 := Scf.iv c0_i32_912 c1_i32_914 k0_t64
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c512_i32_1259 v2190
  let c0_i32_1260 : BitVec 32 := 0#32
  ![v2193.toNat, 0]
def k0_off369 (v2192 : BitVec 32) : Fin 3 → Nat :=
  let c0_i32_1261 : BitVec 32 := 0#32
  let c0_i32_1262 : BitVec 32 := 0#32
  ![v2192.toNat, 0, 0]

def k0_chk122 (i : grid0.Coords) (v2192 : BitVec 32) : Prop :=
  (∀ (k0_h4 : k0_cond4 i = 1#1), ∀ a, (k0_off369 v2192) a + S1x1x2048.size a ≤ S16384x1x2048.size a)
theorem k0_off369_inb : ∀ (i : grid0.Coords) (v2192 : BitVec 32) (k0_hw122 : k0_chk122 i v2192), ∀ (k0_h4 : k0_cond4 i = 1#1), ∀ a, (k0_off369 v2192) a + S1x1x2048.size a ≤ S16384x1x2048.size a := fun i v2192 k0_hw122 k0_h4 => k0_hw122 k0_h4

@[reducible] def k0_t65_loop : Scf.Loop 32 :=
  let c0_i32_997 : BitVec 32 := 0#32
  let c32_i32_998 : BitVec 32 := 32#32
  let v1765 : BitVec 32 := Scalar.addi c0_i32_997 c32_i32_998
  let c1_i32_999 : BitVec 32 := 1#32
  ⟨c0_i32_997, v1765, c1_i32_999⟩
def k0_off370 (k0_t65 : Fin k0_t65_loop.trips) : Fin 2 → Nat :=
  let c5_1253 : Index := 5#32
  let c64_i32 : BitVec 32 := 64#32
  let c0_i32_997 : BitVec 32 := 0#32
  let c1_i32_999 : BitVec 32 := 1#32
  let arg12 : BitVec 32 := Scf.iv c0_i32_997 c1_i32_999 k0_t65
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![5, v2182.toNat]
def k0_off371 (k0_t65 : Fin k0_t65_loop.trips) : Fin 2 → Nat :=
  let c640_i32 : BitVec 32 := 640#32
  let c64_i32 : BitVec 32 := 64#32
  let c0_i32_997 : BitVec 32 := 0#32
  let c1_i32_999 : BitVec 32 := 1#32
  let arg12 : BitVec 32 := Scf.iv c0_i32_997 c1_i32_999 k0_t65
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c640_i32 v2181
  let c0_i32_1254 : BitVec 32 := 0#32
  ![v2184.toNat, 0]
def k0_off372 (v2183 : BitVec 32) : Fin 3 → Nat :=
  let c0_i32_1255 : BitVec 32 := 0#32
  let c0_i32_1256 : BitVec 32 := 0#32
  ![v2183.toNat, 0, 0]

def k0_chk123 (i : grid0.Coords) (v2183 : BitVec 32) : Prop :=
  (∀ (k0_h4 : k0_cond4 i = 1#1), ∀ a, (k0_off372 v2183) a + S1x1x2048.size a ≤ S16384x1x2048.size a)
theorem k0_off372_inb : ∀ (i : grid0.Coords) (v2183 : BitVec 32) (k0_hw123 : k0_chk123 i v2183), ∀ (k0_h4 : k0_cond4 i = 1#1), ∀ a, (k0_off372 v2183) a + S1x1x2048.size a ≤ S16384x1x2048.size a := fun i v2183 k0_hw123 k0_h4 => k0_hw123 k0_h4

def k0_off373 (k0_t65 : Fin k0_t65_loop.trips) : Fin 2 → Nat :=
  let c5_1258 : Index := 5#32
  let c64_i32 : BitVec 32 := 64#32
  let c0_i32_997 : BitVec 32 := 0#32
  let c1_i32_999 : BitVec 32 := 1#32
  let arg12 : BitVec 32 := Scf.iv c0_i32_997 c1_i32_999 k0_t65
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![5, v2191.toNat]
def k0_off374 (k0_t65 : Fin k0_t65_loop.trips) : Fin 2 → Nat :=
  let c640_i32_1259 : BitVec 32 := 640#32
  let c64_i32 : BitVec 32 := 64#32
  let c0_i32_997 : BitVec 32 := 0#32
  let c1_i32_999 : BitVec 32 := 1#32
  let arg12 : BitVec 32 := Scf.iv c0_i32_997 c1_i32_999 k0_t65
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c640_i32_1259 v2190
  let c0_i32_1260 : BitVec 32 := 0#32
  ![v2193.toNat, 0]
def k0_off375 (v2192 : BitVec 32) : Fin 3 → Nat :=
  let c0_i32_1261 : BitVec 32 := 0#32
  let c0_i32_1262 : BitVec 32 := 0#32
  ![v2192.toNat, 0, 0]

def k0_chk124 (i : grid0.Coords) (v2192 : BitVec 32) : Prop :=
  (∀ (k0_h4 : k0_cond4 i = 1#1), ∀ a, (k0_off375 v2192) a + S1x1x2048.size a ≤ S16384x1x2048.size a)
theorem k0_off375_inb : ∀ (i : grid0.Coords) (v2192 : BitVec 32) (k0_hw124 : k0_chk124 i v2192), ∀ (k0_h4 : k0_cond4 i = 1#1), ∀ a, (k0_off375 v2192) a + S1x1x2048.size a ≤ S16384x1x2048.size a := fun i v2192 k0_hw124 k0_h4 => k0_hw124 k0_h4

@[reducible] def k0_t66_loop : Scf.Loop 32 :=
  let c0_i32_1082 : BitVec 32 := 0#32
  let c32_i32_1083 : BitVec 32 := 32#32
  let v1903 : BitVec 32 := Scalar.addi c0_i32_1082 c32_i32_1083
  let c1_i32_1084 : BitVec 32 := 1#32
  ⟨c0_i32_1082, v1903, c1_i32_1084⟩
def k0_off376 (k0_t66 : Fin k0_t66_loop.trips) : Fin 2 → Nat :=
  let c6_1253 : Index := 6#32
  let c64_i32 : BitVec 32 := 64#32
  let c0_i32_1082 : BitVec 32 := 0#32
  let c1_i32_1084 : BitVec 32 := 1#32
  let arg12 : BitVec 32 := Scf.iv c0_i32_1082 c1_i32_1084 k0_t66
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![6, v2182.toNat]
def k0_off377 (k0_t66 : Fin k0_t66_loop.trips) : Fin 2 → Nat :=
  let c768_i32 : BitVec 32 := 768#32
  let c64_i32 : BitVec 32 := 64#32
  let c0_i32_1082 : BitVec 32 := 0#32
  let c1_i32_1084 : BitVec 32 := 1#32
  let arg12 : BitVec 32 := Scf.iv c0_i32_1082 c1_i32_1084 k0_t66
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c768_i32 v2181
  let c0_i32_1254 : BitVec 32 := 0#32
  ![v2184.toNat, 0]
def k0_off378 (v2183 : BitVec 32) : Fin 3 → Nat :=
  let c0_i32_1255 : BitVec 32 := 0#32
  let c0_i32_1256 : BitVec 32 := 0#32
  ![v2183.toNat, 0, 0]

def k0_chk125 (i : grid0.Coords) (v2183 : BitVec 32) : Prop :=
  (∀ (k0_h4 : k0_cond4 i = 1#1), ∀ a, (k0_off378 v2183) a + S1x1x2048.size a ≤ S16384x1x2048.size a)
theorem k0_off378_inb : ∀ (i : grid0.Coords) (v2183 : BitVec 32) (k0_hw125 : k0_chk125 i v2183), ∀ (k0_h4 : k0_cond4 i = 1#1), ∀ a, (k0_off378 v2183) a + S1x1x2048.size a ≤ S16384x1x2048.size a := fun i v2183 k0_hw125 k0_h4 => k0_hw125 k0_h4

def k0_off379 (k0_t66 : Fin k0_t66_loop.trips) : Fin 2 → Nat :=
  let c6_1258 : Index := 6#32
  let c64_i32 : BitVec 32 := 64#32
  let c0_i32_1082 : BitVec 32 := 0#32
  let c1_i32_1084 : BitVec 32 := 1#32
  let arg12 : BitVec 32 := Scf.iv c0_i32_1082 c1_i32_1084 k0_t66
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![6, v2191.toNat]
def k0_off380 (k0_t66 : Fin k0_t66_loop.trips) : Fin 2 → Nat :=
  let c768_i32_1259 : BitVec 32 := 768#32
  let c64_i32 : BitVec 32 := 64#32
  let c0_i32_1082 : BitVec 32 := 0#32
  let c1_i32_1084 : BitVec 32 := 1#32
  let arg12 : BitVec 32 := Scf.iv c0_i32_1082 c1_i32_1084 k0_t66
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c768_i32_1259 v2190
  let c0_i32_1260 : BitVec 32 := 0#32
  ![v2193.toNat, 0]
def k0_off381 (v2192 : BitVec 32) : Fin 3 → Nat :=
  let c0_i32_1261 : BitVec 32 := 0#32
  let c0_i32_1262 : BitVec 32 := 0#32
  ![v2192.toNat, 0, 0]

def k0_chk126 (i : grid0.Coords) (v2192 : BitVec 32) : Prop :=
  (∀ (k0_h4 : k0_cond4 i = 1#1), ∀ a, (k0_off381 v2192) a + S1x1x2048.size a ≤ S16384x1x2048.size a)
theorem k0_off381_inb : ∀ (i : grid0.Coords) (v2192 : BitVec 32) (k0_hw126 : k0_chk126 i v2192), ∀ (k0_h4 : k0_cond4 i = 1#1), ∀ a, (k0_off381 v2192) a + S1x1x2048.size a ≤ S16384x1x2048.size a := fun i v2192 k0_hw126 k0_h4 => k0_hw126 k0_h4

@[reducible] def k0_t67_loop : Scf.Loop 32 :=
  let c0_i32_1167 : BitVec 32 := 0#32
  let c32_i32_1168 : BitVec 32 := 32#32
  let v2041 : BitVec 32 := Scalar.addi c0_i32_1167 c32_i32_1168
  let c1_i32_1169 : BitVec 32 := 1#32
  ⟨c0_i32_1167, v2041, c1_i32_1169⟩
def k0_off382 (k0_t67 : Fin k0_t67_loop.trips) : Fin 2 → Nat :=
  let c7_1253 : Index := 7#32
  let c64_i32 : BitVec 32 := 64#32
  let c0_i32_1167 : BitVec 32 := 0#32
  let c1_i32_1169 : BitVec 32 := 1#32
  let arg12 : BitVec 32 := Scf.iv c0_i32_1167 c1_i32_1169 k0_t67
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2182 : Index := Scalar.indexCast v2181
  ![7, v2182.toNat]
def k0_off383 (k0_t67 : Fin k0_t67_loop.trips) : Fin 2 → Nat :=
  let c896_i32 : BitVec 32 := 896#32
  let c64_i32 : BitVec 32 := 64#32
  let c0_i32_1167 : BitVec 32 := 0#32
  let c1_i32_1169 : BitVec 32 := 1#32
  let arg12 : BitVec 32 := Scf.iv c0_i32_1167 c1_i32_1169 k0_t67
  let c2_i32_1251 : BitVec 32 := 2#32
  let v2179 : BitVec 32 := Scalar.muli arg12 c2_i32_1251
  let v2180 : BitVec 32 := Scalar.addi c64_i32 v2179
  let c0_i32_1252 : BitVec 32 := 0#32
  let v2181 : BitVec 32 := Scalar.addi v2180 c0_i32_1252
  let v2184 : BitVec 32 := Scalar.addi c896_i32 v2181
  let c0_i32_1254 : BitVec 32 := 0#32
  ![v2184.toNat, 0]
def k0_off384 (v2183 : BitVec 32) : Fin 3 → Nat :=
  let c0_i32_1255 : BitVec 32 := 0#32
  let c0_i32_1256 : BitVec 32 := 0#32
  ![v2183.toNat, 0, 0]

def k0_chk127 (i : grid0.Coords) (v2183 : BitVec 32) : Prop :=
  (∀ (k0_h4 : k0_cond4 i = 1#1), ∀ a, (k0_off384 v2183) a + S1x1x2048.size a ≤ S16384x1x2048.size a)
theorem k0_off384_inb : ∀ (i : grid0.Coords) (v2183 : BitVec 32) (k0_hw127 : k0_chk127 i v2183), ∀ (k0_h4 : k0_cond4 i = 1#1), ∀ a, (k0_off384 v2183) a + S1x1x2048.size a ≤ S16384x1x2048.size a := fun i v2183 k0_hw127 k0_h4 => k0_hw127 k0_h4

def k0_off385 (k0_t67 : Fin k0_t67_loop.trips) : Fin 2 → Nat :=
  let c7_1258 : Index := 7#32
  let c64_i32 : BitVec 32 := 64#32
  let c0_i32_1167 : BitVec 32 := 0#32
  let c1_i32_1169 : BitVec 32 := 1#32
  let arg12 : BitVec 32 := Scf.iv c0_i32_1167 c1_i32_1169 k0_t67
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2191 : Index := Scalar.indexCast v2190
  ![7, v2191.toNat]
def k0_off386 (k0_t67 : Fin k0_t67_loop.trips) : Fin 2 → Nat :=
  let c896_i32_1259 : BitVec 32 := 896#32
  let c64_i32 : BitVec 32 := 64#32
  let c0_i32_1167 : BitVec 32 := 0#32
  let c1_i32_1169 : BitVec 32 := 1#32
  let arg12 : BitVec 32 := Scf.iv c0_i32_1167 c1_i32_1169 k0_t67
  let c2_i32_1251 : BitVec 32 := 2#32
  let v2179 : BitVec 32 := Scalar.muli arg12 c2_i32_1251
  let v2180 : BitVec 32 := Scalar.addi c64_i32 v2179
  let c1_i32_1257 : BitVec 32 := 1#32
  let v2190 : BitVec 32 := Scalar.addi v2180 c1_i32_1257
  let v2193 : BitVec 32 := Scalar.addi c896_i32_1259 v2190
  let c0_i32_1260 : BitVec 32 := 0#32
  ![v2193.toNat, 0]
def k0_off387 (v2192 : BitVec 32) : Fin 3 → Nat :=
  let c0_i32_1261 : BitVec 32 := 0#32
  let c0_i32_1262 : BitVec 32 := 0#32
  ![v2192.toNat, 0, 0]

def k0_chk128 (i : grid0.Coords) (v2192 : BitVec 32) : Prop :=
  (∀ (k0_h4 : k0_cond4 i = 1#1), ∀ a, (k0_off387 v2192) a + S1x1x2048.size a ≤ S16384x1x2048.size a)
theorem k0_off387_inb : ∀ (i : grid0.Coords) (v2192 : BitVec 32) (k0_hw128 : k0_chk128 i v2192), ∀ (k0_h4 : k0_cond4 i = 1#1), ∀ a, (k0_off387 v2192) a + S1x1x2048.size a ≤ S16384x1x2048.size a := fun i v2192 k0_hw128 k0_h4 => k0_hw128 k0_h4

def k0_cond5 (i : grid0.Coords) : BitVec 1 :=
  let arg0 : BitVec 32 := BitVec.ofNat 32 (i 0).val
  let c2047_i32 : BitVec 32 := 2047#32
  let v42 : BitVec 1 := Scalar.cmpi .eq arg0 c2047_i32
  let v43 : BitVec 32 := Scalar.extui v42
  let c0_i32_22 : BitVec 32 := 0#32
  let v44 : BitVec 1 := Scalar.cmpi .ne v43 c0_i32_22
  v44

def k0_cond6 (i : grid0.Coords) : BitVec 1 :=
  let arg0 : BitVec 32 := BitVec.ofNat 32 (i 0).val
  let c3_i32_23 : BitVec 32 := 3#32
  let c0_i32_24 : BitVec 32 := 0#32
  let v45 : BitVec 1 := Scalar.cmpi .eq c3_i32_23 c0_i32_24
  let c1_i32_25 : BitVec 32 := 1#32
  let v46 : BitVec 32 := Scalar.select v45 c1_i32_25 c3_i32_23
  let v47 : BitVec 32 := Scalar.remsi arg0 v46
  let c0_i32_27 : BitVec 32 := 0#32
  let v49 : BitVec 1 := Scalar.cmpi .slt v47 c0_i32_27
  let c0_i32_28 : BitVec 32 := 0#32
  let v50 : BitVec 1 := Scalar.cmpi .slt v46 c0_i32_28
  let v51 : BitVec 1 := Scalar.xori v49 v50
  let c0_i32_26 : BitVec 32 := 0#32
  let v48 : BitVec 1 := Scalar.cmpi .ne v47 c0_i32_26
  let v52 : BitVec 1 := Scalar.andi v51 v48
  let v53 : BitVec 32 := Scalar.addi v47 v46
  let v54 : BitVec 32 := Scalar.select v52 v53 v47
  let c0_i32_29 : BitVec 32 := 0#32
  let v55 : BitVec 1 := Scalar.cmpi .eq v54 c0_i32_29
  let v56 : BitVec 32 := Scalar.extui v55
  let c0_i32_30 : BitVec 32 := 0#32
  let v57 : BitVec 1 := Scalar.cmpi .ne v56 c0_i32_30
  v57

@[reducible] def k0_t68_loop : Scf.Loop 32 :=
  let c0_i32_48 : BitVec 32 := 0#32
  let c1024_i32 : BitVec 32 := 1024#32
  let v84 : BitVec 32 := Scalar.addi c0_i32_48 c1024_i32
  let c1_i32_49 : BitVec 32 := 1#32
  ⟨c0_i32_48, v84, c1_i32_49⟩
def k0_off388 (k0_t68 : Fin k0_t68_loop.trips) : Fin 2 → Nat :=
  let c0_i32_57 : BitVec 32 := 0#32
  let c0_i32_48 : BitVec 32 := 0#32
  let c1_i32_49 : BitVec 32 := 1#32
  let arg12 : BitVec 32 := Scf.iv c0_i32_48 c1_i32_49 k0_t68
  let c1_i32_56 : BitVec 32 := 1#32
  let v86 : BitVec 32 := Scalar.muli arg12 c1_i32_56
  let v87 : BitVec 32 := Scalar.addi c0_i32_57 v86
  let c0_i32_59 : BitVec 32 := 0#32
  ![v87.toNat, 0]
@[reducible] def k0_t69_loop : Scf.Loop 32 :=
  let c0_i32_52 : BitVec 32 := 0#32
  let c1024_i32_53 : BitVec 32 := 1024#32
  let v85 : BitVec 32 := Scalar.addi c0_i32_52 c1024_i32_53
  let c1_i32_54 : BitVec 32 := 1#32
  ⟨c0_i32_52, v85, c1_i32_54⟩
def k0_off389 (k0_t69 : Fin k0_t69_loop.trips) : Fin 2 → Nat :=
  let c0_i32_57 : BitVec 32 := 0#32
  let c0_i32_52 : BitVec 32 := 0#32
  let c1_i32_54 : BitVec 32 := 1#32
  let arg12 : BitVec 32 := Scf.iv c0_i32_52 c1_i32_54 k0_t69
  let c1_i32_56 : BitVec 32 := 1#32
  let v86 : BitVec 32 := Scalar.muli arg12 c1_i32_56
  let v87 : BitVec 32 := Scalar.addi c0_i32_57 v86
  let c0_i32_59 : BitVec 32 := 0#32
  ![v87.toNat, 0]
def k0_cond7 (i : grid0.Coords) : BitVec 1 :=
  let arg0 : BitVec 32 := BitVec.ofNat 32 (i 0).val
  let c3_i32_31 : BitVec 32 := 3#32
  let c0_i32_32 : BitVec 32 := 0#32
  let v58 : BitVec 1 := Scalar.cmpi .eq c3_i32_31 c0_i32_32
  let c1_i32_33 : BitVec 32 := 1#32
  let v59 : BitVec 32 := Scalar.select v58 c1_i32_33 c3_i32_31
  let v60 : BitVec 32 := Scalar.remsi arg0 v59
  let c0_i32_35 : BitVec 32 := 0#32
  let v62 : BitVec 1 := Scalar.cmpi .slt v60 c0_i32_35
  let c0_i32_36 : BitVec 32 := 0#32
  let v63 : BitVec 1 := Scalar.cmpi .slt v59 c0_i32_36
  let v64 : BitVec 1 := Scalar.xori v62 v63
  let c0_i32_34 : BitVec 32 := 0#32
  let v61 : BitVec 1 := Scalar.cmpi .ne v60 c0_i32_34
  let v65 : BitVec 1 := Scalar.andi v64 v61
  let v66 : BitVec 32 := Scalar.addi v60 v59
  let v67 : BitVec 32 := Scalar.select v65 v66 v60
  let c1_i32_37 : BitVec 32 := 1#32
  let v68 : BitVec 1 := Scalar.cmpi .eq v67 c1_i32_37
  let v69 : BitVec 32 := Scalar.extui v68
  let c0_i32_38 : BitVec 32 := 0#32
  let v70 : BitVec 1 := Scalar.cmpi .ne v69 c0_i32_38
  v70

@[reducible] def k0_t70_loop : Scf.Loop 32 :=
  let c0_i32_48 : BitVec 32 := 0#32
  let c1024_i32 : BitVec 32 := 1024#32
  let v84 : BitVec 32 := Scalar.addi c0_i32_48 c1024_i32
  let c1_i32_49 : BitVec 32 := 1#32
  ⟨c0_i32_48, v84, c1_i32_49⟩
def k0_off390 (k0_t70 : Fin k0_t70_loop.trips) : Fin 2 → Nat :=
  let c0_i32_57 : BitVec 32 := 0#32
  let c0_i32_48 : BitVec 32 := 0#32
  let c1_i32_49 : BitVec 32 := 1#32
  let arg12 : BitVec 32 := Scf.iv c0_i32_48 c1_i32_49 k0_t70
  let c1_i32_56 : BitVec 32 := 1#32
  let v86 : BitVec 32 := Scalar.muli arg12 c1_i32_56
  let v87 : BitVec 32 := Scalar.addi c0_i32_57 v86
  let c0_i32_59 : BitVec 32 := 0#32
  ![v87.toNat, 0]
@[reducible] def k0_t71_loop : Scf.Loop 32 :=
  let c0_i32_52 : BitVec 32 := 0#32
  let c1024_i32_53 : BitVec 32 := 1024#32
  let v85 : BitVec 32 := Scalar.addi c0_i32_52 c1024_i32_53
  let c1_i32_54 : BitVec 32 := 1#32
  ⟨c0_i32_52, v85, c1_i32_54⟩
def k0_off391 (k0_t71 : Fin k0_t71_loop.trips) : Fin 2 → Nat :=
  let c0_i32_57 : BitVec 32 := 0#32
  let c0_i32_52 : BitVec 32 := 0#32
  let c1_i32_54 : BitVec 32 := 1#32
  let arg12 : BitVec 32 := Scf.iv c0_i32_52 c1_i32_54 k0_t71
  let c1_i32_56 : BitVec 32 := 1#32
  let v86 : BitVec 32 := Scalar.muli arg12 c1_i32_56
  let v87 : BitVec 32 := Scalar.addi c0_i32_57 v86
  let c0_i32_59 : BitVec 32 := 0#32
  ![v87.toNat, 0]
def k0_cond8 (i : grid0.Coords) : BitVec 1 :=
  let arg0 : BitVec 32 := BitVec.ofNat 32 (i 0).val
  let c3_i32_39 : BitVec 32 := 3#32
  let c0_i32_40 : BitVec 32 := 0#32
  let v71 : BitVec 1 := Scalar.cmpi .eq c3_i32_39 c0_i32_40
  let c1_i32_41 : BitVec 32 := 1#32
  let v72 : BitVec 32 := Scalar.select v71 c1_i32_41 c3_i32_39
  let v73 : BitVec 32 := Scalar.remsi arg0 v72
  let c0_i32_43 : BitVec 32 := 0#32
  let v75 : BitVec 1 := Scalar.cmpi .slt v73 c0_i32_43
  let c0_i32_44 : BitVec 32 := 0#32
  let v76 : BitVec 1 := Scalar.cmpi .slt v72 c0_i32_44
  let v77 : BitVec 1 := Scalar.xori v75 v76
  let c0_i32_42 : BitVec 32 := 0#32
  let v74 : BitVec 1 := Scalar.cmpi .ne v73 c0_i32_42
  let v78 : BitVec 1 := Scalar.andi v77 v74
  let v79 : BitVec 32 := Scalar.addi v73 v72
  let v80 : BitVec 32 := Scalar.select v78 v79 v73
  let c2_i32_45 : BitVec 32 := 2#32
  let v81 : BitVec 1 := Scalar.cmpi .eq v80 c2_i32_45
  let v82 : BitVec 32 := Scalar.extui v81
  let c0_i32_46 : BitVec 32 := 0#32
  let v83 : BitVec 1 := Scalar.cmpi .ne v82 c0_i32_46
  v83

@[reducible] def k0_t72_loop : Scf.Loop 32 :=
  let c0_i32_48 : BitVec 32 := 0#32
  let c1024_i32 : BitVec 32 := 1024#32
  let v84 : BitVec 32 := Scalar.addi c0_i32_48 c1024_i32
  let c1_i32_49 : BitVec 32 := 1#32
  ⟨c0_i32_48, v84, c1_i32_49⟩
def k0_off392 (k0_t72 : Fin k0_t72_loop.trips) : Fin 2 → Nat :=
  let c0_i32_57 : BitVec 32 := 0#32
  let c0_i32_48 : BitVec 32 := 0#32
  let c1_i32_49 : BitVec 32 := 1#32
  let arg12 : BitVec 32 := Scf.iv c0_i32_48 c1_i32_49 k0_t72
  let c1_i32_56 : BitVec 32 := 1#32
  let v86 : BitVec 32 := Scalar.muli arg12 c1_i32_56
  let v87 : BitVec 32 := Scalar.addi c0_i32_57 v86
  let c0_i32_59 : BitVec 32 := 0#32
  ![v87.toNat, 0]
@[reducible] def k0_t73_loop : Scf.Loop 32 :=
  let c0_i32_52 : BitVec 32 := 0#32
  let c1024_i32_53 : BitVec 32 := 1024#32
  let v85 : BitVec 32 := Scalar.addi c0_i32_52 c1024_i32_53
  let c1_i32_54 : BitVec 32 := 1#32
  ⟨c0_i32_52, v85, c1_i32_54⟩
def k0_off393 (k0_t73 : Fin k0_t73_loop.trips) : Fin 2 → Nat :=
  let c0_i32_57 : BitVec 32 := 0#32
  let c0_i32_52 : BitVec 32 := 0#32
  let c1_i32_54 : BitVec 32 := 1#32
  let arg12 : BitVec 32 := Scf.iv c0_i32_52 c1_i32_54 k0_t73
  let c1_i32_56 : BitVec 32 := 1#32
  let v86 : BitVec 32 := Scalar.muli arg12 c1_i32_56
  let v87 : BitVec 32 := Scalar.addi c0_i32_57 v86
  let c0_i32_59 : BitVec 32 := 0#32
  ![v87.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c2047_i32 : BitVec 32 := 2047#32
  let v1 : BitVec 32 := Scalar.minsi v0 c2047_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.addi arg0 c2_i32
  let c2047_i32 : BitVec 32 := 2047#32
  let v1 : BitVec 32 := Scalar.minsi v0 c2047_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "s" => some (((Real.sqrt 2)⁻¹ : ℝ) : EReal)
  | _ => none
-- ==== ReferenceIdeal.lean ====
abbrev S16384x2048 : Shape := ⟨2, ![16384, 2048]⟩
abbrev S16384x128 : Shape := ⟨2, ![16384, 128]⟩
abbrev S16384x1x2048 : Shape := ⟨3, ![16384, 1, 2048]⟩
abbrev S_ : Shape := ⟨0, ![]⟩
abbrev S16384x1024 : Shape := ⟨2, ![16384, 1024]⟩
abbrev S16384x128x1 : Shape := ⟨3, ![16384, 128, 1]⟩
abbrev S16384x128x2048 : Shape := ⟨3, ![16384, 128, 2048]⟩

abbrev nBuf : Space → Nat
  | .hbm => 52
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x128, .i32⟩
  | .hbm, ⟨2, _⟩ => ⟨S16384x128, .f32⟩
  | .hbm, ⟨3, _⟩ => ⟨S16384x1x2048, .i32⟩
  | .hbm, ⟨4, _⟩ => ⟨S16384x2048, .i32⟩
  | .hbm, ⟨5, _⟩ => ⟨S_, .i32⟩
  | .hbm, ⟨6, _⟩ => ⟨S16384x2048, .i32⟩
  | .hbm, ⟨7, _⟩ => ⟨S16384x2048, .i32⟩
  | .hbm, ⟨8, _⟩ => ⟨S16384x2048, .f32⟩
  | .hbm, ⟨9, _⟩ => ⟨S_, .i32⟩
  | .hbm, ⟨10, _⟩ => ⟨S16384x2048, .i32⟩
  | .hbm, ⟨11, _⟩ => ⟨S16384x2048, .i32⟩
  | .hbm, ⟨12, _⟩ => ⟨S16384x2048, .f32⟩
  | .hbm, ⟨13, _⟩ => ⟨S16384x1024, .f32⟩
  | .hbm, ⟨14, _⟩ => ⟨S16384x1024, .f32⟩
  | .hbm, ⟨15, _⟩ => ⟨S16384x2048, .f32⟩
  | .hbm, ⟨16, _⟩ => ⟨S16384x1024, .f32⟩
  | .hbm, ⟨17, _⟩ => ⟨S16384x1024, .f32⟩
  | .hbm, ⟨18, _⟩ => ⟨S16384x2048, .f32⟩
  | .hbm, ⟨19, _⟩ => ⟨S_, .i32⟩
  | .hbm, ⟨20, _⟩ => ⟨S16384x128, .i32⟩
  | .hbm, ⟨21, _⟩ => ⟨S16384x128, .i1⟩
  | .hbm, ⟨22, _⟩ => ⟨S_, .i32⟩
  | .hbm, ⟨23, _⟩ => ⟨S16384x128, .i32⟩
  | .hbm, ⟨24, _⟩ => ⟨S16384x128, .i32⟩
  | .hbm, ⟨25, _⟩ => ⟨S16384x128, .i32⟩
  | .hbm, ⟨26, _⟩ => ⟨S16384x128x1, .i32⟩
  | .hbm, ⟨27, _⟩ => ⟨S16384x128x2048, .f32⟩
  | .hbm, ⟨28, _⟩ => ⟨S16384x128, .f32⟩
  | .hbm, ⟨29, _⟩ => ⟨S_, .f32⟩
  | .hbm, ⟨30, _⟩ => ⟨S16384x128, .f32⟩
  | .hbm, ⟨31, _⟩ => ⟨S16384x128, .f32⟩
  | .hbm, ⟨32, _⟩ => ⟨S_, .f32⟩
  | .hbm, ⟨33, _⟩ => ⟨S_, .f32⟩
  | .hbm, ⟨34, _⟩ => ⟨S16384x128, .f32⟩
  | .hbm, ⟨35, _⟩ => ⟨S16384x128, .f32⟩
  | .hbm, ⟨36, _⟩ => ⟨S16384x128, .f32⟩
  | .hbm, ⟨37, _⟩ => ⟨S_, .f32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S16384x128, .f32⟩
  | .hbm, ⟨42, _⟩ => ⟨S_, .i32⟩
  | .hbm, ⟨43, _⟩ => ⟨S16384x128, .i32⟩
  | .hbm, ⟨44, _⟩ => ⟨S16384x128, .i1⟩
  | .hbm, ⟨45, _⟩ => ⟨S_, .i32⟩
  | .hbm, ⟨46, _⟩ => ⟨S16384x128, .i32⟩
  | .hbm, ⟨47, _⟩ => ⟨S16384x128, .i32⟩
  | .hbm, ⟨48, _⟩ => ⟨S16384x128, .i32⟩
  | .hbm, ⟨49, _⟩ => ⟨S16384x128x1, .i32⟩
  | .hbm, ⟨50, _⟩ => ⟨S16384x128x2048, .f32⟩
  | .hbm, ⟨51, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== InProj.lean ====
abbrev S4x4096x2048 : Shape := ⟨3, ![4, 4096, 2048]⟩
abbrev S2048x4624 : Shape := ⟨2, ![2048, 4624]⟩
abbrev S16384x2048 : Shape := ⟨2, ![16384, 2048]⟩
abbrev S2048x4608 : Shape := ⟨2, ![2048, 4608]⟩
abbrev S16384x4608 : Shape := ⟨2, ![16384, 4608]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2048x4624, .f32⟩
  | .hbm, ⟨2, _⟩ => ⟨S16384x2048, .f32⟩
  | .hbm, ⟨3, _⟩ => ⟨S2048x4608, .f32⟩
  | .hbm, ⟨4, _⟩ => ⟨S2048x4608, .bf16⟩
  | .hbm, ⟨5, _⟩ => ⟨S16384x4608, .bf16⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjReferenceIdeal.lean ====
abbrev S4x4096x2048 : Shape := ⟨3, ![4, 4096, 2048]⟩
abbrev S2048x4624 : Shape := ⟨2, ![2048, 4624]⟩
abbrev S4x4096x4624 : Shape := ⟨3, ![4, 4096, 4624]⟩
abbrev S4x4096x4608 : Shape := ⟨3, ![4, 4096, 4608]⟩
abbrev S16384x4608 : Shape := ⟨2, ![16384, 4608]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x4624, .f32⟩
  | .hbm, ⟨2, _⟩ => ⟨S4x4096x4624, .f32⟩
  | .hbm, ⟨3, _⟩ => ⟨S4x4096x4608, .f32⟩
  | .hbm, ⟨4, _⟩ => ⟨S16384x4608, .f32⟩
  | .hbm, ⟨5, _⟩ => ⟨S16384x4608, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PeerQuery.lean ====
abbrev S16384x2048 : Shape := ⟨2, ![16384, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .bf16⟩
  | .hbm, ⟨3, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PeerQueryReferenceIdeal.lean ====
abbrev S16384x2048 : Shape := ⟨2, ![16384, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | .hbm, ⟨3, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MemQuery.lean ====
abbrev S16384x2048 : Shape := ⟨2, ![16384, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .bf16⟩
  | .hbm, ⟨3, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemQueryReferenceIdeal.lean ====
abbrev S16384x2048 : Shape := ⟨2, ![16384, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | .hbm, ⟨3, _⟩ => ⟨S_, .f32⟩
  | .hbm, ⟨4, _⟩ => ⟨S16384x2048, .f32⟩
  | .hbm, ⟨5, _⟩ => ⟨S16384x2048, .f32⟩
  | .hbm, ⟨6, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Attention.lean ====
abbrev S4x4096x1280 : Shape := ⟨3, ![4, 4096, 1280]⟩
abbrev S4x4096x4608 : Shape := ⟨3, ![4, 4096, 4608]⟩
abbrev S4x4096x1024 : Shape := ⟨3, ![4, 4096, 1024]⟩
abbrev S1x256x128 : Shape := ⟨3, ![1, 256, 128]⟩
abbrev S1x4096x128 : Shape := ⟨3, ![1, 4096, 128]⟩
abbrev S256x128 : Shape := ⟨2, ![256, 128]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩

abbrev nBuf : Space → Nat
  | .hbm => 3
  | .vmem => 8
  | .smem => 0
  | _ => 0

abbrev bufTy : (tb : Table) → Fin (tcTables nBuf tb) → BufTy
  | .hbm, ⟨0, _⟩ => ⟨S4x4096x1280, .bf16⟩
  | .hbm, ⟨1, _⟩ => ⟨S4x4096x4608, .bf16⟩
  | .hbm, ⟨2, _⟩ => ⟨S4x4096x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | _, _ => ⟨S4x4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.addi c8_i32 v16
  let c0_i32_4 : BitVec 32 := 0#32
  let c0_i32_5 : BitVec 32 := 0#32
  ![arg0.toNat, c0_i32_4.toNat, v17.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c10_i32 : BitVec 32 := 10#32
  let v17 : BitVec 32 := Scalar.addi c10_i32 v16
  let c0_i32_4 : BitVec 32 := 0#32
  let c0_i32_5 : BitVec 32 := 0#32
  ![arg0.toNat, c0_i32_4.toNat, v17.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttentionReferenceIdeal.lean ====
abbrev S4x4096x1280 : Shape := ⟨3, ![4, 4096, 1280]⟩
abbrev S4x4096x4608 : Shape := ⟨3, ![4, 4096, 4608]⟩
abbrev S4x4096x1024 : Shape := ⟨3, ![4, 4096, 1024]⟩
abbrev S4x4096x2x4x128 : Shape := ⟨5, ![4, 4096, 2, 4, 128]⟩
abbrev S4x4096x256 : Shape := ⟨3, ![4, 4096, 256]⟩
abbrev S4x4096x2x128 : Shape := ⟨4, ![4, 4096, 2, 128]⟩
abbrev S4x2x4096x4096x4 : Shape := ⟨5, ![4, 2, 4096, 4096, 4]⟩
abbrev S4x2x4x4096x4096 : Shape := ⟨5, ![4, 2, 4, 4096, 4096]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x1280, .bf16⟩
  | .hbm, ⟨1, _⟩ => ⟨S4x4096x4608, .bf16⟩
  | .hbm, ⟨2, _⟩ => ⟨S4x4096x1024, .bf16⟩
  | .hbm, ⟨3, _⟩ => ⟨S4x4096x1024, .f32⟩
  | .hbm, ⟨4, _⟩ => ⟨S4x4096x2x4x128, .f32⟩
  | .hbm, ⟨5, _⟩ => ⟨S4x4096x256, .bf16⟩
  | .hbm, ⟨6, _⟩ => ⟨S4x4096x256, .f32⟩
  | .hbm, ⟨7, _⟩ => ⟨S4x4096x2x128, .f32⟩
  | .hbm, ⟨8, _⟩ => ⟨S4x4096x256, .bf16⟩
  | .hbm, ⟨9, _⟩ => ⟨S4x4096x256, .f32⟩
  | .hbm, ⟨10, _⟩ => ⟨S4x4096x2x128, .f32⟩
  | .hbm, ⟨11, _⟩ => ⟨S4x2x4096x4096x4, .f32⟩
  | .hbm, ⟨12, _⟩ => ⟨S4x2x4x4096x4096, .f32⟩
  | .hbm, ⟨13, _⟩ => ⟨S_, .f32⟩
  | .hbm, ⟨14, _⟩ => ⟨S4x2x4x4096, .f32⟩
  | .hbm, ⟨15, _⟩ => ⟨S_, .f32⟩
  | .hbm, ⟨16, _⟩ => ⟨S4x2x4x4096, .f32⟩
  | .hbm, ⟨17, _⟩ => ⟨S4x2x4x4096, .f32⟩
  | .hbm, ⟨18, _⟩ => ⟨S4x2x4x4096x1, .f32⟩
  | .hbm, ⟨19, _⟩ => ⟨S4x2x4x4096x4096, .f32⟩
  | .hbm, ⟨20, _⟩ => ⟨S4x2x4x4096x4096, .f32⟩
  | .hbm, ⟨21, _⟩ => ⟨S4x2x4x4096x4096, .f32⟩
  | .hbm, ⟨22, _⟩ => ⟨S_, .f32⟩
  | .hbm, ⟨23, _⟩ => ⟨S4x2x4x4096, .f32⟩
  | .hbm, ⟨24, _⟩ => ⟨S4x2x4x4096x1, .f32⟩
  | .hbm, ⟨25, _⟩ => ⟨S4x2x4x4096x4096, .f32⟩
  | .hbm, ⟨26, _⟩ => ⟨S4x2x4x4096x4096, .f32⟩
  | .hbm, ⟨27, _⟩ => ⟨S4x2x128x4x4096, .f32⟩
  | .hbm, ⟨28, _⟩ => ⟨S4x4096x2x4x128, .f32⟩
  | .hbm, ⟨29, _⟩ => ⟨S4x4096x1024, .f32⟩
  | .hbm, ⟨30, _⟩ => ⟨S4x4096x1024, .bf16⟩
  | _, _ => ⟨S4x4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== OutProj.lean ====
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S1024x2048 : Shape := ⟨2, ![1024, 2048]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S1024x2048, .bf16⟩
  | .hbm, ⟨8, _⟩ => ⟨S1024x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjReferenceIdeal.lean ====
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S2048, .f32⟩
  | .hbm, ⟨5, _⟩ => ⟨S2048, .f32⟩
  | .hbm, ⟨6, _⟩ => ⟨S16384x1024, .f32⟩
  | .hbm, ⟨7, _⟩ => ⟨S16384x1024, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== MemOut.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S16384x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemOutReferenceIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== LastNorm.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LastNormReferenceIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S1x2048, .f32⟩
  | .hbm, ⟨30, _⟩ => ⟨S16384x2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.Step.lean ====
module

public import proofs.«01_k».proof.Proof.Gen.KernelIdeal
public import Idealize.ShloMosaic.Lib.Tactic

@[expose] public section

noncomputable section

/-! # One grid step's work, written once

The printed body holds the same step three times, at the three rings of row buffers. Here is that step as one program over
the buffers it is given, its eight tokens and eight column chunks by recursion. -/

namespace Cert.KernelIdeal.Step

open Idealize.ShloMosaic Idealize.SL.Sem
open Cert.KernelIdeal Cert.KernelIdeal.Facts₀ Cert.KernelIdeal.Facts

variable {F : FTy → Type} [FloatOps F] [Named F] [Facts]

/-! ## Offsets -/

/-- The counted loop of `n` trips from zero. -/
@[reducible] def upTo (n : ℕ) : Scf.Loop 32 := ⟨0#32, Scalar.addi 0#32 (BitVec.ofNat 32 n), 1#32⟩

/-- The slot that transfer `p` of trip `k` fetches, counted from `lo`. -/
def slot (lo p k : ℕ) : BitVec 32 :=
  Scalar.addi (Scalar.addi (BitVec.ofNat 32 lo) (Scalar.muli (Scf.iv 0#32 1#32 k) 2#32)) (BitVec.ofNat 32 p)

/-- Where that slot's expert number is, in the block of expert numbers. -/
def offE (t lo p k : ℕ) : Fin 2 → ℕ := ![t, (Scalar.indexCast (slot lo p k)).toNat]
/-- The row of the buffer that the slot's expert goes to. -/
def offD (t lo p k : ℕ) : Fin 2 → ℕ := ![(Scalar.addi (BitVec.ofNat 32 (128 * t)) (slot lo p k)).toNat, 0]
/-- The row of the buffer that trip `k` of a wait loop names. -/
def offW (k : ℕ) : Fin 2 → ℕ := ![(Scalar.addi 0#32 (Scalar.muli (Scf.iv 0#32 1#32 k) 1#32)).toNat, 0]

theorem slot_toNat {lo p k : ℕ} (h : lo + 2 * k + p < 128) : (slot lo p k).toNat = lo + 2 * k + p := by
  show (BitVec.ofNat 32 lo + (0#32 + BitVec.ofNat 32 k * 1#32) * 2#32 + BitVec.ofNat 32 p).toNat = _
  simp only [BitVec.toNat_add, BitVec.toNat_mul, BitVec.toNat_ofNat]
  omega

theorem offE_eq {t lo p k : ℕ} (h : lo + 2 * k + p < 128) : offE t lo p k = ![t, lo + 2 * k + p] := by
  unfold offE Scalar.indexCast; rw [slot_toNat h]

theorem offD_eq {t lo p k : ℕ} (ht : t < 8) (h : lo + 2 * k + p < 128) :
    offD t lo p k = ![128 * t + (lo + 2 * k + p), 0] := by
  show ![(BitVec.ofNat 32 (128 * t) + slot lo p k).toNat, 0] = _
  rw [BitVec.toNat_add, slot_toNat h, BitVec.toNat_ofNat]
  congr 1; omega

theorem offW_eq {k : ℕ} (h : k < 1024) : offW k = ![k, 0] := by
  show ![(0#32 + (0#32 + BitVec.ofNat 32 k * 1#32) * 1#32).toNat, 0] = _
  simp only [BitVec.toNat_add, BitVec.toNat_mul, BitVec.toNat_ofNat]
  congr 1; omega

/-- A trip count and a first slot that stay inside a token's 128 slots. -/
structure Span (n lo : ℕ) : Prop where
  ok : (upTo n).OK
  trips : (upTo n).trips = n
  le : lo + 2 * n ≤ 128

theorem span_low : Span 32 0 := ⟨by decide, by decide, by decide⟩
theorem span_high : Span 32 64 := ⟨by decide, by decide, by decide⟩
theorem span_all : Span 64 0 := ⟨by decide, by decide, by decide⟩

theorem Span.lt {n lo p : ℕ} (h : Span n lo) (k : Fin (upTo n).trips) (hp : p < 2) : lo + 2 * k.val + p < 128 := by
  have := lt_of_lt_of_eq k.isLt h.trips; have := h.le; omega

theorem offE_inb {n lo p : ℕ} (h : Span n lo) (t : Fin 8) (hp : p < 2) (k : Fin (upTo n).trips) :
    ∀ a, (offE t lo p k) a + S1x1.size a ≤ S8x128.size a := by
  rw [offE_eq (h.lt k hp)]; have := h.lt k hp; have := t.isLt
  intro a; match a with
  | 0 => show t.val + 1 ≤ 8; omega
  | 1 => show lo + 2 * k.val + p + 1 ≤ 128; omega

theorem offD_inb {n lo p : ℕ} (h : Span n lo) (t : Fin 8) (hp : p < 2) (k : Fin (upTo n).trips) :
    ∀ a, (offD t lo p k) a + S1x2048.size a ≤ S1024x2048.size a := by
  rw [offD_eq t.isLt (h.lt k hp)]; have := h.lt k hp; have := t.isLt
  intro a; match a with
  | 0 => show 128 * t.val + (lo + 2 * k.val + p) + 1 ≤ 1024; omega
  | 1 => show 0 + 2048 ≤ 2048; omega

theorem wait_trips : (upTo 1024).trips = 1024 := by decide
theorem wait_ok : (upTo 1024).OK := by decide

theorem offW_inb (k : Fin (upTo 1024).trips) : ∀ a, (offW k) a + S1x2048.size a ≤ S1024x2048.size a := by
  have hk : k.val < 1024 := lt_of_lt_of_eq k.isLt wait_trips
  rw [offW_eq hk]
  intro a; match a with
  | 0 => show k.val + 1 ≤ 1024; omega
  | 1 => show 0 + 2048 ≤ 2048; omega

theorem row_inb (t : Fin 8) (j : ℕ) (hj : j + 128 ≤ 2048) : ∀ a, (![t.val, j] : Fin 2 → ℕ) a + S1x128.size a ≤ S8x2048.size a := by
  have := t.isLt
  intro a; match a with
  | 0 => show t.val + 1 ≤ 8; omega
  | 1 => exact hj

theorem tile_inb (t : Fin 8) (j : ℕ) (hj : j + 128 ≤ 2048) :
    ∀ a, (![128 * t.val, j] : Fin 2 → ℕ) a + S128x128.size a ≤ S1024x2048.size a := by
  have := t.isLt
  intro a; match a with
  | 0 => show 128 * t.val + 128 ≤ 1024; omega
  | 1 => exact hj

theorem column_slices (t : Fin 8) : S128x8.Slices ![0, t.val] S128x1 := by
  revert t; decide

/-! ## The step's pure values -/

/-- The low halves of packed words, as floats. -/
def lowHalf (w : Vec F S128x128 .i32) : FVec F S128x128 .f32 := bitcastToFloat .f32 (shli w (broadcast S128x128 16#32))
/-- The high halves of packed words, as floats. -/
def highHalf (w : Vec F S128x128 .i32) : FVec F S128x128 .f32 := bitcastToFloat .f32 (andi w (broadcast S128x128 4294901760#32))

/-- One column chunk's products with the token's row. -/
def term (w : Vec F S128x128 .i32) (a b : Vec F S1x128 .f32) : FVec F S128x128 .f32 :=
  addf (mulf (lowHalf w) (broadcastTo S128x128 a broadcasts_S1x128_S128x128))
    (mulf (highHalf w) (broadcastTo S128x128 b broadcasts_S1x128_S128x128))

/-- Token `t`'s column of hidden values set to the lane sums of `acc`. -/
def setColumn (t : ℕ) (h : FVec F S128x8 .f32) (acc : FVec F S128x128 .f32) : FVec F S128x8 .f32 :=
  select (cmpi .eq (iota .tc S128x8 32 [1] iota_S128x8_d1_w32) (broadcast S128x8 (BitVec.ofNat 32 t)))
    (broadcastTo S128x8
      (shapeCast S128x1 (shapeCast S128x1 (multiReduction .add [1] S128 acc 0x00000000#32 reduces_S128x128_S128 (.inl rfl) rfl)
        shapeCasts_S128_S128x1) shapeCasts_S128x1_S128x1) broadcasts_S128x1_S128x8) h

/-- The hidden values through the activation, times the gates. -/
def gated (h : FVec F S128x8 .f32) (g : Vec F S1x128x8 .f32) : FVec F S128x8 .f32 :=
  mulf (mulf (mulf (broadcast S128x8 (Scalar.ofBits .f32 0x3F000000#32)) h)
      (addf (broadcast S128x8 (Scalar.ofBits .f32 0x3F800000#32))
        (erf (mulf h (broadcast S128x8 (Named.named κ "s" 0x3F3504F3#32))))))
    (shapeCast S128x8 g shapeCasts_S1x128x8_S128x8)

/-- A chunk's rows weighted by token `t`'s column and added. -/
def weighted (t : Fin 8) (a : FVec F S128x8 .f32) (w : FVec F S128x128 .f32) : FVec F S1x128 .f32 :=
  shapeCast S1x128 (multiReduction .add [0] S128
    (mulf w (broadcastTo S128x128 (extractStridedSlice S128x1 ![0, t.val] a (column_slices t)) broadcasts_S128x1_S128x128))
    0x00000000#32 reduces_S128x128_S128_2 (.inl rfl) rfl) shapeCasts_S128_S1x128

/-! ## The step's program -/

section Rows

variable (e : Memref sig .tc .smem S8x128 .i32) (tab : Memref sig .tc .hbm S16384x1x2048 .i32)
  (dst : Memref sig .tc .vmem S1024x2048 .i32) (sm : DmaSem sig)
  (chk : BitVec 32 → Prop) (dec : ∀ w, Decidable (chk w))
  (hchk : ∀ w, chk w → ∀ a, (![w.toNat, 0, 0] : Fin 3 → ℕ) a + S1x1x2048.size a ≤ S16384x1x2048.size a)

/-- Expert `w`'s row of the table. -/
abbrev tabRow (w : BitVec 32) (hw : ∀ a, (![w.toNat, 0, 0] : Fin 3 → ℕ) a + S1x1x2048.size a ≤ S16384x1x2048.size a) :
    Memref sig .tc .hbm S1x2048 .i32 :=
  (tab.slice (Rect.unit (s := S16384x1x2048) ![w.toNat, 0, 0] S1x1x2048.size hw) (fun _ => rfl)).squeeze S1x2048
    squeezes_S1x1x2048_S1x2048

/-- One row's transfer: the slot's expert number is read and checked, and its row of the table sent for. -/
def copyRow {n lo : ℕ} (h : Span n lo) (t : Fin 8) (p : ℕ) (hp : p < 2) (k : Fin (upTo n).trips) :
    Prog (TpuEff nD τ sig (Elt F) Λ₀ .tc) PUnit := do
  let w : Elt F .i32 ← smemLoad e (Rect.unit (s := S8x128) (offE t lo p k) S1x1.size (offE_inb h t hp k)) numel1_S1x1 rfl
  have hw : chk w := (← Prog.lift (TpuEff.assume (chk w) (dec w))).down
  Prog.lift (.enqueueDma (tabRow tab w (hchk w hw))
    (.here (dst.slice (Rect.unit (s := S1024x2048) (offD t lo p k) S1x2048.size (offD_inb h t hp k)) (fun _ => rfl)))
    (.dma sm) ((View.wordExact_bits rfl).reshape _ _) (View.wordExact_bits rfl) ⟨Or.inl rfl, trivial⟩)

/-- A trip of an issue loop: two rows. -/
def issueTrip {n lo : ℕ} (h : Span n lo) (t : Fin 8) (k : Fin (upTo n).trips) :
    Prog (TpuEff nD τ sig (Elt F) Λ₀ .tc) Unit := do
  copyRow e tab dst sm chk dec hchk h t 0 (by decide) k
  copyRow e tab dst sm chk dec hchk h t 1 (by decide) k
  pure ⟨⟩

/-- Token `t`'s rows from slot `lo` on, two a trip. -/
def issue {n lo : ℕ} (h : Span n lo) (t : Fin 8) : Prog (TpuEff nD τ sig (Elt F) Λ₀ .tc) Unit :=
  Scf.Loop.for (upTo n) h.ok ⟨⟩ (fun k _ => issueTrip e tab dst sm chk dec hchk h t k)

/-- A trip of a wait loop: one row's wait. -/
def waitTrip (k : Fin (upTo 1024).trips) : Prog (TpuEff nD τ sig (Elt F) Λ₀ .tc) Unit := do
  Prog.lift (.waitDma2 sm
    ((tab.slice (Rect.unit (s := S16384x1x2048) ![0, 0, 0] S1x1x2048.size inb_S16384x1x2048_S1x1x2048_0_0_0) (fun _ => rfl)).squeeze
      S1x2048 squeezes_S1x1x2048_S1x2048)
    (dst.slice (Rect.unit (s := S1024x2048) (offW k) S1x2048.size (offW_inb k)) (fun _ => rfl))
    ((View.wordExact_bits rfl).reshape _ _) (View.wordExact_bits rfl))
  pure ⟨⟩

/-- Every row of the buffer waited for. -/
def waitRows : Prog (TpuEff nD τ sig (Elt F) Λ₀ .tc) Unit :=
  Scf.Loop.for (upTo 1024) wait_ok ⟨⟩ (fun k _ => waitTrip tab dst sm k)

end Rows

section Compute

variable (cur : Memref sig .tc .vmem S1024x2048 .i32) (x : Memref sig .tc .vmem S8x2048 .f32) (o : Memref sig .tc .vmem S8x2048 .f32)

/-- Chunk `j` (columns from `j`) of token `t`'s packed rows. -/
abbrev loadTile (t : Fin 8) (j : ℕ) (hj : j + 128 ≤ 2048) : Prog (TpuEff nD τ sig (Elt F) Λ₀ .tc) (Vec F S128x128 .i32) :=
  Prog.lift (.load cur (Rect.unit (s := S1024x2048) ![128 * t.val, j] S128x128.size (tile_inb t j hj)).toLoadRect (View.loadsAt_vmem h_S128x128))

/-- Columns from `j` of token `t`'s row. -/
abbrev loadRow (t : Fin 8) (j : ℕ) (hj : j + 128 ≤ 2048) : Prog (TpuEff nD τ sig (Elt F) Λ₀ .tc) (Vec F S1x128 .f32) :=
  Prog.lift (.load x (Rect.unit (s := S8x2048) ![t.val, j] S1x128.size (row_inb t j hj)).toLoadRect (View.loadsAt_vmem h_S1x128))

/-- Columns from `j` of token `t`'s row of the result, loaded and overwritten. -/
def storeRow (t : Fin 8) (j : ℕ) (hj : j + 128 ≤ 2048) (v : FVec F S1x128 .f32) : Prog (TpuEff nD τ sig (Elt F) Λ₀ .tc) PUnit := do
  let _ : Vec F S1x128 .f32 ← loadRow o t j hj
  Prog.lift (.store o (Rect.unit (s := S8x2048) ![t.val, j] S1x128.size (row_inb t j hj)) v Finset.univ
    (View.stores_vmem_bits_univ h_S1x128 rfl) (.inl rfl))

/-- Chunk `c`'s products. -/
def chunk (t : Fin 8) (c : ℕ) (hc : c < 8) : Prog (TpuEff nD τ sig (Elt F) Λ₀ .tc) (FVec F S128x128 .f32) := do
  let w ← loadTile cur t (128 * c) (by omega)
  let a ← loadRow x t (128 * c) (by omega)
  let b ← loadRow x t (1024 + 128 * c) (by omega)
  pure (term w a b)

/-- Chunks `0` to `c` of token `t`'s products, added in order. -/
def chunks (t : Fin 8) : (c : ℕ) → c < 8 → Prog (TpuEff nD τ sig (Elt F) Λ₀ .tc) (FVec F S128x128 .f32)
  | 0, h => chunk cur x t 0 h
  | c + 1, h => do
    let acc ← chunks t c (by omega)
    let v ← chunk cur x t (c + 1) h
    pure (addf acc v)

/-- Chunk `c` of token `t`'s result row, its two halves. -/
def outChunk (a : FVec F S128x8 .f32) (t : Fin 8) (c : ℕ) (hc : c < 8) : Prog (TpuEff nD τ sig (Elt F) Λ₀ .tc) PUnit := do
  let w ← loadTile cur t (1024 + 128 * c) (by omega)
  storeRow o t (128 * c) (by omega) (weighted t a (lowHalf w))
  storeRow o t (1024 + 128 * c) (by omega) (weighted t a (highHalf w))

/-- The first `c` chunks of token `t`'s result row. -/
def outChunks (a : FVec F S128x8 .f32) (t : Fin 8) : (c : ℕ) → c ≤ 8 → Prog (TpuEff nD τ sig (Elt F) Λ₀ .tc) PUnit
  | 0, _ => pure ⟨⟩
  | c + 1, h => do
    outChunks a t c (by omega)
    outChunk cur o a t c (by omega)

end Compute

section Whole

variable (e : Memref sig .tc .smem S8x128 .i32) (x : Memref sig .tc .vmem S8x2048 .f32) (g : Memref sig .tc .vmem S1x128x8 .f32)
  (tab : Memref sig .tc .hbm S16384x1x2048 .i32) (o : Memref sig .tc .vmem S8x2048 .f32)
  (cur nxt : Memref sig .tc .vmem S1024x2048 .i32) (sc sn : DmaSem sig)
  (chk : BitVec 32 → Prop) (dec : ∀ w, Decidable (chk w))
  (hchk : ∀ w, chk w → ∀ a, (![w.toNat, 0, 0] : Fin 3 → ℕ) a + S1x1x2048.size a ≤ S16384x1x2048.size a)

variable {α : Type}

/-- The first `n` tokens' hidden values, half of the next rows sent for on the way; then `k`. -/
def hidden : (n : ℕ) → n ≤ 8 → (FVec F S128x8 .f32 → Prog (TpuEff nD τ sig (Elt F) Λ₀ .tc) α) → Prog (TpuEff nD τ sig (Elt F) Λ₀ .tc) α
  | 0, _, k => k (broadcast S128x8 (Scalar.ofBits .f32 0x00000000#32))
  | n + 1, h, k => hidden n (by omega) fun hm => do
    issue e tab nxt sn chk dec hchk span_low ⟨n, by omega⟩
    let acc ← chunks cur x ⟨n, by omega⟩ 7 (by decide)
    k (setColumn n hm acc)

/-- The first `n` tokens' result rows, the other half of the next rows sent for on the way; then `k`. -/
def results (a : FVec F S128x8 .f32) : (n : ℕ) → n ≤ 8 → Prog (TpuEff nD τ sig (Elt F) Λ₀ .tc) α → Prog (TpuEff nD τ sig (Elt F) Λ₀ .tc) α
  | 0, _, k => k
  | n + 1, h, k => results a n (by omega) do
    issue e tab nxt sn chk dec hchk span_high ⟨n, by omega⟩
    outChunks cur o a ⟨n, by omega⟩ 8 (by decide)
    k

/-- One step: wait for this block's rows, compute, and send for the rows two blocks on; then `k`. -/
def step (k : Prog (TpuEff nD τ sig (Elt F) Λ₀ .tc) α) : Prog (TpuEff nD τ sig (Elt F) Λ₀ .tc) α := do
  waitRows tab cur sc
  hidden e x tab cur nxt sn chk dec hchk 8 (by decide) fun hm => do
    let gv : Vec F S1x128x8 .f32 ← Prog.lift (.load g (Rect.unit (s := S1x128x8) ![0, 0, 0] S1x128x8.size inb_S1x128x8_S1x128x8_0_0_0).toLoadRect (View.loadsAt_vmem h_S1x128x8))
    results e tab o cur nxt sn chk dec hchk (gated hm gv) 8 (by decide) k

/-- All of a block's rows sent for: the first step's two fills; then `k`. -/
def fill : (n : ℕ) → n ≤ 8 → Prog (TpuEff nD τ sig (Elt F) Λ₀ .tc) α → Prog (TpuEff nD τ sig (Elt F) Λ₀ .tc) α
  | 0, _, k => k
  | n + 1, h, k => fill n (by omega) do
    issue e tab nxt sn chk dec hchk span_all ⟨n, by omega⟩
    k

end Whole

end Cert.KernelIdeal.Step

end
-- ==== Proof.Moves.lean ====
module

public import proofs.«01_k».proof.Proof.Step
public import proofs.«01_k».proof.Proof.Gen.KernelIdeal.Frame
public import Idealize.ShloMosaic.Lib.Batch

@[expose] public section

noncomputable section

/-! # The step's moves on owned memory

Loads, stores, one row's transfer, a token's rows sent for, and a whole buffer's rows waited for, each from what the core owns
before to what it owns after. -/

namespace Cert.KernelIdeal.Step

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Cert.KernelIdeal Cert.KernelIdeal.Gen

variable {F : FTy → Type} [FloatOps F] [Named F]

local notation "𝕄" => MT nD τ sig Unit (Elt F) ℕ (Pipeline.UD sig nD τ) ℕ

/-- A program of the core run to a postcondition. -/
abbrev Runs (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- A memref held at a share, and what it reads. -/
abbrev Has (c : Dev nD) {sp : Space} {s : Shape} {e : EltTy} (m : Memref sig .tc sp s e) (q : PosShare TreeShare)
    (X : s.Idx → Elt F e) : sProp 𝕄 := owns (c : Thread nD τ) m q X

variable {c : Dev nD} {α : Type} {Q : α → sProp (MT nD τ sig Unit (Elt F) ℕ (Pipeline.UD sig nD τ) ℕ)}

/-! ## Loads and stores -/

theorem load_has {sp : CoreSpace} {s : Shape} {e : EltTy} {m : Memref sig .tc sp s e} {r : Rect s} {hl : m.view.LoadsAt r.toLoadRect}
    {k : (r.shape.Idx → Elt F e) → Prog (TpuEff nD τ sig (Elt F) Λ₀ .tc) α} {q : PosShare TreeShare} {X : s.Idx → Elt F e} :
    Has c m q X ⊢ iprop((Has c m q X -∗ Runs c (k (fun j => X (r.emb j))) Q) -∗ Runs c (Prog.lift (.load m r.toLoadRect hl) >>= k) Q) := by
  unfold Has owns
  iintro ⟨%f, %hf, H⟩ Hk
  subst hf
  iapply (wp_load_rect (defs := defs₀ (F := F)) Variants.none (c : Thread nD τ) none Set.univ (k := k) (hl := hl) (f := f) (S := m.view.set) (m.view.set_slice_subset r)) $$ H
  iintro H
  iapply Hk
  iexists f
  isplitr; · ipureintro; rfl
  iexact H

theorem word_has {s : Shape} {e : EltTy} {m : Memref sig .tc .smem s e} {r : Rect s} {h1 : r.shape.numel = 1} {hp : e.packing = 1}
    {k : Elt F e → Prog (TpuEff nD τ sig (Elt F) Λ₀ .tc) α} {q : PosShare TreeShare} {X : s.Idx → Elt F e} :
    Has c m q X ⊢ iprop((Has c m q X -∗ Runs c (k (X (r.point h1))) Q) -∗ Runs c (smemLoad m r h1 hp >>= k) Q) := by
  unfold Has owns
  iintro ⟨%f, %hf, H⟩ Hk
  subst hf
  iapply (wp_load_rect (defs := defs₀ (F := F)) Variants.none (c : Thread nD τ) none Set.univ (m := m) (r := r) (hl := View.loadsAt_rect (View.loads_smem_one hp h1))
    (k := fun w => k (w (Shape.Idx.first (h1.symm ▸ Nat.one_pos)))) (f := f) (S := m.view.set) (m.view.set_slice_subset r)) $$ H
  iintro H
  iapply Hk
  iexists f
  isplitr; · ipureintro; rfl
  iexact H

theorem store_has {sp : CoreSpace} {s : Shape} {e : EltTy} {m : Memref sig .tc sp s e} {r : Rect s} (hr : ∀ a, r.stride a = 1)
    {v : r.shape.Idx → Elt F e} {hx : (m.access r).Stores Finset.univ} {hm : Finset.univ = Finset.univ ∨ ∀ a, r.stride a = 1}
    {k : PUnit → Prog (TpuEff nD τ sig (Elt F) Λ₀ .tc) α} {X : s.Idx → Elt F e} :
    Has c m fullShare X ⊢ iprop((Has c m fullShare (r.overlay X v) -∗ Runs c (k ⟨⟩) Q)
      -∗ Runs c (Prog.lift (.store m r v Finset.univ hx hm) >>= k) Q) := by
  iintro H Hk
  ihave H := (owns_slice_split (c : Thread nD τ) m fullShare r hr X) $$ H
  icases H with ⟨Hs, ⟨%f, %hf, Hr⟩⟩
  ihave Hs' := (show owns (c : Thread nD τ) (m.slice r hr) fullShare (fun i => X (r.emb i)) ⊢
    (iprop(∃ g, ⌜(m.slice r hr).view.read (Elt F) g = _⌝ ∗ ((m.slice r hr).view.loc (c : Thread nD τ) ↦[(m.slice r hr).view.set]{fullShare} g)) : sProp 𝕄) from .rfl) $$ Hs
  icases Hs' with ⟨%g, -, Hs⟩
  iapply (wp_store (defs := defs₀ (F := F)) Variants.none (c : Thread nD τ) none Set.univ (k := k) (w := v) (hx := hx) (hm := hm) (f := g)
    (S := (m.slice r hr).view.set) (by rw [View.setOn_univ])) $$ Hs
  iintro Hs
  iapply Hk
  subst hf
  iapply (owns_slice_join (c : Thread nD τ) m fullShare r hr v f)
  isplitl [Hs]
  · unfold owns; iexists _; isplitr; swap; · iexact Hs
    ipureintro; exact View.read_write_univ _ _
  iexact Hr

theorem assume_runs {P : Prop} {d : Decidable P} {k : PLift P → Prog (TpuEff nD τ sig (Elt F) Λ₀ .tc) α} (h : P) :
    Runs c (k ⟨h⟩) Q ⊢ Runs c (Prog.lift (.assume P d) >>= k) Q :=
  wp_assume (defs := defs₀ (F := F)) Variants.none (c : Thread nD τ) none Set.univ (k := k) h

/-! ## What a buffer of rows holds -/

/-- An expert's row of the table, at a lane. -/
def tabIdx (w : ℕ) (hw : w < 16384) (l : Fin 2048) : S16384x1x2048.Idx := fun a => match a with
  | 0 => ⟨w, hw⟩
  | 1 => ⟨0, Nat.one_pos⟩
  | 2 => l

/-- The slot whose expert is in row `r`. -/
def slotIdx (r : Fin 1024) : S8x128.Idx := fun a => match a with
  | 0 => ⟨r.val / 128, show r.val / 128 < 8 by omega⟩
  | 1 => ⟨r.val % 128, show r.val % 128 < 128 by omega⟩

/-- The table's rows by a block of expert numbers. -/
def fetched (E : S8x128.Idx → Elt F .i32) (T : S16384x1x2048.Idx → Elt F .i32) : S1024x2048.Idx → Elt F .i32 := fun i =>
  T (tabIdx ((E (slotIdx (i 0))).toNat % 16384) (Nat.mod_lt _ (by decide)) (i 1))

theorem oneRow_inb (r : Fin 1024) : ∀ a, (![r.val, 0] : Fin 2 → ℕ) a + S1x2048.size a ≤ S1024x2048.size a := by
  have := r.isLt
  intro a; match a with
  | 0 => show r.val + 1 ≤ 1024; omega
  | 1 => show 0 + 2048 ≤ 2048; omega

/-- Row `r` of a buffer of rows. -/
abbrev rowRect (r : Fin 1024) : Rect S1024x2048 := Rect.unit (s := S1024x2048) ![r.val, 0] S1x2048.size (oneRow_inb r)

theorem rowRect_disjoint (r r' : Fin 1024) (h : r ≠ r') : Disjoint (rowRect r).set (rowRect r').set := by
  rw [Finset.disjoint_left]
  intro i hi hi'
  obtain ⟨j, rfl⟩ := (rowRect r).exists_idx_of_mem hi
  obtain ⟨j', hj'⟩ := (rowRect r').exists_idx_of_mem hi'
  have h0 := congrArg (fun i : S1024x2048.Idx => (i 0).val) hj'
  have e1 : ((rowRect r').idx j' 0).val = r'.val + 1 * (j' 0).val := rfl
  have e2 : ((rowRect r).idx j 0).val = r.val + 1 * (j 0).val := rfl
  have l1 : (j' 0).val < 1 := (j' 0).isLt
  have l2 : (j 0).val < 1 := (j 0).isLt
  exact h (Fin.ext (by simp only [e1, e2] at h0; omega))

theorem rowRect_cover : (Finset.univ : Finset (Fin 1024)).biUnion (fun r => (rowRect r).set) = Finset.univ := by
  ext i
  simp only [Finset.mem_biUnion, Finset.mem_univ, true_and, iff_true]
  refine ⟨i 0, ?_⟩
  have h : i = (rowRect (i 0)).idx (fun a => match a with | 0 => ⟨0, Nat.one_pos⟩ | 1 => i 1) := by
    funext a; apply Fin.ext; match a with
    | 0 => show (i 0).val = (i 0).val + 1 * 0; omega
    | 1 => show (i 1).val = 0 + 1 * (i 1).val; omega
  rw [h]; exact (rowRect (i 0)).idx_mem _

/-! ## Rows in flight -/

section Flight

variable (c) (tab : Memref sig .tc .hbm S16384x1x2048 .i32) (dst : Memref sig .tc .vmem S1024x2048 .i32)
  (T : S16384x1x2048.Idx → Elt F .i32) (tok : Fin 1024 → PosShare TreeShare) (ρ : Fin 1024 → Fin 1024)
  (E : S8x128.Idx → Elt F .i32)

/-- What transfer `j` brings: its row of the buffer, holding its expert's row, and its share of the table back. -/
def Brings (j : Fin 1024) : sProp 𝕄 :=
  iprop(Has c (dst.slice (rowRect (ρ j)) (fun _ => rfl)) fullShare (fun y => fetched E T ((rowRect (ρ j)).emb y)) ∗ Has c tab (tok j) T)

instance brings_storable (j : Fin 1024) : Storable (upEmb : UEmb _ 𝕄) (Brings c tab dst T tok ρ E j) := by
  unfold Brings; infer_instance

/-- What transfer `j` takes: its row, at whatever it holds, and its share of the table. -/
def Takes (X : S1024x2048.Idx → Elt F .i32) (j : Fin 1024) : sProp 𝕄 :=
  iprop(Has c (dst.slice (rowRect (ρ j)) (fun _ => rfl)) fullShare (fun y => X ((rowRect (ρ j)).emb y)) ∗ Has c tab (tok j) T)

/-- The first `j` transfers of a buffer's rows started, and what the others will take. -/
def Sent (sm : DmaSem sig) (N : ℕ) (X : S1024x2048.Idx → Elt F .i32) (j : ℕ) : sProp 𝕄 :=
  iprop(Batch (countersEmb (U := Pipeline.UD sig nD τ)) (c : Thread nD τ) (.dma sm) () N (Brings c tab dst T tok ρ E) j 0
    ∗ bigSep (pending j) (Takes c tab dst T tok ρ X))

end Flight

end Cert.KernelIdeal.Step

end
-- ==== Proof.Send.lean ====
module

public import proofs.«01_k».proof.Proof.Moves

@[expose] public section

noncomputable section

/-! # Rows sent for, and rows waited for

One row's transfer joins the batch on its buffer's semaphore; a loop of them sends for a token's rows; and a loop of waits, one
row's units each, ends with every row landed and every share of the table back. -/

namespace Cert.KernelIdeal.Step

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Cert.KernelIdeal Cert.KernelIdeal.Gen

variable {F : FTy → Type} [FloatOps F] [Named F]

local notation "𝕄" => MT nD τ sig Unit (Elt F) ℕ (Pipeline.UD sig nD τ) ℕ
local notation "𝔼" => countersEmb (nD := nD) (τ := τ) (sig := sig) (Ix := Unit) (Val := Elt F) (Name := ℕ) (U := Pipeline.UD sig nD τ) (Lvl := ℕ)

/-- A run that returns at once. -/
theorem pure_runs {c : Dev nD} {α : Type} {Q : α → sProp (MT nD τ sig Unit (Elt F) ℕ (Pipeline.UD sig nD τ) ℕ)} {v : α} :
    Q v ⊢ Runs c (Pure.pure v) Q := by
  unfold Runs
  rw [wp_pure]
  iintro H
  imodintro
  iexact H

/-- What an expert's row of the table reads. -/
theorem tabRow_read (tab : Memref sig .tc .hbm S16384x1x2048 .i32) (w : BitVec 32)
    (hw : ∀ a, (![w.toNat, 0, 0] : Fin 3 → ℕ) a + S1x1x2048.size a ≤ S16384x1x2048.size a) (hlt : w.toNat < 16384)
    (f : tab.view.ty.Contents (Elt F)) (y : S1x2048.Idx) :
    (tabRow tab w hw).view.read (Elt F) f y = tab.view.read (Elt F) f (tabIdx w.toNat hlt (y 1)) := by
  show tab.view.read (Elt F) f ((Rect.unit (s := S16384x1x2048) ![w.toNat, 0, 0] S1x1x2048.size hw).emb
    (Shape.reshapeEquiv squeezes_S1x1x2048_S1x2048.numel_eq y)) = _
  have h : Shape.reshapeEquiv squeezes_S1x1x2048_S1x2048.numel_eq y = Fin.cons ⟨0, Nat.one_pos⟩ y :=
    Shape.reshapeEquiv_cons_one (d := ![1, 2048]) _ y
  rw [h]
  congr 1
  funext a
  apply Fin.ext
  have h0 : (y 0).val < 1 := (y 0).isLt
  match a with
  | 0 => show w.toNat + 1 * 0 = w.toNat; omega
  | 1 => show 0 + 1 * (y 0).val = 0; omega
  | 2 => show 0 + 1 * (y 1).val = (y 1).val; omega

theorem tabIdx_congr {w w' : ℕ} {hw : w < 16384} {hw' : w' < 16384} {l l' : Fin 2048} (h : w = w') (h' : l = l') :
    tabIdx w hw l = tabIdx w' hw' l' := by subst h; subst h'; rfl

/-- A row of the buffer holds its expert's row. -/
theorem fetched_row (T : S16384x1x2048.Idx → Elt F .i32) (E : S8x128.Idx → Elt F .i32) (r : Fin 1024) (y : S1x2048.Idx) {w : BitVec 32}
    (hE : E (slotIdx r) = w) (hlt : w.toNat < 16384) :
    fetched E T ((rowRect r).emb y) = T (tabIdx w.toNat hlt (y 1)) := by
  have e0 : slotIdx ((rowRect r).emb y 0) = slotIdx r := congrArg slotIdx (Fin.ext (by
    have : (y 0).val < 1 := (y 0).isLt
    show r.val + 1 * (y 0).val = _; omega))
  exact congrArg T (tabIdx_congr ((congrArg (fun i => (E i).toNat % 16384) e0).trans (by
      show (E (slotIdx r)).toNat % 16384 = _
      rw [hE]; exact Nat.mod_eq_of_lt hlt))
    (Fin.ext (by show 0 + 1 * (y 1).val = _; omega)))

section Rows

variable {c : Dev nD} {α : Type} {Q : α → sProp (MT nD τ sig Unit (Elt F) ℕ (Pipeline.UD sig nD τ) ℕ)}
variable {e : Memref sig .tc .smem S8x128 .i32} {tab : Memref sig .tc .hbm S16384x1x2048 .i32} {dst : Memref sig .tc .vmem S1024x2048 .i32}
  {sm : DmaSem sig} {chk : BitVec 32 → Prop} {dec : ∀ w, Decidable (chk w)}
  {hchk : ∀ w, chk w → ∀ a, (![w.toNat, 0, 0] : Fin 3 → ℕ) a + S1x1x2048.size a ≤ S16384x1x2048.size a}
  {T : S16384x1x2048.Idx → Elt F .i32} {tok : Fin 1024 → PosShare TreeShare} {ρ : Fin 1024 → Fin 1024}
  {E : S8x128.Idx → Elt F .i32} {qe : PosShare TreeShare} {N : ℕ} {X : S1024x2048.Idx → Elt F .i32}

/-- A row's units on its semaphore, the same for every row of the buffer. -/
def RowUnits (dst : Memref sig .tc .vmem S1024x2048 .i32) (N : ℕ) : Prop :=
  ∀ (o : Fin 2 → ℕ) (h : ∀ a, o a + S1x2048.size a ≤ S1024x2048.size a),
    (dst.slice (Rect.unit (s := S1024x2048) o S1x2048.size h) (fun _ => rfl)).view.dmaCredit = N

theorem send_row {oD : Fin 2 → ℕ} {hD : ∀ a, oD a + S1x2048.size a ≤ S1024x2048.size a} {w : BitVec 32}
    {hw : ∀ a, (![w.toNat, 0, 0] : Fin 3 → ℕ) a + S1x1x2048.size a ≤ S16384x1x2048.size a}
    {h1 : (tabRow tab w hw).view.WordExact}
    {h2 : (dst.slice (Rect.unit (s := S1024x2048) oD S1x2048.size hD) (fun _ => rfl)).view.WordExact}
    {h3 : DmaTarget.Typed (nD := nD) (τ := τ) (sig := sig) (p := Proc.tc) (s := S1x2048) (e := .i32) .hbm (.dma sm)
      (.here (dst.slice (Rect.unit (s := S1024x2048) oD S1x2048.size hD) (fun _ => rfl)))}
    {k : PUnit → Prog (TpuEff nD τ sig (Elt F) Λ₀ .tc) α} (hN : RowUnits dst N)
    {j : ℕ} (hj : j < 1024) (ho : oD = ![(ρ ⟨j, hj⟩).val, 0]) (hE : E (slotIdx (ρ ⟨j, hj⟩)) = w) (hlt : w.toNat < 16384) :
    (Sent c tab dst T tok ρ E sm N X j : sProp 𝕄) ⊢ iprop((Sent c tab dst T tok ρ E sm N X (j + 1) -∗ Runs c (k ⟨⟩) Q)
      -∗ Runs c (Prog.lift (.enqueueDma (tabRow tab w hw)
          (.here (dst.slice (Rect.unit (s := S1024x2048) oD S1x2048.size hD) (fun _ => rfl))) (.dma sm) h1 h2 h3) >>= k) Q) := by
  subst ho
  unfold Sent Batch
  iintro ⟨⟨%γ, %γ₀, %κ, #Hinv, HI, H0, Hcred⟩, HT⟩ Hk
  ihave HI' := (show bigSep (pending j) (fun t => count 𝔼 (γ t) 0)
      ⊢ iprop(count 𝔼 (γ ⟨j, hj⟩) 0 ∗ bigSep (pending (j + 1)) (fun t => count 𝔼 (γ t) 0))
    from Entails.of_eq (by rw [Transfers.pending_succ hj, bigSep_insert (Transfers.not_mem_pending_succ hj)]; rfl)) $$ HI
  icases HI' with ⟨Hc, HI⟩
  ihave HT' := (show bigSep (pending j) (Takes c tab dst T tok ρ X)
      ⊢ iprop(Takes c tab dst T tok ρ X ⟨j, hj⟩ ∗ bigSep (pending (j + 1)) (Takes c tab dst T tok ρ X))
    from Entails.of_eq (by rw [Transfers.pending_succ hj, bigSep_insert (Transfers.not_mem_pending_succ hj)]; rfl)) $$ HT
  icases HT' with ⟨Hj, HT⟩
  ihave Hj' := (show Takes c tab dst T tok ρ X ⟨j, hj⟩
      ⊢ (iprop((∃ g, ⌜_ = _⌝ ∗ ((dst.slice (rowRect (ρ ⟨j, hj⟩)) (fun _ => rfl)).view.loc (c : Thread nD τ)
            ↦[(dst.slice (rowRect (ρ ⟨j, hj⟩)) (fun _ => rfl)).view.set]{fullShare} g))
          ∗ (∃ f, ⌜tab.view.read (Elt F) f = T⌝ ∗ (tab.view.loc (c : Thread nD τ) ↦[tab.view.set]{tok ⟨j, hj⟩} f))) : sProp 𝕄) from .rfl) $$ Hj
  icases Hj' with ⟨⟨%g, -, Hd⟩, ⟨%f, %hf, Ht⟩⟩
  have hsub : (tabRow tab w hw).view.set ⊆ tab.view.set := by
    rw [show (tabRow tab w hw).view.set = _ from View.set_reshape _ _]
    exact tab.view.set_slice_subset _
  have hres : (iprop((tab.view.loc (c : Thread nD τ) ↦[tab.view.set \ (tabRow tab w hw).view.set]{tok ⟨j, hj⟩} f)
      ∗ (((dst.slice (rowRect (ρ ⟨j, hj⟩)) (fun _ => rfl)).view.loc (c : Thread nD τ)
            ↦[(dst.slice (rowRect (ρ ⟨j, hj⟩)) (fun _ => rfl)).view.set]{fullShare}
              (View.write (Elt F) (dst.slice (rowRect (ρ ⟨j, hj⟩)) (fun _ => rfl)).view g
                (ReadAs.same.apply ((tabRow tab w hw).view.read (Elt F) f)) Finset.univ))
        ∗ ((tabRow tab w hw).view.loc (c : Thread nD τ) ↦[(tabRow tab w hw).view.set]{tok ⟨j, hj⟩} f))) : sProp 𝕄)
      ⊢ Brings c tab dst T tok ρ E ⟨j, hj⟩ := by
    unfold Brings
    iintro ⟨Hrest, Hd, Hs⟩
    isplitl [Hd]
    · unfold Has owns
      iexists _
      isplitr; swap; · iexact Hd
      ipureintro
      rw [View.read_write_univ]
      funext y
      show (tabRow tab w hw).view.read (Elt F) f y = _
      rw [tabRow_read tab w hw hlt, hf]
      exact (fetched_row T E (ρ ⟨j, hj⟩) y hE hlt).symm
    · unfold Has owns
      iexists f
      isplitr; · ipureintro; exact hf
      iapply (pointsTo_split_subset hsub).2
      isplitl [Hs] <;> iassumption
  ihave Ht' := (pointsTo_split_subset hsub).1 $$ Ht
  icases Ht' with ⟨Hs, Hrest⟩
  iapply (wp_enqueueDmaAs (defs := defs₀ (F := F)) Variants.none (c : Thread nD τ) none Set.univ (src := tabRow tab w hw)
    (dst := dst.slice (rowRect (ρ ⟨j, hj⟩)) (fun _ => rfl)) (via := .same) (sem := .dma sm) (k := k) (q := tok ⟨j, hj⟩) (fs := f) () N (hN _ _)) $$ [Hs Hd] [Hc Hrest]
  · isplitl [Hs]; · iexact Hs
    iapply (pointsTo_writeUpdate (c : Thread nD τ) subset_rfl) $$ Hd
  · iapply (Transfers.batch_creditUpdate_with 𝔼 ⟨j, hj⟩ (D := Brings c tab dst T tok ρ E)
      (put := (tab.view.loc (c : Thread nD τ) ↦[tab.view.set \ (tabRow tab w hw).view.set]{tok ⟨j, hj⟩} f)) hres)
    · isplitr; · iexact Hinv
      isplitl [Hc] <;> iassumption
  iintro Hcred'
  iapply Hk
  isplitr [HT]
  · iexists γ, γ₀, κ
    isplitr; · iexact Hinv
    isplitl [HI]; · iexact HI
    isplitl [H0]; · iexact H0
    rw [show (j + 1) * N - 0 = (j * N - 0) + N by rw [Nat.succ_mul]; omega, ← tallyAt_add]
    icombine Hcred Hcred' as H
    iexact H
  iexact HT

/-- The slot a scalar load names. -/
theorem point_slot {t sl : ℕ} {o : Fin 2 → ℕ} {h : ∀ a, o a + S1x1.size a ≤ S8x128.size a} (ho : o = ![t, sl]) (hsl : sl < 128)
    {h1 : (Rect.unit (s := S8x128) o S1x1.size h).shape.numel = 1} {r : Fin 1024} (hr : r.val = 128 * t + sl) :
    (Rect.unit (s := S8x128) o S1x1.size h).point h1 = slotIdx r := by
  subst ho
  funext a
  apply Fin.ext
  have hf (a : Fin 2) : ((Shape.Idx.first (h1.symm ▸ Nat.one_pos) : (Rect.unit (s := S8x128) ![t, sl] S1x1.size h).shape.Idx) a).val < S1x1.size a :=
    (((Shape.Idx.first (h1.symm ▸ Nat.one_pos) : (Rect.unit (s := S8x128) ![t, sl] S1x1.size h).shape.Idx)) a).isLt
  have h0 := hf 0
  have h1' := hf 1
  match a with
  | 0 =>
    show t + 1 * _ = r.val / 128
    have : S1x1.size 0 = 1 := rfl
    omega
  | 1 =>
    show sl + 1 * _ = r.val % 128
    have : S1x1.size 1 = 1 := rfl
    omega

/-- What starting a row's transfer needs beside memory: the row's units, and expert numbers that name rows and pass the check. -/
structure Ready (dst : Memref sig .tc .vmem S1024x2048 .i32) (N : ℕ) (chk : BitVec 32 → Prop) (E : S8x128.Idx → Elt F .i32) : Prop where
  units : RowUnits dst N
  names : ∀ i, (E i).toNat < 16384
  passes : ∀ w : BitVec 32, w.toNat < 16384 → chk w

/-- One row sent for. -/
theorem copyRow_runs {n lo : ℕ} (h : Span n lo) (t : Fin 8) {p : ℕ} (hp : p < 2) (kk : Fin (upTo n).trips)
    {k : PUnit → Prog (TpuEff nD τ sig (Elt F) Λ₀ .tc) α} (hR : Ready dst N chk E)
    {j : ℕ} (hj : j < 1024) (hρ : (ρ ⟨j, hj⟩).val = 128 * t.val + (lo + 2 * kk.val + p)) :
    (iprop(Has c e qe E ∗ Sent c tab dst T tok ρ E sm N X j) : sProp 𝕄)
      ⊢ iprop((iprop(Has c e qe E ∗ Sent c tab dst T tok ρ E sm N X (j + 1)) -∗ Runs c (k ⟨⟩) Q)
        -∗ Runs c (copyRow e tab dst sm chk dec hchk h t p hp kk >>= k) Q) := by
  have hl := h.lt kk hp
  have hpt := point_slot (h := offE_inb h t hp kk) (offE_eq (t := t.val) hl) hl (h1 := numel1_S1x1) hρ
  unfold copyRow
  iintro ⟨He, HS⟩ Hk
  iapply (word_has (m := e) (r := Rect.unit (s := S8x128) (offE t lo p kk) S1x1.size (offE_inb h t hp kk)) (h1 := numel1_S1x1) (hp := rfl) (X := E)
    (k := fun w => (Prog.lift (TpuEff.assume (chk w) (dec w)) >>= fun hw =>
      Prog.lift (.enqueueDma (tabRow tab w (hchk w hw.down))
        (.here (dst.slice (Rect.unit (s := S1024x2048) (offD t lo p kk) S1x2048.size (offD_inb h t hp kk)) (fun _ => rfl)))
        (.dma sm) ((View.wordExact_bits rfl).reshape _ _) (View.wordExact_bits rfl) ⟨Or.inl rfl, trivial⟩)) >>= k)) $$ He
  iintro He
  rw [hpt]
  iapply (assume_runs (k := fun hw => Prog.lift (.enqueueDma (tabRow tab (E (slotIdx (ρ ⟨j, hj⟩))) (hchk _ hw.down))
        (.here (dst.slice (Rect.unit (s := S1024x2048) (offD t lo p kk) S1x2048.size (offD_inb h t hp kk)) (fun _ => rfl)))
        (.dma sm) ((View.wordExact_bits rfl).reshape _ _) (View.wordExact_bits rfl) ⟨Or.inl rfl, trivial⟩) >>= k)
    (hR.passes _ (hR.names _)))
  iapply (send_row hR.units hj (by rw [offD_eq t.isLt hl, hρ]) rfl (hR.names _)) $$ HS
  iintro HS
  iapply Hk
  isplitl [He] <;> iassumption

/-- A token's rows sent for. -/
theorem issue_runs {n lo base : ℕ} (h : Span n lo) (t : Fin 8) {k : Unit → Prog (TpuEff nD τ sig (Elt F) Λ₀ .tc) α} (hR : Ready dst N chk E)
    (hb : base + 2 * n ≤ 1024) (hρ : ∀ i, i < 2 * n → ∀ hj : base + i < 1024, (ρ ⟨base + i, hj⟩).val = 128 * t.val + (lo + i)) :
    (iprop(Has c e qe E ∗ Sent c tab dst T tok ρ E sm N X base) : sProp 𝕄)
      ⊢ iprop((iprop(Has c e qe E ∗ Sent c tab dst T tok ρ E sm N X (base + 2 * n)) -∗ Runs c (k ⟨⟩) Q)
        -∗ Runs c (issue e tab dst sm chk dec hchk h t >>= k) Q) := by
  have body (kk : Fin (upTo n).trips) (acc : Unit) :
      (iprop(Has c e qe E ∗ Sent c tab dst T tok ρ E sm N X (base + 2 * kk.val)) : sProp 𝕄)
        ⊢ Runs c (issueTrip e tab dst sm chk dec hchk h t kk) (fun _ => iprop(Has c e qe E ∗ Sent c tab dst T tok ρ E sm N X (base + 2 * (kk.val + 1)))) := by
    have hk : kk.val < n := lt_of_lt_of_eq kk.isLt h.trips
    unfold issueTrip
    iintro H
    iapply (copyRow_runs h t (p := 0) Nat.zero_lt_two kk hR (j := base + 2 * kk.val) (by omega) ((hρ (2 * kk.val) (by omega) (by omega)).trans (by omega))) $$ H
    iintro H
    iapply (copyRow_runs h t (p := 1) Nat.one_lt_two kk hR (j := base + 2 * kk.val + 1) (by omega)
      ((hρ (2 * kk.val + 1) (by omega) (by omega)).trans (by omega))) $$ H
    iintro H
    iapply pure_runs
    iexact H
  unfold issue
  iintro H Hk
  iapply (Scf.wp_for_bind _ _ _ _ _ _ h.ok (⟨⟩ : Unit) (fun k _ => issueTrip e tab dst sm chk dec hchk h t k)
    (fun i _ => iprop(Has c e qe E ∗ Sent c tab dst T tok ρ E sm N X (base + 2 * i))) body (kk := k)) $$ H
  iintro %acc H
  iapply Hk
  rw [show Scf.trips 0#32 (Scalar.addi 0#32 (BitVec.ofNat 32 n)) 1#32 = n from h.trips]
  iexact H

/-- All of a buffer's rows on their way, in some order. -/
def Flying (c : Dev nD) (tab : Memref sig .tc .hbm S16384x1x2048 .i32) (dst : Memref sig .tc .vmem S1024x2048 .i32)
    (T : S16384x1x2048.Idx → Elt F .i32) (tok : Fin 1024 → PosShare TreeShare) (E : S8x128.Idx → Elt F .i32) (sm : DmaSem sig) (N : ℕ) : sProp 𝕄 :=
  iprop(∃ ρ : Fin 1024 ≃ Fin 1024, Batch 𝔼 (c : Thread nD τ) (.dma sm) () N (Brings c tab dst T tok ρ E) 1024 0)

/-- A buffer at rest: held, its semaphore at zero, its shares of the table. -/
def Resting (c : Dev nD) (tab : Memref sig .tc .hbm S16384x1x2048 .i32) (dst : Memref sig .tc .vmem S1024x2048 .i32)
    (T : S16384x1x2048.Idx → Elt F .i32) (tok : Fin 1024 → PosShare TreeShare) (sm : DmaSem sig) (X : S1024x2048.Idx → Elt F .i32) : sProp 𝕄 :=
  iprop(Has c dst fullShare X ∗ bigSep Finset.univ (fun j => Has c tab (tok j) T) ∗ semVal ((c : Thread nD τ), SemLoc.dma sm) 0)

/-- A buffer at rest is one with none of its rows sent for. -/
theorem rest_sent (ρ : Fin 1024 ≃ Fin 1024) :
    (Resting c tab dst T tok sm X : sProp 𝕄) ⊢ |={Set.univ}=> Sent c tab dst T tok ρ E sm N X 0 := by
  unfold Resting Sent
  iintro ⟨Hd, Ht, Hv⟩
  imod (Transfers.batch_alloc' 𝔼 (c : Thread nD τ) () N (Brings c tab dst T tok ρ E) (E := Set.univ)) $$ Hv with HB
  imodintro
  isplitl [HB]; · iexact HB
  rw [Transfers.pending_zero]
  unfold Takes
  iapply (Entails.of_eq (bigSep_sep' Finset.univ _ _).symm)
  isplitl [Hd]
  · ihave H := (owns_rects (c : Thread nD τ) dst fullShare rowRect (fun _ _ => rfl) rowRect_disjoint rowRect_cover X) $$ Hd
    iapply (Entails.of_eq (bigSep_univ_equiv ρ (fun r => Has c (dst.slice (rowRect r) (fun _ => rfl)) fullShare (fun y => X ((rowRect r).emb y)))))
    iexact H
  iexact Ht

/-- Every row sent for. -/
theorem sent_flying (ρ : Fin 1024 ≃ Fin 1024) :
    (Sent c tab dst T tok ρ E sm N X 1024 : sProp 𝕄) ⊢ Flying c tab dst T tok E sm N := by
  unfold Sent Flying
  iintro ⟨HB, -⟩
  iexists ρ
  iexact HB

/-- One row's units waited for. -/
theorem wait_one {sp sp' : Space} {s s' : Shape} {e e' : EltTy} {src : Memref sig .tc sp' s' e'} {dst : Memref sig .tc sp s e}
    {hs : src.view.WordExact} {hd : dst.view.WordExact} {k : PUnit → Prog (TpuEff nD τ sig (Elt F) Λ₀ .tc) α}
    (hJ : dst.view.dmaCredit = N) {D : Fin 1024 → sProp 𝕄} {u : ℕ} (hu : u + N ≤ 1024 * N) {W : Waits sig Unit} :
    (iprop(Batch 𝔼 (c : Thread nD τ) (.dma sm) () N D 1024 u ∗ owes (c : Thread nD τ) 0 W) : sProp 𝕄)
      ⊢ iprop((iprop(Batch 𝔼 (c : Thread nD τ) (.dma sm) () N D 1024 (u + N) ∗ owes (c : Thread nD τ) 0 (insert (SemLoc.dma sm, ()) W)) -∗ Runs c (k ⟨⟩) Q)
        -∗ Runs c (Prog.lift (.waitDma2 sm src dst hs hd) >>= k) Q) := by
  have h := Transfers.wp_waitBatchMul 𝔼 (defs := defs₀ (F := F)) Variants.none (c : Thread nD τ) none (sem := sm) (srcw := src) (dstw := dst)
    (hsrc := hs) (hdst := hd) (k := k) (Q := Q) () (N := N) 1 (by rw [hJ, Nat.one_mul]) (D := D) (j := 1024) (u := u)
    (by rw [Nat.one_mul, Nat.mul_comm N]; exact hu) (W := W)
  rw [Nat.one_mul] at h
  exact h

/-- Every row waited for. -/
theorem waitRows_runs {k : Unit → Prog (TpuEff nD τ sig (Elt F) Λ₀ .tc) α} (hN : RowUnits dst N) (hpos : 0 < N) :
    (iprop(Flying c tab dst T tok E sm N ∗ ∃ W, owes (c : Thread nD τ) 0 W) : sProp 𝕄)
      ⊢ iprop((iprop(Resting c tab dst T tok sm (fetched E T) ∗ ∃ W, owes (c : Thread nD τ) 0 W) -∗ Runs c (k ⟨⟩) Q)
        -∗ Runs c (waitRows tab dst sm >>= k) Q) := by
  unfold Flying
  iintro ⟨⟨%ρ, HB⟩, HW⟩ Hk
  have body (kk : Fin (upTo 1024).trips) (acc : Unit) :
      (iprop(Batch 𝔼 (c : Thread nD τ) (.dma sm) () N (Brings c tab dst T tok ρ E) 1024 (kk.val * N) ∗ ∃ W, owes (c : Thread nD τ) 0 W) : sProp 𝕄)
        ⊢ Runs c (waitTrip tab dst sm kk) (fun _ =>
          iprop(Batch 𝔼 (c : Thread nD τ) (.dma sm) () N (Brings c tab dst T tok ρ E) 1024 ((kk.val + 1) * N) ∗ ∃ W, owes (c : Thread nD τ) 0 W)) := by
    have hk : kk.val < 1024 := lt_of_lt_of_eq kk.isLt wait_trips
    unfold waitTrip
    iintro ⟨HB, ⟨%W, HW⟩⟩
    iapply (wait_one (by rw [hN]) (u := kk.val * N) (by
      have := Nat.mul_le_mul_right N (show kk.val + 1 ≤ 1024 by omega); rw [Nat.succ_mul] at this; omega)) $$ [HB HW]
    · isplitl [HB] <;> iassumption
    iintro ⟨HB, HW⟩
    iapply pure_runs
    rw [Nat.succ_mul]
    isplitl [HB]; · iexact HB
    iexists _; iexact HW
  unfold waitRows
  iapply (Scf.wp_for_bind _ _ _ _ _ _ wait_ok (⟨⟩ : Unit) (fun k _ => waitTrip tab dst sm k)
    (fun i _ => iprop(Batch 𝔼 (c : Thread nD τ) (.dma sm) () N (Brings c tab dst T tok ρ E) 1024 (i * N) ∗ ∃ W, owes (c : Thread nD τ) 0 W)) body (kk := k)) $$ [HB HW]
  · rw [Nat.zero_mul]
    isplitl [HB] <;> iassumption
  iintro %acc ⟨HB, HW⟩
  rw [show Scf.trips 0#32 (Scalar.addi 0#32 (BitVec.ofNat 32 1024)) 1#32 * N = N * 1024 by
    rw [show Scf.trips 0#32 (Scalar.addi 0#32 (BitVec.ofNat 32 1024)) 1#32 = 1024 from wait_trips, Nat.mul_comm]]
  imod (Transfers.batch_collect' 𝔼 (c : Thread nD τ) hpos) $$ HB with ⟨HD, Hv⟩
  iapply Hk
  isplitr [HW]; swap; · iexact HW
  unfold Brings Resting
  ihave HD' := (Entails.of_eq (bigSep_sep' Finset.univ _ _)) $$ HD
  icases HD' with ⟨Hr, Ht⟩
  isplitl [Hr]
  · iapply (owns_of_rects (c : Thread nD τ) dst fullShare rowRect (fun _ _ => rfl) rowRect_disjoint rowRect_cover (fetched E T))
    iapply (Entails.of_eq (bigSep_univ_equiv ρ (fun r => Has c (dst.slice (rowRect r) (fun _ => rfl)) fullShare (fun y => fetched E T ((rowRect r).emb y)))).symm)
    iexact Hr
  isplitl [Ht] <;> iassumption

end Rows

end Cert.KernelIdeal.Step

end
-- ==== Proof.Run.lean ====
module

public import proofs.«01_k».proof.Proof.Send

@[expose] public section

noncomputable section

/-! # What one step leaves

The step's work as a function of the rows it holds, its tokens, its gates and its output window, and the step run to it: rows
in flight for this block waited for, rows in flight for the block two on left behind. -/

namespace Cert.KernelIdeal.Step

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)
open Cert.KernelIdeal Cert.KernelIdeal.Gen

variable {F : FTy → Type} [FloatOps F] [Named F]

local notation "𝕄" => MT nD τ sig Unit (Elt F) ℕ (Pipeline.UD sig nD τ) ℕ
local notation "𝔼" => countersEmb (nD := nD) (τ := τ) (sig := sig) (Ix := Unit) (Val := Elt F) (Name := ℕ) (U := Pipeline.UD sig nD τ) (Lvl := ℕ)

variable (X : S1024x2048.Idx → Elt F .i32) (V : S8x2048.Idx → Elt F .f32) (G : S1x128x8.Idx → Elt F .f32)

/-! ## The values -/

/-- Columns from `j` of token `t`'s packed rows. -/
def tileOf (t : Fin 8) (j : ℕ) (hj : j + 128 ≤ 2048) : Vec F S128x128 .i32 :=
  fun i => X ((Rect.unit (s := S1024x2048) ![128 * t.val, j] S128x128.size (tile_inb t j hj)).emb i)

/-- Columns from `j` of token `t`. -/
def rowOf (t : Fin 8) (j : ℕ) (hj : j + 128 ≤ 2048) : Vec F S1x128 .f32 :=
  fun i => V ((Rect.unit (s := S8x2048) ![t.val, j] S1x128.size (row_inb t j hj)).emb i)

/-- The products of chunk `c`. -/
def chunkVal (t : Fin 8) (c : ℕ) (hc : c < 8) : FVec F S128x128 .f32 :=
  term (tileOf X t (128 * c) (by omega)) (rowOf V t (128 * c) (by omega)) (rowOf V t (1024 + 128 * c) (by omega))

/-- The products of chunks `0` to `c`, added in order. -/
def chunksVal (t : Fin 8) : (c : ℕ) → c < 8 → FVec F S128x128 .f32
  | 0, h => chunkVal X V t 0 h
  | c + 1, h => addf (chunksVal t c (by omega)) (chunkVal X V t (c + 1) h)

/-- The first `n` tokens' hidden values. -/
def hiddenVal : (n : ℕ) → n ≤ 8 → FVec F S128x8 .f32
  | 0, _ => broadcast S128x8 (Scalar.ofBits .f32 0x00000000#32)
  | n + 1, h => setColumn n (hiddenVal n (by omega)) (chunksVal X V ⟨n, by omega⟩ 7 (by decide))

/-- A row's columns from `j` written over. -/
def putRow (t : Fin 8) (j : ℕ) (hj : j + 128 ≤ 2048) (O : S8x2048.Idx → Elt F .f32) (v : FVec F S1x128 .f32) : S8x2048.Idx → Elt F .f32 :=
  (Rect.unit (s := S8x2048) ![t.val, j] S1x128.size (row_inb t j hj)).overlay O v

/-- The first `c` chunks of token `t`'s result written over. -/
def outVal (a : FVec F S128x8 .f32) (t : Fin 8) (O : S8x2048.Idx → Elt F .f32) : (c : ℕ) → c ≤ 8 → S8x2048.Idx → Elt F .f32
  | 0, _ => O
  | c + 1, h => putRow t (1024 + 128 * c) (by omega)
      (putRow t (128 * c) (by omega) (outVal a t O c (by omega)) (weighted t a (lowHalf (tileOf X t (1024 + 128 * c) (by omega)))))
      (weighted t a (highHalf (tileOf X t (1024 + 128 * c) (by omega))))

/-- The first `n` tokens' results written over. -/
def resultsVal (a : FVec F S128x8 .f32) (O : S8x2048.Idx → Elt F .f32) : (n : ℕ) → n ≤ 8 → S8x2048.Idx → Elt F .f32
  | 0, _ => O
  | n + 1, h => outVal X a ⟨n, by omega⟩ (resultsVal a O n (by omega)) 8 (by decide)

/-- The activations times the gates. -/
def activeVal : FVec F S128x8 .f32 := gated (hiddenVal X V 8 (by decide))
  (fun i => G ((Rect.unit (s := S1x128x8) ![0, 0, 0] S1x128x8.size inb_S1x128x8_S1x128x8_0_0_0).emb i))

/-- The step's output window. -/
def stepVal (O : S8x2048.Idx → Elt F .f32) : S8x2048.Idx → Elt F .f32 := resultsVal X (activeVal X V G) O 8 (by decide)

/-! ## The orders rows are sent for in -/

/-- The order a step sends for rows in: the low half of every token's, then the high. -/
def stepOrder : Fin 1024 ≃ Fin 1024 where
  toFun j := ⟨128 * (j.val % 512 / 64) + 64 * (j.val / 512) + j.val % 64, by omega⟩
  invFun r := ⟨512 * (r.val % 128 / 64) + 64 * (r.val / 128) + r.val % 64, by omega⟩
  left_inv j := Fin.ext (by show 512 * (_ % 128 / 64) + 64 * (_ / 128) + _ % 64 = j.val; dsimp only; omega)
  right_inv r := Fin.ext (by show 128 * (_ % 512 / 64) + 64 * (_ / 512) + _ % 64 = r.val; dsimp only; omega)

/-! ## The runs -/

section Compute

variable {X V G}
variable {c : Dev nD} {α : Type} {Q : α → sProp (MT nD τ sig Unit (Elt F) ℕ (Pipeline.UD sig nD τ) ℕ)}
variable {cur : Memref sig .tc .vmem S1024x2048 .i32} {x : Memref sig .tc .vmem S8x2048 .f32} {o : Memref sig .tc .vmem S8x2048 .f32}
  {qx : PosShare TreeShare} {O : S8x2048.Idx → Elt F .f32}

theorem chunk_runs (t : Fin 8) (n : ℕ) (hn : n < 8) {k : FVec F S128x128 .f32 → Prog (TpuEff nD τ sig (Elt F) Λ₀ .tc) α} :
    (iprop(Has c cur fullShare X ∗ Has c x qx V) : sProp 𝕄)
      ⊢ iprop((iprop(Has c cur fullShare X ∗ Has c x qx V) -∗ Runs c (k (chunkVal X V t n hn)) Q) -∗ Runs c (chunk cur x t n hn >>= k) Q) := by
  simp only [chunk, bind_assoc, pure_bind]
  iintro ⟨Hc, Hx⟩ Hk
  iapply load_has $$ Hc
  iintro Hc
  iapply load_has $$ Hx
  iintro Hx
  iapply load_has $$ Hx
  iintro Hx
  iapply Hk
  isplitl [Hc] <;> iassumption

theorem chunks_runs (t : Fin 8) : ∀ (n : ℕ) (hn : n < 8) {k : FVec F S128x128 .f32 → Prog (TpuEff nD τ sig (Elt F) Λ₀ .tc) α},
    (iprop(Has c cur fullShare X ∗ Has c x qx V) : sProp 𝕄)
      ⊢ iprop((iprop(Has c cur fullShare X ∗ Has c x qx V) -∗ Runs c (k (chunksVal X V t n hn)) Q) -∗ Runs c (chunks cur x t n hn >>= k) Q)
  | 0, hn, k => chunk_runs t 0 hn
  | n + 1, hn, k => by
    simp only [chunks, bind_assoc, pure_bind]
    iintro H Hk
    iapply (chunks_runs t n _) $$ H
    iintro H
    iapply (chunk_runs t (n + 1) hn) $$ H
    iintro H
    iapply Hk
    iexact H

theorem storeRow_runs (t : Fin 8) (j : ℕ) (hj : j + 128 ≤ 2048) (v : FVec F S1x128 .f32) {k : PUnit → Prog (TpuEff nD τ sig (Elt F) Λ₀ .tc) α} :
    (Has c o fullShare O : sProp 𝕄)
      ⊢ iprop((Has c o fullShare (putRow t j hj O v) -∗ Runs c (k ⟨⟩) Q) -∗ Runs c (storeRow o t j hj v >>= k) Q) := by
  simp only [storeRow, bind_assoc]
  iintro H Hk
  iapply load_has $$ H
  iintro H
  iapply (store_has (fun _ => rfl)) $$ H
  iintro H
  iapply Hk
  iexact H

theorem outChunks_runs (a : FVec F S128x8 .f32) (t : Fin 8) : ∀ (n : ℕ) (hn : n ≤ 8) {k : PUnit → Prog (TpuEff nD τ sig (Elt F) Λ₀ .tc) α},
    (iprop(Has c cur fullShare X ∗ Has c o fullShare O) : sProp 𝕄)
      ⊢ iprop((iprop(Has c cur fullShare X ∗ Has c o fullShare (outVal X a t O n hn)) -∗ Runs c (k ⟨⟩) Q) -∗ Runs c (outChunks cur o a t n hn >>= k) Q)
  | 0, hn, k => by
    simp only [outChunks, pure_bind]
    iintro H Hk
    iapply Hk
    iexact H
  | n + 1, hn, k => by
    simp only [outChunks, outChunk, bind_assoc]
    iintro H Hk
    iapply (outChunks_runs a t n _) $$ H
    iintro ⟨Hc, Ho⟩
    iapply load_has $$ Hc
    iintro Hc
    iapply (storeRow_runs t (128 * n) _) $$ Ho
    iintro Ho
    iapply (storeRow_runs t (1024 + 128 * n) _) $$ Ho
    iintro Ho
    iapply Hk
    isplitl [Hc]; · iexact Hc
    iexact Ho

end Compute

section Whole

variable {X V G}
variable {c : Dev nD} {α : Type} {Q : α → sProp (MT nD τ sig Unit (Elt F) ℕ (Pipeline.UD sig nD τ) ℕ)}
variable {e : Memref sig .tc .smem S8x128 .i32} {x : Memref sig .tc .vmem S8x2048 .f32} {g : Memref sig .tc .vmem S1x128x8 .f32}
  {tab : Memref sig .tc .hbm S16384x1x2048 .i32} {o : Memref sig .tc .vmem S8x2048 .f32}
  {cur nxt : Memref sig .tc .vmem S1024x2048 .i32} {sc sn : DmaSem sig}
  {chk : BitVec 32 → Prop} {dec : ∀ w, Decidable (chk w)}
  {hchk : ∀ w, chk w → ∀ a, (![w.toNat, 0, 0] : Fin 3 → ℕ) a + S1x1x2048.size a ≤ S16384x1x2048.size a}
  {T : S16384x1x2048.Idx → Elt F .i32} {tc tn : Fin 1024 → PosShare TreeShare}
  {E Ec : S8x128.Idx → Elt F .i32} {qe qx qg : PosShare TreeShare} {N : ℕ} {Y : S1024x2048.Idx → Elt F .i32}
  {O : S8x2048.Idx → Elt F .f32}

theorem fill_runs (hR : Ready nxt N chk E) : ∀ (n : ℕ) (hn : n ≤ 8) {k : Prog (TpuEff nD τ sig (Elt F) Λ₀ .tc) α},
    (iprop(Has c e qe E ∗ Sent c tab nxt T tn (Equiv.refl (Fin 1024)) E sn N Y 0) : sProp 𝕄)
      ⊢ iprop((iprop(Has c e qe E ∗ Sent c tab nxt T tn (Equiv.refl (Fin 1024)) E sn N Y (128 * n)) -∗ Runs c k Q)
        -∗ Runs c (fill e tab nxt sn chk dec hchk n hn k) Q)
  | 0, hn, k => by
    simp only [fill]
    iintro H Hk
    iapply Hk
    iexact H
  | n + 1, hn, k => by
    simp only [fill]
    iintro H Hk
    iapply (fill_runs hR n _) $$ H
    iintro H
    iapply (issue_runs (base := 128 * n) span_all ⟨n, _⟩ hR (by omega) (fun i hi hj => by
      show 128 * n + i = 128 * n + (0 + i); omega)) $$ H
    iintro H
    iapply Hk
    iexact H

theorem hidden_runs (hR : Ready nxt N chk E) : ∀ (n : ℕ) (hn : n ≤ 8) {k : FVec F S128x8 .f32 → Prog (TpuEff nD τ sig (Elt F) Λ₀ .tc) α},
    (iprop((Has c e qe E ∗ Sent c tab nxt T tn stepOrder E sn N Y 0) ∗ (Has c cur fullShare X ∗ Has c x qx V)) : sProp 𝕄)
      ⊢ iprop((iprop((Has c e qe E ∗ Sent c tab nxt T tn stepOrder E sn N Y (64 * n)) ∗ (Has c cur fullShare X ∗ Has c x qx V))
          -∗ Runs c (k (hiddenVal X V n hn)) Q)
        -∗ Runs c (hidden e x tab cur nxt sn chk dec hchk n hn k) Q)
  | 0, hn, k => by
    simp only [hidden]
    iintro H Hk
    iapply Hk
    iexact H
  | n + 1, hn, k => by
    simp only [hidden]
    iintro H Hk
    iapply (hidden_runs hR n _) $$ H
    iintro ⟨H, H'⟩
    iapply (issue_runs (base := 64 * n) span_low ⟨n, _⟩ hR (by omega) (fun i hi hj => by
      show 128 * ((64 * n + i) % 512 / 64) + 64 * ((64 * n + i) / 512) + (64 * n + i) % 64 = 128 * n + (0 + i); omega)) $$ H
    iintro H
    iapply (chunks_runs ⟨n, _⟩ 7 _) $$ H'
    iintro H'
    iapply Hk
    isplitl [H]; · iexact H
    iexact H'

theorem results_runs (hR : Ready nxt N chk E) (a : FVec F S128x8 .f32) : ∀ (n : ℕ) (hn : n ≤ 8) {k : Prog (TpuEff nD τ sig (Elt F) Λ₀ .tc) α},
    (iprop((Has c e qe E ∗ Sent c tab nxt T tn stepOrder E sn N Y 512) ∗ (Has c cur fullShare X ∗ Has c o fullShare O)) : sProp 𝕄)
      ⊢ iprop((iprop((Has c e qe E ∗ Sent c tab nxt T tn stepOrder E sn N Y (512 + 64 * n)) ∗ (Has c cur fullShare X ∗ Has c o fullShare (resultsVal X a O n hn)))
          -∗ Runs c k Q)
        -∗ Runs c (results e tab o cur nxt sn chk dec hchk a n hn k) Q)
  | 0, hn, k => by
    simp only [results]
    iintro H Hk
    iapply Hk
    iexact H
  | n + 1, hn, k => by
    simp only [results]
    iintro H Hk
    iapply (results_runs hR a n _) $$ H
    iintro ⟨H, H'⟩
    iapply (issue_runs (base := 512 + 64 * n) span_high ⟨n, _⟩ hR (by omega) (fun i hi hj => by
      show 128 * ((512 + 64 * n + i) % 512 / 64) + 64 * ((512 + 64 * n + i) / 512) + (512 + 64 * n + i) % 64 = 128 * n + (64 + i); omega)) $$ H
    iintro H
    iapply (outChunks_runs a ⟨n, _⟩ 8 _) $$ H'
    iintro H'
    iapply Hk
    isplitl [H]; · iexact H
    iexact H'

/-- A step from this block's rows in flight and the third buffer at rest: this block's buffer at rest, the third's rows in flight,
    and the output window written. -/
theorem step_runs (hN : RowUnits cur N) (hpos : 0 < N) (hR : Ready nxt N chk E) {k : Prog (TpuEff nD τ sig (Elt F) Λ₀ .tc) α} :
    (iprop(Flying c tab cur T tc Ec sc N ∗ Resting c tab nxt T tn sn Y ∗ Has c e qe E ∗ Has c x qx V ∗ Has c g qg G ∗ Has c o fullShare O
        ∗ ∃ W, owes (c : Thread nD τ) 0 W) : sProp 𝕄)
      ⊢ iprop((iprop(Flying c tab nxt T tn E sn N ∗ Resting c tab cur T tc sc (fetched Ec T) ∗ Has c e qe E ∗ Has c x qx V ∗ Has c g qg G
            ∗ Has c o fullShare (stepVal (fetched Ec T) V G O) ∗ ∃ W, owes (c : Thread nD τ) 0 W) -∗ Runs c k Q)
        -∗ Runs c (step e x g tab o cur nxt sc sn chk dec hchk k) Q) := by
  unfold step
  iintro ⟨HF, HR, He, Hx, Hg, Ho, HW⟩ Hk
  iapply (waitRows_runs hN hpos) $$ [HF HW]
  · isplitl [HF] <;> iassumption
  iintro ⟨HC, HW⟩
  ihave HC' := (show Resting c tab cur T tc sc (fetched Ec T) ⊢
    (iprop(Has c cur fullShare (fetched Ec T) ∗ bigSep Finset.univ (fun j => Has c tab (tc j) T) ∗ semVal ((c : Thread nD τ), SemLoc.dma sc) 0) : sProp 𝕄) from .rfl) $$ HC
  icases HC' with ⟨Hc, Htc, Hvc⟩
  imod (rest_sent (N := N) (E := E) stepOrder) $$ HR with HS
  iapply (hidden_runs hR 8 _) $$ [He HS Hc Hx]
  · isplitl [He HS]
    · isplitl [He] <;> iassumption
    isplitl [Hc] <;> iassumption
  iintro ⟨⟨He, HS⟩, ⟨Hc, Hx⟩⟩
  iapply load_has $$ Hg
  iintro Hg
  iapply (results_runs hR _ 8 _) $$ [He HS Hc Ho]
  · isplitl [He HS]
    · isplitl [He] <;> iassumption
    isplitl [Hc] <;> iassumption
  iintro ⟨⟨He, HS⟩, ⟨Hc, Ho⟩⟩
  iapply Hk
  isplitl [HS]
  · iapply (sent_flying stepOrder) $$ HS
  isplitl [Hc Htc Hvc]
  · unfold Resting
    isplitl [Hc]; · iexact Hc
    isplitl [Htc] <;> iassumption
  isplitl [He]; · iexact He
  isplitl [Hx]; · iexact Hx
  isplitl [Hg]; · iexact Hg
  isplitl [Ho]; · iexact Ho
  iexact HW

end Whole

end Cert.KernelIdeal.Step

end
-- ==== Proof.Value.lean ====
module

public import proofs.«01_k».proof.Proof.Run

@[expose] public section

noncomputable section

/-! # The step's window, element by element

Every element of the output window is written once, so what the step leaves does not depend on what the window held. -/

namespace Cert.KernelIdeal.Step

open Idealize.ShloMosaic Idealize.SL.Sem
open Cert.KernelIdeal Cert.KernelIdeal.Gen

variable {F : FTy → Type} [FloatOps F] [Named F]
variable (X : S1024x2048.Idx → Elt F .i32) (a : FVec F S128x8 .f32)

/-- Lane `l` of a one-row chunk. -/
def lane (l : ℕ) (hl : l < 128) : S1x128.Idx := fun a => match a with
  | 0 => ⟨0, Nat.one_pos⟩
  | 1 => ⟨l, hl⟩

/-- The packed second halves of a token's rows, one chunk of them. -/
abbrev upTile (t : Fin 8) (c : ℕ) (hc : c < 8) : Vec F S128x128 .i32 := tileOf X t (1024 + 128 * c) (by omega)

/-- A lane of a chunk's weighted low halves. -/
def lowAt (t : Fin 8) (c l : ℕ) (hc : c < 8) (hl : l < 128) : Elt F .f32 := weighted t a (lowHalf (upTile X t c hc)) (lane l hl)
/-- A lane of a chunk's weighted high halves. -/
def highAt (t : Fin 8) (c l : ℕ) (hc : c < 8) (hl : l < 128) : Elt F .f32 := weighted t a (highHalf (upTile X t c hc)) (lane l hl)

/-- One element of the output window: a lane of a weighted low half, or of a high one. -/
def outAt (i : S8x2048.Idx) : Elt F .f32 :=
  if h : (i 1).val < 1024 then lowAt X a (i 0) ((i 1).val / 128) ((i 1).val % 128) (by omega) (by omega)
  else highAt X a (i 0) (((i 1).val - 1024) / 128) (((i 1).val - 1024) % 128) (by have : (i 1).val < 2048 := (i 1).isLt; omega) (by omega)

variable {X a}

theorem putRow_in {t : Fin 8} {j : ℕ} {hj : j + 128 ≤ 2048} {O : S8x2048.Idx → Elt F .f32} {v : FVec F S1x128 .f32} {i : S8x2048.Idx}
    (h0 : (i 0).val = t.val) {l : ℕ} (hl : l < 128) (h1 : (i 1).val = j + l) : putRow t j hj O v i = v (lane l hl) := by
  have h : i = (Rect.unit (s := S8x2048) ![t.val, j] S1x128.size (row_inb t j hj)).emb (lane l hl) := by
    funext b; apply Fin.ext; match b with
    | 0 => show (i 0).val = t.val + 1 * 0; omega
    | 1 => show (i 1).val = j + 1 * l; omega
  rw [h]; exact Rect.overlay_emb _ _ _ _

theorem putRow_out {t : Fin 8} {j : ℕ} {hj : j + 128 ≤ 2048} {O : S8x2048.Idx → Elt F .f32} {v : FVec F S1x128 .f32} {i : S8x2048.Idx}
    (h : (i 0).val = t.val → j ≤ (i 1).val → (i 1).val < j + 128 → False) : putRow t j hj O v i = O i := by
  refine Rect.overlay_of_not_mem _ _ _ fun hi => ?_
  obtain ⟨y, rfl⟩ := (Rect.unit (s := S8x2048) ![t.val, j] S1x128.size (row_inb t j hj)).exists_idx_of_mem hi
  have l0 : (y 0).val < 1 := (y 0).isLt
  have l1 : (y 1).val < 128 := (y 1).isLt
  refine h ?_ ?_ ?_
  · show t.val + 1 * (y 0).val = t.val; omega
  · show j ≤ j + 1 * (y 1).val; omega
  · show j + 1 * (y 1).val < j + 128; omega

theorem lowAt_congr {t : Fin 8} {c l c' l' : ℕ} {hc : c < 8} {hl : l < 128} {hc' : c' < 8} {hl' : l' < 128} (h : c = c') (h' : l = l') :
    lowAt X a t c l hc hl = lowAt X a t c' l' hc' hl' := by subst h; subst h'; rfl

theorem highAt_congr {t : Fin 8} {c l c' l' : ℕ} {hc : c < 8} {hl : l < 128} {hc' : c' < 8} {hl' : l' < 128} (h : c = c') (h' : l = l') :
    highAt X a t c l hc hl = highAt X a t c' l' hc' hl' := by subst h; subst h'; rfl

theorem outAt_low {t : Fin 8} {c l : ℕ} (hc : c < 8) (hl : l < 128) {i : S8x2048.Idx} (h0 : i 0 = t) (h1 : (i 1).val = 128 * c + l) :
    outAt X a i = lowAt X a t c l hc hl := by
  subst h0
  unfold outAt
  rw [dif_pos (by omega)]
  exact lowAt_congr (by omega) (by omega)

theorem outAt_high {t : Fin 8} {c l : ℕ} (hc : c < 8) (hl : l < 128) {i : S8x2048.Idx} (h0 : i 0 = t) (h1 : (i 1).val = 1024 + 128 * c + l) :
    outAt X a i = highAt X a t c l hc hl := by
  subst h0
  unfold outAt
  rw [dif_neg (by omega)]
  exact highAt_congr (by omega) (by omega)

theorem outVal_at (t : Fin 8) (O : S8x2048.Idx → Elt F .f32) (i : S8x2048.Idx) : ∀ (c : ℕ) (hc : c ≤ 8),
    ((i 0 = t ∧ ((i 1).val < 128 * c ∨ 1024 ≤ (i 1).val ∧ (i 1).val < 1024 + 128 * c)) → outVal X a t O c hc i = outAt X a i)
      ∧ (i 0 ≠ t → outVal X a t O c hc i = O i)
  | 0, _ => ⟨fun h => absurd h.2 (by omega), fun _ => rfl⟩
  | c + 1, hc => by
    have ih := outVal_at t O i c (by omega)
    refine ⟨fun h => ?_, fun h => ?_⟩
    · show putRow _ _ _ (putRow _ _ _ _ _) _ i = _
      by_cases hh : 1024 + 128 * c ≤ (i 1).val ∧ (i 1).val < 1024 + 128 * c + 128
      · rw [putRow_in (congrArg Fin.val h.1) (l := (i 1).val - (1024 + 128 * c)) (by omega) (by omega)]
        exact (outAt_high (by omega) _ h.1 (by omega)).symm
      rw [putRow_out (fun _ h1 h2 => hh ⟨h1, h2⟩)]
      by_cases hl : 128 * c ≤ (i 1).val ∧ (i 1).val < 128 * c + 128
      · rw [putRow_in (congrArg Fin.val h.1) (l := (i 1).val - 128 * c) (by omega) (by omega)]
        exact (outAt_low (by omega) _ h.1 (by omega)).symm
      rw [putRow_out (fun _ h1 h2 => hl ⟨h1, h2⟩)]
      exact ih.1 ⟨h.1, by omega⟩
    · show putRow _ _ _ (putRow _ _ _ _ _) _ i = _
      rw [putRow_out (fun h0 _ _ => h (Fin.ext h0)), putRow_out (fun h0 _ _ => h (Fin.ext h0))]
      exact ih.2 h

theorem resultsVal_at (O : S8x2048.Idx → Elt F .f32) (i : S8x2048.Idx) : ∀ (n : ℕ) (hn : n ≤ 8),
    (i 0).val < n → resultsVal X a O n hn i = outAt X a i
  | 0, _, h => absurd h (Nat.not_lt_zero _)
  | n + 1, hn, h => by
    show outVal X a ⟨n, _⟩ (resultsVal X a O n _) 8 _ i = _
    have hi : (i 1).val < 2048 := (i 1).isLt
    by_cases h0 : i 0 = (⟨n, by omega⟩ : Fin 8)
    · exact (outVal_at _ _ i 8 _).1 ⟨h0, by omega⟩
    · rw [(outVal_at _ _ i 8 _).2 h0]
      exact resultsVal_at O i n _ (by
        have : (i 0).val ≠ n := fun e => h0 (Fin.ext e)
        omega)

/-- What the step leaves in its window. -/
theorem stepVal_eq (V : S8x2048.Idx → Elt F .f32) (G : S1x128x8.Idx → Elt F .f32) (O : S8x2048.Idx → Elt F .f32) :
    stepVal X V G O = outAt X (activeVal X V G) := funext fun i => resultsVal_at O i 8 _ (i 0).isLt

end Cert.KernelIdeal.Step

end
-- ==== Proof.Body.lean ====
module

public import proofs.«01_k».proof.Proof.Step
public import proofs.«01_k».proof.Proof.Gen.KernelIdeal.Skeleton

@[expose] public section

noncomputable section

/-! # The printed body is the step's program

The printed body, branch by branch, is the one step at the three placings of the ring. -/

namespace Cert.KernelIdeal.Step

open Idealize.ShloMosaic Idealize.SL.Sem
open Cert.KernelIdeal Cert.KernelIdeal.Gen

variable {F : FTy → Type} [FloatOps F] [Named F]

/-- The three semaphores, by number. -/
abbrev cell0 (s : DmaSems sig S3) : DmaSem sig := ((s.slice (Rect.unit (s := S3) ![0] S1.size inb_S3_S1_0)).squeeze S_ squeezes_S1_S_).sem
/-- The second. -/
abbrev cell1 (s : DmaSems sig S3) : DmaSem sig := ((s.slice (Rect.unit (s := S3) ![1] S1.size inb_S3_S1_1)).squeeze S_ squeezes_S1_S_).sem
/-- The third. -/
abbrev cell2 (s : DmaSems sig S3) : DmaSem sig := ((s.slice (Rect.unit (s := S3) ![2] S1.size inb_S3_S1_2)).squeeze S_ squeezes_S1_S_).sem

set_option maxHeartbeats 4000000 in
set_option maxRecDepth 65536 in
/-- The first point: both fills, then the step at the first placing. -/
theorem body_first (i : grid0.Coords) (arg1 : Memref sig .tc .smem S8x128 .i32) (harg1 : arg1.IsWhole) (arg2 : Memref sig .tc .smem S8x128 .i32) (harg2 : arg2.IsWhole)
  (arg3 : Memref sig .tc .smem S8x128 .i32) (harg3 : arg3.IsWhole) (arg4 : Memref sig .tc .vmem S8x2048 .f32) (harg4 : arg4.IsWhole)
  (arg5 : Memref sig .tc .vmem S1x128x8 .f32) (harg5 : arg5.IsWhole) (arg6 : Memref sig .tc .hbm S16384x1x2048 .i32) (harg6 : arg6.IsWhole)
  (arg7 : Memref sig .tc .vmem S8x2048 .f32) (harg7 : arg7.IsWhole) (arg8 : Memref sig .tc .vmem S1024x2048 .i32) (harg8 : arg8.IsWhole)
  (arg9 : Memref sig .tc .vmem S1024x2048 .i32) (harg9 : arg9.IsWhole) (arg10 : Memref sig .tc .vmem S1024x2048 .i32) (harg10 : arg10.IsWhole)
  (arg11 : DmaSems sig S3) (h1 : k0_cond1 i = 1#1) (h2 : k0_cond2 i = 1#1) (h3 : ¬ k0_cond3 i = 1#1) (h4 : ¬ k0_cond4 i = 1#1) (h5 : ¬ k0_cond5 i = 1#1) :
    cc0_peer_gather (F := F) i arg1 harg1 arg2 harg2 arg3 harg3 arg4 harg4 arg5 harg5 arg6 harg6 arg7 harg7 arg8 harg8 arg9 harg9 arg10 harg10 arg11 =
      (fill arg1 arg6 arg8 (cell0 arg11) (k0_chk1 i) (k0_chk1.dec i) (fun w hw => hw h1) 8 (by decide)
        (fill arg2 arg6 arg9 (cell1 arg11) (k0_chk1 i) (k0_chk1.dec i) (fun w hw => hw h1) 8 (by decide)
        (step arg3 arg4 arg5 arg6 arg7 arg8 arg10 (cell0 arg11) (cell2 arg11) (k0_chk33 i) (k0_chk33.dec i) (fun w hw => hw h2) (pure ⟨⟩)))) := by
  simp only [cc0_peer_gather_eq_skeleton, cc0_peer_gather_skel, k0_part180_eq_skeleton, k0_part180_skel, dif_pos h1, dif_pos h2, dif_neg h3, dif_neg h4, dif_neg h5,
    bind_assoc, pure_bind]
  simp (config := {maxSteps := 100000000}) only [k0_part60_eq_skeleton, k0_part60_skel, k0_part1_eq_skeleton, k0_part1_skel, k0_part2_eq_skeleton, k0_part2_skel, k0_part5_eq_skeleton, k0_part5_skel, k0_part8_eq_skeleton, k0_part8_skel, k0_part12_eq_skeleton, k0_part12_skel, k0_part15_eq_skeleton, k0_part15_skel, k0_part18_eq_skeleton, k0_part18_skel, k0_part22_eq_skeleton, k0_part22_skel, k0_part25_eq_skeleton, k0_part25_skel, k0_part29_eq_skeleton, k0_part29_skel, k0_part33_eq_skeleton, k0_part33_skel, k0_part37_eq_skeleton, k0_part37_skel, k0_part41_eq_skeleton, k0_part41_skel, k0_part45_eq_skeleton, k0_part45_skel, k0_part49_eq_skeleton, k0_part49_skel, k0_part53_eq_skeleton, k0_part53_skel, k0_part57_eq_skeleton, k0_part57_skel, bind_assoc, pure_bind]
  sl_kernel_rfl

set_option maxHeartbeats 4000000 in
set_option maxRecDepth 65536 in
/-- A point between the first and the last, at placing 0. -/
theorem body_mid0 (i : grid0.Coords) (arg1 : Memref sig .tc .smem S8x128 .i32) (harg1 : arg1.IsWhole) (arg2 : Memref sig .tc .smem S8x128 .i32) (harg2 : arg2.IsWhole)
  (arg3 : Memref sig .tc .smem S8x128 .i32) (harg3 : arg3.IsWhole) (arg4 : Memref sig .tc .vmem S8x2048 .f32) (harg4 : arg4.IsWhole)
  (arg5 : Memref sig .tc .vmem S1x128x8 .f32) (harg5 : arg5.IsWhole) (arg6 : Memref sig .tc .hbm S16384x1x2048 .i32) (harg6 : arg6.IsWhole)
  (arg7 : Memref sig .tc .vmem S8x2048 .f32) (harg7 : arg7.IsWhole) (arg8 : Memref sig .tc .vmem S1024x2048 .i32) (harg8 : arg8.IsWhole)
  (arg9 : Memref sig .tc .vmem S1024x2048 .i32) (harg9 : arg9.IsWhole) (arg10 : Memref sig .tc .vmem S1024x2048 .i32) (harg10 : arg10.IsWhole)
  (arg11 : DmaSems sig S3) (h1 : ¬ k0_cond1 i = 1#1) (h2 : k0_cond2 i = 1#1) (h3 : ¬ k0_cond3 i = 1#1) (h4 : ¬ k0_cond4 i = 1#1) (h5 : ¬ k0_cond5 i = 1#1) :
    cc0_peer_gather (F := F) i arg1 harg1 arg2 harg2 arg3 harg3 arg4 harg4 arg5 harg5 arg6 harg6 arg7 harg7 arg8 harg8 arg9 harg9 arg10 harg10 arg11 =
      step arg3 arg4 arg5 arg6 arg7 arg8 arg10 (cell0 arg11) (cell2 arg11) (k0_chk33 i) (k0_chk33.dec i) (fun w hw => hw h2) (pure ⟨⟩) := by
  simp only [cc0_peer_gather_eq_skeleton, cc0_peer_gather_skel, k0_part180_eq_skeleton, k0_part180_skel, dif_neg h1, dif_pos h2, dif_neg h3, dif_neg h4, dif_neg h5,
    bind_assoc, pure_bind]
  simp (config := {maxSteps := 100000000}) only [k0_part60_eq_skeleton, k0_part60_skel, k0_part2_eq_skeleton, k0_part2_skel, k0_part5_eq_skeleton, k0_part5_skel, k0_part8_eq_skeleton, k0_part8_skel, k0_part12_eq_skeleton, k0_part12_skel, k0_part15_eq_skeleton, k0_part15_skel, k0_part18_eq_skeleton, k0_part18_skel, k0_part22_eq_skeleton, k0_part22_skel, k0_part25_eq_skeleton, k0_part25_skel, k0_part29_eq_skeleton, k0_part29_skel, k0_part33_eq_skeleton, k0_part33_skel, k0_part37_eq_skeleton, k0_part37_skel, k0_part41_eq_skeleton, k0_part41_skel, k0_part45_eq_skeleton, k0_part45_skel, k0_part49_eq_skeleton, k0_part49_skel, k0_part53_eq_skeleton, k0_part53_skel, k0_part57_eq_skeleton, k0_part57_skel, bind_assoc, pure_bind]
  sl_kernel_rfl

set_option maxHeartbeats 4000000 in
set_option maxRecDepth 65536 in
/-- A point between the first and the last, at placing 1. -/
theorem body_mid1 (i : grid0.Coords) (arg1 : Memref sig .tc .smem S8x128 .i32) (harg1 : arg1.IsWhole) (arg2 : Memref sig .tc .smem S8x128 .i32) (harg2 : arg2.IsWhole)
  (arg3 : Memref sig .tc .smem S8x128 .i32) (harg3 : arg3.IsWhole) (arg4 : Memref sig .tc .vmem S8x2048 .f32) (harg4 : arg4.IsWhole)
  (arg5 : Memref sig .tc .vmem S1x128x8 .f32) (harg5 : arg5.IsWhole) (arg6 : Memref sig .tc .hbm S16384x1x2048 .i32) (harg6 : arg6.IsWhole)
  (arg7 : Memref sig .tc .vmem S8x2048 .f32) (harg7 : arg7.IsWhole) (arg8 : Memref sig .tc .vmem S1024x2048 .i32) (harg8 : arg8.IsWhole)
  (arg9 : Memref sig .tc .vmem S1024x2048 .i32) (harg9 : arg9.IsWhole) (arg10 : Memref sig .tc .vmem S1024x2048 .i32) (harg10 : arg10.IsWhole)
  (arg11 : DmaSems sig S3) (h1 : ¬ k0_cond1 i = 1#1) (h2 : ¬ k0_cond2 i = 1#1) (h3 : k0_cond3 i = 1#1) (h4 : ¬ k0_cond4 i = 1#1) (h5 : ¬ k0_cond5 i = 1#1) :
    cc0_peer_gather (F := F) i arg1 harg1 arg2 harg2 arg3 harg3 arg4 harg4 arg5 harg5 arg6 harg6 arg7 harg7 arg8 harg8 arg9 harg9 arg10 harg10 arg11 =
      step arg3 arg4 arg5 arg6 arg7 arg9 arg8 (cell1 arg11) (cell0 arg11) (k0_chk65 i) (k0_chk65.dec i) (fun w hw => hw h3) (pure ⟨⟩) := by
  simp only [cc0_peer_gather_eq_skeleton, cc0_peer_gather_skel, k0_part180_eq_skeleton, k0_part180_skel, dif_neg h1, dif_neg h2, dif_pos h3, dif_neg h4, dif_neg h5,
    bind_assoc, pure_bind]
  simp (config := {maxSteps := 100000000}) only [k0_part119_eq_skeleton, k0_part119_skel, k0_part61_eq_skeleton, k0_part61_skel, k0_part64_eq_skeleton, k0_part64_skel, k0_part67_eq_skeleton, k0_part67_skel, k0_part71_eq_skeleton, k0_part71_skel, k0_part74_eq_skeleton, k0_part74_skel, k0_part77_eq_skeleton, k0_part77_skel, k0_part81_eq_skeleton, k0_part81_skel, k0_part84_eq_skeleton, k0_part84_skel, k0_part88_eq_skeleton, k0_part88_skel, k0_part92_eq_skeleton, k0_part92_skel, k0_part96_eq_skeleton, k0_part96_skel, k0_part100_eq_skeleton, k0_part100_skel, k0_part104_eq_skeleton, k0_part104_skel, k0_part108_eq_skeleton, k0_part108_skel, k0_part112_eq_skeleton, k0_part112_skel, k0_part116_eq_skeleton, k0_part116_skel, bind_assoc, pure_bind]
  sl_kernel_rfl

set_option maxHeartbeats 4000000 in
set_option maxRecDepth 65536 in
/-- A point between the first and the last, at placing 2. -/
theorem body_mid2 (i : grid0.Coords) (arg1 : Memref sig .tc .smem S8x128 .i32) (harg1 : arg1.IsWhole) (arg2 : Memref sig .tc .smem S8x128 .i32) (harg2 : arg2.IsWhole)
  (arg3 : Memref sig .tc .smem S8x128 .i32) (harg3 : arg3.IsWhole) (arg4 : Memref sig .tc .vmem S8x2048 .f32) (harg4 : arg4.IsWhole)
  (arg5 : Memref sig .tc .vmem S1x128x8 .f32) (harg5 : arg5.IsWhole) (arg6 : Memref sig .tc .hbm S16384x1x2048 .i32) (harg6 : arg6.IsWhole)
  (arg7 : Memref sig .tc .vmem S8x2048 .f32) (harg7 : arg7.IsWhole) (arg8 : Memref sig .tc .vmem S1024x2048 .i32) (harg8 : arg8.IsWhole)
  (arg9 : Memref sig .tc .vmem S1024x2048 .i32) (harg9 : arg9.IsWhole) (arg10 : Memref sig .tc .vmem S1024x2048 .i32) (harg10 : arg10.IsWhole)
  (arg11 : DmaSems sig S3) (h1 : ¬ k0_cond1 i = 1#1) (h2 : ¬ k0_cond2 i = 1#1) (h3 : ¬ k0_cond3 i = 1#1) (h4 : k0_cond4 i = 1#1) (h5 : ¬ k0_cond5 i = 1#1) :
    cc0_peer_gather (F := F) i arg1 harg1 arg2 harg2 arg3 harg3 arg4 harg4 arg5 harg5 arg6 harg6 arg7 harg7 arg8 harg8 arg9 harg9 arg10 harg10 arg11 =
      step arg3 arg4 arg5 arg6 arg7 arg10 arg9 (cell2 arg11) (cell1 arg11) (k0_chk97 i) (k0_chk97.dec i) (fun w hw => hw h4) (pure ⟨⟩) := by
  simp only [cc0_peer_gather_eq_skeleton, cc0_peer_gather_skel, k0_part180_eq_skeleton, k0_part180_skel, dif_neg h1, dif_neg h2, dif_neg h3, dif_pos h4, dif_neg h5,
    bind_assoc, pure_bind]
  simp (config := {maxSteps := 100000000}) only [k0_part178_eq_skeleton, k0_part178_skel, k0_part120_eq_skeleton, k0_part120_skel, k0_part123_eq_skeleton, k0_part123_skel, k0_part126_eq_skeleton, k0_part126_skel, k0_part130_eq_skeleton, k0_part130_skel, k0_part133_eq_skeleton, k0_part133_skel, k0_part136_eq_skeleton, k0_part136_skel, k0_part140_eq_skeleton, k0_part140_skel, k0_part143_eq_skeleton, k0_part143_skel, k0_part147_eq_skeleton, k0_part147_skel, k0_part151_eq_skeleton, k0_part151_skel, k0_part155_eq_skeleton, k0_part155_skel, k0_part159_eq_skeleton, k0_part159_skel, k0_part163_eq_skeleton, k0_part163_skel, k0_part167_eq_skeleton, k0_part167_skel, k0_part171_eq_skeleton, k0_part171_skel, k0_part175_eq_skeleton, k0_part175_skel, bind_assoc, pure_bind]
  sl_kernel_rfl

set_option maxHeartbeats 4000000 in
set_option maxRecDepth 65536 in
/-- The last point: the step at the second placing, then the two other buffers waited for. -/
theorem body_last (i : grid0.Coords) (arg1 : Memref sig .tc .smem S8x128 .i32) (harg1 : arg1.IsWhole) (arg2 : Memref sig .tc .smem S8x128 .i32) (harg2 : arg2.IsWhole)
  (arg3 : Memref sig .tc .smem S8x128 .i32) (harg3 : arg3.IsWhole) (arg4 : Memref sig .tc .vmem S8x2048 .f32) (harg4 : arg4.IsWhole)
  (arg5 : Memref sig .tc .vmem S1x128x8 .f32) (harg5 : arg5.IsWhole) (arg6 : Memref sig .tc .hbm S16384x1x2048 .i32) (harg6 : arg6.IsWhole)
  (arg7 : Memref sig .tc .vmem S8x2048 .f32) (harg7 : arg7.IsWhole) (arg8 : Memref sig .tc .vmem S1024x2048 .i32) (harg8 : arg8.IsWhole)
  (arg9 : Memref sig .tc .vmem S1024x2048 .i32) (harg9 : arg9.IsWhole) (arg10 : Memref sig .tc .vmem S1024x2048 .i32) (harg10 : arg10.IsWhole)
  (arg11 : DmaSems sig S3) (h1 : ¬ k0_cond1 i = 1#1) (h2 : ¬ k0_cond2 i = 1#1) (h3 : k0_cond3 i = 1#1) (h4 : ¬ k0_cond4 i = 1#1) (h5 : k0_cond5 i = 1#1) (h6 : ¬ k0_cond6 i = 1#1) (h7 : k0_cond7 i = 1#1) (h8 : ¬ k0_cond8 i = 1#1) :
    cc0_peer_gather (F := F) i arg1 harg1 arg2 harg2 arg3 harg3 arg4 harg4 arg5 harg5 arg6 harg6 arg7 harg7 arg8 harg8 arg9 harg9 arg10 harg10 arg11 =
      step arg3 arg4 arg5 arg6 arg7 arg9 arg8 (cell1 arg11) (cell0 arg11) (k0_chk65 i) (k0_chk65.dec i) (fun w hw => hw h3) (do
        waitRows arg6 arg10 (cell2 arg11)
        waitRows arg6 arg8 (cell0 arg11)
        pure ⟨⟩) := by
  simp only [cc0_peer_gather_eq_skeleton, cc0_peer_gather_skel, k0_part180_eq_skeleton, k0_part180_skel, dif_neg h1, dif_neg h2, dif_pos h3, dif_neg h4, dif_pos h5, dif_neg h6, dif_pos h7, dif_neg h8,
    bind_assoc, pure_bind]
  simp (config := {maxSteps := 100000000}) only [k0_part119_eq_skeleton, k0_part119_skel, k0_part179_eq_skeleton, k0_part179_skel, dif_neg h6, dif_pos h7, k0_part61_eq_skeleton, k0_part61_skel, k0_part64_eq_skeleton, k0_part64_skel, k0_part67_eq_skeleton, k0_part67_skel, k0_part71_eq_skeleton, k0_part71_skel, k0_part74_eq_skeleton, k0_part74_skel, k0_part77_eq_skeleton, k0_part77_skel, k0_part81_eq_skeleton, k0_part81_skel, k0_part84_eq_skeleton, k0_part84_skel, k0_part88_eq_skeleton, k0_part88_skel, k0_part92_eq_skeleton, k0_part92_skel, k0_part96_eq_skeleton, k0_part96_skel, k0_part100_eq_skeleton, k0_part100_skel, k0_part104_eq_skeleton, k0_part104_skel, k0_part108_eq_skeleton, k0_part108_skel, k0_part112_eq_skeleton, k0_part112_skel, k0_part116_eq_skeleton, k0_part116_skel, bind_assoc, pure_bind]
  sl_kernel_rfl

end Cert.KernelIdeal.Step

end
-- ==== Proof.Points.lean ====
module

public import proofs.«01_k».proof.Proof.Gen.KernelIdeal
public import Idealize.ShloMosaic.Lib.Decide

@[expose] public section

noncomputable section

/-! # The grid points, by their place in the ring

Which of the body's branches a grid point takes, from its number; and the blocks of expert numbers its three windows are at. -/

namespace Cert.KernelIdeal.Points

open Idealize.ShloMosaic Idealize.SL.Sem
open Cert.KernelIdeal

theorem first (t : Fin 2048) : k0_cond1 (grid0.coords t) = 1#1 ↔ t.val = 0 := by revert t; decide +kernel
theorem ring0 (t : Fin 2048) : k0_cond2 (grid0.coords t) = 1#1 ↔ t.val % 3 = 0 := by revert t; decide +kernel
theorem ring1 (t : Fin 2048) : k0_cond3 (grid0.coords t) = 1#1 ↔ t.val % 3 = 1 := by revert t; decide +kernel
theorem ring2 (t : Fin 2048) : k0_cond4 (grid0.coords t) = 1#1 ↔ t.val % 3 = 2 := by revert t; decide +kernel
theorem last (t : Fin 2048) : k0_cond5 (grid0.coords t) = 1#1 ↔ t.val = 2047 := by revert t; decide +kernel
theorem drain0 (t : Fin 2048) : k0_cond6 (grid0.coords t) = 1#1 ↔ t.val % 3 = 0 := by revert t; decide +kernel
theorem drain1 (t : Fin 2048) : k0_cond7 (grid0.coords t) = 1#1 ↔ t.val % 3 = 1 := by revert t; decide +kernel
theorem drain2 (t : Fin 2048) : k0_cond8 (grid0.coords t) = 1#1 ↔ t.val % 3 = 2 := by revert t; decide +kernel

theorem block0 (t : Fin 2048) : cc0_transform_0 (grid0.coords t) = ![t.val, 0] := by revert t; decide +kernel
theorem block1 (t : Fin 2048) : cc0_transform_1 (grid0.coords t) = ![min (t.val + 1) 2047, 0] := by revert t; decide +kernel
theorem block2 (t : Fin 2048) : cc0_transform_2 (grid0.coords t) = ![min (t.val + 2) 2047, 0] := by revert t; decide +kernel

end Cert.KernelIdeal.Points

end
-- ==== Proof.Ring.lean ====
module

public import proofs.«01_k».proof.Proof.Value
public import proofs.«01_k».proof.Proof.Body
public import proofs.«01_k».proof.Proof.Points
public import proofs.«01_k».proof.Proof.Gen.KernelIdeal.Frame

@[expose] public section

set_option maxRecDepth 16384

noncomputable section

/-! # The ring of row buffers between grid points

Which buffers have rows in flight before each point, which one is at rest, and the shares of the table each of them holds. -/

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Transfers (shareTok shareDrop)
open Cert.KernelIdeal Cert.KernelIdeal.Gen Cert.KernelIdeal.Step

variable {F : FTy → Type} [FloatOps F] [Named F]

local notation "𝕄" => MT nD τ sig Unit (Elt F) ℕ (Pipeline.UD sig nD τ) ℕ

variable (m : (ℓ : Loc nD τ sig) → Buf (Elt F) ℓ) (c : Dev nD)

/-! ## The blocks of expert numbers -/

/-- The index a block of expert numbers has in the whole array. -/
def blockIdx (k : ℕ) (i : S8x128.Idx) : S16384x128.Idx := fun a => match a with
  | 0 => ⟨8 * min k 2047 + (i 0).val, by have : (i 0).val < 8 := (i 0).isLt; show _ < 16384; omega⟩
  | 1 => ⟨(i 1).val, (i 1).isLt⟩

/-- Block `k` of the expert numbers, the last one past the end. -/
def experts (k : ℕ) : S8x128.Idx → Elt F .i32 := fun i => V m c main_arg1 (blockIdx k i)

theorem iblk0_eq (t : Fin 2048) : iblk m c 0 t = experts m c t.val := by
  funext i
  have h : (Rect.block (s := S16384x128) S8x128.size (cc0_transform_0 (grid0.coords t)) (hinb0_0 (grid0.coords t))).emb i = blockIdx t.val i := by
    have e := Points.block0 t
    have ht := t.isLt
    funext a; apply Fin.ext
    match a with
    | 0 =>
      show cc0_transform_0 (grid0.coords t) 0 * 8 + 1 * (i 0).val = 8 * min t.val 2047 + (i 0).val
      rw [e]; show t.val * 8 + _ = _; omega
    | 1 =>
      show cc0_transform_0 (grid0.coords t) 1 * 128 + 1 * (i 1).val = (i 1).val
      rw [e]; show 0 * 128 + _ = _; omega
  exact congrArg (V m c main_arg1) h

theorem iblk1_eq (t : Fin 2048) : iblk m c 1 t = experts m c (t.val + 1) := by
  funext i
  have h : (Rect.block (s := S16384x128) S8x128.size (cc0_transform_1 (grid0.coords t)) (hinb0_1 (grid0.coords t))).emb i = blockIdx (t.val + 1) i := by
    have e := Points.block1 t
    funext a; apply Fin.ext
    match a with
    | 0 =>
      show cc0_transform_1 (grid0.coords t) 0 * 8 + 1 * (i 0).val = 8 * min (t.val + 1) 2047 + (i 0).val
      rw [e]; show min (t.val + 1) 2047 * 8 + _ = _; omega
    | 1 =>
      show cc0_transform_1 (grid0.coords t) 1 * 128 + 1 * (i 1).val = (i 1).val
      rw [e]; show 0 * 128 + _ = _; omega
  exact congrArg (V m c main_arg1) h

theorem iblk2_eq (t : Fin 2048) : iblk m c 2 t = experts m c (t.val + 2) := by
  funext i
  have h : (Rect.block (s := S16384x128) S8x128.size (cc0_transform_2 (grid0.coords t)) (hinb0_2 (grid0.coords t))).emb i = blockIdx (t.val + 2) i := by
    have e := Points.block2 t
    funext a; apply Fin.ext
    match a with
    | 0 =>
      show cc0_transform_2 (grid0.coords t) 0 * 8 + 1 * (i 0).val = 8 * min (t.val + 2) 2047 + (i 0).val
      rw [e]; show min (t.val + 2) 2047 * 8 + _ = _; omega
    | 1 =>
      show cc0_transform_2 (grid0.coords t) 1 * 128 + 1 * (i 1).val = (i 1).val
      rw [e]; show 0 * 128 + _ = _; omega
  exact congrArg (V m c main_arg1) h

/-! ## The buffers, their semaphores, their shares of the table -/

/-- The packed table. -/
abbrev tabM : Memref sig .tc .hbm S16384x1x2048 .i32 := Memref.whole main_arg3
/-- The three buffers of rows. -/
def buf : Fin 3 → Memref sig .tc .vmem S1024x2048 .i32
  | 0 => Memref.whole cc0_scratch0
  | 1 => Memref.whole cc0_scratch1
  | 2 => Memref.whole cc0_scratch2
/-- Their semaphores. -/
def cell : Fin 3 → DmaSem sig
  | 0 => cell0 cc0_scratch3
  | 1 => cell1 cc0_scratch3
  | 2 => cell2 cc0_scratch3
/-- The share of the table left when `j` buffers have theirs. -/
def left : ℕ → PosShare TreeShare
  | 0 => fullShare
  | j + 1 => shareDrop (left j) 1024
/-- Buffer `j`'s shares of the table, one a row. -/
def tok (j : Fin 3) : Fin 1024 → PosShare TreeShare := shareTok (left j.val) 1024
/-- A row's units. -/
def units : ℕ := (rowOf0 0).view.dmaCredit
where
  rowOf0 (r : Fin 1024) := (Memref.whole cc0_scratch0 : Memref sig .tc .vmem S1024x2048 .i32).slice (rowRect r) (fun _ => rfl)

theorem units_pos : 0 < units := by decide
theorem rowUnits (j : Fin 3) : RowUnits (buf j) units := fun o h => by
  match j with
  | 0 => rfl
  | 1 => rfl
  | 2 => rfl

/-- The table's contents. -/
abbrev table : S16384x1x2048.Idx → Elt F .i32 := V m c main_arg3

/-- Buffer `j` at rest, whatever its rows. -/
def rests (j : Fin 3) : sProp 𝕄 := iprop(∃ Y, Resting c tabM (buf j) (table m c) (tok j) (cell j) Y)
/-- Buffer `j` with block `k`'s rows in flight. -/
def flies (j : Fin 3) (k : ℕ) : sProp 𝕄 := Flying c tabM (buf j) (table m c) (tok j) (experts m c k) (cell j) units
/-- What stays aside: the rest of the table's share, and the generator. -/
def aside : sProp 𝕄 := iprop(((c : Thread nD τ).loc main_arg3 ↦{left 3} table m c) ∗ ∃ r, prngReg c r)

/-- The buffer a block's rows go to. -/
def at3 (n : ℕ) : Fin 3 := ⟨n % 3, Nat.mod_lt _ (by decide)⟩

/-- The ring before point `n`: at rest at both ends; between them this block's rows and the next one's in flight. -/
def ring (n : ℕ) : sProp 𝕄 :=
  if n = 0 ∨ n = 2048 then iprop(rests m c 0 ∗ rests m c 1 ∗ rests m c 2 ∗ aside m c)
  else iprop(flies m c (at3 n) n ∗ flies m c (at3 (n + 1)) (n + 1) ∗ rests m c (at3 (n + 2)) ∗ aside m c)

theorem ring_ends {n : ℕ} (h : n = 0 ∨ n = 2048) : ring m c n = iprop(rests m c 0 ∗ rests m c 1 ∗ rests m c 2 ∗ aside m c) := if_pos h
theorem ring_mid {n : ℕ} (h : ¬ (n = 0 ∨ n = 2048)) :
    ring m c n = iprop(flies m c (at3 n) n ∗ flies m c (at3 (n + 1)) (n + 1) ∗ rests m c (at3 (n + 2)) ∗ aside m c) := if_neg h

/-! ## The ring from the launch's buffers, and back -/

/-- The body's own cells. -/
abbrev osem0 : Fin 3 → SemLoc sig := fun j => (![SemLoc.dma 12, SemLoc.dma 13, SemLoc.dma 14] : Fin 3 → SemLoc sig) j
theorem ownSemFacts0 : Pipeline.OwnSemFacts spec0 osem0 := by decide
/-- The array the body's transfers read. -/
def H0 : Finset (Ref sig .tc) := {main_arg3}
theorem H0_sub : H0 ⊆ Pipeline.restRefs sig spec0 := by decide

theorem cell_eq (j : Fin 3) : SemLoc.dma (cell j) = osem0 j := by revert j; decide

theorem launched_eq :
    (Pipeline.ΦD osem0 spec0 H0 (V m) c : sProp 𝕄)
      = iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ (∃ f : Buf (Elt F) ((c : Thread nD τ).loc cc0_scratch2), ((c : Thread nD τ).loc cc0_scratch2) ↦{fullShare} f))
          ∗ (∃ r, prngReg c r)
          ∗ (semVal ((c : Thread nD τ), SemLoc.dma (cell 0)) 0 ∗ semVal ((c : Thread nD τ), SemLoc.dma (cell 1)) 0
            ∗ semVal ((c : Thread nD τ), SemLoc.dma (cell 2)) 0)
          ∗ ((c : Thread nD τ).loc main_arg3 ↦{fullShare} table m c)) := by
  rw [Pipeline.ΦD_eq, scopedRest0_eq, Pipeline.ownSems0_eq_of_list c osem0 [0, 1, 2] (by decide) (by decide),
    BI.bigSep_eq_bigSepL_of_eq (S := H0) [main_arg3] (by decide) (by decide), cell_eq, cell_eq, cell_eq]
  rfl

/-- One buffer's shares of the table dealt out, or gathered. -/
theorem deal (j : Fin 3) : ((c : Thread nD τ).loc main_arg3 ↦{left j.val} table m c : sProp 𝕄)
    ⊣⊢ iprop(((c : Thread nD τ).loc main_arg3 ↦{left (j.val + 1)} table m c) ∗ bigSep Finset.univ (fun r => Has c tabM (tok j r) (table m c))) := by
  have h : (fun r => Has c tabM (tok j r) (table m c)) = fun r : Fin 1024 => ((c : Thread nD τ).loc main_arg3 ↦{tok j r} table m c : sProp 𝕄) :=
    funext fun r => owns_whole (c : Thread nD τ) main_arg3 (tok j r) (table m c)
  rw [h]
  exact Transfers.pointsTo_toks (left j.val) 1024

theorem launched_ring : (Pipeline.ΦD osem0 spec0 H0 (V m) c : sProp 𝕄) ⊣⊢ ring m c 0 := by
  rw [launched_eq, ring_ends m c (.inl rfl)]
  unfold rests Resting aside
  constructor
  · iintro ⟨⟨⟨%f0, H0⟩, ⟨%f1, H1⟩, ⟨%f2, H2⟩⟩, Hr, ⟨S0, S1, S2⟩, HT⟩
    ihave HT := (show ((c : Thread nD τ).loc main_arg3 ↦{fullShare} table m c : sProp 𝕄)
      ⊢ iprop(((c : Thread nD τ).loc main_arg3 ↦{left 1} table m c) ∗ bigSep Finset.univ (fun r => Has c tabM (tok 0 r) (table m c))) from (deal m c 0).1) $$ HT
    icases HT with ⟨HT, K0⟩
    ihave HT := (show ((c : Thread nD τ).loc main_arg3 ↦{left 1} table m c : sProp 𝕄)
      ⊢ iprop(((c : Thread nD τ).loc main_arg3 ↦{left 2} table m c) ∗ bigSep Finset.univ (fun r => Has c tabM (tok 1 r) (table m c))) from (deal m c 1).1) $$ HT
    icases HT with ⟨HT, K1⟩
    ihave HT := (show ((c : Thread nD τ).loc main_arg3 ↦{left 2} table m c : sProp 𝕄)
      ⊢ iprop(((c : Thread nD τ).loc main_arg3 ↦{left 3} table m c) ∗ bigSep Finset.univ (fun r => Has c tabM (tok 2 r) (table m c))) from (deal m c 2).1) $$ HT
    icases HT with ⟨HT, K2⟩
    isplitl [H0 K0 S0]
    · iexists f0
      isplitl [H0]
      · iapply (Entails.of_eq (owns_whole (c : Thread nD τ) cc0_scratch0 fullShare f0).symm) $$ H0
      isplitl [K0] <;> iassumption
    isplitl [H1 K1 S1]
    · iexists f1
      isplitl [H1]
      · iapply (Entails.of_eq (owns_whole (c : Thread nD τ) cc0_scratch1 fullShare f1).symm) $$ H1
      isplitl [K1] <;> iassumption
    isplitl [H2 K2 S2]
    · iexists f2
      isplitl [H2]
      · iapply (Entails.of_eq (owns_whole (c : Thread nD τ) cc0_scratch2 fullShare f2).symm) $$ H2
      isplitl [K2] <;> iassumption
    isplitl [HT]
    · iexact HT
    · iexact Hr
  · iintro ⟨⟨%f0, H0, K0, S0⟩, ⟨%f1, H1, K1, S1⟩, ⟨%f2, H2, K2, S2⟩, HT, Hr⟩
    isplitl [H0 H1 H2]
    · isplitl [H0]
      · iexists f0
        iapply (show Has c (buf 0) fullShare f0 ⊢ _ from Entails.of_eq (owns_whole (c : Thread nD τ) cc0_scratch0 fullShare f0)) $$ H0
      isplitl [H1]
      · iexists f1
        iapply (show Has c (buf 1) fullShare f1 ⊢ _ from Entails.of_eq (owns_whole (c : Thread nD τ) cc0_scratch1 fullShare f1)) $$ H1
      iexists f2
      iapply (show Has c (buf 2) fullShare f2 ⊢ _ from Entails.of_eq (owns_whole (c : Thread nD τ) cc0_scratch2 fullShare f2)) $$ H2
    isplitl [Hr]; · iexact Hr
    isplitl [S0 S1 S2]
    · isplitl [S0]; · iexact S0
      isplitl [S1] <;> iassumption
    iapply (deal m c 0).2
    isplitr [K0]; swap; · iexact K0
    iapply (deal m c 1).2
    isplitr [K1]; swap; · iexact K1
    iapply (deal m c 2).2
    isplitr [K2]; swap; · iexact K2
    iexact HT

end Cert.KernelIdeal.Ring

end
-- ==== Proof.Frame.lean ====
module

public import proofs.«01_k».proof.Proof.Ring

@[expose] public section

set_option maxRecDepth 16384

noncomputable section

/-! # The kernel's run

Every grid point takes the ring one place on and writes its window; so the whole call runs, given that every expert number names
a row of the table. -/

namespace Cert.KernelIdeal.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.Step

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg) (c : Dev nD)

/-- Every expert number names a row of the table. -/
def InTable : Prop := ∀ (c : Dev nD) (i : S16384x128.Idx), (m ((c : Thread nD τ).loc main_arg1) i : BitVec 32).toNat < 16384

/-- The window the body leaves at a point. -/
def outBlk (t : Fin 2048) : S8x2048.Idx → Elt F .f32 :=
  outAt (fetched (experts m c t.val) (table m c)) (activeVal (fetched (experts m c t.val) (table m c)) (iblk m c 3 t) (iblk m c 4 t))

/-! ## One point -/

section Point

variable {m c}
variable {α : Type} {Q : α → sProp (MT nD τ sig Unit (Elt F) ℕ (Pipeline.UD sig nD τ) ℕ)}
variable {e : Memref sig .tc .smem S8x128 .i32} {x : Memref sig .tc .vmem S8x2048 .f32} {g : Memref sig .tc .vmem S1x128x8 .f32}
  {o : Memref sig .tc .vmem S8x2048 .f32}
  {chk : BitVec 32 → Prop} {dec : ∀ w, Decidable (chk w)}
  {hchk : ∀ w, chk w → ∀ a, (![w.toNat, 0, 0] : Fin 3 → ℕ) a + S1x1x2048.size a ≤ S16384x1x2048.size a}
  {O : S8x2048.Idx → Elt F .f32}

theorem row_inb {w : BitVec 32} (h : w.toNat < 16384) : ∀ a, (![w.toNat, 0, 0] : Fin 3 → ℕ) a + S1x1x2048.size a ≤ S16384x1x2048.size a := by
  intro a
  match a with
  | 0 => show w.toNat + 1 ≤ 16384; omega
  | 1 => show 0 + 1 ≤ 1; omega
  | 2 => show 0 + 2048 ≤ 2048; omega

theorem ready (hm : InTable m) (j : Fin 3) (k : ℕ) (hp : ∀ w : BitVec 32, w.toNat < 16384 → chk w) :
    Ready (buf j) units chk (experts m c k) where
  units := rowUnits j
  names i := by
    show (V m c main_arg1 (blockIdx k i) : BitVec 32).toNat < 16384
    rw [V_main_arg1]; exact hm c _
  passes := hp

/-- The step at point `t`, from buffer `j`'s rows in flight and buffer `j'` at rest. -/
theorem ring_step (hm : InTable m) (t : Fin 2048) (j j' : Fin 3) (hp : ∀ w : BitVec 32, w.toNat < 16384 → chk w)
    {k : Prog (TpuEff nD τ sig (Elt F) Λ₀ .tc) α} :
    (iprop(flies m c j t.val ∗ rests m c j' ∗ Has c e fullShare (experts m c (t.val + 2)) ∗ Has c x fullShare (iblk m c 3 t)
        ∗ Has c g fullShare (iblk m c 4 t) ∗ Has c o fullShare O ∗ ∃ W, owes (c : Thread nD τ) 0 W) : sProp 𝕄)
      ⊢ iprop((iprop(flies m c j' (t.val + 2) ∗ rests m c j ∗ Has c e fullShare (experts m c (t.val + 2)) ∗ Has c x fullShare (iblk m c 3 t)
            ∗ Has c g fullShare (iblk m c 4 t) ∗ Has c o fullShare (outBlk m c t) ∗ ∃ W, owes (c : Thread nD τ) 0 W) -∗ Runs c k Q)
        -∗ Runs c (step e x g tabM o (buf j) (buf j') (cell j) (cell j') chk dec hchk k) Q) := by
  unfold flies rests outBlk
  iintro ⟨HF, ⟨%Y, HR⟩, He, Hx, Hg, Ho, HW⟩ Hk
  iapply (step_runs (rowUnits j) units_pos (ready (c := c) hm j' (t.val + 2) hp)) $$ [HF HR He Hx Hg Ho HW]
  · isplitl [HF]; · iexact HF
    isplitl [HR]; · iexact HR
    isplitl [He]; · iexact He
    isplitl [Hx]; · iexact Hx
    isplitl [Hg]; · iexact Hg
    isplitl [Ho] <;> iassumption
  rw [stepVal_eq]
  iintro ⟨HF, HR, He, Hx, Hg, Ho, HW⟩
  iapply Hk
  isplitl [HF]; · iexact HF
  isplitl [HR]; · iexists _; iexact HR
  isplitl [He]; · iexact He
  isplitl [Hx]; · iexact Hx
  isplitl [Hg]; · iexact Hg
  isplitl [Ho] <;> iassumption

/-- A buffer filled from rest. -/
theorem ring_fill (hm : InTable m) (j : Fin 3) (b : ℕ) (hp : ∀ w : BitVec 32, w.toNat < 16384 → chk w)
    {k : Prog (TpuEff nD τ sig (Elt F) Λ₀ .tc) α} :
    (iprop(rests m c j ∗ Has c e fullShare (experts m c b)) : sProp 𝕄)
      ⊢ iprop((iprop(flies m c j b ∗ Has c e fullShare (experts m c b)) -∗ Runs c k Q)
        -∗ Runs c (fill e tabM (buf j) (cell j) chk dec hchk 8 (by decide) k) Q) := by
  unfold flies rests
  iintro ⟨⟨%Y, HR⟩, He⟩ Hk
  imod (rest_sent (N := units) (E := experts m c b) (Equiv.refl (Fin 1024))) $$ HR with HS
  iapply (fill_runs (ready (c := c) hm j b hp) 8 _) $$ [He HS]
  · isplitl [He] <;> iassumption
  iintro ⟨He, HS⟩
  iapply Hk
  isplitr [He]; swap; · iexact He
  iapply (sent_flying (Equiv.refl (Fin 1024))) $$ HS

/-- A buffer's rows waited for. -/
theorem ring_wait (j : Fin 3) (b : ℕ) {k : Unit → Prog (TpuEff nD τ sig (Elt F) Λ₀ .tc) α} :
    (iprop(flies m c j b ∗ ∃ W, owes (c : Thread nD τ) 0 W) : sProp 𝕄)
      ⊢ iprop((iprop(rests m c j ∗ ∃ W, owes (c : Thread nD τ) 0 W) -∗ Runs c (k ⟨⟩) Q)
        -∗ Runs c (waitRows tabM (buf j) (cell j) >>= k) Q) := by
  unfold flies rests
  iintro H Hk
  iapply (waitRows_runs (rowUnits j) units_pos) $$ H
  iintro ⟨HR, HW⟩
  iapply Hk
  isplitr [HW]; swap; · iexact HW
  iexists _; iexact HR

end Point

/-- The windows' buffers before a point, the output's at contents `O`. -/
def held (t : Fin 2048) (O : S8x2048.Idx → Elt F .f32) : sProp 𝕄 :=
  iprop(Has c (st0_0 t) fullShare (experts m c t.val) ∗ Has c (st0_1 t) fullShare (experts m c (t.val + 1))
    ∗ Has c (st0_2 t) fullShare (experts m c (t.val + 2)) ∗ Has c (st0_3 t) fullShare (iblk m c 3 t)
    ∗ Has c (st0_4 t) fullShare (iblk m c 4 t) ∗ Has c (st0_5 t) fullShare O ∗ ∃ W, owes (c : Thread nD τ) 0 W)

variable {m} in
/-- A point between the first and the last. -/
theorem point_mid (hm : InTable m) (t : Fin 2048) (h0 : t.val ≠ 0) (hl : t.val ≠ 2047) (O : S8x2048.Idx → Elt F .f32) :
    (iprop(ring m c t.val ∗ held m c t O) : sProp 𝕄)
      ⊢ Runs c (bodyAt0 t) (fun _ => iprop(ring m c (t.val + 1) ∗ held m c t (outBlk m c t))) := by
  have ht := t.isLt
  have run (j j' j'' : Fin 3) (hj : at3 t.val = j) (hj' : at3 (t.val + 2) = j') (hj'' : at3 (t.val + 1) = j'')
      {chk : BitVec 32 → Prop} {dec : ∀ w, Decidable (chk w)}
      {hchk : ∀ w, chk w → ∀ a, (![w.toNat, 0, 0] : Fin 3 → ℕ) a + S1x1x2048.size a ≤ S16384x1x2048.size a}
      (hp : ∀ w : BitVec 32, w.toNat < 16384 → chk w) :
      (iprop(ring m c t.val ∗ held m c t O) : sProp 𝕄)
        ⊢ Runs c (step (st0_2 t) (st0_3 t) (st0_4 t) tabM (st0_5 t) (buf j) (buf j') (cell j) (cell j') chk dec hchk (pure ⟨⟩))
            (fun _ : PUnit => iprop(ring m c (t.val + 1) ∗ held m c t (outBlk m c t))) := by
    rw [ring_mid m c (by omega), ring_mid m c (by omega), show at3 (t.val + 1 + 2) = at3 t.val from Fin.ext (by
      show (t.val + 1 + 2) % 3 = t.val % 3; omega), show t.val + 1 + 1 = t.val + 2 from rfl, hj, hj', hj'']
    unfold held
    iintro ⟨⟨HF, HF', HR, HA⟩, H0, H1, H2, H3, H4, H5, HW⟩
    iapply (ring_step hm t j j' hp) $$ [HF HR H2 H3 H4 H5 HW]
    · isplitl [HF]; · iexact HF
      isplitl [HR]; · iexact HR
      isplitl [H2]; · iexact H2
      isplitl [H3]; · iexact H3
      isplitl [H4]; · iexact H4
      isplitl [H5] <;> iassumption
    iintro ⟨HF, HR, H2, H3, H4, H5, HW⟩
    iapply pure_runs
    isplitl [HF HF' HR HA]
    · isplitl [HF']; · iexact HF'
      isplitl [HF]; · iexact HF
      isplitl [HR] <;> iassumption
    isplitl [H0]; · iexact H0
    isplitl [H1]; · iexact H1
    isplitl [H2]; · iexact H2
    isplitl [H3]; · iexact H3
    isplitl [H4]; · iexact H4
    isplitl [H5] <;> iassumption
  have h1 := (not_congr (Points.first t)).mpr h0
  have h5 := (not_congr (Points.last t)).mpr hl
  have e0 := Points.ring0 t
  have e1 := Points.ring1 t
  have e2 := Points.ring2 t
  obtain h | h | h : t.val % 3 = 0 ∨ t.val % 3 = 1 ∨ t.val % 3 = 2 := by omega
  · unfold bodyAt0
    rw [body_mid0 (h1 := h1) (h2 := e0.mpr h) (h3 := (not_congr e1).mpr (by omega)) (h4 := (not_congr e2).mpr (by omega)) (h5 := h5)]
    exact run 0 2 1 (Fin.ext h) (Fin.ext (by show (t.val + 2) % 3 = 2; omega)) (Fin.ext (by show (t.val + 1) % 3 = 1; omega))
      (fun w hw _ => row_inb hw)
  · unfold bodyAt0
    rw [body_mid1 (h1 := h1) (h2 := (not_congr e0).mpr (by omega)) (h3 := e1.mpr h) (h4 := (not_congr e2).mpr (by omega)) (h5 := h5)]
    exact run 1 0 2 (Fin.ext h) (Fin.ext (by show (t.val + 2) % 3 = 0; omega)) (Fin.ext (by show (t.val + 1) % 3 = 2; omega))
      (fun w hw _ => row_inb hw)
  · unfold bodyAt0
    rw [body_mid2 (h1 := h1) (h2 := (not_congr e0).mpr (by omega)) (h3 := (not_congr e1).mpr (by omega)) (h4 := e2.mpr h) (h5 := h5)]
    exact run 2 1 0 (Fin.ext h) (Fin.ext (by show (t.val + 2) % 3 = 1; omega)) (Fin.ext (by show (t.val + 1) % 3 = 0; omega))
      (fun w hw _ => row_inb hw)

variable {m} in
/-- The first point: two buffers filled before its step. -/
theorem point_first (hm : InTable m) (t : Fin 2048) (h0 : t.val = 0) (O : S8x2048.Idx → Elt F .f32) :
    (iprop(ring m c t.val ∗ held m c t O) : sProp 𝕄)
      ⊢ Runs c (bodyAt0 t) (fun _ => iprop(ring m c (t.val + 1) ∗ held m c t (outBlk m c t))) := by
  have e0 := Points.ring0 t
  have e1 := Points.ring1 t
  have e2 := Points.ring2 t
  have run
      {chk0 : BitVec 32 → Prop} {dec0 : ∀ w, Decidable (chk0 w)}
      {hchk0 : ∀ w, chk0 w → ∀ a, (![w.toNat, 0, 0] : Fin 3 → ℕ) a + S1x1x2048.size a ≤ S16384x1x2048.size a}
      (hp0 : ∀ w : BitVec 32, w.toNat < 16384 → chk0 w)
      {chk1 : BitVec 32 → Prop} {dec1 : ∀ w, Decidable (chk1 w)}
      {hchk1 : ∀ w, chk1 w → ∀ a, (![w.toNat, 0, 0] : Fin 3 → ℕ) a + S1x1x2048.size a ≤ S16384x1x2048.size a}
      (hp1 : ∀ w : BitVec 32, w.toNat < 16384 → chk1 w)
      {chk2 : BitVec 32 → Prop} {dec2 : ∀ w, Decidable (chk2 w)}
      {hchk2 : ∀ w, chk2 w → ∀ a, (![w.toNat, 0, 0] : Fin 3 → ℕ) a + S1x1x2048.size a ≤ S16384x1x2048.size a}
      (hp2 : ∀ w : BitVec 32, w.toNat < 16384 → chk2 w) :
      (iprop(ring m c t.val ∗ held m c t O) : sProp 𝕄)
        ⊢ Runs c (fill (st0_0 t) tabM (buf 0) (cell 0) chk0 dec0 hchk0 8 (by decide) (fill (st0_1 t) tabM (buf 1) (cell 1) chk1 dec1 hchk1 8 (by decide)
            (step (st0_2 t) (st0_3 t) (st0_4 t) tabM (st0_5 t) (buf 0) (buf 2) (cell 0) (cell 2) chk2 dec2 hchk2 (pure ⟨⟩))))
            (fun _ : PUnit => iprop(ring m c (t.val + 1) ∗ held m c t (outBlk m c t))) := by
    rw [ring_ends m c (.inl h0), ring_mid m c (by omega), show at3 (t.val + 1) = 1 from Fin.ext (by show (t.val + 1) % 3 = 1; omega),
      show at3 (t.val + 1 + 1) = 2 from Fin.ext (by show (t.val + 1 + 1) % 3 = 2; omega),
      show at3 (t.val + 1 + 2) = 0 from Fin.ext (by show (t.val + 1 + 2) % 3 = 0; omega)]
    unfold held
    iintro ⟨⟨HR0, HR1, HR2, HA⟩, H0, H1, H2, H3, H4, H5, HW⟩
    iapply (ring_fill hm 0 t.val hp0) $$ [HR0 H0]
    · isplitl [HR0] <;> iassumption
    iintro ⟨HF0, H0⟩
    iapply (ring_fill hm 1 (t.val + 1) hp1) $$ [HR1 H1]
    · isplitl [HR1] <;> iassumption
    iintro ⟨HF1, H1⟩
    iapply (ring_step hm t 0 2 hp2) $$ [HF0 HR2 H2 H3 H4 H5 HW]
    · isplitl [HF0]; · iexact HF0
      isplitl [HR2]; · iexact HR2
      isplitl [H2]; · iexact H2
      isplitl [H3]; · iexact H3
      isplitl [H4]; · iexact H4
      isplitl [H5] <;> iassumption
    iintro ⟨HF2, HR0, H2, H3, H4, H5, HW⟩
    iapply pure_runs
    isplitl [HF1 HF2 HR0 HA]
    · isplitl [HF1]; · iexact HF1
      isplitl [HF2]; · iexact HF2
      isplitl [HR0] <;> iassumption
    isplitl [H0]; · iexact H0
    isplitl [H1]; · iexact H1
    isplitl [H2]; · iexact H2
    isplitl [H3]; · iexact H3
    isplitl [H4]; · iexact H4
    isplitl [H5] <;> iassumption
  unfold bodyAt0
  rw [body_first (h1 := (Points.first t).mpr h0) (h2 := e0.mpr (by omega)) (h3 := (not_congr e1).mpr (by omega))
    (h4 := (not_congr e2).mpr (by omega)) (h5 := (not_congr (Points.last t)).mpr (by omega))]
  exact run (fun w hw _ => row_inb hw) (fun w hw _ => row_inb hw) (fun w hw _ => row_inb hw)

variable {m} in
/-- The last point: the two other buffers waited for after its step. -/
theorem point_last (hm : InTable m) (t : Fin 2048) (hl : t.val = 2047) (O : S8x2048.Idx → Elt F .f32) :
    (iprop(ring m c t.val ∗ held m c t O) : sProp 𝕄)
      ⊢ Runs c (bodyAt0 t) (fun _ => iprop(ring m c (t.val + 1) ∗ held m c t (outBlk m c t))) := by
  have e0 := Points.ring0 t
  have e1 := Points.ring1 t
  have e2 := Points.ring2 t
  have d0 := Points.drain0 t
  have d1 := Points.drain1 t
  have d2 := Points.drain2 t
  have run {chk : BitVec 32 → Prop} {dec : ∀ w, Decidable (chk w)}
      {hchk : ∀ w, chk w → ∀ a, (![w.toNat, 0, 0] : Fin 3 → ℕ) a + S1x1x2048.size a ≤ S16384x1x2048.size a}
      (hp : ∀ w : BitVec 32, w.toNat < 16384 → chk w) :
      (iprop(ring m c t.val ∗ held m c t O) : sProp 𝕄)
        ⊢ Runs c (step (st0_2 t) (st0_3 t) (st0_4 t) tabM (st0_5 t) (buf 1) (buf 0) (cell 1) (cell 0) chk dec hchk
            (waitRows tabM (buf 2) (cell 2) >>= fun _ => waitRows tabM (buf 0) (cell 0) >>= fun _ => pure ⟨⟩))
            (fun _ : PUnit => iprop(ring m c (t.val + 1) ∗ held m c t (outBlk m c t))) := by
    rw [ring_mid m c (by omega), ring_ends m c (n := t.val + 1) (.inr (by omega)), show at3 t.val = 1 from Fin.ext (by show t.val % 3 = 1; omega),
      show at3 (t.val + 1) = 2 from Fin.ext (by show (t.val + 1) % 3 = 2; omega),
      show at3 (t.val + 2) = 0 from Fin.ext (by show (t.val + 2) % 3 = 0; omega)]
    unfold held
    iintro ⟨⟨HF1, HF2, HR0, HA⟩, H0, H1, H2, H3, H4, H5, HW⟩
    iapply (ring_step hm t 1 0 hp) $$ [HF1 HR0 H2 H3 H4 H5 HW]
    · isplitl [HF1]; · iexact HF1
      isplitl [HR0]; · iexact HR0
      isplitl [H2]; · iexact H2
      isplitl [H3]; · iexact H3
      isplitl [H4]; · iexact H4
      isplitl [H5] <;> iassumption
    iintro ⟨HF0, HR1, H2, H3, H4, H5, HW⟩
    iapply (ring_wait 2 (t.val + 1)) $$ [HF2 HW]
    · isplitl [HF2] <;> iassumption
    iintro ⟨HR2, HW⟩
    iapply (ring_wait 0 (t.val + 2)) $$ [HF0 HW]
    · isplitl [HF0] <;> iassumption
    iintro ⟨HR0, HW⟩
    iapply pure_runs
    isplitl [HR0 HR1 HR2 HA]
    · isplitl [HR0]; · iexact HR0
      isplitl [HR1]; · iexact HR1
      isplitl [HR2] <;> iassumption
    isplitl [H0]; · iexact H0
    isplitl [H1]; · iexact H1
    isplitl [H2]; · iexact H2
    isplitl [H3]; · iexact H3
    isplitl [H4]; · iexact H4
    isplitl [H5] <;> iassumption
  unfold bodyAt0
  rw [body_last (h1 := (not_congr (Points.first t)).mpr (by omega)) (h2 := (not_congr e0).mpr (by omega)) (h3 := e1.mpr (by omega))
    (h4 := (not_congr e2).mpr (by omega)) (h5 := (Points.last t).mpr hl) (h6 := (not_congr d0).mpr (by omega)) (h7 := d1.mpr (by omega))
    (h8 := (not_congr d2).mpr (by omega))]
  exact run (fun w hw _ => row_inb hw)

variable {m} in
/-- Any point. -/
theorem point (hm : InTable m) (t : Fin 2048) (O : S8x2048.Idx → Elt F .f32) :
    (iprop(ring m c t.val ∗ held m c t O) : sProp 𝕄)
      ⊢ Runs c (bodyAt0 t) (fun _ => iprop(ring m c (t.val + 1) ∗ held m c t (outBlk m c t))) := by
  by_cases h0 : t.val = 0
  · exact point_first c hm t h0 O
  by_cases hl : t.val = 2047
  · exact point_last c hm t hl O
  exact point_mid c hm t h0 hl O

/-! ## The pipeline's data -/

/-- What the pipeline is proved with: the arrays as the region finds them, the inputs left as they are, the output window at
    `outBlk`, the ring between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
  Φ t := ring m c t.val
  q w := Pipeline.shareOf spec0 w
  owed _ := 0

theorem A_eq (c : Dev nD) (w : Fin cfg0.W) : (dats m 0 c).A w = V m c (Pipeline.arrRef spec0 w) := by
  dsimp only [dats]

/-- An input window's buffer holds its block of the array at every point: the body leaves it as it found it. -/
theorem before_in (t : Fin cfg0.N) : (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t)
    ∧ (∀ d, (dats m 0 c).before 4 t d = iblk m c 4 t) :=
  ⟨fun d => ((dats m 0 c).before_in_eq_fetched 0 rfl (fun _ => rfl) (fun _ _ _ => rfl) (fun t => rfl) t d).trans rfl,
    fun d => ((dats m 0 c).before_in_eq_fetched 1 rfl (fun _ => rfl) (fun _ _ _ => rfl) (fun t => rfl) t d).trans rfl,
    fun d => ((dats m 0 c).before_in_eq_fetched 2 rfl (fun _ => rfl) (fun _ _ _ => rfl) (fun t => rfl) t d).trans rfl,
    fun d => ((dats m 0 c).before_in_eq_fetched 3 rfl (fun _ => rfl) (fun _ _ _ => rfl) (fun t => rfl) t d).trans rfl,
    fun d => ((dats m 0 c).before_in_eq_fetched 4 rfl (fun _ => rfl) (fun _ _ _ => rfl) (fun t => rfl) t d).trans rfl⟩

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

variable {m} in
theorem sound_body (hm : InTable m) (c : Dev nD) (t : Fin cfg0.N) :
    bodyPre m c t ⊢ wp frame (wpE (defs₀ (F := F)) Variants.none c none) Set.univ (bodyAt0 t) (fun _ => bodyPost m c t) := by
  have hin : ∀ O, iprop(ring m c t.val ∗ held m c t O)
      ⊢ Runs c (bodyAt0 t) (fun _ => iprop(ring m c (t.val + 1) ∗ held m c t (outBlk m c t))) := point c hm t
  have hout : iprop(ring m c (t.val + 1) ∗ held m c t (outBlk m c t)) ⊢ bodyPost m c t := by
    unfold bodyPost held
    rw [show (dats m 0 c).Φ t.succ = ring m c (t.val + 1) from rfl]
    rw [show (dats m 0 c).after 0 t = experts m c t.val from iblk0_eq m c t, show (dats m 0 c).after 1 t = experts m c (t.val + 1) from iblk1_eq m c t,
      show (dats m 0 c).after 2 t = experts m c (t.val + 2) from iblk2_eq m c t, show (dats m 0 c).after 3 t = iblk m c 3 t from rfl,
      show (dats m 0 c).after 4 t = iblk m c 4 t from rfl, show (dats m 0 c).after 5 t = outBlk m c t from rfl]
    unfold Dat.owesAt Pipeline.owesWithin
    rw [show (dats m 0 c).owed t.succ = 0 from rfl]
    iintro ⟨HR, H0, H1, H2, H3, H4, H5, ⟨%W, HW⟩⟩
    isplitl [HR]; · iexact HR
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4] <;> iassumption
  refine BIBase.Entails.trans ?_ ((wp frame (wpE (defs₀ (F := F)) Variants.none c none) Set.univ (bodyAt0 t)).mono fun _ => hout)
  unfold bodyPre
  rw [show (dats m 0 c).Φ t.castSucc = ring m c t.val from rfl]
  obtain ⟨b0, b1, b2, b3, b4⟩ := before_in m c t
  simp only [b0, b1, b2, b3, b4]
  rw [show iblk m c 0 t = experts m c t.val from iblk0_eq m c t, show iblk m c 1 t = experts m c (t.val + 1) from iblk1_eq m c t,
      show iblk m c 2 t = experts m c (t.val + 2) from iblk2_eq m c t]
  unfold Dat.owesAt Pipeline.owesWithin
  rw [show (dats m 0 c).owed t.castSucc = 0 from rfl]
  iintro ⟨HR, ⟨%W, -, HW⟩, ⟨%d0, H0⟩, ⟨%d1, H1⟩, ⟨%d2, H2⟩, ⟨%d3, H3⟩, ⟨%d4, H4⟩, ⟨%d5, H5⟩⟩
  iapply (hin ((dats m 0 c).before 5 t d5))
  isplitl [HR]; · iexact HR
  unfold held
  isplitl [H0]; · iexact H0
  isplitl [H1]; · iexact H1
  isplitl [H2]; · iexact H2
  isplitl [H3]; · iexact H3
  isplitl [H4]; · iexact H4
  isplitl [H5]; · iexact H5
  iexists W; iexact HW

theorem defs₀_row (t : Fin cfg0.N) :
    defs₀ (F := F) .tc cfg0.body (cfg0.bodyArgs t (cfg0.slots t)) = bodyAt0 t := by
  unfold defs₀; rw [Defs.onTc_tc]

/-- At every point one of the three steps stores into the output's window. -/
theorem idle_out (t : Fin cfg0.N) : cfg0.idle 5 (cfg0.grid.coords t) = false := by
  have e0 := Points.ring0 t
  have e1 := Points.ring1 t
  have e2 := Points.ring2 t
  show (!(k0_cond2 (grid0.coords t) == 1#1) && !(k0_cond3 (grid0.coords t) == 1#1) && !(k0_cond4 (grid0.coords t) == 1#1)) = false
  obtain h | h | h : t.val % 3 = 0 ∨ t.val % 3 = 1 ∨ t.val % 3 = 2 := by omega
  · rw [e0.mpr h]; rfl
  · rw [e1.mpr h]; simp
  · rw [e2.mpr h]; simp

variable {m} in
theorem body_obligation (hm : InTable m) (c : Dev nD) : BodyObligation (dats (F := F) m 0 c) (defs₀ (F := F)) Variants.none () Set.univ := fun t => by
  rw [bigSep_W0, bigSep_W0, defs₀_row]
  exact triple_restated (sound_body hm c t) rfl .rfl fun _ => by rw [idle_out t]; exact .rfl

/-! ## The run -/

variable {m} in
set_option backward.isDefEq.respectTransparency.types false in
/-- The run: every window's array at its blocks, every other buffer as it was, every semaphore back at zero. -/
theorem run_main (hm : InTable m) : θ_run defs (onTc (τ := τ) (main (F := F))) (s₀ m ρ)
    (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation hm c).loose) (hq := fun _ _ _ => rfl) (howed := fun _ _ => rfl) (V := V m)
    (hmain := Pipeline.hmain_prefix cfgs 0 defs₀ Variants.none m main hostOps0 hostOps0_sub hostOps0_fresh main_chain) (hA := A_eq m)
    (hin := fun c => (launched_ring m c).1)
    (hout := fun c => (show (dats m 0 c).Φ (Fin.last cfg0.N) ⊢ ring m c 0 from Entails.of_eq
      ((ring_ends m c (n := 2048) (.inr rfl)).trans (ring_ends m c (.inl rfl)).symm)).trans (launched_ring m c).2)

variable {m} in
/-- The arguments end as they began, and every semaphore is back at zero. -/
theorem frame (hm : InTable m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 3).trans (((dats m 0 c).arrAt_in 3 rfl _).trans ((A_eq m c 3).trans (V_main_arg0 m c))),
      ((h.1 c).1 2).trans (((dats m 0 c).arrAt_in 2 rfl _).trans ((A_eq m c 2).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main ρ hm)

end Cert.KernelIdeal.Ring

end
-- ==== Proof.Range.lean ====
module

public import proofs.«01_k».proof.Defs
public import proofs.«01_k».proof.Proof.Frame
public import Idealize.ShloMosaic.Lib.ReduceAll

@[expose] public section

noncomputable section

/-! # What the precondition says

Every expert number lies between `0` and `16383`, so read as a number it names a row of the table. -/

namespace Cert.Proof

open Idealize.ShloMosaic Idealize.ShloMosaic.TcCoe

instance preFacts : Cert.Pre_experts_name_rows.Facts where
  bcast_S_S16384x128 := by decide
  reducesTo_S16384x128_S_d0_1 := by decide
  h_S_ := by decide

/-- A word between `0` and `16383` as a signed number is so as an unsigned one. -/
theorem toNat_lt {w : BitVec 32} (h0 : 0 ≤ w.toInt) (h1 : w.toInt < 16384) : w.toNat < 16384 := by
  rw [BitVec.toInt_eq_toNat_cond] at h0 h1
  split at h0 <;> omega

/-- The precondition, read at one expert number. -/
theorem in_table {F : FTy → Type} [FloatOps F] (x : FVec F Cert.Pre_experts_name_rows.S16384x2048 .f32)
    (e : IVec Cert.Pre_experts_name_rows.S16384x128 32) (g : FVec F Cert.Pre_experts_name_rows.S16384x128 .f32)
    (t : IVec Cert.Pre_experts_name_rows.S16384x1x2048 32) (h : Cert.Pre_experts_name_rows.fn x e g t = fun _ => 1#1)
    (i : Cert.Pre_experts_name_rows.S16384x128.Idx) : (e i).toNat < 16384 := by
  haveI : Subsingleton Cert.Pre_experts_name_rows.S_.Idx := ⟨fun a b => funext fun d => d.elim0⟩
  have h1 := Host.reduce_andi_all _ _ _ _ (fun d => d.elim0) (congrFun h fun d => d.elim0) i
  obtain ⟨ha, hb⟩ := IntOp.andi_eq_one.1 h1
  exact toNat_lt (IntOp.cmpi_sge.1 ha) (IntOp.cmpi_slt.1 hb)

end Cert.Proof

end
-- ==== Proof.Same.lean ====
module

public import proofs.«01_k».proof.Defs
public import proofs.«01_k».proof.Proof.Gen.Kernel
public import proofs.«01_k».proof.Proof.Gen.KernelIdeal

@[expose] public section

noncomputable section

/-! # The kernel as printed and the kernel with its constant named

Over bit patterns the two programs are the same text once the named constant reads as the pattern it names, so a run of one is a
run of the other. -/

namespace Cert.Proof

open Idealize.ShloMosaic Idealize.ShloMosaic.TcCoe Idealize.SL.Sem

/-- Over bit patterns a named constant is the pattern it was printed with. -/
instance named_bits : Named Bits := ⟨fun _ _ _ b => Scalar.ofBits _ b⟩

set_option maxRecDepth 100000
set_option maxHeartbeats 4000000

/-- The two programs' bodies agree. -/
theorem defs₀_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- And so do the bodies with the loop around them. -/
theorem defs_same : Cert.Kernel.defs (F := Bits) = Cert.KernelIdeal.defs (F := Bits) := congrArg (Pipeline.defs (Cert.KernelIdeal.pcfgs (F := Bits))) defs₀_same

/-- What the one program's run establishes, the other's does. -/
theorem same_run (m : (ℓ : Loc Cert.Kernel.nD Cert.Kernel.τ Cert.Kernel.sig) → Buf (Elt Bits) ℓ) (g : Dev Cert.Kernel.nD → PrngReg)
   (Q : PUnit × MemSt Cert.KernelIdeal.nD Cert.KernelIdeal.τ Cert.KernelIdeal.sig (Elt Bits) → Prop)
  (H : θ_run (Cert.KernelIdeal.defs (F := Bits)) (onTc (τ := Cert.KernelIdeal.τ) (Cert.KernelIdeal.main (F := Bits))) ⟨m, fun _ => 0, g⟩ Q) :
  θ_run (Cert.Kernel.defs (F := Bits)) (onTc (τ := Cert.Kernel.τ) (Cert.Kernel.main (F := Bits))) ⟨m, fun _ => 0, g⟩ Q := by
  rw [defs_same]; exact H

end Cert.Proof

end
-- ==== Proof.Spec.lean ====
module

public import Idealize.ShloMosaic.PureOps.Ideal
public import Idealize.ShloMosaic.Lib.Pointwise

@[expose] public section

noncomputable section

/-! # The layer's gather, as sums of reals

Each token's 128 experts are rows of the table. A row's 2048 words hold two halves each, and a half is the top of a float: the
first 1024 words are the row's inner weights, the low halves before the high ones, the last 1024 its outer weights. -/

namespace Cert.Peer

open Idealize.ShloMosaic

/-- The float whose top half is a word's low half. -/
def low (w : BitVec 32) : EReal := Ideal.ofBits .f32 (w <<< 16)
/-- The float whose top half is a word's high half. -/
def high (w : BitVec 32) : EReal := Ideal.ofBits .f32 (w &&& 4294901760#32)

/-- The 2048 floats held in 1024 of a row's words, from word `o`. -/
def unpacked (row : Fin 2048 → BitVec 32) (o : ℕ) (ho : o ≤ 1024) (d : Fin 2048) : EReal :=
  if h : d.val < 1024 then low (row ⟨o + d.val, by omega⟩) else high (row ⟨o + (d.val - 1024), by omega⟩)

/-- The exact activation, times a gate. -/
def active (h g : EReal) : EReal :=
  Ideal.ofBits .f32 0x3F000000#32 * h * (1 + Ideal.erf (h * (((Real.sqrt 2)⁻¹ : ℝ) : EReal))) * g

/-- One expert's contribution to output `d`, of its row, the token and the gate. -/
def expert (row : Fin 2048 → BitVec 32) (x : Fin 2048 → EReal) (g : EReal) (d : Fin 2048) : EReal :=
  active (∑ k, unpacked row 0 (by decide) k * x k) g * unpacked row 1024 le_rfl d

/-- The row an expert number names. -/
def rowOf (T : (⟨3, ![16384, 1, 2048]⟩ : Shape).Idx → BitVec 32) (e : BitVec 32) (l : Fin 2048) : BitVec 32 :=
  T (ix3 ⟨e.toNat % 16384, Nat.mod_lt _ (by decide)⟩ 0 l)

/-- The layer's gather. -/
def gathered (X : (⟨2, ![16384, 2048]⟩ : Shape).Idx → EReal) (E : (⟨2, ![16384, 128]⟩ : Shape).Idx → BitVec 32)
    (G : (⟨2, ![16384, 128]⟩ : Shape).Idx → EReal) (T : (⟨3, ![16384, 1, 2048]⟩ : Shape).Idx → BitVec 32) :
    (⟨2, ![16384, 2048]⟩ : Shape).Idx → EReal := fun i =>
  ∑ e : Fin 128, expert (rowOf T (E (ix2 (i 0) e))) (fun k => X (ix2 (i 0) k)) (G (ix2 (i 0) e)) (i 1)

end Cert.Peer

end
-- ==== Proof.StepSum.lean ====
module

public import proofs.«01_k».proof.Proof.Value
public import proofs.«01_k».proof.Proof.Spec
public import Idealize.ShloMosaic.Lib.Pointwise
public import Idealize.ShloMosaic.PureOps.Ideal.Laws

@[expose] public section

set_option maxRecDepth 16384

noncomputable section

/-! # The step's values as sums of reals -/

namespace Cert.KernelIdeal.Step

open Idealize.ShloMosaic
open Cert.KernelIdeal Cert.KernelIdeal.Gen

variable (X : S1024x2048.Idx → BitVec 32) (V : S8x2048.Idx → EReal) (G : S1x128x8.Idx → EReal)

theorem lowHalf_at (w : Vec Ideal S128x128 .i32) (i : S128x128.Idx) : lowHalf (F := Ideal) w i = Peer.low (w i) := by
  show Ideal.ofBits .f32 (IntOp.shli .vector (w i) 16#32) = _
  unfold IntOp.shli; rw [if_pos (by decide)]; rfl

theorem highHalf_at (w : Vec Ideal S128x128 .i32) (i : S128x128.Idx) : highHalf (F := Ideal) w i = Peer.high (w i) := rfl

theorem weighted_at (t : Fin 8) (a : FVec Ideal S128x8 .f32) (w : FVec Ideal S128x128 .f32) (l : ℕ) (hl : l < 128) :
    weighted t a w (lane l hl) = ∑ e : Fin 128, w (ix2 e ⟨l, hl⟩) * a (ix2 e t) := by
  unfold weighted
  rw [show lane l hl = ix2 (0 : Fin 1) (⟨l, hl⟩ : Fin 128) from eq_ix2 _]
  pointwise

theorem setColumn_at (n : ℕ) (hn : n < 8) (h : FVec Ideal S128x8 .f32) (acc : FVec Ideal S128x128 .f32) (e : Fin 128) (t : Fin 8) :
    setColumn n h acc (ix2 e t) = if t.val = n then ∑ l : Fin 128, acc (ix2 e l) else h (ix2 e t) := by
  unfold setColumn
  pointwise
  by_cases ht : t.val = n
  · rw [if_pos ht, ht]; simp [IntOp.cmpi, Scalar.select]
  · have : BitVec.ofNat 32 t.val ≠ BitVec.ofNat 32 n := fun he => ht (by
      have := congrArg BitVec.toNat he
      simp only [BitVec.toNat_ofNat] at this
      omega)
    rw [if_neg ht]; simp [IntOp.cmpi, Scalar.select, beq_eq_false_iff_ne.mpr this]

theorem term_at (w : Vec Ideal S128x128 .i32) (a b : Vec Ideal S1x128 .f32) (e l : Fin 128) :
    term (F := Ideal) w a b (ix2 e l) = Peer.low (w (ix2 e l)) * a (ix2 0 l) + Peer.high (w (ix2 e l)) * b (ix2 0 l) := by
  unfold term
  pointwise [lowHalf_at, highHalf_at]

/-- The named constant is the root's reciprocal. -/
theorem named_root : Named.named (F := Ideal) κ "s" (φ := .f32) 0x3F3504F3#32 = (((Real.sqrt 2)⁻¹ : ℝ) : EReal) :=
  IdealRules.named_const.ideal_named_scalar _ _ _ _ rfl

theorem gated_at (h : FVec Ideal S128x8 .f32) (g : Vec Ideal S1x128x8 .f32) (e : Fin 128) (t : Fin 8) :
    gated (F := Ideal) h g (ix2 e t) = Peer.active (h (ix2 e t)) (g (ix3 0 e t)) := by
  unfold gated
  pointwise
  rw [named_root]; rfl

/-! ## The hidden values -/

/-- The row of the buffer that a token's expert is in. -/
def place (t : Fin 8) (e : Fin 128) : Fin 1024 := ⟨128 * t.val + e.val, by omega⟩

theorem tileOf_at (t : Fin 8) (j : ℕ) (hj : j + 128 ≤ 2048) (e l : Fin 128) :
    tileOf (F := Ideal) X t j hj (ix2 e l) = X (ix2 (place t e) ⟨j + l.val, by omega⟩) := by
  unfold tileOf
  refine congrArg X (funext fun b => Fin.ext ?_)
  match b with
  | 0 => show 128 * t.val + 1 * e.val = 128 * t.val + e.val; omega
  | 1 => show j + 1 * l.val = j + l.val; omega

theorem rowOf_at (t : Fin 8) (j : ℕ) (hj : j + 128 ≤ 2048) (l : Fin 128) :
    rowOf (F := Ideal) V t j hj (ix2 0 l) = V (ix2 t ⟨j + l.val, by omega⟩) := by
  unfold rowOf
  refine congrArg V (funext fun b => Fin.ext ?_)
  match b with
  | 0 => show t.val + 1 * 0 = t.val; omega
  | 1 => show j + 1 * l.val = j + l.val; omega

theorem chunksVal_at (t : Fin 8) (i : S128x128.Idx) : ∀ (c : ℕ) (hc : c < 8),
    chunksVal (F := Ideal) X V t c hc i = ∑ k : Fin (c + 1), chunkVal (F := Ideal) X V t k.val (by omega) i
  | 0, hc => by rw [Fin.sum_univ_one]; rfl
  | c + 1, hc => by
    rw [Fin.sum_univ_castSucc]
    show chunksVal (F := Ideal) X V t c _ i + _ = _
    rw [chunksVal_at t i c]
    rfl

/-- A sum over eight chunks' lanes, by lane. -/
theorem sum_lanes (f : Fin 1024 → EReal) : ∑ k, f k = ∑ l : Fin 128, ∑ c : Fin 8, f ⟨128 * c.val + l.val, by omega⟩ := by
  rw [Finset.sum_comm, ← Fintype.sum_prod_type' (f := fun (c : Fin 8) (l : Fin 128) => f ⟨128 * c.val + l.val, by omega⟩)]
  refine (Equiv.sum_comp (finProdFinEquiv (m := 8) (n := 128)) f).symm.trans (Finset.sum_congr rfl fun p _ => congrArg f (Fin.ext ?_))
  exact Nat.add_comm _ _

/-- A token's products with one expert's row, all its chunks and lanes added. -/
theorem inner_sum (t : Fin 8) (e : Fin 128) :
    ∑ l : Fin 128, chunksVal (F := Ideal) X V t 7 (by decide) (ix2 e l)
      = ∑ k : Fin 2048, Peer.unpacked (fun k => X (ix2 (place t e) k)) 0 (by decide) k * V (ix2 t k) := by
  rw [Fin.sum_univ_two_halves 1024 1024 rfl, ← Finset.sum_add_distrib, sum_lanes]
  refine Finset.sum_congr rfl fun l _ => ?_
  rw [chunksVal_at]
  refine Finset.sum_congr rfl fun (c : Fin 8) _ => ?_
  unfold chunkVal
  rw [term_at, tileOf_at, rowOf_at, rowOf_at]
  unfold Peer.unpacked
  rw [dif_pos (show 128 * c.val + l.val < 1024 by omega), dif_neg (show ¬1024 + (128 * c.val + l.val) < 1024 by omega)]
  refine congrArg₂ _ (congrArg₂ _ (congrArg Peer.low (congrArg X (congrArg (ix2 (place t e)) (Fin.ext ?_)))) rfl)
    (congrArg₂ _ (congrArg Peer.high (congrArg X (congrArg (ix2 (place t e)) (Fin.ext ?_)))) (congrArg V (congrArg (ix2 t) (Fin.ext ?_))))
  · show 128 * c.val + l.val = 0 + (128 * c.val + l.val); omega
  · show 128 * c.val + l.val = 0 + (1024 + (128 * c.val + l.val) - 1024); omega
  · show 1024 + 128 * c.val + l.val = 1024 + (128 * c.val + l.val); omega

theorem hiddenVal_at (e : Fin 128) (t : Fin 8) : ∀ (n : ℕ) (hn : n ≤ 8), t.val < n → hiddenVal (F := Ideal) X V n hn (ix2 e t)
    = ∑ k : Fin 2048, Peer.unpacked (fun k => X (ix2 (place t e) k)) 0 (by decide) k * V (ix2 t k)
  | 0, _, h => absurd h (Nat.not_lt_zero _)
  | n + 1, hn, h => by
    show setColumn n (hiddenVal (F := Ideal) X V n _) (chunksVal (F := Ideal) X V ⟨n, _⟩ 7 _) (ix2 e t) = _
    rw [setColumn_at n (by omega)]
    split
    · rename_i ht
      subst ht
      exact inner_sum X V t e
    · exact hiddenVal_at e t n _ (by omega)

theorem activeVal_at (e : Fin 128) (t : Fin 8) : activeVal (F := Ideal) X V G (ix2 e t)
    = Peer.active (∑ k : Fin 2048, Peer.unpacked (fun k => X (ix2 (place t e) k)) 0 (by decide) k * V (ix2 t k)) (G (ix3 0 e t)) := by
  unfold activeVal
  rw [gated_at, hiddenVal_at X V e t 8 _ t.isLt]
  refine congrArg _ (congrArg G (funext fun b => Fin.ext ?_))
  match b with
  | 0 => rfl
  | 1 => show 0 + 1 * e.val = e.val; omega
  | 2 => show 0 + 1 * t.val = t.val; omega

/-- What the step leaves: each expert's contribution, added. -/
theorem outAt_sum (t : Fin 8) (d : Fin 2048) : outAt (F := Ideal) X (activeVal (F := Ideal) X V G) (ix2 t d)
    = ∑ e : Fin 128, Peer.expert (fun k => X (ix2 (place t e) k)) (fun k => V (ix2 t k)) (G (ix3 0 e t)) d := by
  have hd := d.isLt
  unfold outAt
  split
  · rename_i h
    replace h : d.val < 1024 := h
    show weighted t (activeVal (F := Ideal) X V G) (lowHalf (F := Ideal) (upTile (F := Ideal) X t (d.val / 128) (by omega)))
      (lane (d.val % 128) (by omega)) = _
    rw [weighted_at]
    refine Finset.sum_congr rfl fun e _ => ?_
    rw [lowHalf_at, upTile, tileOf_at, activeVal_at, mul_comm]
    unfold Peer.expert
    refine congrArg _ ?_
    unfold Peer.unpacked
    rw [dif_pos h]
    exact congrArg Peer.low (congrArg X (congrArg (ix2 (place t e)) (Fin.ext (by
      show 1024 + 128 * (d.val / 128) + d.val % 128 = 1024 + d.val; omega))))
  · rename_i h
    replace h : ¬d.val < 1024 := h
    show weighted t (activeVal (F := Ideal) X V G) (highHalf (F := Ideal) (upTile (F := Ideal) X t ((d.val - 1024) / 128) (by omega)))
      (lane ((d.val - 1024) % 128) (by omega)) = _
    rw [weighted_at]
    refine Finset.sum_congr rfl fun e _ => ?_
    rw [highHalf_at, upTile, tileOf_at, activeVal_at, mul_comm]
    unfold Peer.expert
    refine congrArg _ ?_
    unfold Peer.unpacked
    rw [dif_neg h]
    exact congrArg Peer.high (congrArg X (congrArg (ix2 (place t e)) (Fin.ext (by
      show 1024 + 128 * ((d.val - 1024) / 128) + (d.val - 1024) % 128 = 1024 + (d.val - 1024); omega))))

end Cert.KernelIdeal.Step

end
-- ==== Proof.Result.lean ====
module

public import proofs.«01_k».proof.Proof.Frame
public import proofs.«01_k».proof.Proof.StepSum
public import Idealize.ShloMosaic.Lib.Pipeline.ValueKit

@[expose] public section

set_option maxRecDepth 16384

noncomputable section

/-! # The kernel's result array -/

namespace Cert.KernelIdeal.Ring

open Idealize.ShloMosaic Idealize.ShloMosaic.TcCoe
open Idealize.SL.Sem
open Idealize.ShloMosaic.Pipeline (Dat Cfg Window)
open Cert.KernelIdeal Cert.KernelIdeal.Gen Cert.KernelIdeal.Step

variable (m : (ℓ : Loc nD τ sig) → Buf (Elt Ideal) ℓ) (c : Dev nD)

/-- The layer's gather of a memory's arguments. -/
def gatherOf : S16384x2048.Idx → EReal :=
  Peer.gathered (m ((c : Thread nD τ).loc main_arg0)) (m ((c : Thread nD τ).loc main_arg1)) (m ((c : Thread nD τ).loc main_arg2)) (m ((c : Thread nD τ).loc main_arg3))

theorem V_gates : V m c main_v1 = transpose S2048x128x8 [0, 2, 1]
    (shapeCast S2048x8x128 (m ((c : Thread nD τ).loc main_arg2)) Facts₀.shapeCasts_S16384x128_S2048x8x128) Facts₀.transposes_S2048x8x128_S2048x128x8_0_2_1 := by
  show StableHlo.after hostOps0 _ (Proc.devRef .tc main_v1) = _
  unfold hostOps0
  after_results_simp
  rfl

/-- A token's place in the batch. -/
def tokenOf (b : Fin 2048) (t : Fin 8) : Fin 16384 := ⟨8 * b.val + t.val, by omega⟩

/-- The gates laid out by block: slot `e` of block `b`'s token `t`. -/
theorem gates_at (A : S16384x128.Idx → EReal) (b : Fin 2048) (e : Fin 128) (t : Fin 8) :
    transpose S2048x128x8 [0, 2, 1] (shapeCast S2048x8x128 A Facts₀.shapeCasts_S16384x128_S2048x8x128)
      Facts₀.transposes_S2048x8x128_S2048x128x8_0_2_1 (ix3 b e t) = A (ix2 (tokenOf b t) e) := by
  pointwise
  exact congrArg (fun r => A (ix2 r e)) (Fin.ext (by show b.val * 8 + t.val = 8 * b.val + t.val; omega))

theorem tokens_block (t : Fin 2048) : cc0_transform_3 (grid0.coords t) = ![t.val, 0] := by revert t; decide +kernel
theorem gates_block (t : Fin 2048) : cc0_transform_4 (grid0.coords t) = ![t.val, 0, 0] := by revert t; decide +kernel
theorem out_block (t : Fin 2048) : cc0_transform_6 (grid0.coords t) = ![t.val, 0] := by revert t; decide +kernel

/-! ## The blocks, element by element -/

theorem tokens_emb (b : Fin 2048) (t : Fin 8) (k : Fin 2048) :
    (Rect.block (s := S16384x2048) S8x2048.size (cc0_transform_3 (grid0.coords b)) (hinb0_3 (grid0.coords b))).emb (ix2 t k)
      = ix2 (tokenOf b t) k := by
  have e := tokens_block b
  funext a; apply Fin.ext
  match a with
  | 0 =>
    show cc0_transform_3 (grid0.coords b) 0 * 8 + 1 * t.val = 8 * b.val + t.val
    rw [e]; show b.val * 8 + _ = _; omega
  | 1 =>
    show cc0_transform_3 (grid0.coords b) 1 * 2048 + 1 * k.val = k.val
    rw [e]; show 0 * 2048 + _ = _; omega

theorem out_emb (b : Fin 2048) (t : Fin 8) (k : Fin 2048) :
    (Rect.block (s := S16384x2048) S8x2048.size (cc0_transform_6 (grid0.coords b)) (hinb0_5 (grid0.coords b))).emb (ix2 t k)
      = ix2 (tokenOf b t) k := by
  have e := out_block b
  funext a; apply Fin.ext
  match a with
  | 0 =>
    show cc0_transform_6 (grid0.coords b) 0 * 8 + 1 * t.val = 8 * b.val + t.val
    rw [e]; show b.val * 8 + _ = _; omega
  | 1 =>
    show cc0_transform_6 (grid0.coords b) 1 * 2048 + 1 * k.val = k.val
    rw [e]; show 0 * 2048 + _ = _; omega

theorem gates_emb (b : Fin 2048) (e : Fin 128) (t : Fin 8) :
    (Rect.block (s := S2048x128x8) S1x128x8.size (cc0_transform_4 (grid0.coords b)) (hinb0_4 (grid0.coords b))).emb (ix3 0 e t)
      = ix3 b e t := by
  have h := gates_block b
  funext a; apply Fin.ext
  match a with
  | 0 =>
    show cc0_transform_4 (grid0.coords b) 0 * 1 + 1 * 0 = b.val
    rw [h]; show b.val * 1 + _ = _; omega
  | 1 =>
    show cc0_transform_4 (grid0.coords b) 1 * 128 + 1 * e.val = e.val
    rw [h]; show 0 * 128 + _ = _; omega
  | 2 =>
    show cc0_transform_4 (grid0.coords b) 2 * 8 + 1 * t.val = t.val
    rw [h]; show 0 * 8 + _ = _; omega

theorem token_at (b : Fin 2048) (t : Fin 8) (k : Fin 2048) :
    iblk m c 3 b (ix2 t k) = m ((c : Thread nD τ).loc main_arg0) (ix2 (tokenOf b t) k) :=
  (congrArg (V m c main_arg0) (tokens_emb b t k)).trans (congrFun (V_main_arg0 m c) _)

theorem gate_at (b : Fin 2048) (e : Fin 128) (t : Fin 8) :
    iblk m c 4 b (ix3 0 e t) = m ((c : Thread nD τ).loc main_arg2) (ix2 (tokenOf b t) e) :=
  (congrArg (V m c main_v1) (gates_emb b e t)).trans ((congrFun (V_gates m c) _).trans (gates_at _ b e t))

/-- A fetched row is the one the token's expert number names. -/
theorem row_at (b : Fin 2048) (t : Fin 8) (e : Fin 128) (k : Fin 2048) :
    fetched (experts m c b.val) (table m c) (ix2 (place t e) k)
      = Peer.rowOf (m ((c : Thread nD τ).loc main_arg3)) (m ((c : Thread nD τ).loc main_arg1) (ix2 (tokenOf b t) e)) k := by
  have hb := b.isLt
  have ht := t.isLt
  have he := e.isLt
  have hs : blockIdx b.val (slotIdx (place t e)) = ix2 (tokenOf b t) e := by
    funext a; apply Fin.ext
    match a with
    | 0 => show 8 * min b.val 2047 + (128 * t.val + e.val) / 128 = 8 * b.val + t.val; omega
    | 1 => show (128 * t.val + e.val) % 128 = e.val; omega
  have hE : experts m c b.val (slotIdx (place t e)) = m ((c : Thread nD τ).loc main_arg1) (ix2 (tokenOf b t) e) :=
    (congrArg (V m c main_arg1) hs).trans (congrFun (V_main_arg1 m c) _)
  have hT : table m c = m ((c : Thread nD τ).loc main_arg3) := V_main_arg3 m c
  show table m c (tabIdx ((experts m c b.val (slotIdx (place t e)) : BitVec 32).toNat % 16384) _ k) = _
  unfold Peer.rowOf
  rw [hT]
  refine congrArg (m ((c : Thread nD τ).loc main_arg3)) (funext fun a => Fin.ext ?_)
  match a with
  | 0 => exact congrArg (fun w : BitVec 32 => w.toNat % 16384) hE
  | 1 => rfl
  | 2 => rfl

theorem outBlk_at (b : Fin 2048) (t : Fin 8) (d : Fin 2048) : outBlk m c b (ix2 t d) = gatherOf m c (ix2 (tokenOf b t) d) := by
  unfold outBlk gatherOf Peer.gathered
  refine (outAt_sum _ _ _ t d).trans (Finset.sum_congr rfl fun e _ => ?_)
  rw [gate_at]
  congr 1
  · funext k; exact row_at m c b t e k
  · funext k; exact token_at m c b t k

/-- The output array ends at the layer's gather. -/
theorem final : (dats m 0 c).arrAt 5 cfg0.N = gatherOf m c := by
  refine (dats m 0 c).arrAt_eq_of_covers 5 _ (by decide +kernel) fun t hf y => ?_
  blk_simp
  obtain ⟨s, d, rfl⟩ : ∃ (s : Fin 8) (d : Fin 2048), y = ix2 s d := ⟨y 0, y 1, eq_ix2 y⟩
  exact (outBlk_at m c t s d).trans (congrArg (gatherOf m c) (out_emb t s d).symm)

variable {m} in
/-- The run: the result is the layer's gather, and the arguments end as they began. -/
theorem run_value (ρ : Dev nD → PrngReg) (hm : InTable m) : θ_run defs (onTc (τ := τ) (main (F := Ideal))) ⟨m, fun _ => 0, ρ⟩ (fun r => ∀ c : Dev nD,
      r.2.mem ((c.tc : Thread nD τ).loc main_v2) = gatherOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 5).trans (final m c),
      ((h.1 c).1 3).trans (((dats m 0 c).arrAt_in 3 rfl _).trans ((A_eq m c 3).trans (V_main_arg0 m c))),
      ((h.1 c).1 2).trans (((dats m 0 c).arrAt_in 2 rfl _).trans ((A_eq m c 2).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main ρ hm)

end Cert.KernelIdeal.Ring

end
-- ==== Proof.Consts.lean ====
module

public import Idealize.ShloMosaic.PureOps.Ideal

@[expose] public section

noncomputable section

namespace Cert.Peer

open Idealize.ShloMosaic

/-- The pattern the reference takes the root of is the real two. -/
theorem pattern_two : Ideal.ofBits .f32 0x40000000#32 = ((2 : ℝ) : EReal) := by
  simp [Ideal.ofBits, Ideal.ieee, -EReal.coe_mul]; norm_num

end Cert.Peer

end
-- ==== Proof.Reference.lean ====
module

public import proofs.«01_k».proof.Proof.Gen.ReferenceIdeal.Run
public import proofs.«01_k».proof.Proof.Spec
public import proofs.«01_k».proof.Proof.Consts
public import Idealize.ShloMosaic.PureOps.Ideal.Laws

@[expose] public section

set_option maxRecDepth 16384

noncomputable section

/-! # The reference's result array -/

namespace Cert.ReferenceIdeal.Layer

open Idealize.ShloMosaic Idealize.ShloMosaic.TcCoe
open Cert.ReferenceIdeal Cert.ReferenceIdeal.Gen Cert.ReferenceIdeal.Value

variable (X : S16384x2048.Idx → EReal) (E : S16384x128.Idx → BitVec 32) (G : S16384x128.Idx → EReal) (T : S16384x1x2048.Idx → BitVec 32)

/-! ## The parts of the reference's term -/

/-- The table's low halves, as floats. -/
def lows : S16384x2048.Idx → EReal :=
  bitcastToFloat (F := Ideal) .f32 (Host.shli (shapeCast _ T shapeCasts_S16384x1x2048_S16384x2048)
    (broadcastInDim S16384x2048 ![] bcast_S_S16384x2048 (constantI S_ 32 16#32)))
/-- The table's high halves, as floats. -/
def highs : S16384x2048.Idx → EReal :=
  bitcastToFloat (F := Ideal) .f32 (andi (shapeCast _ T shapeCasts_S16384x1x2048_S16384x2048)
    (broadcastInDim S16384x2048 ![] bcast_S_S16384x2048 (constantI S_ 32 4294901760#32)))
/-- The rows' inner weights. -/
def inner : S16384x2048.Idx → EReal :=
  concatenate S16384x2048 1 [⟨S16384x1024, extractStridedSlice S16384x1024 ![0, 0] (lows T) slices_S16384x2048_S16384x1024_0_0⟩,
    ⟨S16384x1024, extractStridedSlice S16384x1024 ![0, 0] (highs T) slices_S16384x2048_S16384x1024_0_0⟩]
    concatenates_S16384x1024_S16384x1024_S16384x2048_d1
/-- The rows' outer weights. -/
def outer : S16384x2048.Idx → EReal :=
  concatenate S16384x2048 1 [⟨S16384x1024, extractStridedSlice S16384x1024 ![0, 1024] (lows T) slices_S16384x2048_S16384x1024_0_1024⟩,
    ⟨S16384x1024, extractStridedSlice S16384x1024 ![0, 1024] (highs T) slices_S16384x2048_S16384x1024_0_1024⟩]
    concatenates_S16384x1024_S16384x1024_S16384x2048_d1
/-- The rows to take: a negative number counts from the end. -/
def picks : S16384x128x1.Idx → BitVec 32 :=
  broadcastInDim S16384x128x1 ![0, 1] bcast_S16384x128_S16384x128x1_0_1
    (select (cmpi .slt E (broadcastInDim S16384x128 ![] bcast_S_S16384x128 (constantI S_ 32 0#32)))
      (addi E (broadcastInDim S16384x128 ![] bcast_S_S16384x128 (constantI S_ 32 16384#32))) E)
/-- Each token's products with its experts' rows. -/
def hidden : S16384x128.Idx → EReal :=
  Host.dotGeneral (F := Ideal) (φ₁ := .f32) (φ₂ := .f32) dot_S16384x128x2048_S16384x2048_S16384x128_2_1_1_n_0_0 none
    (Host.gather gather_S16384x2048_S16384x128x1_S16384x128x2048_2_0_n_n_0_2_12048 (inner T) (picks E)) X
/-- The activations times the gates. -/
def acts (h : S16384x128.Idx → EReal) : S16384x128.Idx → EReal :=
  mulf (F := Ideal) (φ := .f32) (mulf (mulf (broadcastInDim S16384x128 ![] bcast_S_S16384x128 (constant S_ .f32 0x3F000000#32)) h)
    (addf (broadcastInDim S16384x128 ![] bcast_S_S16384x128 (constant S_ .f32 0x3F800000#32))
      (Host.erf (Host.divf h (broadcastInDim S16384x128 ![] bcast_S_S16384x128 (Host.sqrt (constant S_ .f32 0x40000000#32))))))) G
/-- The whole of it. -/
def value : S16384x2048.Idx → EReal :=
  Host.dotGeneral (F := Ideal) (φ₁ := .f32) (φ₂ := .f32) dot_S16384x128_S16384x128x2048_S16384x2048_1_1_n_2_0_0 none (acts G (hidden X E T))
    (Host.gather gather_S16384x2048_S16384x128x1_S16384x128x2048_2_0_n_n_0_2_12048 (outer T) (picks E))

theorem value_eq (m : (ℓ : Loc nD τ sig) → Buf (Elt Ideal) ℓ) (c : Dev nD) : Value.res_main_v38 (F := Ideal) m c
    = value (m ((c.tc : Thread nD τ).loc main_arg0)) (m ((c.tc : Thread nD τ).loc main_arg1)) (m ((c.tc : Thread nD τ).loc main_arg2))
      (m ((c.tc : Thread nD τ).loc main_arg3)) := rfl

/-! ## The parts, element by element -/

theorem lows_at (r : Fin 16384) (k : Fin 2048) : lows T (ix2 r k) = Peer.low (T (ix3 r 0 k)) := by
  unfold lows
  pointwise
  unfold IntOp.shli; rw [if_pos (by decide)]; rfl

theorem highs_at (r : Fin 16384) (k : Fin 2048) : highs T (ix2 r k) = Peer.high (T (ix3 r 0 k)) := by
  unfold highs
  pointwise
  rfl

theorem inner_at (r : Fin 16384) (k : Fin 2048) : inner T (ix2 r k) = Peer.unpacked (fun l => T (ix3 r 0 l)) 0 (by decide) k := by
  unfold inner Peer.unpacked
  pointwise [lows_at, highs_at]

theorem outer_at (r : Fin 16384) (k : Fin 2048) : outer T (ix2 r k) = Peer.unpacked (fun l => T (ix3 r 0 l)) 1024 le_rfl k := by
  unfold outer Peer.unpacked
  pointwise [lows_at, highs_at]

theorem toInt_eq {w : BitVec 32} (h : w.toNat < 16384) : w.toInt = w.toNat := by
  rw [BitVec.toInt_eq_toNat_cond, if_pos (by omega)]

theorem picks_at (t : Fin 16384) (e : Fin 128) (h : (E (ix2 t e)).toNat < 16384) : picks E (ix3 t e 0) = E (ix2 t e) := by
  unfold picks
  pointwise
  have hn : ¬IntOp.cmpi .slt (E (ix2 t e)) 0#32 = 1#1 := fun hc => by
    have := IntOp.cmpi_slt.1 hc
    rw [toInt_eq h] at this
    exact absurd this (by simp)
  unfold Scalar.select
  exact if_neg hn

/-- A row taken by number. -/
theorem gather_at (A : S16384x2048.Idx → EReal) (N : S16384x128x1.Idx → BitVec 32) (t : Fin 16384) (e : Fin 128) (k : Fin 2048) :
    Host.gather gather_S16384x2048_S16384x128x1_S16384x128x2048_2_0_n_n_0_2_12048 A N (ix3 t e k)
      = A (ix2 ⟨min (N (ix3 t e 0)).toInt.toNat 16383, by omega⟩ k) := by
  unfold Host.gather
  refine congrArg A (funext fun a => Fin.ext ?_)
  generalize hd : gather_S16384x2048_S16384x128x1_S16384x128x2048_2_0_n_n_0_2_12048 = d
  show d.start (ix3 t e k) N a + d.batchCoord (ix3 t e k) a + d.offCoord (ix3 t e k) a = _
  rw [d.batchCoord_eq_zero _ _ (by subst hd; exact List.not_mem_nil)]
  subst hd
  match a with
  | 0 =>
    rw [GatherDims.offCoord_eq_zero _ _ _ (by decide)]
    unfold GatherDims.start
    rw [dif_pos (by decide)]
    have hs : gather_S16384x2048_S16384x128x1_S16384x128x2048_2_0_n_n_0_2_12048.siIdx (ix3 t e k) ⟨List.idxOf 0 [0], by decide⟩ = ix3 t e 0 := by
      funext b; apply Fin.ext
      match b with
      | 0 => rfl
      | 1 => rfl
      | 2 => rfl
    exact congrArg (fun i => min (N i).toInt.toNat 16383) hs
  | 1 =>
    unfold GatherDims.start
    rw [dif_neg (by decide)]
    unfold GatherDims.offCoord
    rw [dif_pos (by decide)]
    exact Nat.zero_add _

theorem dot_inner (A : S16384x128x2048.Idx → EReal) (t : Fin 16384) (e : Fin 128) :
    Host.dotGeneral (F := Ideal) (φ₁ := .f32) (φ₂ := .f32) dot_S16384x128x2048_S16384x2048_S16384x128_2_1_1_n_0_0 none A X (ix2 t e)
      = ∑ k, A (ix3 t e k) * X (ix2 t k) := by
  pointwise

theorem dot_outer (B : S16384x128.Idx → EReal) (A : S16384x128x2048.Idx → EReal) (t : Fin 16384) (d : Fin 2048) :
    Host.dotGeneral (F := Ideal) (φ₁ := .f32) (φ₂ := .f32) dot_S16384x128_S16384x128x2048_S16384x2048_1_1_n_2_0_0 none B A (ix2 t d)
      = ∑ e, B (ix2 t e) * A (ix3 t e d) := by
  pointwise

theorem acts_at (h : S16384x128.Idx → EReal) (t : Fin 16384) (e : Fin 128) : acts G h (ix2 t e) = Peer.active (h (ix2 t e)) (G (ix2 t e)) := by
  unfold acts
  pointwise
  rw [Peer.pattern_two, Ideal.sqrt_coe, if_neg (by norm_num), Ideal.div_coe (Real.sqrt_pos.mpr (by norm_num)).ne', one_div]
  rfl

/-! ## The whole -/

/-- The row a token's expert number takes. -/
theorem taken (hE : ∀ i, (E i).toNat < 16384) (A : S16384x2048.Idx → EReal) (t : Fin 16384) (e : Fin 128) (k : Fin 2048) :
    Host.gather gather_S16384x2048_S16384x128x1_S16384x128x2048_2_0_n_n_0_2_12048 A (picks E) (ix3 t e k)
      = A (ix2 ⟨(E (ix2 t e)).toNat % 16384, Nat.mod_lt _ (by decide)⟩ k) := by
  have h := hE (ix2 t e)
  rw [gather_at]
  refine congrArg (fun r => A (ix2 r k)) (Fin.ext ?_)
  show min (picks E (ix3 t e 0)).toInt.toNat 16383 = (E (ix2 t e)).toNat % 16384
  rw [picks_at E t e h, toInt_eq h, Int.toNat_natCast]
  omega

/-- With every expert number in the table, the reference computes the layer's gather. -/
theorem value_gathered (hE : ∀ i, (E i).toNat < 16384) : value X E G T = Peer.gathered X E G T := by
  funext i
  obtain ⟨t, d, rfl⟩ : ∃ (t : Fin 16384) (d : Fin 2048), i = ix2 t d := ⟨i 0, i 1, eq_ix2 i⟩
  unfold value Peer.gathered
  rw [dot_outer]
  refine Finset.sum_congr rfl fun e _ => ?_
  rw [acts_at, taken E hE, outer_at]
  unfold hidden
  rw [dot_inner]
  simp only [taken E hE, inner_at]
  rfl

end Cert.ReferenceIdeal.Layer

end
-- ==== Proof.Claims.lean ====
module

public import proofs.«01_k».proof.Proof.Range
public import proofs.«01_k».proof.Proof.Same
public import proofs.«01_k».proof.Proof.Result
public import proofs.«01_k».proof.Proof.Reference
public import Idealize.ShloMosaic.Lib.Quiescent

@[expose] public section

noncomputable section

/-! # The claims -/

namespace Cert.Proof

open Idealize.ShloMosaic Idealize.SL.Sem

/-- The kernel with its constant named: it runs, and leaves its arguments and every counter as they were. -/
theorem frame_ideal : Cert.quiescent_KernelIdeal := fun m g h =>
  Cert.KernelIdeal.Ring.frame g (m := m) fun c i => in_table _ _ _ _ (h c) i

/-- The kernel as printed, from the same run over bit patterns. -/
theorem frame_kernel : Cert.quiescent_Kernel := fun m g h =>
  same_run m g _ (Cert.KernelIdeal.Ring.frame g (m := m) fun c i => in_table _ _ _ _ (h c) i)

/-- The reference: its generated run; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The one constant named: the reciprocal of the root of two. -/
theorem preserves : Cert.preserves_Kernel_KernelIdeal :=
  IdealRules.named_const.statement Cert.KernelIdeal.κ "s" .f32 0x3F3504F3#32 (((Real.sqrt 2)⁻¹ : ℝ) : EReal) rfl

/-- The kernel with its constant named and the reference leave the same array, the layer's gather of their arguments. -/
theorem algebraic : Cert.algebraic_KernelIdeal_ReferenceIdeal := by
  intro m g m' g' hpre hagree
  have hm : ∀ (c : Dev Cert.KernelIdeal.nD) i, _ := fun c i => in_table _ _ _ _ (hpre c) i
  refine ⟨_, Cert.KernelIdeal.Ring.run_value (m := m) g hm, ?_⟩
  refine (θ_run Cert.ReferenceIdeal.defs _ _).mono (fun _ h c => ⟨(h c).1.trans ?_, (h c).2⟩)
    (Cert.ReferenceIdeal.Value.run (F := Ideal) m' g')
  obtain ⟨h0, h1, h2, h3⟩ := hagree c
  rw [Cert.ReferenceIdeal.Layer.value_eq, h0, h1, h2, h3]
  exact Cert.ReferenceIdeal.Layer.value_gathered _ _ _ _ (hm c)

end Cert.Proof

end
-- ==== Proof.Dense.lean ====
module

public import Idealize.ShloMosaic.PureOps.Ideal
public import Idealize.ShloMosaic.Lib.Pointwise
public import Idealize.ShloMosaic.Lib.Pipeline.ValueKit

@[expose] public section

noncomputable section

/-! # Products of a row with a matrix, over the extended reals -/

namespace Cert.Dense

/-- Column `j` of the product of a row of `n` values with a matrix. -/
def times {n p : ℕ} (x : Fin n → EReal) (w : Fin n → Fin p → EReal) (j : Fin p) : EReal := ∑ k, x k * w k j

open Idealize.ShloMosaic in
/-- Where element `(r, k)` of a matrix's block number `idx` lies in the matrix. -/
theorem block_emb {R C B D : ℕ} (idx : Fin 2 → ℕ) (h : ∀ a, (idx a + 1) * (⟨2, ![B, D]⟩ : Shape).size a ≤ (⟨2, ![R, C]⟩ : Shape).size a)
    (r : Fin B) (k : Fin D) (p : Fin R) (q : Fin C) (hp : p.val = idx 0 * B + r.val) (hq : q.val = idx 1 * D + k.val) :
    (Rect.block (s := ⟨2, ![R, C]⟩) (⟨2, ![B, D]⟩ : Shape).size idx h).emb (ix2 r k) = ix2 p q := by
  funext a; apply Fin.ext
  match a with
  | 0 => show idx 0 * B + 1 * r.val = p.val; omega
  | 1 => show idx 1 * D + 1 * k.val = q.val; omega

end Cert.Dense

end
-- ==== Proof.InProjValue.lean ====
module

public import proofs.«01_k».proof.Proof.Gen.InProjIdeal.Value
public import proofs.«01_k».proof.Proof.Dense
public import Idealize.ShloMosaic.Lib.Pointwise
public import Idealize.ShloMosaic.Lib.Tactic
public import Idealize.ShloMosaic.Lib.Pipeline.ValueKit
public import Idealize.ShloMosaic.PureOps.Ideal.Laws

@[expose] public section

set_option maxRecDepth 16384

noncomputable section

/-! # The input projection's result -/

namespace Cert.InProjIdeal.Dense

open Idealize.ShloMosaic Idealize.ShloMosaic.TcCoe
open Idealize.SL.Sem
open Idealize.ShloMosaic.Pipeline (Dat Cfg Window)
open Cert.InProjIdeal Cert.InProjIdeal.Gen

/-! ## What a point leaves -/

section Cases

variable {F : FTy → Type} [FloatOps F]
variable (c : Dev nD) (i : grid0.Coords) (a2 : Memref sig .tc .vmem S512x2048 .f32) (h2 : a2.IsWhole) (a3 : Memref sig .tc .vmem S2048x512 .bf16)
  (h3 : a3.IsWhole) (a4 : Memref sig .tc .vmem S512x512 .bf16) (h4 : a4.IsWhole) (a5 : Memref sig .tc .vmem S512x2048 .bf16) (h5 : a5.IsWhole)
  (x : Vec F S512x2048 .f32) (w : Vec F S2048x512 .bf16)

theorem origin : (![0, 0] : Fin 2 → Nat) = fun _ => 0 := funext fun a => by fin_cases a <;> rfl

/-- The first column block of a row block keeps the rows it loads. -/
theorem kept_first (hc : cond0_0 i) : sout0_A_0 c i a2 h2 a3 h3 a4 h4 a5 h5 hc x w = k0_pay1 x := by
  unfold sout0_A_0
  rw [View.read_writes_eq_canon _ _ _ (scover0_A_0 c i a2 h2 a3 h3 a4 h4 a5 h5 hc x w)]
  unfold kernelRun0_A
  dsimp only
  sl_unfold_words
  rw [View.canon_unit_zero (S := S512x2048) origin]
  simp only [View.readAt_eq_ld, h2.read_unread, View.ld_unit_zero (S := S512x2048) origin]

/-- It writes those rows times its columns. -/
theorem written_first (hc : cond0_0 i) : out0_A_2 c i a2 h2 a3 h3 a4 h4 a5 h5 hc x w = k0_pay2 (k0_pay1 x) w := by
  unfold out0_A_2
  rw [View.read_writes_eq_canon _ _ _ (cover0_A_2 c i a2 h2 a3 h3 a4 h4 a5 h5 hc x w)]
  unfold kernelRun0_A
  dsimp only
  sl_unfold_words
  rw [View.canon_unit_zero (S := S512x512) origin, View.readCov_unit_zero (S := S512x2048) _ origin]
  simp only [View.readAt_eq_ld, h2.read_unread, h3.read_unread, View.ld_unit_zero (S := S512x2048) origin, View.ld_unit_zero (S := S2048x512) origin]

/-- A later column block writes the kept rows times its columns. -/
theorem written_later (hc : ¬cond0_0 i) (s : Vec F S512x2048 .bf16) : out0_B_2 c i a2 h2 a3 h3 a4 h4 a5 h5 hc x w s = k0_pay2 s w := by
  unfold out0_B_2
  rw [View.read_writes_eq_canon _ _ _ (cover0_B_2 c i a2 h2 a3 h3 a4 h4 a5 h5 hc x w s)]
  unfold kernelRun0_B
  dsimp only
  sl_unfold_words
  rw [View.canon_unit_zero (S := S512x512) origin]
  simp only [View.readAt_eq_ld, h3.read_unread, h5.read_unread, View.ld_unit_zero (S := S512x2048) origin, View.ld_unit_zero (S := S2048x512) origin]

end Cases

/-- A block of the product, element by element. -/
theorem block_at (X : S512x2048.Idx → EReal) (W : S2048x512.Idx → EReal) (r j : Fin 512) :
    k0_pay2 (F := Ideal) (k0_pay1 (F := Ideal) X) W (ix2 r j) = Cert.Dense.times (fun k => X (ix2 r k)) (fun k j => W (ix2 k j)) j := by
  unfold k0_pay2 k0_pay1 Cert.Dense.times
  dsimp only
  pointwise

variable (m : (ℓ : Loc nD τ sig) → Buf (Elt Ideal) ℓ) (c : Dev nD)

/-! ## The arrays the region finds -/

theorem V_rows : V m c main_v0 = shapeCast S16384x2048 (m ((c : Thread nD τ).loc main_arg0)) Facts₀.shapeCasts_S4x4096x2048_S16384x2048 := by
  show StableHlo.after hostOps0 _ (Proc.devRef .tc main_v0) = _
  unfold hostOps0
  after_results_simp
  rfl

theorem V_weights : V m c main_v2 = truncf (F := Ideal) (φ := .f32) .bf16 (extractStridedSlice S2048x4608 ![0, 0] (m ((c : Thread nD τ).loc main_arg1))
    Facts₀.slices_S2048x4624_S2048x4608_0_0) Facts₀.bitsLt_bf16_f32 := by
  show StableHlo.after hostOps0 _ (Proc.devRef .tc main_v2) = _
  unfold hostOps0
  after_results_simp

/-- A token's place in its sequence's batch. -/
def placeOf (r : Fin 16384) (k : Fin 2048) : S4x4096x2048.Idx := ix3 (⟨r.val / 4096, by omega⟩ : Fin 4) (⟨r.val % 4096, by omega⟩ : Fin 4096) k
/-- The weight columns the product reads. -/
def columnOf (j : Fin 4608) : Fin 4624 := ⟨j.val, by omega⟩

theorem rows_at (A : S4x4096x2048.Idx → EReal) (r : Fin 16384) (k : Fin 2048) :
    shapeCast S16384x2048 A Facts₀.shapeCasts_S4x4096x2048_S16384x2048 (ix2 r k) = A (placeOf r k) := by
  pointwise
  rfl

theorem weights_at (W : S2048x4624.Idx → EReal) (k : Fin 2048) (j : Fin 4608) :
    truncf (F := Ideal) (φ := .f32) .bf16 (extractStridedSlice S2048x4608 ![0, 0] W Facts₀.slices_S2048x4624_S2048x4608_0_0) Facts₀.bitsLt_bf16_f32 (ix2 k j)
      = W (ix2 k (columnOf j)) := by
  pointwise
  rfl

/-- The product, element by element. -/
def product (A : S4x4096x2048.Idx → EReal) (W : S2048x4624.Idx → EReal) : S16384x4608.Idx → EReal := fun i =>
  Cert.Dense.times (fun k => A (placeOf (i 0) k)) (fun k j => W (ix2 k j)) (columnOf (i 1))

/-! ## The blocks -/

theorem rows_block (t : Fin 288) : cc0_transform_0 (grid0.coords t) = ![t.val / 9, 0] := by revert t; decide +kernel
theorem weights_block (t : Fin 288) : cc0_transform_1 (grid0.coords t) = ![0, t.val % 9] := by revert t; decide +kernel
theorem out_block (t : Fin 288) : cc0_transform_2 (grid0.coords t) = ![t.val / 9, t.val % 9] := by revert t; decide +kernel

/-- The row of the array that a point's block holds at its row `r`. -/
def rowAt (t : Fin 288) (r : Fin 512) : Fin 16384 := ⟨512 * (t.val / 9) + r.val, by omega⟩
/-- The column of the array that a point's block holds at its column `j`. -/
def colAt (t : Fin 288) (j : Fin 512) : Fin 4608 := ⟨512 * (t.val % 9) + j.val, by omega⟩

theorem rows_emb (t : Fin 288) (r : Fin 512) (k : Fin 2048) :
    (Rect.block (s := S16384x2048) S512x2048.size (cc0_transform_0 (grid0.coords t)) (hinb0_0 (grid0.coords t))).emb (ix2 r k) = ix2 (rowAt t r) k :=
  Cert.Dense.block_emb _ (hinb0_0 _) r k _ _
    (by rw [rows_block]; exact congrArg (· + r.val) (Nat.mul_comm 512 (t.val / 9)))
    (by rw [rows_block]; exact ((congrArg (· + k.val) (Nat.zero_mul 2048)).trans (Nat.zero_add _)).symm)

theorem weights_emb (t : Fin 288) (k : Fin 2048) (j : Fin 512) :
    (Rect.block (s := S2048x4608) S2048x512.size (cc0_transform_1 (grid0.coords t)) (hinb0_1 (grid0.coords t))).emb (ix2 k j) = ix2 k (colAt t j) :=
  Cert.Dense.block_emb _ (hinb0_1 _) k j _ _
    (by rw [weights_block]; exact ((congrArg (· + k.val) (Nat.zero_mul 2048)).trans (Nat.zero_add _)).symm)
    (by rw [weights_block]; exact congrArg (· + j.val) (Nat.mul_comm 512 (t.val % 9)))

theorem out_emb (t : Fin 288) (r j : Fin 512) :
    (Rect.block (s := S16384x4608) S512x512.size (cc0_transform_2 (grid0.coords t)) (hinb0_2 (grid0.coords t))).emb (ix2 r j) = ix2 (rowAt t r) (colAt t j) :=
  Cert.Dense.block_emb _ (hinb0_2 _) r j _ _
    (by rw [out_block]; exact congrArg (· + r.val) (Nat.mul_comm 512 (t.val / 9)))
    (by rw [out_block]; exact congrArg (· + j.val) (Nat.mul_comm 512 (t.val % 9)))

theorem row_at (t : Fin 288) (r : Fin 512) (k : Fin 2048) :
    iblk m c 0 t (ix2 r k) = m ((c : Thread nD τ).loc main_arg0) (placeOf (rowAt t r) k) :=
  (congrArg (V m c main_v0) (rows_emb t r k)).trans ((congrFun (V_rows m c) _).trans (rows_at _ _ k))

theorem weight_at (t : Fin 288) (k : Fin 2048) (j : Fin 512) :
    iblk m c 1 t (ix2 k j) = m ((c : Thread nD τ).loc main_arg1) (ix2 k (columnOf (colAt t j))) :=
  (congrArg (V m c main_v2) (weights_emb t k j)).trans ((congrFun (V_weights m c) _).trans (weights_at _ k _))

/-- Points of one row block load the same rows. -/
theorem same_rows (t u : Fin 288) (h : t.val / 9 = u.val / 9) : iblk m c 0 t = iblk m c 0 u := by
  funext y
  obtain ⟨r, k, rfl⟩ : ∃ (r : Fin 512) (k : Fin 2048), y = ix2 r k := ⟨y 0, y 1, eq_ix2 y⟩
  rw [row_at, row_at]
  exact congrArg (fun r => m ((c : Thread nD τ).loc main_arg0) (placeOf r k)) (Fin.ext (by show 512 * _ + _ = 512 * _ + _; rw [h]))

/-- After every point the kept rows are those of the point's row block. -/
theorem kept (n : ℕ) (h : n < cfg0.N) : (outsAt0 m c n h).2 = k0_pay1 (iblk m c 0 ⟨n, h⟩) := by
  have hN : cfg0.N = 288 := N_0
  induction n with
  | zero =>
    rw [outsAt0_A m c ⟨0, h⟩ (Nat.zero_mod _)]
    dsimp only
    rw [kept_first]
  | succ n ih =>
    by_cases h0 : (n + 1) % 9 = 0
    · rw [outsAt0_A m c ⟨n + 1, h⟩ h0]
      dsimp only
      rw [kept_first]
    · rw [outsAt0_B m c ⟨n + 1, h⟩ h0]
      unfold sout0_B_0
      dsimp only
      refine (ih (by omega)).trans (congrArg k0_pay1 (same_rows m c ⟨n, by omega⟩ ⟨n + 1, by omega⟩ ?_))
      show n / 9 = (n + 1) / 9
      omega

/-- Every point leaves its rows times its columns. -/
theorem written (t : Fin cfg0.N) : (outsAt0 m c t.val t.isLt).1 = k0_pay2 (k0_pay1 (iblk m c 0 t)) (iblk m c 1 t) := by
  have hN : cfg0.N = 288 := N_0
  have ht := t.isLt
  by_cases h0 : t.val % 9 = 0
  · rw [outsAt0_A m c t h0]
    dsimp only
    rw [written_first]
  · rw [outsAt0_B m c t h0]
    have hp : t.val ≠ 0 := fun h => h0 (by rw [h])
    dsimp only
    rw [written_later, kept]
    refine congrArg (fun x => k0_pay2 (k0_pay1 x) (iblk m c 1 t)) (same_rows m c ⟨t.val - 1, by omega⟩ t ?_)
    show (t.val - 1) / 9 = t.val / 9
    omega

theorem written_at (t : Fin cfg0.N) (r j : Fin 512) : (outsAt0 m c t.val t.isLt).1 (ix2 r j)
    = product (m ((c : Thread nD τ).loc main_arg0)) (m ((c : Thread nD τ).loc main_arg1)) (ix2 (rowAt t r) (colAt t j)) := by
  rw [written]
  refine (block_at _ _ r j).trans ?_
  unfold product Cert.Dense.times
  exact Finset.sum_congr rfl fun k _ => congrArg₂ (· * ·) (row_at m c t r k) (weight_at m c t k j)

/-- The output array ends at the product. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  rw [after0_2]
  blk_simp
  obtain ⟨r, j, rfl⟩ : ∃ (r j : Fin 512), y = ix2 r j := ⟨y 0, y 1, eq_ix2 y⟩
  exact (written_at m c t r j).trans (congrArg (product _ _) (out_emb t r j).symm)

end Cert.InProjIdeal.Dense

end
-- ==== Proof.InProjClaims.lean ====
module

public import proofs.«01_k».proof.Defs
public import proofs.«01_k».proof.Proof.InProjValue
public import proofs.«01_k».proof.Proof.Gen.InProj.Frame
public import proofs.«01_k».proof.Proof.Gen.InProjReferenceIdeal.Run

@[expose] public section

set_option maxRecDepth 16384

noncomputable section

/-! # The input projection: its claims -/

namespace Cert.InProjClaims

open Idealize.ShloMosaic Idealize.ShloMosaic.TcCoe
open Idealize.SL.Sem

/-- The reference's term, element by element. -/
theorem reference_at (A : Cert.InProjReferenceIdeal.S4x4096x2048.Idx → EReal) (W : Cert.InProjReferenceIdeal.S2048x4624.Idx → EReal) :
    truncf (F := Ideal) (φ := .f32) .bf16 (shapeCast Cert.InProjReferenceIdeal.S16384x4608 (extractStridedSlice Cert.InProjReferenceIdeal.S4x4096x4608 ![0, 0, 0]
        (Host.dotGeneral (F := Ideal) (φ₁ := .f32) (φ₂ := .f32) Cert.InProjReferenceIdeal.dot_S4x4096x2048_S2048x4624_S4x4096x4624_2_0_01_1_n_n none A W)
        Cert.InProjReferenceIdeal.Gen.slices_S4x4096x4624_S4x4096x4608_0_0_0) Cert.InProjReferenceIdeal.Gen.shapeCasts_S4x4096x4608_S16384x4608)
        Cert.InProjReferenceIdeal.Gen.bitsLt_bf16_f32 = Cert.InProjIdeal.Dense.product A W := by
  funext y
  obtain ⟨r, j, rfl⟩ : ∃ (r : Fin 16384) (j : Fin 4608), y = ix2 r j := ⟨y 0, y 1, eq_ix2 y⟩
  unfold Cert.InProjIdeal.Dense.product Cert.Dense.times
  pointwise
  rfl

/-- The kernel as printed runs, and leaves its arguments and every counter as they were. -/
theorem frame_kernel : Cert.quiescent_InProj := fun m g _ => Cert.InProj.Gen.frame m g

/-- So it does over the extended reals. -/
theorem frame_ideal : Cert.quiescent_InProjIdeal := fun m g _ => Cert.InProjIdeal.Gen.frame m g

/-- The reference: its generated run; it has no semaphore. -/
theorem frame_reference : Cert.quiescent_InProjReferenceIdeal := fun m g _ =>
  (θ_run Cert.InProjReferenceIdeal.defs _ _).mono (fun r h => ⟨fun c => (h c).2, sem_eq_zero_of_no_sems (by decide) r.2⟩)
    (Cert.InProjReferenceIdeal.Value.run (F := Ideal) m g)

/-- The two texts are one. -/
theorem preserves : Cert.preserves_InProj_InProjIdeal := trivial

/-- The kernel and the reference leave the same array, the product of their arguments. -/
theorem algebraic : Cert.algebraic_InProjIdeal_InProjReferenceIdeal := by
  intro m g m' g' _ hagree
  refine ⟨fun c => Cert.InProjIdeal.Dense.product (m ((c.tc : Thread Cert.InProjIdeal.nD Cert.InProjIdeal.τ).loc Cert.InProjIdeal.main_arg0)) (m ((c.tc : Thread Cert.InProjIdeal.nD Cert.InProjIdeal.τ).loc Cert.InProjIdeal.main_arg1)), (θ_run Cert.InProjIdeal.defs _ _).mono
    (fun _ h c => ⟨(h c).1.trans (Cert.InProjIdeal.Dense.final m c), (h c).2⟩) (Cert.InProjIdeal.Value.run_blocks (F := Ideal) m g), ?_⟩
  refine (θ_run Cert.InProjReferenceIdeal.defs _ _).mono (fun _ h c => ⟨(h c).1.trans ?_, (h c).2⟩)
    (Cert.InProjReferenceIdeal.Value.run (F := Ideal) m' g')
  obtain ⟨h0, h1⟩ := hagree c
  rw [h0, h1]
  exact reference_at _ _

end Cert.InProjClaims

end
-- ==== Proof.PeerQueryValue.lean ====
module

public import proofs.«01_k».proof.Proof.Gen.PeerQueryIdeal.Value
public import proofs.«01_k».proof.Proof.Dense
public import Idealize.ShloMosaic.Lib.Pointwise
public import Idealize.ShloMosaic.Lib.Tactic
public import Idealize.ShloMosaic.Lib.Pipeline.ValueKit
public import Idealize.ShloMosaic.PureOps.Ideal.Laws

@[expose] public section

set_option maxRecDepth 16384

noncomputable section

/-! # The expert scorer's queries -/

namespace Cert.PeerQueryIdeal.Dense

open Idealize.ShloMosaic Idealize.ShloMosaic.TcCoe
open Idealize.SL.Sem
open Idealize.ShloMosaic.Pipeline (Dat Cfg Window)
open Cert.PeerQueryIdeal Cert.PeerQueryIdeal.Gen

/-! ## What a point leaves -/

section Cases

variable {F : FTy → Type} [FloatOps F]
variable (c : Dev nD) (i : grid0.Coords) (a2 : Memref sig .tc .vmem S512x2048 .f32) (h2 : a2.IsWhole) (a3 : Memref sig .tc .vmem S2048x512 .bf16)
  (h3 : a3.IsWhole) (a4 : Memref sig .tc .vmem S512x512 .bf16) (h4 : a4.IsWhole) (a5 : Memref sig .tc .vmem S512x2048 .bf16) (h5 : a5.IsWhole)
  (x : Vec F S512x2048 .f32) (w : Vec F S2048x512 .bf16)

theorem origin : (![0, 0] : Fin 2 → Nat) = fun _ => 0 := funext fun a => by fin_cases a <;> rfl

/-- The first column block of a row block keeps the rows it loads. -/
theorem kept_first (hc : cond0_0 i) : sout0_A_0 c i a2 h2 a3 h3 a4 h4 a5 h5 hc x w = k0_pay1 x := by
  unfold sout0_A_0
  rw [View.read_writes_eq_canon _ _ _ (scover0_A_0 c i a2 h2 a3 h3 a4 h4 a5 h5 hc x w)]
  unfold kernelRun0_A
  dsimp only
  sl_unfold_words
  rw [View.canon_unit_zero (S := S512x2048) origin]
  simp only [View.readAt_eq_ld, h2.read_unread, View.ld_unit_zero (S := S512x2048) origin]

/-- It writes those rows times its columns. -/
theorem written_first (hc : cond0_0 i) : out0_A_2 c i a2 h2 a3 h3 a4 h4 a5 h5 hc x w = k0_pay2 (k0_pay1 x) w := by
  unfold out0_A_2
  rw [View.read_writes_eq_canon _ _ _ (cover0_A_2 c i a2 h2 a3 h3 a4 h4 a5 h5 hc x w)]
  unfold kernelRun0_A
  dsimp only
  sl_unfold_words
  rw [View.canon_unit_zero (S := S512x512) origin, View.readCov_unit_zero (S := S512x2048) _ origin]
  simp only [View.readAt_eq_ld, h2.read_unread, h3.read_unread, View.ld_unit_zero (S := S512x2048) origin, View.ld_unit_zero (S := S2048x512) origin]

/-- A later column block writes the kept rows times its columns. -/
theorem written_later (hc : ¬cond0_0 i) (s : Vec F S512x2048 .bf16) : out0_B_2 c i a2 h2 a3 h3 a4 h4 a5 h5 hc x w s = k0_pay2 s w := by
  unfold out0_B_2
  rw [View.read_writes_eq_canon _ _ _ (cover0_B_2 c i a2 h2 a3 h3 a4 h4 a5 h5 hc x w s)]
  unfold kernelRun0_B
  dsimp only
  sl_unfold_words
  rw [View.canon_unit_zero (S := S512x512) origin]
  simp only [View.readAt_eq_ld, h3.read_unread, h5.read_unread, View.ld_unit_zero (S := S512x2048) origin, View.ld_unit_zero (S := S2048x512) origin]

end Cases

/-- A block of the product, element by element. -/
theorem block_at (X : S512x2048.Idx → EReal) (W : S2048x512.Idx → EReal) (r j : Fin 512) :
    k0_pay2 (F := Ideal) (k0_pay1 (F := Ideal) X) W (ix2 r j) = Cert.Dense.times (fun k => X (ix2 r k)) (fun k j => W (ix2 k j)) j := by
  unfold k0_pay2 k0_pay1 Cert.Dense.times
  dsimp only
  pointwise

variable (m : (ℓ : Loc nD τ sig) → Buf (Elt Ideal) ℓ) (c : Dev nD)

/-! ## The arrays the region finds -/

theorem V_weights : V m c main_v0 = truncf (F := Ideal) (φ := .f32) .bf16 (m ((c : Thread nD τ).loc main_arg1)) Facts₀.bitsLt_bf16_f32 := by
  show StableHlo.after hostOps0 _ (Proc.devRef .tc main_v0) = _
  unfold hostOps0
  after_results_simp

/-- The product, element by element. -/
def product (A : S16384x2048.Idx → EReal) (W : S2048x2048.Idx → EReal) : S16384x2048.Idx → EReal := fun i =>
  Cert.Dense.times (fun k => A (ix2 (i 0) k)) (fun k j => W (ix2 k j)) (i 1)

/-! ## The blocks -/

theorem rows_block (t : Fin 128) : cc0_transform_0 (grid0.coords t) = ![t.val / 4, 0] := by revert t; decide +kernel
theorem weights_block (t : Fin 128) : cc0_transform_1 (grid0.coords t) = ![0, t.val % 4] := by revert t; decide +kernel
theorem out_block (t : Fin 128) : cc0_transform_2 (grid0.coords t) = ![t.val / 4, t.val % 4] := by revert t; decide +kernel

/-- The row of the array that a point's block holds at its row `r`. -/
def rowAt (t : Fin 128) (r : Fin 512) : Fin 16384 := ⟨512 * (t.val / 4) + r.val, by omega⟩
/-- The column of the array that a point's block holds at its column `j`. -/
def colAt (t : Fin 128) (j : Fin 512) : Fin 2048 := ⟨512 * (t.val % 4) + j.val, by omega⟩

theorem rows_emb (t : Fin 128) (r : Fin 512) (k : Fin 2048) :
    (Rect.block (s := S16384x2048) S512x2048.size (cc0_transform_0 (grid0.coords t)) (hinb0_0 (grid0.coords t))).emb (ix2 r k) = ix2 (rowAt t r) k :=
  Cert.Dense.block_emb _ (hinb0_0 _) r k _ _
    (by rw [rows_block]; exact congrArg (· + r.val) (Nat.mul_comm 512 (t.val / 4)))
    (by rw [rows_block]; exact ((congrArg (· + k.val) (Nat.zero_mul 2048)).trans (Nat.zero_add _)).symm)

theorem weights_emb (t : Fin 128) (k : Fin 2048) (j : Fin 512) :
    (Rect.block (s := S2048x2048) S2048x512.size (cc0_transform_1 (grid0.coords t)) (hinb0_1 (grid0.coords t))).emb (ix2 k j) = ix2 k (colAt t j) :=
  Cert.Dense.block_emb _ (hinb0_1 _) k j _ _
    (by rw [weights_block]; exact ((congrArg (· + k.val) (Nat.zero_mul 2048)).trans (Nat.zero_add _)).symm)
    (by rw [weights_block]; exact congrArg (· + j.val) (Nat.mul_comm 512 (t.val % 4)))

theorem out_emb (t : Fin 128) (r j : Fin 512) :
    (Rect.block (s := S16384x2048) S512x512.size (cc0_transform_2 (grid0.coords t)) (hinb0_2 (grid0.coords t))).emb (ix2 r j) = ix2 (rowAt t r) (colAt t j) :=
  Cert.Dense.block_emb _ (hinb0_2 _) r j _ _
    (by rw [out_block]; exact congrArg (· + r.val) (Nat.mul_comm 512 (t.val / 4)))
    (by rw [out_block]; exact congrArg (· + j.val) (Nat.mul_comm 512 (t.val % 4)))

theorem row_at (t : Fin 128) (r : Fin 512) (k : Fin 2048) :
    iblk m c 0 t (ix2 r k) = m ((c : Thread nD τ).loc main_arg0) (ix2 (rowAt t r) k) :=
  (congrArg (V m c main_arg0) (rows_emb t r k)).trans (congrFun (V_main_arg0 m c) _)

theorem weight_at (t : Fin 128) (k : Fin 2048) (j : Fin 512) :
    iblk m c 1 t (ix2 k j) = m ((c : Thread nD τ).loc main_arg1) (ix2 k (colAt t j)) :=
  (congrArg (V m c main_v0) (weights_emb t k j)).trans (congrFun (V_weights m c) _)

/-- Points of one row block load the same rows. -/
theorem same_rows (t u : Fin 128) (h : t.val / 4 = u.val / 4) : iblk m c 0 t = iblk m c 0 u := by
  funext y
  obtain ⟨r, k, rfl⟩ : ∃ (r : Fin 512) (k : Fin 2048), y = ix2 r k := ⟨y 0, y 1, eq_ix2 y⟩
  rw [row_at, row_at]
  exact congrArg (fun r => m ((c : Thread nD τ).loc main_arg0) (ix2 r k)) (Fin.ext (by show 512 * _ + _ = 512 * _ + _; rw [h]))

/-- After every point the kept rows are those of the point's row block. -/
theorem kept (n : ℕ) (h : n < cfg0.N) : (outsAt0 m c n h).2 = k0_pay1 (iblk m c 0 ⟨n, h⟩) := by
  have hN : cfg0.N = 128 := N_0
  induction n with
  | zero =>
    rw [outsAt0_A m c ⟨0, h⟩ (Nat.zero_mod _)]
    dsimp only
    rw [kept_first]
  | succ n ih =>
    by_cases h0 : (n + 1) % 4 = 0
    · rw [outsAt0_A m c ⟨n + 1, h⟩ h0]
      dsimp only
      rw [kept_first]
    · rw [outsAt0_B m c ⟨n + 1, h⟩ h0]
      unfold sout0_B_0
      dsimp only
      refine (ih (by omega)).trans (congrArg k0_pay1 (same_rows m c ⟨n, by omega⟩ ⟨n + 1, by omega⟩ ?_))
      show n / 4 = (n + 1) / 4
      omega

/-- Every point leaves its rows times its columns. -/
theorem written (t : Fin cfg0.N) : (outsAt0 m c t.val t.isLt).1 = k0_pay2 (k0_pay1 (iblk m c 0 t)) (iblk m c 1 t) := by
  have hN : cfg0.N = 128 := N_0
  have ht := t.isLt
  by_cases h0 : t.val % 4 = 0
  · rw [outsAt0_A m c t h0]
    dsimp only
    rw [written_first]
  · rw [outsAt0_B m c t h0]
    have hp : t.val ≠ 0 := fun h => h0 (by rw [h])
    dsimp only
    rw [written_later, kept]
    refine congrArg (fun x => k0_pay2 (k0_pay1 x) (iblk m c 1 t)) (same_rows m c ⟨t.val - 1, by omega⟩ t ?_)
    show (t.val - 1) / 4 = t.val / 4
    omega

theorem written_at (t : Fin cfg0.N) (r j : Fin 512) : (outsAt0 m c t.val t.isLt).1 (ix2 r j)
    = product (m ((c : Thread nD τ).loc main_arg0)) (m ((c : Thread nD τ).loc main_arg1)) (ix2 (rowAt t r) (colAt t j)) := by
  rw [written]
  refine (block_at _ _ r j).trans ?_
  unfold product Cert.Dense.times
  exact Finset.sum_congr rfl fun k _ => congrArg₂ (· * ·) (row_at m c t r k) (weight_at m c t k j)

/-- The output array ends at the product. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  rw [after0_2]
  blk_simp
  obtain ⟨r, j, rfl⟩ : ∃ (r j : Fin 512), y = ix2 r j := ⟨y 0, y 1, eq_ix2 y⟩
  exact (written_at m c t r j).trans (congrArg (product _ _) (out_emb t r j).symm)

end Cert.PeerQueryIdeal.Dense

end
-- ==== Proof.PeerQueryClaims.lean ====
module

public import proofs.«01_k».proof.Defs
public import proofs.«01_k».proof.Proof.PeerQueryValue
public import proofs.«01_k».proof.Proof.Gen.PeerQuery.Frame
public import proofs.«01_k».proof.Proof.Gen.PeerQueryReferenceIdeal.Run

@[expose] public section

set_option maxRecDepth 16384

noncomputable section

/-! # The expert scorer's queries: its claims -/

namespace Cert.PeerQueryClaims

open Idealize.ShloMosaic Idealize.ShloMosaic.TcCoe
open Idealize.SL.Sem

/-- The reference's term, element by element. -/
theorem reference_at (A : Cert.PeerQueryReferenceIdeal.S16384x2048.Idx → EReal) (W : Cert.PeerQueryReferenceIdeal.S2048x2048.Idx → EReal) :
    truncf (F := Ideal) (φ := .f32) .bf16 (Host.dotGeneral (F := Ideal) (φ₁ := .f32) (φ₂ := .f32) Cert.PeerQueryReferenceIdeal.dot_S16384x2048_S2048x2048_S16384x2048_1_0_0_1_n_n none A W)
        Cert.PeerQueryReferenceIdeal.Gen.bitsLt_bf16_f32 = Cert.PeerQueryIdeal.Dense.product A W := by
  funext y
  obtain ⟨r, j, rfl⟩ : ∃ (r : Fin 16384) (j : Fin 2048), y = ix2 r j := ⟨y 0, y 1, eq_ix2 y⟩
  unfold Cert.PeerQueryIdeal.Dense.product Cert.Dense.times
  pointwise

/-- The kernel as printed runs, and leaves its arguments and every counter as they were. -/
theorem frame_kernel : Cert.quiescent_PeerQuery := fun m g _ => Cert.PeerQuery.Gen.frame m g

/-- So it does over the extended reals. -/
theorem frame_ideal : Cert.quiescent_PeerQueryIdeal := fun m g _ => Cert.PeerQueryIdeal.Gen.frame m g

/-- The reference: its generated run; it has no semaphore. -/
theorem frame_reference : Cert.quiescent_PeerQueryReferenceIdeal := fun m g _ =>
  (θ_run Cert.PeerQueryReferenceIdeal.defs _ _).mono (fun r h => ⟨fun c => (h c).2, sem_eq_zero_of_no_sems (by decide) r.2⟩)
    (Cert.PeerQueryReferenceIdeal.Value.run (F := Ideal) m g)

/-- The two texts are one. -/
theorem preserves : Cert.preserves_PeerQuery_PeerQueryIdeal := trivial

/-- The kernel and the reference leave the same array, the product of their arguments. -/
theorem algebraic : Cert.algebraic_PeerQueryIdeal_PeerQueryReferenceIdeal := by
  intro m g m' g' _ hagree
  refine ⟨fun c => Cert.PeerQueryIdeal.Dense.product (m ((c.tc : Thread Cert.PeerQueryIdeal.nD Cert.PeerQueryIdeal.τ).loc Cert.PeerQueryIdeal.main_arg0)) (m ((c.tc : Thread Cert.PeerQueryIdeal.nD Cert.PeerQueryIdeal.τ).loc Cert.PeerQueryIdeal.main_arg1)), (θ_run Cert.PeerQueryIdeal.defs _ _).mono
    (fun _ h c => ⟨(h c).1.trans (Cert.PeerQueryIdeal.Dense.final m c), (h c).2⟩) (Cert.PeerQueryIdeal.Value.run_blocks (F := Ideal) m g), ?_⟩
  refine (θ_run Cert.PeerQueryReferenceIdeal.defs _ _).mono (fun _ h c => ⟨(h c).1.trans ?_, (h c).2⟩)
    (Cert.PeerQueryReferenceIdeal.Value.run (F := Ideal) m' g')
  obtain ⟨h0, h1⟩ := hagree c
  rw [h0, h1]
  exact reference_at _ _

end Cert.PeerQueryClaims

end
-- ==== Proof.MemQueryValue.lean ====
module

public import proofs.«01_k».proof.Proof.Gen.MemQueryIdeal.Value
public import proofs.«01_k».proof.Proof.Dense
public import Idealize.ShloMosaic.Lib.Pointwise
public import Idealize.ShloMosaic.Lib.Tactic
public import Idealize.ShloMosaic.Lib.Pipeline.ValueKit
public import Idealize.ShloMosaic.PureOps.Ideal.Laws

@[expose] public section

set_option maxRecDepth 16384

noncomputable section

/-! # The memory attention's queries -/

namespace Cert.MemQueryIdeal.Dense

open Idealize.ShloMosaic Idealize.ShloMosaic.TcCoe
open Idealize.SL.Sem
open Idealize.ShloMosaic.Pipeline (Dat Cfg Window)
open Cert.MemQueryIdeal Cert.MemQueryIdeal.Gen

/-! ## What a point leaves -/

section Cases

variable {F : FTy → Type} [FloatOps F]
variable (c : Dev nD) (i : grid0.Coords) (a2 : Memref sig .tc .vmem S512x2048 .f32) (h2 : a2.IsWhole) (a3 : Memref sig .tc .vmem S2048x512 .bf16)
  (h3 : a3.IsWhole) (a4 : Memref sig .tc .vmem S512x512 .bf16) (h4 : a4.IsWhole) (a5 : Memref sig .tc .vmem S512x2048 .bf16) (h5 : a5.IsWhole)
  (x : Vec F S512x2048 .f32) (w : Vec F S2048x512 .bf16)

theorem origin : (![0, 0] : Fin 2 → Nat) = fun _ => 0 := funext fun a => by fin_cases a <;> rfl

/-- The first column block of a row block keeps the rows it loads. -/
theorem kept_first (hc : cond0_0 i) : sout0_A_0 c i a2 h2 a3 h3 a4 h4 a5 h5 hc x w = k0_pay1 x := by
  unfold sout0_A_0
  rw [View.read_writes_eq_canon _ _ _ (scover0_A_0 c i a2 h2 a3 h3 a4 h4 a5 h5 hc x w)]
  unfold kernelRun0_A
  dsimp only
  sl_unfold_words
  rw [View.canon_unit_zero (S := S512x2048) origin]
  simp only [View.readAt_eq_ld, h2.read_unread, View.ld_unit_zero (S := S512x2048) origin]

/-- It writes those rows times its columns. -/
theorem written_first (hc : cond0_0 i) : out0_A_2 c i a2 h2 a3 h3 a4 h4 a5 h5 hc x w = k0_pay2 (k0_pay1 x) w := by
  unfold out0_A_2
  rw [View.read_writes_eq_canon _ _ _ (cover0_A_2 c i a2 h2 a3 h3 a4 h4 a5 h5 hc x w)]
  unfold kernelRun0_A
  dsimp only
  sl_unfold_words
  rw [View.canon_unit_zero (S := S512x512) origin, View.readCov_unit_zero (S := S512x2048) _ origin]
  simp only [View.readAt_eq_ld, h2.read_unread, h3.read_unread, View.ld_unit_zero (S := S512x2048) origin, View.ld_unit_zero (S := S2048x512) origin]

/-- A later column block writes the kept rows times its columns. -/
theorem written_later (hc : ¬cond0_0 i) (s : Vec F S512x2048 .bf16) : out0_B_2 c i a2 h2 a3 h3 a4 h4 a5 h5 hc x w s = k0_pay2 s w := by
  unfold out0_B_2
  rw [View.read_writes_eq_canon _ _ _ (cover0_B_2 c i a2 h2 a3 h3 a4 h4 a5 h5 hc x w s)]
  unfold kernelRun0_B
  dsimp only
  sl_unfold_words
  rw [View.canon_unit_zero (S := S512x512) origin]
  simp only [View.readAt_eq_ld, h3.read_unread, h5.read_unread, View.ld_unit_zero (S := S512x2048) origin, View.ld_unit_zero (S := S2048x512) origin]

end Cases

/-- A block of the product, element by element. -/
theorem block_at (X : S512x2048.Idx → EReal) (W : S2048x512.Idx → EReal) (r j : Fin 512) :
    k0_pay2 (F := Ideal) (k0_pay1 (F := Ideal) X) W (ix2 r j) = Cert.Dense.times (fun k => X (ix2 r k)) (fun k j => W (ix2 k j)) j * Ideal.ofBits .f32 0x3D3504F3#32 := by
  unfold k0_pay2 k0_pay1 Cert.Dense.times
  dsimp only
  pointwise

variable (m : (ℓ : Loc nD τ sig) → Buf (Elt Ideal) ℓ) (c : Dev nD)

/-! ## The arrays the region finds -/

theorem V_weights : V m c main_v0 = truncf (F := Ideal) (φ := .f32) .bf16 (m ((c : Thread nD τ).loc main_arg1)) Facts₀.bitsLt_bf16_f32 := by
  show StableHlo.after hostOps0 _ (Proc.devRef .tc main_v0) = _
  unfold hostOps0
  after_results_simp

/-- The product, element by element. -/
def product (A : S16384x2048.Idx → EReal) (W : S2048x2048.Idx → EReal) : S16384x2048.Idx → EReal := fun i =>
  Cert.Dense.times (fun k => A (ix2 (i 0) k)) (fun k j => W (ix2 k j)) (i 1) * Ideal.ofBits .f32 0x3D3504F3#32

/-! ## The blocks -/

theorem rows_block (t : Fin 128) : cc0_transform_0 (grid0.coords t) = ![t.val / 4, 0] := by revert t; decide +kernel
theorem weights_block (t : Fin 128) : cc0_transform_1 (grid0.coords t) = ![0, t.val % 4] := by revert t; decide +kernel
theorem out_block (t : Fin 128) : cc0_transform_2 (grid0.coords t) = ![t.val / 4, t.val % 4] := by revert t; decide +kernel

/-- The row of the array that a point's block holds at its row `r`. -/
def rowAt (t : Fin 128) (r : Fin 512) : Fin 16384 := ⟨512 * (t.val / 4) + r.val, by omega⟩
/-- The column of the array that a point's block holds at its column `j`. -/
def colAt (t : Fin 128) (j : Fin 512) : Fin 2048 := ⟨512 * (t.val % 4) + j.val, by omega⟩

theorem rows_emb (t : Fin 128) (r : Fin 512) (k : Fin 2048) :
    (Rect.block (s := S16384x2048) S512x2048.size (cc0_transform_0 (grid0.coords t)) (hinb0_0 (grid0.coords t))).emb (ix2 r k) = ix2 (rowAt t r) k :=
  Cert.Dense.block_emb _ (hinb0_0 _) r k _ _
    (by rw [rows_block]; exact congrArg (· + r.val) (Nat.mul_comm 512 (t.val / 4)))
    (by rw [rows_block]; exact ((congrArg (· + k.val) (Nat.zero_mul 2048)).trans (Nat.zero_add _)).symm)

theorem weights_emb (t : Fin 128) (k : Fin 2048) (j : Fin 512) :
    (Rect.block (s := S2048x2048) S2048x512.size (cc0_transform_1 (grid0.coords t)) (hinb0_1 (grid0.coords t))).emb (ix2 k j) = ix2 k (colAt t j) :=
  Cert.Dense.block_emb _ (hinb0_1 _) k j _ _
    (by rw [weights_block]; exact ((congrArg (· + k.val) (Nat.zero_mul 2048)).trans (Nat.zero_add _)).symm)
    (by rw [weights_block]; exact congrArg (· + j.val) (Nat.mul_comm 512 (t.val % 4)))

theorem out_emb (t : Fin 128) (r j : Fin 512) :
    (Rect.block (s := S16384x2048) S512x512.size (cc0_transform_2 (grid0.coords t)) (hinb0_2 (grid0.coords t))).emb (ix2 r j) = ix2 (rowAt t r) (colAt t j) :=
  Cert.Dense.block_emb _ (hinb0_2 _) r j _ _
    (by rw [out_block]; exact congrArg (· + r.val) (Nat.mul_comm 512 (t.val / 4)))
    (by rw [out_block]; exact congrArg (· + j.val) (Nat.mul_comm 512 (t.val % 4)))

theorem row_at (t : Fin 128) (r : Fin 512) (k : Fin 2048) :
    iblk m c 0 t (ix2 r k) = m ((c : Thread nD τ).loc main_arg0) (ix2 (rowAt t r) k) :=
  (congrArg (V m c main_arg0) (rows_emb t r k)).trans (congrFun (V_main_arg0 m c) _)

theorem weight_at (t : Fin 128) (k : Fin 2048) (j : Fin 512) :
    iblk m c 1 t (ix2 k j) = m ((c : Thread nD τ).loc main_arg1) (ix2 k (colAt t j)) :=
  (congrArg (V m c main_v0) (weights_emb t k j)).trans (congrFun (V_weights m c) _)

/-- Points of one row block load the same rows. -/
theorem same_rows (t u : Fin 128) (h : t.val / 4 = u.val / 4) : iblk m c 0 t = iblk m c 0 u := by
  funext y
  obtain ⟨r, k, rfl⟩ : ∃ (r : Fin 512) (k : Fin 2048), y = ix2 r k := ⟨y 0, y 1, eq_ix2 y⟩
  rw [row_at, row_at]
  exact congrArg (fun r => m ((c : Thread nD τ).loc main_arg0) (ix2 r k)) (Fin.ext (by show 512 * _ + _ = 512 * _ + _; rw [h]))

/-- After every point the kept rows are those of the point's row block. -/
theorem kept (n : ℕ) (h : n < cfg0.N) : (outsAt0 m c n h).2 = k0_pay1 (iblk m c 0 ⟨n, h⟩) := by
  have hN : cfg0.N = 128 := N_0
  induction n with
  | zero =>
    rw [outsAt0_A m c ⟨0, h⟩ (Nat.zero_mod _)]
    dsimp only
    rw [kept_first]
  | succ n ih =>
    by_cases h0 : (n + 1) % 4 = 0
    · rw [outsAt0_A m c ⟨n + 1, h⟩ h0]
      dsimp only
      rw [kept_first]
    · rw [outsAt0_B m c ⟨n + 1, h⟩ h0]
      unfold sout0_B_0
      dsimp only
      refine (ih (by omega)).trans (congrArg k0_pay1 (same_rows m c ⟨n, by omega⟩ ⟨n + 1, by omega⟩ ?_))
      show n / 4 = (n + 1) / 4
      omega

/-- Every point leaves its rows times its columns. -/
theorem written (t : Fin cfg0.N) : (outsAt0 m c t.val t.isLt).1 = k0_pay2 (k0_pay1 (iblk m c 0 t)) (iblk m c 1 t) := by
  have hN : cfg0.N = 128 := N_0
  have ht := t.isLt
  by_cases h0 : t.val % 4 = 0
  · rw [outsAt0_A m c t h0]
    dsimp only
    rw [written_first]
  · rw [outsAt0_B m c t h0]
    have hp : t.val ≠ 0 := fun h => h0 (by rw [h])
    dsimp only
    rw [written_later, kept]
    refine congrArg (fun x => k0_pay2 (k0_pay1 x) (iblk m c 1 t)) (same_rows m c ⟨t.val - 1, by omega⟩ t ?_)
    show (t.val - 1) / 4 = t.val / 4
    omega

theorem written_at (t : Fin cfg0.N) (r j : Fin 512) : (outsAt0 m c t.val t.isLt).1 (ix2 r j)
    = product (m ((c : Thread nD τ).loc main_arg0)) (m ((c : Thread nD τ).loc main_arg1)) (ix2 (rowAt t r) (colAt t j)) := by
  rw [written]
  refine (block_at _ _ r j).trans ?_
  unfold product Cert.Dense.times
  refine congrArg (· * _) ?_
  exact Finset.sum_congr rfl fun k _ => congrArg₂ (· * ·) (row_at m c t r k) (weight_at m c t k j)

/-- The output array ends at the product. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  rw [after0_2]
  blk_simp
  obtain ⟨r, j, rfl⟩ : ∃ (r j : Fin 512), y = ix2 r j := ⟨y 0, y 1, eq_ix2 y⟩
  exact (written_at m c t r j).trans (congrArg (product _ _) (out_emb t r j).symm)

end Cert.MemQueryIdeal.Dense

end
-- ==== Proof.MemQueryClaims.lean ====
module

public import proofs.«01_k».proof.Defs
public import proofs.«01_k».proof.Proof.MemQueryValue
public import proofs.«01_k».proof.Proof.Gen.MemQuery.Frame
public import proofs.«01_k».proof.Proof.Gen.MemQueryReferenceIdeal.Run

@[expose] public section

set_option maxRecDepth 16384

noncomputable section

/-! # The memory attention's queries: its claims -/

namespace Cert.MemQueryClaims

open Idealize.ShloMosaic Idealize.ShloMosaic.TcCoe
open Idealize.SL.Sem

/-- The reference's term, element by element. -/
theorem reference_at (A : Cert.MemQueryReferenceIdeal.S16384x2048.Idx → EReal) (W : Cert.MemQueryReferenceIdeal.S2048x2048.Idx → EReal) :
    truncf (F := Ideal) (φ := .f32) .bf16 (mulf (Host.dotGeneral (F := Ideal) (φ₁ := .f32) (φ₂ := .f32) Cert.MemQueryReferenceIdeal.dot_S16384x2048_S2048x2048_S16384x2048_1_0_0_1_n_n none A W)
      (broadcastInDim Cert.MemQueryReferenceIdeal.S16384x2048 ![] Cert.MemQueryReferenceIdeal.Gen.bcast_S_S16384x2048 (constant (F := Ideal) Cert.MemQueryReferenceIdeal.S_ .f32 0x3D3504F3#32)))
        Cert.MemQueryReferenceIdeal.Gen.bitsLt_bf16_f32 = Cert.MemQueryIdeal.Dense.product A W := by
  funext y
  obtain ⟨r, j, rfl⟩ : ∃ (r : Fin 16384) (j : Fin 2048), y = ix2 r j := ⟨y 0, y 1, eq_ix2 y⟩
  unfold Cert.MemQueryIdeal.Dense.product Cert.Dense.times
  pointwise

/-- The kernel as printed runs, and leaves its arguments and every counter as they were. -/
theorem frame_kernel : Cert.quiescent_MemQuery := fun m g _ => Cert.MemQuery.Gen.frame m g

/-- So it does over the extended reals. -/
theorem frame_ideal : Cert.quiescent_MemQueryIdeal := fun m g _ => Cert.MemQueryIdeal.Gen.frame m g

/-- The reference: its generated run; it has no semaphore. -/
theorem frame_reference : Cert.quiescent_MemQueryReferenceIdeal := fun m g _ =>
  (θ_run Cert.MemQueryReferenceIdeal.defs _ _).mono (fun r h => ⟨fun c => (h c).2, sem_eq_zero_of_no_sems (by decide) r.2⟩)
    (Cert.MemQueryReferenceIdeal.Value.run (F := Ideal) m g)

/-- The two texts are one. -/
theorem preserves : Cert.preserves_MemQuery_MemQueryIdeal := trivial

/-- The kernel and the reference leave the same array, the product of their arguments, scaled. -/
theorem algebraic : Cert.algebraic_MemQueryIdeal_MemQueryReferenceIdeal := by
  intro m g m' g' _ hagree
  refine ⟨fun c => Cert.MemQueryIdeal.Dense.product (m ((c.tc : Thread Cert.MemQueryIdeal.nD Cert.MemQueryIdeal.τ).loc Cert.MemQueryIdeal.main_arg0)) (m ((c.tc : Thread Cert.MemQueryIdeal.nD Cert.MemQueryIdeal.τ).loc Cert.MemQueryIdeal.main_arg1)), (θ_run Cert.MemQueryIdeal.defs _ _).mono
    (fun _ h c => ⟨(h c).1.trans (Cert.MemQueryIdeal.Dense.final m c), (h c).2⟩) (Cert.MemQueryIdeal.Value.run_blocks (F := Ideal) m g), ?_⟩
  refine (θ_run Cert.MemQueryReferenceIdeal.defs _ _).mono (fun _ h c => ⟨(h c).1.trans ?_, (h c).2⟩)
    (Cert.MemQueryReferenceIdeal.Value.run (F := Ideal) m' g')
  obtain ⟨h0, h1⟩ := hagree c
  rw [h0, h1]
  exact reference_at _ _

end Cert.MemQueryClaims

end
-- ==== Proof.Softmax.lean ====
module

public import Idealize.ShloMosaic.PureOps.Ideal

@[expose] public section

noncomputable section

/-! # The softmax of a row, over the extended reals -/

namespace Cert.Softmax

open Idealize.ShloMosaic

/-- The word the maxima start from reads as minus infinity. -/
theorem lowest : Ideal.ofBits .f32 0xFF800000#32 = ⊥ := by simp [Ideal.ofBits, Ideal.ieee]

/-- And its positive counterpart as plus infinity. -/
theorem highest : Ideal.ofBits .f32 0x7F800000#32 = ⊤ := by simp [Ideal.ofBits, Ideal.ieee]

/-- A value that is no infinity. -/
def IsReal (x : EReal) : Prop := ⊥ < x ∧ x < ⊤

/-- A finite value is a real's. -/
theorem IsReal.coe {x : EReal} (h : IsReal x) : ((x.toReal : ℝ) : EReal) = x := EReal.coe_toReal h.2.ne h.1.ne'

theorem real_coe (x : ℝ) : IsReal (x : EReal) := ⟨EReal.bot_lt_coe x, EReal.coe_lt_top x⟩

theorem IsReal.mul {x y : EReal} (hx : IsReal x) (hy : IsReal y) : IsReal (x * y) := by
  rw [← hx.coe, ← hy.coe, ← EReal.coe_mul]
  exact real_coe _

theorem coe_sum {n : ℕ} (f : Fin n → ℝ) : ∑ k, (f k : EReal) = ((∑ k, f k : ℝ) : EReal) :=
  (map_sum (⟨⟨Real.toEReal, EReal.coe_zero⟩, EReal.coe_add⟩ : ℝ →+ EReal) f Finset.univ).symm

theorem IsReal.sum {n : ℕ} {f : Fin n → EReal} (h : ∀ k, IsReal (f k)) : IsReal (∑ k, f k) := by
  rw [Finset.sum_congr rfl fun k _ => (h k).coe.symm, coe_sum]
  exact real_coe _

variable {n : ℕ} [NeZero n] (s v : Fin n → EReal)

/-- The largest of a row's scores. -/
def top : EReal := Finset.univ.fold max ⊥ s

/-- A score's exponential, less the largest. -/
def weight (k : Fin n) : EReal := Ideal.exp (s k - top s)

/-- The values' mean by the weights: the sum divided once. -/
def attended : EReal := Ideal.div (∑ k, weight s k * v k) (∑ k, weight s k)

theorem top_real (h : ∀ k, IsReal (s k)) : IsReal (top s) :=
  ⟨lt_of_lt_of_le (h 0).1 (Finset.le_fold_max _ |>.2 (.inr ⟨0, Finset.mem_univ _, le_rfl⟩)),
    (Finset.fold_max_lt _).2 ⟨bot_lt_top, fun k _ => (h k).2⟩⟩

theorem weight_coe (h : ∀ k, IsReal (s k)) (k : Fin n) : weight s k = (Real.exp ((s k).toReal - (top s).toReal) : ℝ) := by
  unfold weight
  rw [← (h k).coe, ← (top_real s h).coe, ← EReal.coe_sub, EReal.toReal_coe, EReal.toReal_coe]
  rfl

/-- A sum scaled by a real that is not negative. -/
theorem sum_mul (c : ℝ) (hc : 0 ≤ c) (f : Fin n → EReal) (t : Finset (Fin n)) : (∑ k ∈ t, f k) * (c : EReal) = ∑ k ∈ t, f k * (c : EReal) := by
  induction t using Finset.cons_induction with
  | empty => simp
  | cons a t ha ih =>
    rw [Finset.sum_cons, Finset.sum_cons, ← ih, mul_comm, EReal.left_distrib_of_nonneg_of_ne_top (EReal.coe_nonneg.2 hc) (EReal.coe_ne_top c),
      mul_comm (c : EReal), mul_comm (c : EReal)]

/-- Where the scores are finite, every quotient may be taken before the sum. -/
theorem sum_div (h : ∀ k, IsReal (s k)) : ∑ k, Ideal.div (weight s k) (∑ k, weight s k) * v k = attended s v := by
  have hl : ∑ k, weight s k = ((∑ k, Real.exp ((s k).toReal - (top s).toReal) : ℝ) : EReal) :=
    (Finset.sum_congr rfl fun k _ => weight_coe s h k).trans (coe_sum _)
  have hp : 0 < ∑ k, Real.exp ((s k).toReal - (top s).toReal) := Finset.sum_pos (fun k _ => Real.exp_pos _) Finset.univ_nonempty
  have hd : ∀ x, Ideal.div x (∑ k, weight s k) = x * (((∑ k, Real.exp ((s k).toReal - (top s).toReal))⁻¹ : ℝ) : EReal) := fun x => by
    unfold Ideal.div
    rw [hl, if_neg (EReal.coe_ne_zero.2 hp.ne'), EReal.coe_inv]
  unfold attended
  rw [hd, sum_mul _ (inv_nonneg.2 hp.le)]
  refine Finset.sum_congr rfl fun k _ => ?_
  rw [hd, mul_right_comm]

end Cert.Softmax

end
-- ==== Proof.AttentionValue.lean ====
module

public import proofs.«01_k».proof.Proof.Gen.AttentionIdeal.Value
public import proofs.«01_k».proof.Proof.Softmax
public import Idealize.ShloMosaic.Lib.Pointwise
public import Idealize.ShloMosaic.Lib.Tactic
public import Idealize.ShloMosaic.Lib.Pipeline.ValueKit
public import Idealize.ShloMosaic.PureOps.Ideal.Laws

@[expose] public section

set_option maxRecDepth 16384

noncomputable section

/-! # The attention's result

The grid's point `t` is a batch entry `t / 128`, a query head `t % 128 / 16` and a run of 256 queries `t % 16`. -/

namespace Cert.AttentionIdeal.Heads

open Idealize.ShloMosaic Idealize.ShloMosaic.TcCoe
open Idealize.SL.Sem
open Idealize.ShloMosaic.Pipeline (Dat Cfg Window)
open Cert.AttentionIdeal Cert.AttentionIdeal.Gen

theorem origin : (![0, 0, 0] : Fin 3 → Nat) = fun _ => 0 := funext fun a => by fin_cases a <;> rfl

variable (m : (ℓ : Loc nD τ sig) → Buf (Elt Ideal) ℓ) (c : Dev nD)

/-- A query's row of a block's result: its attended values, with the scores the products of its query with every key. -/
theorem block_at (Q : S1x256x128.Idx → EReal) (K V : S1x4096x128.Idx → EReal) (r : Fin 256) (d : Fin 128) :
    k0_pay1 (F := Ideal) Q K V (ix3 0 r d)
      = Softmax.attended (fun k : Fin 4096 => ∑ e : Fin 128, Q (ix3 0 r e) * K (ix3 0 k e)) (fun k => V (ix3 0 k d)) := by
  unfold k0_pay1 Softmax.attended Softmax.weight Softmax.top
  dsimp only
  pointwise
  rw [Softmax.lowest]

/-- The columns of the query head that writes output column `j`. -/
def queryCol (j : Fin 1024) (e : Fin 128) : Fin 1280 := ⟨j.val / 128 * 128 + e.val, by omega⟩
/-- The columns of its key head, which four query heads share. -/
def keyCol (j : Fin 1024) (e : Fin 128) : Fin 1280 := ⟨1024 + (j.val / 512 * 128 + e.val), by omega⟩
/-- The column of its value head that output column `j` mixes. -/
def valueCol (j : Fin 1024) : Fin 4608 := ⟨1280 + (j.val / 512 * 128 + j.val % 128), by omega⟩

/-- The score of key `k` for query `q` of batch entry `b` at output column `j`. -/
def score (A : S4x4096x1280.Idx → EReal) (b : Fin 4) (q : Fin 4096) (j : Fin 1024) (k : Fin 4096) : EReal :=
  ∑ e : Fin 128, A (ix3 b q (queryCol j e)) * A (ix3 b k (keyCol j e))

/-- The result, element by element. -/
def result (A : S4x4096x1280.Idx → EReal) (B : S4x4096x4608.Idx → EReal) : S4x4096x1024.Idx → EReal := fun i =>
  Softmax.attended (score A (i 0) (i 1) (i 2)) fun k => B (ix3 (i 0) k (valueCol (i 2)))

/-- Where element `(x, y, z)` of an array's block number `idx` lies in the array. -/
theorem block_emb {R C E B D G : ℕ} (idx : Fin 3 → ℕ) (h : ∀ a, (idx a + 1) * (⟨3, ![B, D, G]⟩ : Shape).size a ≤ (⟨3, ![R, C, E]⟩ : Shape).size a)
    (x : Fin B) (y : Fin D) (z : Fin G) (p : Fin R) (q : Fin C) (r : Fin E)
    (hp : p.val = idx 0 * B + x.val) (hq : q.val = idx 1 * D + y.val) (hr : r.val = idx 2 * G + z.val) :
    (Rect.block (s := ⟨3, ![R, C, E]⟩) (⟨3, ![B, D, G]⟩ : Shape).size idx h).emb (ix3 x y z) = ix3 p q r := by
  funext a; apply Fin.ext
  match a with
  | 0 => show idx 0 * B + 1 * x.val = p.val; omega
  | 1 => show idx 1 * D + 1 * y.val = q.val; omega
  | 2 => show idx 2 * G + 1 * z.val = r.val; omega

/-- A point's batch entry. -/
def batch (t : Fin 512) : Fin 4 := ⟨t.val / 128, by omega⟩
/-- The query that a point's block holds at its row `r`. -/
def query (t : Fin 512) (r : Fin 256) : Fin 4096 := ⟨t.val % 16 * 256 + r.val, by omega⟩
/-- The output column that a point's block holds at its column `d`. -/
def column (t : Fin 512) (d : Fin 128) : Fin 1024 := ⟨t.val % 128 / 16 * 128 + d.val, by omega⟩

theorem query_block (t : Fin 512) : cc0_transform_0 (grid0.coords t) = ![t.val / 128, t.val % 16, t.val % 128 / 16] := by revert t; decide +kernel

theorem query_emb (t : Fin 512) (r : Fin 256) (d e : Fin 128) :
    (Rect.block (s := S4x4096x1280) S1x256x128.size (cc0_transform_0 (grid0.coords t)) (hinb0_0 (grid0.coords t))).emb (ix3 0 r e) = ix3 (batch t) (query t r) (queryCol (column t d) e) :=
  block_emb _ (hinb0_0 _) 0 r e _ _ _ (by rw [query_block]; show t.val / 128 = t.val / 128 * 1 + 0; omega)
    (by rw [query_block]; rfl)
    (by rw [query_block]; show (t.val % 128 / 16 * 128 + d.val) / 128 * 128 + e.val = t.val % 128 / 16 * 128 + e.val; omega)

theorem query_at (t : Fin 512) (r : Fin 256) (d e : Fin 128) :
    iblk m c 0 t (ix3 0 r e) = m ((c : Thread nD τ).loc main_arg0) (ix3 (batch t) (query t r) (queryCol (column t d) e)) :=
  (congrArg (V m c main_arg0) (query_emb t r d e)).trans (congrFun (V_main_arg0 m c) _)

theorem key_block (t : Fin 512) : cc0_transform_1 (grid0.coords t) = ![t.val / 128, 0, 8 + t.val % 128 / 64] := by revert t; decide +kernel

theorem key_emb (t : Fin 512) (k : Fin 4096) (d e : Fin 128) :
    (Rect.block (s := S4x4096x1280) S1x4096x128.size (cc0_transform_1 (grid0.coords t)) (hinb0_1 (grid0.coords t))).emb (ix3 0 k e) = ix3 (batch t) k (keyCol (column t d) e) :=
  block_emb _ (hinb0_1 _) 0 k e _ _ _ (by rw [key_block]; show t.val / 128 = t.val / 128 * 1 + 0; omega)
    (by rw [key_block]; show k.val = 0 * 4096 + k.val; omega)
    (by rw [key_block]; show 1024 + ((t.val % 128 / 16 * 128 + d.val) / 512 * 128 + e.val) = (8 + t.val % 128 / 64) * 128 + e.val; omega)

theorem key_at (t : Fin 512) (k : Fin 4096) (d e : Fin 128) :
    iblk m c 1 t (ix3 0 k e) = m ((c : Thread nD τ).loc main_arg0) (ix3 (batch t) k (keyCol (column t d) e)) :=
  (congrArg (V m c main_arg0) (key_emb t k d e)).trans (congrFun (V_main_arg0 m c) _)

theorem value_block (t : Fin 512) : cc0_transform_2 (grid0.coords t) = ![t.val / 128, 0, 10 + t.val % 128 / 64] := by revert t; decide +kernel

theorem value_emb (t : Fin 512) (k : Fin 4096) (d : Fin 128) :
    (Rect.block (s := S4x4096x4608) S1x4096x128.size (cc0_transform_2 (grid0.coords t)) (hinb0_2 (grid0.coords t))).emb (ix3 0 k d) = ix3 (batch t) k (valueCol (column t d)) :=
  block_emb _ (hinb0_2 _) 0 k d _ _ _ (by rw [value_block]; show t.val / 128 = t.val / 128 * 1 + 0; omega)
    (by rw [value_block]; show k.val = 0 * 4096 + k.val; omega)
    (by rw [value_block]; show 1280 + ((t.val % 128 / 16 * 128 + d.val) / 512 * 128 + (t.val % 128 / 16 * 128 + d.val) % 128) = (10 + t.val % 128 / 64) * 128 + d.val; omega)

theorem value_at (t : Fin 512) (k : Fin 4096) (d : Fin 128) :
    iblk m c 2 t (ix3 0 k d) = m ((c : Thread nD τ).loc main_arg1) (ix3 (batch t) k (valueCol (column t d))) :=
  (congrArg (V m c main_arg1) (value_emb t k d)).trans (congrFun (V_main_arg1 m c) _)

theorem out_block (t : Fin 512) : cc0_transform_3 (grid0.coords t) = ![t.val / 128, t.val % 16, t.val % 128 / 16] := by revert t; decide +kernel

theorem out_emb (t : Fin 512) (r : Fin 256) (d : Fin 128) :
    (Rect.block (s := S4x4096x1024) S1x256x128.size (cc0_transform_3 (grid0.coords t)) (hinb0_3 (grid0.coords t))).emb (ix3 0 r d) = ix3 (batch t) (query t r) (column t d) :=
  block_emb _ (hinb0_3 _) 0 r d _ _ _ (by rw [out_block]; show t.val / 128 = t.val / 128 * 1 + 0; omega)
    (by rw [out_block]; rfl) (by rw [out_block]; rfl)

/-- Every point leaves its queries' part of the result. -/
theorem written_at (t : Fin cfg0.N) (r : Fin 256) (d : Fin 128) :
    out0_3 (iblk m c 0 t) (iblk m c 1 t) (iblk m c 2 t) (ix3 0 r d) = result (m ((c : Thread nD τ).loc main_arg0)) (m ((c : Thread nD τ).loc main_arg1)) (ix3 (batch t) (query t r) (column t d)) := by
  unfold out0_3
  rw [View.canon_unit_zero (S := S1x256x128) origin]
  simp only [View.ld_unit_zero (S := S1x256x128) origin, View.ld_unit_zero (S := S1x4096x128) origin]
  refine (block_at _ _ _ r d).trans ?_
  exact congrArg₂ Softmax.attended
    (funext fun k => Finset.sum_congr rfl fun e _ => congrArg₂ (· * ·) (query_at m c t r d e) (key_at m c t k d e))
    (funext fun k => value_at m c t k d)

/-- The output array ends at every query's attended values. -/
theorem final : (dats m 0 c).arrAt 3 cfg0.N = result (m ((c : Thread nD τ).loc main_arg0)) (m ((c : Thread nD τ).loc main_arg1)) := by
  refine (dats m 0 c).arrAt_eq_of_covers 3 _ (by decide +kernel) fun t hf y => ?_
  rw [after0_3]
  blk_simp
  obtain ⟨o, r, d, rfl⟩ : ∃ (o : Fin 1) (r : Fin 256) (d : Fin 128), y = ix3 o r d := ⟨y 0, y 1, y 2, eq_ix3 y⟩
  obtain rfl : o = 0 := Subsingleton.elim _ _
  exact (written_at m c t r d).trans (congrArg (result _ _) (out_emb t r d).symm)

end Cert.AttentionIdeal.Heads

end
-- ==== Proof.AttentionReference.lean ====
module

public import proofs.«01_k».proof.Proof.Gen.AttentionReferenceIdeal.Run
public import proofs.«01_k».proof.Proof.Softmax
public import Idealize.ShloMosaic.Lib.Pointwise
public import Idealize.ShloMosaic.PureOps.Ideal.Laws

@[expose] public section

set_option maxRecDepth 16384

noncomputable section

/-! # The attention's reference, read element by element

Indices are a batch entry, a key head, one of the four query heads that share it, a query, a key, a column. -/

namespace Cert.AttentionReference

open Idealize.ShloMosaic Idealize.ShloMosaic.TcCoe
open Cert.AttentionReferenceIdeal Cert.AttentionReferenceIdeal.Gen

/-- The keys. -/
def keys (A : FVec Ideal S4x4096x1280 .bf16) : FVec Ideal S4x4096x2x128 .f32 :=
  shapeCast _ (extf .f32 (extractStridedSlice S4x4096x256 ![0, 0, 1024] A slices_S4x4096x1280_S4x4096x256_0_0_1024) bitsLt_bf16_f32) shapeCasts_S4x4096x256_S4x4096x2x128
/-- The queries. -/
def queries (A : FVec Ideal S4x4096x1280 .bf16) : FVec Ideal S4x4096x2x4x128 .f32 :=
  shapeCast _ (extf .f32 (extractStridedSlice S4x4096x1024 ![0, 0, 0] A slices_S4x4096x1280_S4x4096x1024_0_0_0) bitsLt_bf16_f32) shapeCasts_S4x4096x1024_S4x4096x2x4x128
/-- The values. -/
def values (B : FVec Ideal S4x4096x4608 .bf16) : FVec Ideal S4x4096x2x128 .f32 :=
  shapeCast _ (extf .f32 (extractStridedSlice S4x4096x256 ![0, 0, 1280] B slices_S4x4096x4608_S4x4096x256_0_0_1280) bitsLt_bf16_f32) shapeCasts_S4x4096x256_S4x4096x2x128

theorem keys_at (A : FVec Ideal S4x4096x1280 .bf16) (b : Fin 4) (t : Fin 4096) (h : Fin 2) (e : Fin 128) :
    keys A (ix4 b t h e) = A (ix3 b t ⟨1024 + (h.val * 128 + e.val), by omega⟩) := by
  unfold keys
  pointwise
theorem queries_at (A : FVec Ideal S4x4096x1280 .bf16) (b : Fin 4) (t : Fin 4096) (h : Fin 2) (g : Fin 4) (e : Fin 128) :
    queries A (ix5 b t h g e) = A (ix3 b t ⟨h.val * 512 + g.val * 128 + e.val, by omega⟩) := by
  unfold queries
  pointwise
theorem values_at (B : FVec Ideal S4x4096x4608 .bf16) (b : Fin 4) (t : Fin 4096) (h : Fin 2) (d : Fin 128) :
    values B (ix4 b t h d) = B (ix3 b t ⟨1280 + (h.val * 128 + d.val), by omega⟩) := by
  unfold values
  pointwise

/-- The scores. -/
def scores (K : FVec Ideal S4x4096x2x128 .f32) (Q : FVec Ideal S4x4096x2x4x128 .f32) : FVec Ideal S4x2x4x4096x4096 .f32 :=
  transpose S4x2x4x4096x4096 [0, 1, 4, 3, 2] (Host.dotGeneral dot_S4x4096x2x128_S4x4096x2x4x128_S4x2x4096x4096x4_3_4_1_13_02_02 none K Q) transposes_S4x2x4096x4096x4_S4x2x4x4096x4096_0_1_4_3_2

theorem scores_at (K : FVec Ideal S4x4096x2x128 .f32) (Q : FVec Ideal S4x4096x2x4x128 .f32) (b : Fin 4) (h : Fin 2) (g : Fin 4) (q k : Fin 4096) :
    scores K Q (ix5 b h g q k) = ∑ e : Fin 128, K (ix4 b k h e) * Q (ix5 b q h g e) := by
  unfold scores
  pointwise

/-- A maximum along the last of five axes. -/
theorem fold_at {n0 n1 n2 n3 n4 : ℕ} (x : FVec Ideal ⟨5, ![n0, n1, n2, n3, n4]⟩ .f32) (z : FVec Ideal S_ .f32)
    (h : (⟨5, ![n0, n1, n2, n3, n4]⟩ : Shape).ReducesTo [4] ⟨4, ![n0, n1, n2, n3]⟩) (hu : 0 < S_.numel)
    (b : Fin n0) (i : Fin n1) (g : Fin n2) (q : Fin n3) :
    Host.reduce FloatOps.maximumf x z h hu (ix4 b i g q) = (Finset.univ : Finset (Fin n4)).fold max (z (Shape.Idx.first hu)) fun k => x (ix5 b i g q k) := by
  pointwise

/-- Minus infinity, once for every row of scores. -/
def bottom : FVec Ideal S4x2x4x4096 .f32 := broadcastInDim S4x2x4x4096 ![] bcast_S_S4x2x4x4096 (constant S_ .f32 0xFF800000#32)
/-- The largest score of each row. -/
def largest (s : FVec Ideal S4x2x4x4096x4096 .f32) : FVec Ideal S4x2x4x4096 .f32 :=
  Host.reduce FloatOps.maximumf s (constant S_ .f32 0xFF800000#32) reducesTo_S4x2x4x4096x4096_S4x2x4x4096_d4 h_S_
/-- It, and not less than minus infinity. -/
def tops (s : FVec Ideal S4x2x4x4096x4096 .f32) : FVec Ideal S4x2x4x4096 .f32 := maximumf bottom (largest s)
/-- One number for each row, repeated along it. -/
def repeated (z : FVec Ideal S4x2x4x4096 .f32) : FVec Ideal S4x2x4x4096x4096 .f32 :=
  broadcastInDim S4x2x4x4096x4096 ![0, 1, 2, 3, 4] bcast_S4x2x4x4096x1_S4x2x4x4096x4096_0_1_2_3_4 (broadcastInDim S4x2x4x4096x1 ![0, 1, 2, 3] bcast_S4x2x4x4096_S4x2x4x4096x1_0_1_2_3 z)
/-- The exponentials of the scores less their largest. -/
def weights (s : FVec Ideal S4x2x4x4096x4096 .f32) : FVec Ideal S4x2x4x4096x4096 .f32 := Host.exp (subf s (repeated (tops s)))
/-- The exponentials over their sum. -/
def shares (s : FVec Ideal S4x2x4x4096x4096 .f32) : FVec Ideal S4x2x4x4096x4096 .f32 :=
  Host.divf (weights s) (repeated (Host.reduceAdd (weights s) (constant S_ .f32 0x00000000#32) reducesTo_S4x2x4x4096x4096_S4x2x4x4096_d4 h_S_))
/-- The values mixed in these shares. -/
def mixed (p : FVec Ideal S4x2x4x4096x4096 .f32) (V : FVec Ideal S4x4096x2x128 .f32) : FVec Ideal S4x4096x1024 .bf16 :=
  truncf .bf16 (shapeCast _ (transpose S4x4096x2x4x128 [0, 4, 1, 3, 2] (Host.dotGeneral dot_S4x4096x2x128_S4x2x4x4096x4096_S4x2x128x4x4096_1_4_3_23_02_01 none V p) transposes_S4x2x128x4x4096_S4x4096x2x4x128_0_4_1_3_2) shapeCasts_S4x4096x2x4x128_S4x4096x1024) bitsLt_bf16_f32

theorem bottom_at (b : Fin 4) (h : Fin 2) (g : Fin 4) (q : Fin 4096) : bottom (ix4 b h g q) = ⊥ := by
  unfold bottom
  pointwise
  exact Softmax.lowest
theorem largest_at (s : FVec Ideal S4x2x4x4096x4096 .f32) (b : Fin 4) (h : Fin 2) (g : Fin 4) (q : Fin 4096) :
    largest s (ix4 b h g q) = Softmax.top fun k => s (ix5 b h g q k) :=
  (fold_at s _ _ _ b h g q).trans (congrArg (fun z => (Finset.univ : Finset (Fin 4096)).fold max z fun k => s (ix5 b h g q k)) Softmax.lowest)
/-- The larger of minus infinity and a number is the number. -/
theorem larger_at (x y : FVec Ideal S4x2x4x4096 .f32) (i : S4x2x4x4096.Idx) (h : x i = (⊥ : EReal)) : maximumf x y i = y i := by
  show max (α := EReal) (x i) (y i) = y i
  rw [h]
  exact max_eq_right (α := EReal) bot_le
theorem tops_at (s : FVec Ideal S4x2x4x4096x4096 .f32) (b : Fin 4) (h : Fin 2) (g : Fin 4) (q : Fin 4096) :
    tops s (ix4 b h g q) = Softmax.top fun k => s (ix5 b h g q k) := by
  unfold tops
  exact (larger_at _ _ _ (bottom_at b h g q)).trans (largest_at s b h g q)
theorem repeated_at (z : FVec Ideal S4x2x4x4096 .f32) (b : Fin 4) (h : Fin 2) (g : Fin 4) (q k : Fin 4096) :
    repeated z (ix5 b h g q k) = z (ix4 b h g q) := by
  unfold repeated
  pointwise
theorem weights_at (s : FVec Ideal S4x2x4x4096x4096 .f32) (b : Fin 4) (h : Fin 2) (g : Fin 4) (q k : Fin 4096) :
    weights s (ix5 b h g q k) = Softmax.weight (fun k => s (ix5 b h g q k)) k := by
  unfold weights Softmax.weight
  pointwise
  rw [repeated_at, tops_at]
theorem shares_at (s : FVec Ideal S4x2x4x4096x4096 .f32) (b : Fin 4) (h : Fin 2) (g : Fin 4) (q k : Fin 4096) :
    shares s (ix5 b h g q k) = Ideal.div (Softmax.weight (fun k => s (ix5 b h g q k)) k) (∑ k, Softmax.weight (fun k => s (ix5 b h g q k)) k) := by
  unfold shares
  pointwise
  rw [repeated_at]
  pointwise
  simp only [weights_at]
theorem mixed_at (p : FVec Ideal S4x2x4x4096x4096 .f32) (V : FVec Ideal S4x4096x2x128 .f32) (b : Fin 4) (q : Fin 4096) (h : Fin 2) (g : Fin 4) (d : Fin 128) :
    mixed p V (ix3 b q ⟨h.val * 512 + g.val * 128 + d.val, by omega⟩) = ∑ k, V (ix4 b k h d) * p (ix5 b h g q k) := by
  unfold mixed
  pointwise

/-- The whole of the reference. -/
def whole (A : FVec Ideal S4x4096x1280 .bf16) (B : FVec Ideal S4x4096x4608 .bf16) : FVec Ideal S4x4096x1024 .bf16 :=
  mixed (shares (scores (keys A) (queries A))) (values B)

/-- One row's scores. -/
def score (A : FVec Ideal S4x4096x1280 .bf16) (b : Fin 4) (h : Fin 2) (g : Fin 4) (q k : Fin 4096) : EReal :=
  ∑ e : Fin 128, A (ix3 b q ⟨h.val * 512 + g.val * 128 + e.val, by omega⟩) * A (ix3 b k ⟨1024 + (h.val * 128 + e.val), by omega⟩)

theorem score_at (A : FVec Ideal S4x4096x1280 .bf16) (b : Fin 4) (h : Fin 2) (g : Fin 4) (q k : Fin 4096) :
    scores (keys A) (queries A) (ix5 b h g q k) = score A b h g q k := by
  rw [scores_at]
  refine Finset.sum_congr rfl fun e _ => ?_
  rw [keys_at, queries_at]
  exact mul_comm (G := EReal) _ _

theorem score_real (A : FVec Ideal S4x4096x1280 .bf16) (hA : ∀ i, Softmax.IsReal (A i)) (b : Fin 4) (h : Fin 2) (g : Fin 4) (q k : Fin 4096) :
    Softmax.IsReal (score A b h g q k) := by
  unfold score
  exact Softmax.IsReal.sum fun e => (hA _).mul (hA _)

/-- With finite queries and keys, the reference's sum of quotients is the quotient of the sums. -/
theorem whole_at (A : FVec Ideal S4x4096x1280 .bf16) (B : FVec Ideal S4x4096x4608 .bf16) (hA : ∀ i, Softmax.IsReal (A i))
    (b : Fin 4) (q : Fin 4096) (h : Fin 2) (g : Fin 4) (d : Fin 128) :
    whole A B (ix3 b q ⟨h.val * 512 + g.val * 128 + d.val, by omega⟩)
      = Softmax.attended (score A b h g q) fun k => B (ix3 b k ⟨1280 + (h.val * 128 + d.val), by omega⟩) := by
  unfold whole
  rw [mixed_at, ← Softmax.sum_div _ _ (score_real A hA b h g q)]
  refine Finset.sum_congr rfl fun k _ => ?_
  rw [values_at, shares_at]
  simp only [score_at]
  exact mul_comm (G := EReal) _ _

end Cert.AttentionReference

end
-- ==== Proof.AttentionClaims.lean ====
module

public import proofs.«01_k».proof.Defs
public import proofs.«01_k».proof.Proof.AttentionValue
public import proofs.«01_k».proof.Proof.AttentionReference
public import proofs.«01_k».proof.Proof.Gen.Attention.Frame
public import Idealize.ShloMosaic.Lib.ReduceAll

@[expose] public section

set_option maxRecDepth 16384

noncomputable section

/-! # The attention: its claims -/

namespace Cert.AttentionClaims

open Idealize.ShloMosaic Idealize.ShloMosaic.TcCoe
open Idealize.SL.Sem

instance preFinite : Cert.Pre_finite_queries_and_keys.Facts where
  bitsLt_bf16_f32 := by decide
  bcast_S_S4x4096x1280 := by decide
  reducesTo_S4x4096x1280_S_d0_1_2 := by decide
  h_S_ := by decide

/-- A comparison that is one, of a number above minus infinity. -/
theorem above {x : EReal} (h : Ideal.cmp .ogt x (Ideal.ofBits .f32 0xFF800000#32) = 1#1) : ⊥ < x := by
  rw [Softmax.lowest] at h
  by_contra hx
  simp [Ideal.cmp, hx] at h

/-- And below plus infinity. -/
theorem below {x : EReal} (h : Ideal.cmp .olt x (Ideal.ofBits .f32 0x7F800000#32) = 1#1) : x < ⊤ := by
  rw [Softmax.highest] at h
  by_contra hx
  simp [Ideal.cmp, hx] at h

/-- The precondition, read at one query or key. -/
theorem finite (A : FVec Ideal Cert.Pre_finite_queries_and_keys.S4x4096x1280 .bf16) (B : FVec Ideal Cert.Pre_finite_queries_and_keys.S4x4096x4608 .bf16)
    (h : Cert.Pre_finite_queries_and_keys.fn A B = fun _ => 1#1) (i : Cert.Pre_finite_queries_and_keys.S4x4096x1280.Idx) : Softmax.IsReal (A i) := by
  haveI : Subsingleton Cert.Pre_finite_queries_and_keys.S_.Idx := ⟨fun a b => funext fun d => d.elim0⟩
  have h1 := Host.reduce_andi_all _ _ _ _ (fun d => d.elim0) (congrFun h fun d => d.elim0) i
  obtain ⟨ha, hb⟩ := IntOp.andi_eq_one.1 h1
  exact ⟨above ha, below hb⟩

/-- Output column `h * 512 + g * 128 + d` is column `d` of query head `g` of key head `h`. -/
theorem column_eq (j : Fin 1024) : ∃ (h : Fin 2) (g : Fin 4) (d : Fin 128), j = ⟨h.val * 512 + g.val * 128 + d.val, by omega⟩ :=
  ⟨⟨j.val / 512, by omega⟩, ⟨j.val % 512 / 128, by omega⟩, ⟨j.val % 128, by omega⟩, Fin.ext (by show j.val = j.val / 512 * 512 + j.val % 512 / 128 * 128 + j.val % 128; omega)⟩

theorem queryCol_eq (h : Fin 2) (g : Fin 4) (d e : Fin 128) (hj : h.val * 512 + g.val * 128 + d.val < 1024) (hq : h.val * 512 + g.val * 128 + e.val < 1280) :
    Cert.AttentionIdeal.Heads.queryCol ⟨h.val * 512 + g.val * 128 + d.val, hj⟩ e = ⟨h.val * 512 + g.val * 128 + e.val, hq⟩ :=
  Fin.ext (by show (h.val * 512 + g.val * 128 + d.val) / 128 * 128 + e.val = h.val * 512 + g.val * 128 + e.val; omega)

theorem keyCol_eq (h : Fin 2) (g : Fin 4) (d e : Fin 128) (hj : h.val * 512 + g.val * 128 + d.val < 1024) (hq : 1024 + (h.val * 128 + e.val) < 1280) :
    Cert.AttentionIdeal.Heads.keyCol ⟨h.val * 512 + g.val * 128 + d.val, hj⟩ e = ⟨1024 + (h.val * 128 + e.val), hq⟩ :=
  Fin.ext (by show 1024 + ((h.val * 512 + g.val * 128 + d.val) / 512 * 128 + e.val) = 1024 + (h.val * 128 + e.val); omega)

theorem valueCol_eq (h : Fin 2) (g : Fin 4) (d : Fin 128) (hj : h.val * 512 + g.val * 128 + d.val < 1024) (hq : 1280 + (h.val * 128 + d.val) < 4608) :
    Cert.AttentionIdeal.Heads.valueCol ⟨h.val * 512 + g.val * 128 + d.val, hj⟩ = ⟨1280 + (h.val * 128 + d.val), hq⟩ :=
  Fin.ext (by show 1280 + ((h.val * 512 + g.val * 128 + d.val) / 512 * 128 + (h.val * 512 + g.val * 128 + d.val) % 128) = 1280 + (h.val * 128 + d.val); omega)

/-- The reference's array is the kernel's, where no query and no key is infinite. -/
theorem reference_at (A : FVec Ideal Cert.AttentionReferenceIdeal.S4x4096x1280 .bf16) (B : FVec Ideal Cert.AttentionReferenceIdeal.S4x4096x4608 .bf16) (hA : ∀ i, Softmax.IsReal (A i)) :
    Cert.AttentionReference.whole A B = Cert.AttentionIdeal.Heads.result A B := by
  funext y
  obtain ⟨b, q, j, rfl⟩ : ∃ (b : Fin 4) (q : Fin 4096) (j : Fin 1024), y = ix3 b q j := ⟨y 0, y 1, y 2, eq_ix3 y⟩
  obtain ⟨h, g, d, rfl⟩ := column_eq j
  refine (Cert.AttentionReference.whole_at A B hA b q h g d).trans ?_
  unfold Cert.AttentionIdeal.Heads.result
  refine congrArg₂ Softmax.attended (funext fun k => ?_) (funext fun k => ?_)
  · exact Finset.sum_congr rfl fun e _ => congrArg₂ (fun i j => A (ix3 b q i) * A (ix3 b k j)) (queryCol_eq h g d e _ _).symm (keyCol_eq h g d e _ _).symm
  · exact congrArg (fun i => B (ix3 b k i)) (valueCol_eq h g d _ _).symm

/-- The kernel as printed runs, and leaves its arguments and every counter as they were. -/
theorem frame_kernel : Cert.quiescent_Attention := fun m g _ => Cert.Attention.Gen.frame m g

/-- So it does over the extended reals. -/
theorem frame_ideal : Cert.quiescent_AttentionIdeal := fun m g _ => Cert.AttentionIdeal.Gen.frame m g

/-- And from memories of finite queries and keys. -/
theorem frame_ideal_finite : Cert.quiescent_AttentionIdeal_pre_finite_queries_and_keys := fun m g _ => Cert.AttentionIdeal.Gen.frame m g

/-- The reference: its generated run; it has no semaphore. -/
theorem frame_reference : Cert.quiescent_AttentionReferenceIdeal := fun m g _ =>
  (θ_run Cert.AttentionReferenceIdeal.defs _ _).mono (fun r h => ⟨fun c => (h c).2, sem_eq_zero_of_no_sems (by decide) r.2⟩)
    (Cert.AttentionReferenceIdeal.Value.run (F := Ideal) m g)

/-- And from memories of finite queries and keys. -/
theorem frame_reference_finite : Cert.quiescent_AttentionReferenceIdeal_pre_finite_queries_and_keys := fun m g _ => frame_reference m g trivial

/-- The two texts are one. -/
theorem preserves : Cert.preserves_Attention_AttentionIdeal := trivial

/-- The kernel and the reference leave the same array, every query's attended values. -/
theorem algebraic : Cert.algebraic_AttentionIdeal_AttentionReferenceIdeal_pre_finite_queries_and_keys := by
  intro m g m' g' hpre hagree
  refine ⟨fun c => Cert.AttentionIdeal.Heads.result (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)), (θ_run Cert.AttentionIdeal.defs _ _).mono
    (fun _ h c => ⟨(h c).1.trans (Cert.AttentionIdeal.Heads.final m c), (h c).2⟩) (Cert.AttentionIdeal.Value.run_blocks (F := Ideal) m g), ?_⟩
  refine (θ_run Cert.AttentionReferenceIdeal.defs _ _).mono (fun _ h c => ⟨(h c).1.trans ?_, (h c).2⟩)
    (Cert.AttentionReferenceIdeal.Value.run (F := Ideal) m' g')
  unfold Cert.AttentionReferenceIdeal.Value.res_main_v25
  obtain ⟨h0, h1⟩ := hagree c
  rw [h0, h1]
  exact reference_at _ _ (finite _ _ (hpre c))

end Cert.AttentionClaims

end
-- ==== Proof.Norm.lean ====
module

public import Idealize.ShloMosaic.PureOps.Ideal

@[expose] public section

noncomputable section

/-! # The layer norm of a row, over the extended reals -/

namespace Cert.Norm

open Idealize.ShloMosaic

/-- The mean of a row of 2048 values. -/
def mean (z : Fin 2048 → EReal) : EReal := Ideal.div (∑ d, z d) (Ideal.ofBits .f32 0x45000000#32)

/-- A row less its mean, times the reciprocal root of its variance, scaled and shifted. -/
def normed (z g b : Fin 2048 → EReal) (d : Fin 2048) : EReal :=
  (z d - mean z) * Ideal.rsqrt (mean (fun k => (z k - mean z) * (z k - mean z)) + Ideal.ofBits .f32 0x3727C5AC#32) * g d + b d

end Cert.Norm

end
-- ==== Proof.OutProjValue.lean ====
module

public import proofs.«01_k».proof.Proof.Gen.OutProjIdeal.Value
public import proofs.«01_k».proof.Proof.Norm
public import proofs.«01_k».proof.Proof.Dense
public import Idealize.ShloMosaic.Lib.Pointwise
public import Idealize.ShloMosaic.Lib.Tactic
public import Idealize.ShloMosaic.Lib.Pipeline.ValueKit
public import Idealize.ShloMosaic.PureOps.Ideal.Laws

@[expose] public section

set_option maxRecDepth 16384

noncomputable section

/-! # The output projection's result -/

namespace Cert.OutProjIdeal.Rows

open Idealize.ShloMosaic Idealize.ShloMosaic.TcCoe
open Idealize.SL.Sem
open Idealize.ShloMosaic.Pipeline (Dat Cfg Window)
open Cert.OutProjIdeal Cert.OutProjIdeal.Gen

theorem origin : (![0, 0] : Fin 2 → Nat) = fun _ => 0 := funext fun a => by fin_cases a <;> rfl

variable (m : (ℓ : Loc nD τ sig) → Buf (Elt Ideal) ℓ) (c : Dev nD)

/-- Row `r` of a block's result is the layer norm of the scaled residual plus the two projected halves. -/
theorem block_at (X : S256x2048.Idx → EReal) (A : S256x1024.Idx → EReal) (U : S1024x2048.Idx → EReal) (A' : S256x1024.Idx → EReal) (U' : S1024x2048.Idx → EReal)
    (G B : S1x2048.Idx → EReal) (r : Fin 256) (d : Fin 2048) :
    k0_pay1 (F := Ideal) X A U A' U' G B (ix2 r d)
      = Norm.normed (fun j => Ideal.ofBits .f32 0x3F9837F0#32 * X (ix2 r j) + Cert.Dense.times (fun k => A (ix2 r k)) (fun k j => U (ix2 k j)) j
          + Cert.Dense.times (fun k => A' (ix2 r k)) (fun k j => U' (ix2 k j)) j)
        (fun k => G (ix2 0 k)) (fun k => B (ix2 0 k)) d := by
  unfold k0_pay1 Norm.normed Norm.mean Cert.Dense.times
  dsimp only
  pointwise

/-- The weight rows of the first half. -/
def upper (k : Fin 1024) : Fin 2048 := ⟨k.val, by omega⟩
/-- The weight rows of the second half. -/
def lower (k : Fin 1024) : Fin 2048 := ⟨1024 + k.val, by omega⟩

/-- The result, element by element. -/
def result (A A' : S16384x1024.Idx → EReal) (W : S2048x2048.Idx → EReal) (X : S16384x2048.Idx → EReal) (g b : S2048.Idx → EReal) : S16384x2048.Idx → EReal := fun i =>
  Norm.normed (fun j => Ideal.ofBits .f32 0x3F9837F0#32 * X (ix2 (i 0) j) + Cert.Dense.times (fun k => A (ix2 (i 0) k)) (fun k j => W (ix2 (upper k) j)) j
      + Cert.Dense.times (fun k => A' (ix2 (i 0) k)) (fun k j => W (ix2 (lower k) j)) j)
    (fun k => g (ix1 k)) (fun k => b (ix1 k)) (i 1)

theorem V_upperW : V m c main_v1 = extractStridedSlice S1024x2048 ![0, 0] (truncf (F := Ideal) (φ := .f32) .bf16 (m ((c : Thread nD τ).loc main_arg2)) Facts₀.bitsLt_bf16_f32)
    Facts₀.slices_S2048x2048_S1024x2048_0_0 := by
  show StableHlo.after hostOps0 _ (Proc.devRef .tc main_v1) = _
  unfold hostOps0
  after_results_simp

theorem upper_slice (W : S2048x2048.Idx → EReal) (k : Fin 1024) (j : Fin 2048) :
    extractStridedSlice S1024x2048 ![0, 0] (truncf (F := Ideal) (φ := .f32) .bf16 W Facts₀.bitsLt_bf16_f32)
    Facts₀.slices_S2048x2048_S1024x2048_0_0 (ix2 k j) = W (ix2 (upper k) j) := by
  pointwise
  rfl

theorem V_lowerW : V m c main_v2 = extractStridedSlice S1024x2048 ![1024, 0] (truncf (F := Ideal) (φ := .f32) .bf16 (m ((c : Thread nD τ).loc main_arg2)) Facts₀.bitsLt_bf16_f32)
    Facts₀.slices_S2048x2048_S1024x2048_1024_0 := by
  show StableHlo.after hostOps0 _ (Proc.devRef .tc main_v2) = _
  unfold hostOps0
  after_results_simp

theorem lower_slice (W : S2048x2048.Idx → EReal) (k : Fin 1024) (j : Fin 2048) :
    extractStridedSlice S1024x2048 ![1024, 0] (truncf (F := Ideal) (φ := .f32) .bf16 W Facts₀.bitsLt_bf16_f32)
    Facts₀.slices_S2048x2048_S1024x2048_1024_0 (ix2 k j) = W (ix2 (lower k) j) := by
  pointwise
  rfl

theorem V_scale : V m c main_v3 = shapeCast S1x2048 (m ((c : Thread nD τ).loc main_arg4)) Facts₀.shapeCasts_S2048_S1x2048 := by
  show StableHlo.after hostOps0 _ (Proc.devRef .tc main_v3) = _
  unfold hostOps0
  after_results_simp
  rfl

theorem V_shift : V m c main_v4 = shapeCast S1x2048 (m ((c : Thread nD τ).loc main_arg5)) Facts₀.shapeCasts_S2048_S1x2048 := by
  show StableHlo.after hostOps0 _ (Proc.devRef .tc main_v4) = _
  unfold hostOps0
  after_results_simp
  rfl

theorem vector_at (g : S2048.Idx → EReal) (k : Fin 2048) : shapeCast S1x2048 g Facts₀.shapeCasts_S2048_S1x2048 (ix2 0 k) = g (ix1 k) := by
  pointwise

/-- The row of the array that a point's block holds at its row `r`. -/
def rowAt (t : Fin 64) (r : Fin 256) : Fin 16384 := ⟨t.val * 256 + r.val, by omega⟩

theorem first_block (t : Fin 64) : cc0_transform_0 (grid0.coords t) = ![t.val, 0] := by revert t; decide +kernel

theorem first_emb (t : Fin 64) (r : Fin 256) (k : Fin 1024) :
    (Rect.block (s := S16384x1024) S256x1024.size (cc0_transform_0 (grid0.coords t)) (hinb0_0 (grid0.coords t))).emb (ix2 r k) = ix2 (rowAt t r) k :=
  Cert.Dense.block_emb _ (hinb0_0 _) r k _ _ (by rw [first_block]; rfl)
    (by rw [first_block]; exact ((congrArg (· + k.val) (Nat.zero_mul 1024)).trans (Nat.zero_add _)).symm)

theorem first_at (t : Fin 64) (r : Fin 256) (k : Fin 1024) : iblk m c 0 t (ix2 r k) = m ((c : Thread nD τ).loc main_arg0) (ix2 (rowAt t r) k) :=
  (congrArg (V m c main_arg0) (first_emb t r k)).trans (congrFun (V_main_arg0 m c) _)

theorem second_block (t : Fin 64) : cc0_transform_1 (grid0.coords t) = ![t.val, 0] := by revert t; decide +kernel

theorem second_emb (t : Fin 64) (r : Fin 256) (k : Fin 1024) :
    (Rect.block (s := S16384x1024) S256x1024.size (cc0_transform_1 (grid0.coords t)) (hinb0_1 (grid0.coords t))).emb (ix2 r k) = ix2 (rowAt t r) k :=
  Cert.Dense.block_emb _ (hinb0_1 _) r k _ _ (by rw [second_block]; rfl)
    (by rw [second_block]; exact ((congrArg (· + k.val) (Nat.zero_mul 1024)).trans (Nat.zero_add _)).symm)

theorem second_at (t : Fin 64) (r : Fin 256) (k : Fin 1024) : iblk m c 1 t (ix2 r k) = m ((c : Thread nD τ).loc main_arg1) (ix2 (rowAt t r) k) :=
  (congrArg (V m c main_arg1) (second_emb t r k)).trans (congrFun (V_main_arg1 m c) _)

theorem residual_block (t : Fin 64) : cc0_transform_4 (grid0.coords t) = ![t.val, 0] := by revert t; decide +kernel

theorem residual_emb (t : Fin 64) (r : Fin 256) (k : Fin 2048) :
    (Rect.block (s := S16384x2048) S256x2048.size (cc0_transform_4 (grid0.coords t)) (hinb0_4 (grid0.coords t))).emb (ix2 r k) = ix2 (rowAt t r) k :=
  Cert.Dense.block_emb _ (hinb0_4 _) r k _ _ (by rw [residual_block]; rfl)
    (by rw [residual_block]; exact ((congrArg (· + k.val) (Nat.zero_mul 2048)).trans (Nat.zero_add _)).symm)

theorem residual_at (t : Fin 64) (r : Fin 256) (k : Fin 2048) : iblk m c 4 t (ix2 r k) = m ((c : Thread nD τ).loc main_arg3) (ix2 (rowAt t r) k) :=
  (congrArg (V m c main_arg3) (residual_emb t r k)).trans (congrFun (V_main_arg3 m c) _)

theorem upperW_block (t : Fin 64) : cc0_transform_2 (grid0.coords t) = ![0, 0] := by revert t; decide +kernel

theorem upperW_emb (t : Fin 64) (i : Fin 1024) (k : Fin 2048) :
    (Rect.block (s := S1024x2048) S1024x2048.size (cc0_transform_2 (grid0.coords t)) (hinb0_2 (grid0.coords t))).emb (ix2 i k) = ix2 i k :=
  Cert.Dense.block_emb _ (hinb0_2 _) i k _ _ (by rw [upperW_block]; exact ((congrArg (· + i.val) (Nat.zero_mul 1024)).trans (Nat.zero_add _)).symm)
    (by rw [upperW_block]; exact ((congrArg (· + k.val) (Nat.zero_mul 2048)).trans (Nat.zero_add _)).symm)

theorem upperW_at (t : Fin 64) (i : Fin 1024) (k : Fin 2048) : iblk m c 2 t (ix2 i k) = m ((c : Thread nD τ).loc main_arg2) (ix2 (upper i) k) :=
  (congrArg (V m c main_v1) (upperW_emb t i k)).trans ((congrFun (V_upperW m c) _).trans (upper_slice _ i k))

theorem lowerW_block (t : Fin 64) : cc0_transform_3 (grid0.coords t) = ![0, 0] := by revert t; decide +kernel

theorem lowerW_emb (t : Fin 64) (i : Fin 1024) (k : Fin 2048) :
    (Rect.block (s := S1024x2048) S1024x2048.size (cc0_transform_3 (grid0.coords t)) (hinb0_3 (grid0.coords t))).emb (ix2 i k) = ix2 i k :=
  Cert.Dense.block_emb _ (hinb0_3 _) i k _ _ (by rw [lowerW_block]; exact ((congrArg (· + i.val) (Nat.zero_mul 1024)).trans (Nat.zero_add _)).symm)
    (by rw [lowerW_block]; exact ((congrArg (· + k.val) (Nat.zero_mul 2048)).trans (Nat.zero_add _)).symm)

theorem lowerW_at (t : Fin 64) (i : Fin 1024) (k : Fin 2048) : iblk m c 3 t (ix2 i k) = m ((c : Thread nD τ).loc main_arg2) (ix2 (lower i) k) :=
  (congrArg (V m c main_v2) (lowerW_emb t i k)).trans ((congrFun (V_lowerW m c) _).trans (lower_slice _ i k))

theorem scale_block (t : Fin 64) : cc0_transform_5 (grid0.coords t) = ![0, 0] := by revert t; decide +kernel

theorem scale_emb (t : Fin 64) (i : Fin 1) (k : Fin 2048) :
    (Rect.block (s := S1x2048) S1x2048.size (cc0_transform_5 (grid0.coords t)) (hinb0_5 (grid0.coords t))).emb (ix2 i k) = ix2 i k :=
  Cert.Dense.block_emb _ (hinb0_5 _) i k _ _ (by rw [scale_block]; exact ((congrArg (· + i.val) (Nat.zero_mul 1)).trans (Nat.zero_add _)).symm)
    (by rw [scale_block]; exact ((congrArg (· + k.val) (Nat.zero_mul 2048)).trans (Nat.zero_add _)).symm)

theorem scale_at (t : Fin 64)  (k : Fin 2048) : iblk m c 5 t (ix2 0 k) = m ((c : Thread nD τ).loc main_arg4) (ix1 k) :=
  (congrArg (V m c main_v3) (scale_emb t 0 k)).trans ((congrFun (V_scale m c) _).trans (vector_at _ k))

theorem shift_block (t : Fin 64) : cc0_transform_6 (grid0.coords t) = ![0, 0] := by revert t; decide +kernel

theorem shift_emb (t : Fin 64) (i : Fin 1) (k : Fin 2048) :
    (Rect.block (s := S1x2048) S1x2048.size (cc0_transform_6 (grid0.coords t)) (hinb0_6 (grid0.coords t))).emb (ix2 i k) = ix2 i k :=
  Cert.Dense.block_emb _ (hinb0_6 _) i k _ _ (by rw [shift_block]; exact ((congrArg (· + i.val) (Nat.zero_mul 1)).trans (Nat.zero_add _)).symm)
    (by rw [shift_block]; exact ((congrArg (· + k.val) (Nat.zero_mul 2048)).trans (Nat.zero_add _)).symm)

theorem shift_at (t : Fin 64)  (k : Fin 2048) : iblk m c 6 t (ix2 0 k) = m ((c : Thread nD τ).loc main_arg5) (ix1 k) :=
  (congrArg (V m c main_v4) (shift_emb t 0 k)).trans ((congrFun (V_shift m c) _).trans (vector_at _ k))

theorem out_block (t : Fin 64) : cc0_transform_7 (grid0.coords t) = ![t.val, 0] := by revert t; decide +kernel

theorem out_emb (t : Fin 64) (r : Fin 256) (k : Fin 2048) :
    (Rect.block (s := S16384x2048) S256x2048.size (cc0_transform_7 (grid0.coords t)) (hinb0_7 (grid0.coords t))).emb (ix2 r k) = ix2 (rowAt t r) k :=
  Cert.Dense.block_emb _ (hinb0_7 _) r k _ _ (by rw [out_block]; rfl)
    (by rw [out_block]; exact ((congrArg (· + k.val) (Nat.zero_mul 2048)).trans (Nat.zero_add _)).symm)

/-- Every point leaves its rows of the result. -/
theorem written_at (t : Fin cfg0.N) (r : Fin 256) (d : Fin 2048) :
    out0_7 (iblk m c 0 t) (iblk m c 1 t) (iblk m c 2 t) (iblk m c 3 t) (iblk m c 4 t) (iblk m c 5 t) (iblk m c 6 t) (ix2 r d)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowAt t r) d) := by
  unfold out0_7
  rw [View.canon_unit_zero (S := S256x2048) origin]
  simp only [View.ld_unit_zero (S := S256x2048) origin, View.ld_unit_zero (S := S1x2048) origin, View.ld_unit_zero (S := S256x1024) origin,
    View.ld_unit_zero (S := S1024x2048) origin]
  refine (block_at _ _ _ _ _ _ _ r d).trans ?_
  unfold result Cert.Dense.times
  congr 1
  · refine funext fun j => congrArg₂ (· + ·) (congrArg₂ (fun x y => Ideal.ofBits .f32 0x3F9837F0#32 * x + y) (residual_at m c t r j) ?_) ?_
    · exact Finset.sum_congr rfl fun k _ => congrArg₂ (· * ·) (first_at m c t r k) (upperW_at m c t k j)
    · exact Finset.sum_congr rfl fun k _ => congrArg₂ (· * ·) (second_at m c t r k) (lowerW_at m c t k j)
  · exact funext fun k => scale_at m c t k
  · exact funext fun k => shift_at m c t k

/-- The output array ends at the norm of every row. -/
theorem final : (dats m 0 c).arrAt 7 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  rw [after0_7]
  blk_simp
  obtain ⟨r, d, rfl⟩ : ∃ (r : Fin 256) (d : Fin 2048), y = ix2 r d := ⟨y 0, y 1, eq_ix2 y⟩
  exact (written_at m c t r d).trans (congrArg (result _ _ _ _ _ _) (out_emb t r d).symm)

end Cert.OutProjIdeal.Rows

end
-- ==== Proof.LayerNormReference.lean ====
module

public import proofs.«01_k».proof.Proof.Norm
public import proofs.«01_k».proof.Proof.Gen.LastNormReferenceIdeal.Run
public import Idealize.ShloMosaic.Lib.Pointwise
public import Idealize.ShloMosaic.PureOps.Ideal.Laws

@[expose] public section

set_option maxRecDepth 16384

noncomputable section

/-! # The layer norm that the references apply to an array's rows -/

namespace Cert.Norm

open Idealize.ShloMosaic Idealize.ShloMosaic.TcCoe
open Cert.LastNormReferenceIdeal Cert.LastNormReferenceIdeal.Gen

/-- The rows' means, as one column. -/
def means (z : FVec Ideal S16384x2048 .f32) : FVec Ideal S16384x1 .f32 :=
  Host.divf (broadcastInDim S16384x1 ![0] bcast_S16384_S16384x1_0 (Host.reduceAdd z (constant S_ .f32 0x00000000#32) reducesTo_S16384x2048_S16384_d1 h_S_))
    (broadcastInDim S16384x1 ![] bcast_S_S16384x1 (constant S_ .f32 0x45000000#32))

/-- The rows less their means. -/
def centred (z : FVec Ideal S16384x2048 .f32) : FVec Ideal S16384x2048 .f32 :=
  subf z (broadcastInDim S16384x2048 ![0, 1] bcast_S16384x1_S16384x2048_0_1 (means z))

/-- A vector repeated along the rows. -/
def along (g : FVec Ideal S2048 .f32) : FVec Ideal S16384x2048 .f32 :=
  broadcastInDim S16384x2048 ![0, 1] bcast_S1x2048_S16384x2048_0_1 (broadcastInDim S1x2048 ![1] bcast_S2048_S1x2048_1 g)

/-- The references' layer norm. -/
def layer (z : FVec Ideal S16384x2048 .f32) (g b : FVec Ideal S2048 .f32) : FVec Ideal S16384x2048 .f32 :=
  addf (mulf (mulf (centred z) (broadcastInDim S16384x2048 ![0, 1] bcast_S16384x1_S16384x2048_0_1
    (Host.rsqrt (addf (means (mulf (centred z) (centred z))) (broadcastInDim S16384x1 ![] bcast_S_S16384x1 (constant S_ .f32 0x3727C5AC#32)))))) (along g)) (along b)

theorem means_at (z : FVec Ideal S16384x2048 .f32) (r : Fin 16384) : means z (ix2 r 0) = mean fun k => z (ix2 r k) := by
  unfold means mean
  pointwise

theorem centred_at (z : FVec Ideal S16384x2048 .f32) (r : Fin 16384) (d : Fin 2048) :
    centred z (ix2 r d) = z (ix2 r d) - mean fun k => z (ix2 r k) := by
  unfold centred
  pointwise
  rw [means_at]

theorem layer_at (z : FVec Ideal S16384x2048 .f32) (g b : FVec Ideal S2048 .f32) (r : Fin 16384) (d : Fin 2048) :
    layer z g b (ix2 r d) = normed (fun k => z (ix2 r k)) (fun k => g (ix1 k)) (fun k => b (ix1 k)) d := by
  unfold layer along normed
  pointwise
  rw [means_at]
  pointwise
  simp only [centred_at]

/-- Two such norms agree when the rows do. -/
theorem normed_congr {z z' g g' b b' : Fin 2048 → EReal} (d : Fin 2048) (hz : ∀ k, z k = z' k) (hg : ∀ k, g k = g' k) (hb : ∀ k, b k = b' k) :
    normed z g b d = normed z' g' b' d := by rw [funext hz, funext hg, funext hb]

end Cert.Norm

end
-- ==== Proof.OutProjClaims.lean ====
module

public import proofs.«01_k».proof.Defs
public import proofs.«01_k».proof.Proof.OutProjValue
public import proofs.«01_k».proof.Proof.LayerNormReference
public import proofs.«01_k».proof.Proof.Gen.OutProj.Frame
public import proofs.«01_k».proof.Proof.Gen.OutProjReferenceIdeal.Run

@[expose] public section

set_option maxRecDepth 16384

noncomputable section

/-! # The output projection: its claims -/

namespace Cert.OutProjClaims

open Idealize.ShloMosaic Idealize.ShloMosaic.TcCoe
open Idealize.SL.Sem

/-- The joined row holds the first half's values first. -/
theorem joined_upper (A A' : FVec Ideal Cert.OutProjReferenceIdeal.S16384x1024 .f32) (r : Fin 16384) (k : Fin 1024) :
    concatenate Cert.OutProjReferenceIdeal.S16384x2048 1 [⟨Cert.OutProjReferenceIdeal.S16384x1024, A⟩, ⟨Cert.OutProjReferenceIdeal.S16384x1024, A'⟩] Cert.OutProjReferenceIdeal.Gen.concatenates_S16384x1024_S16384x1024_S16384x2048_d1 (ix2 r (Cert.OutProjIdeal.Rows.upper k)) = A (ix2 r k) := by
  pointwise
  exact dif_pos k.isLt

/-- And the second half's after them. -/
theorem joined_lower (A A' : FVec Ideal Cert.OutProjReferenceIdeal.S16384x1024 .f32) (r : Fin 16384) (k : Fin 1024) :
    concatenate Cert.OutProjReferenceIdeal.S16384x2048 1 [⟨Cert.OutProjReferenceIdeal.S16384x1024, A⟩, ⟨Cert.OutProjReferenceIdeal.S16384x1024, A'⟩] Cert.OutProjReferenceIdeal.Gen.concatenates_S16384x1024_S16384x1024_S16384x2048_d1 (ix2 r (Cert.OutProjIdeal.Rows.lower k)) = A' (ix2 r k) := by
  pointwise
  exact (dif_neg (Nat.not_lt.mpr (Nat.le_add_right 1024 k.val))).trans (congrArg (fun k => A' (ix2 r k)) (Fin.ext (Nat.add_sub_cancel_left 1024 k.val)))

/-- A sum over both halves. -/
theorem sum_halves (f : Fin 2048 → EReal) : ∑ k, f k = ∑ k, f (Cert.OutProjIdeal.Rows.upper k) + ∑ k, f (Cert.OutProjIdeal.Rows.lower k) := Fin.sum_univ_add (a := 1024) (b := 1024) f

/-- A projected row added to the scaled residual. -/
theorem sum_at (C : FVec Ideal Cert.OutProjReferenceIdeal.S16384x2048 .f32) (W : FVec Ideal Cert.OutProjReferenceIdeal.S2048x2048 .f32) (X : FVec Ideal Cert.OutProjReferenceIdeal.S16384x2048 .f32) (r : Fin 16384) (j : Fin 2048) :
    addf (mulf (broadcastInDim Cert.OutProjReferenceIdeal.S16384x2048 ![] Cert.OutProjReferenceIdeal.Gen.bcast_S_S16384x2048 (constant Cert.OutProjReferenceIdeal.S_ .f32 0x3F9837F0#32)) X)
        (Host.dotGeneral Cert.OutProjReferenceIdeal.dot_S16384x2048_S2048x2048_S16384x2048_1_0_0_1_n_n none C W) (ix2 r j)
      = Ideal.ofBits .f32 0x3F9837F0#32 * X (ix2 r j) + ∑ k, C (ix2 r k) * W (ix2 k j) := by
  pointwise

/-- The reference's term, element by element. -/
theorem reference_at (A A' : FVec Ideal Cert.OutProjReferenceIdeal.S16384x1024 .bf16) (W : FVec Ideal Cert.OutProjReferenceIdeal.S2048x2048 .f32) (X : FVec Ideal Cert.OutProjReferenceIdeal.S16384x2048 .f32) (g b : FVec Ideal Cert.OutProjReferenceIdeal.S2048 .f32) :
    Norm.layer (addf (mulf (broadcastInDim Cert.OutProjReferenceIdeal.S16384x2048 ![] Cert.OutProjReferenceIdeal.Gen.bcast_S_S16384x2048 (constant Cert.OutProjReferenceIdeal.S_ .f32 0x3F9837F0#32)) X)
        (Host.dotGeneral Cert.OutProjReferenceIdeal.dot_S16384x2048_S2048x2048_S16384x2048_1_0_0_1_n_n none
          (concatenate Cert.OutProjReferenceIdeal.S16384x2048 1 [⟨Cert.OutProjReferenceIdeal.S16384x1024, extf .f32 A Cert.OutProjReferenceIdeal.Gen.bitsLt_bf16_f32⟩, ⟨Cert.OutProjReferenceIdeal.S16384x1024, extf .f32 A' Cert.OutProjReferenceIdeal.Gen.bitsLt_bf16_f32⟩]
            Cert.OutProjReferenceIdeal.Gen.concatenates_S16384x1024_S16384x1024_S16384x2048_d1) W)) g b
      = Cert.OutProjIdeal.Rows.result A A' W X g b := by
  funext y
  obtain ⟨r, d, rfl⟩ : ∃ (r : Fin 16384) (d : Fin 2048), y = ix2 r d := ⟨y 0, y 1, eq_ix2 y⟩
  refine (Norm.layer_at _ _ _ r d).trans (Norm.normed_congr d (fun j => ?_) (fun k => rfl) fun k => rfl)
  refine (sum_at _ W X r j).trans ?_
  rw [sum_halves, ← add_assoc]
  simp only [joined_upper, joined_lower]
  rfl

/-- The kernel as printed runs, and leaves its arguments and every counter as they were. -/
theorem frame_kernel : Cert.quiescent_OutProj := fun m g _ => Cert.OutProj.Gen.frame m g

/-- So it does over the extended reals. -/
theorem frame_ideal : Cert.quiescent_OutProjIdeal := fun m g _ => Cert.OutProjIdeal.Gen.frame m g

/-- The reference: its generated run; it has no semaphore. -/
theorem frame_reference : Cert.quiescent_OutProjReferenceIdeal := fun m g _ =>
  (θ_run Cert.OutProjReferenceIdeal.defs _ _).mono (fun r h => ⟨fun c => (h c).2, sem_eq_zero_of_no_sems (by decide) r.2⟩)
    (Cert.OutProjReferenceIdeal.Value.run (F := Ideal) m g)

/-- The two texts are one. -/
theorem preserves : Cert.preserves_OutProj_OutProjIdeal := trivial

/-- The kernel and the reference leave the same array, the layer norm of every row. -/
theorem algebraic : Cert.algebraic_OutProjIdeal_OutProjReferenceIdeal := by
  intro m g m' g' _ hagree
  refine ⟨fun c => Cert.OutProjIdeal.Rows.result (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)), (θ_run Cert.OutProjIdeal.defs _ _).mono
    (fun _ h c => ⟨(h c).1.trans (Cert.OutProjIdeal.Rows.final m c), (h c).2⟩) (Cert.OutProjIdeal.Value.run_blocks (F := Ideal) m g), ?_⟩
  refine (θ_run Cert.OutProjReferenceIdeal.defs _ _).mono (fun _ h c => ⟨(h c).1.trans ?_, (h c).2⟩)
    (Cert.OutProjReferenceIdeal.Value.run (F := Ideal) m' g')
  unfold Cert.OutProjReferenceIdeal.Value.res_main_v28
  obtain ⟨h0, h1, h2, h3, h4, h5⟩ := hagree c
  rw [h0, h1, h2, h3, h4, h5]
  exact reference_at _ _ _ _ _ _

end Cert.OutProjClaims

end
-- ==== Proof.MemOutValue.lean ====
module

public import proofs.«01_k».proof.Proof.Gen.MemOutIdeal.Value
public import proofs.«01_k».proof.Proof.Norm
public import proofs.«01_k».proof.Proof.Dense
public import Idealize.ShloMosaic.Lib.Pointwise
public import Idealize.ShloMosaic.Lib.Tactic
public import Idealize.ShloMosaic.Lib.Pipeline.ValueKit
public import Idealize.ShloMosaic.PureOps.Ideal.Laws

@[expose] public section

set_option maxRecDepth 16384

noncomputable section

/-! # The memory output projection's result -/

namespace Cert.MemOutIdeal.Rows

open Idealize.ShloMosaic Idealize.ShloMosaic.TcCoe
open Idealize.SL.Sem
open Idealize.ShloMosaic.Pipeline (Dat Cfg Window)
open Cert.MemOutIdeal Cert.MemOutIdeal.Gen

theorem origin : (![0, 0] : Fin 2 → Nat) = fun _ => 0 := funext fun a => by fin_cases a <;> rfl

variable (m : (ℓ : Loc nD τ sig) → Buf (Elt Ideal) ℓ) (c : Dev nD)

/-- Row `r` of a block's result is the layer norm of the scaled residual plus the projected row. -/
theorem block_at (X A : S256x2048.Idx → EReal) (W : S2048x2048.Idx → EReal) (G B : S1x2048.Idx → EReal) (r : Fin 256) (d : Fin 2048) :
    k0_pay1 (F := Ideal) X A W G B (ix2 r d)
      = Norm.normed (fun j => Ideal.ofBits .f32 0x3F9837F0#32 * X (ix2 r j) + Cert.Dense.times (fun k => A (ix2 r k)) (fun k j => W (ix2 k j)) j)
        (fun k => G (ix2 0 k)) (fun k => B (ix2 0 k)) d := by
  unfold k0_pay1 Norm.normed Norm.mean Cert.Dense.times
  dsimp only
  pointwise

/-- The result, element by element. -/
def result (A : S16384x2048.Idx → EReal) (W : S2048x2048.Idx → EReal) (X : S16384x2048.Idx → EReal) (g b : S2048.Idx → EReal) : S16384x2048.Idx → EReal := fun i =>
  Norm.normed (fun j => Ideal.ofBits .f32 0x3F9837F0#32 * X (ix2 (i 0) j) + Cert.Dense.times (fun k => A (ix2 (i 0) k)) (fun k j => W (ix2 k j)) j)
    (fun k => g (ix1 k)) (fun k => b (ix1 k)) (i 1)

theorem V_weights : V m c main_v0 = truncf (F := Ideal) (φ := .f32) .bf16 (m ((c : Thread nD τ).loc main_arg1)) Facts₀.bitsLt_bf16_f32 := by
  show StableHlo.after hostOps0 _ (Proc.devRef .tc main_v0) = _
  unfold hostOps0
  after_results_simp

theorem V_scale : V m c main_v1 = shapeCast S1x2048 (m ((c : Thread nD τ).loc main_arg3)) Facts₀.shapeCasts_S2048_S1x2048 := by
  show StableHlo.after hostOps0 _ (Proc.devRef .tc main_v1) = _
  unfold hostOps0
  after_results_simp
  rfl

theorem V_shift : V m c main_v2 = shapeCast S1x2048 (m ((c : Thread nD τ).loc main_arg4)) Facts₀.shapeCasts_S2048_S1x2048 := by
  show StableHlo.after hostOps0 _ (Proc.devRef .tc main_v2) = _
  unfold hostOps0
  after_results_simp
  rfl

theorem vector_at (g : S2048.Idx → EReal) (k : Fin 2048) : shapeCast S1x2048 g Facts₀.shapeCasts_S2048_S1x2048 (ix2 0 k) = g (ix1 k) := by
  pointwise

/-- The row of the array that a point's block holds at its row `r`. -/
def rowAt (t : Fin 64) (r : Fin 256) : Fin 16384 := ⟨t.val * 256 + r.val, by omega⟩

theorem input_block (t : Fin 64) : cc0_transform_0 (grid0.coords t) = ![t.val, 0] := by revert t; decide +kernel

theorem input_emb (t : Fin 64) (r : Fin 256) (k : Fin 2048) :
    (Rect.block (s := S16384x2048) S256x2048.size (cc0_transform_0 (grid0.coords t)) (hinb0_0 (grid0.coords t))).emb (ix2 r k) = ix2 (rowAt t r) k :=
  Cert.Dense.block_emb _ (hinb0_0 _) r k _ _ (by rw [input_block]; rfl)
    (by rw [input_block]; exact ((congrArg (· + k.val) (Nat.zero_mul 2048)).trans (Nat.zero_add _)).symm)

theorem input_at (t : Fin 64) (r : Fin 256) (k : Fin 2048) : iblk m c 0 t (ix2 r k) = m ((c : Thread nD τ).loc main_arg0) (ix2 (rowAt t r) k) :=
  (congrArg (V m c main_arg0) (input_emb t r k)).trans (congrFun (V_main_arg0 m c) _)

theorem residual_block (t : Fin 64) : cc0_transform_2 (grid0.coords t) = ![t.val, 0] := by revert t; decide +kernel

theorem residual_emb (t : Fin 64) (r : Fin 256) (k : Fin 2048) :
    (Rect.block (s := S16384x2048) S256x2048.size (cc0_transform_2 (grid0.coords t)) (hinb0_2 (grid0.coords t))).emb (ix2 r k) = ix2 (rowAt t r) k :=
  Cert.Dense.block_emb _ (hinb0_2 _) r k _ _ (by rw [residual_block]; rfl)
    (by rw [residual_block]; exact ((congrArg (· + k.val) (Nat.zero_mul 2048)).trans (Nat.zero_add _)).symm)

theorem residual_at (t : Fin 64) (r : Fin 256) (k : Fin 2048) : iblk m c 2 t (ix2 r k) = m ((c : Thread nD τ).loc main_arg2) (ix2 (rowAt t r) k) :=
  (congrArg (V m c main_arg2) (residual_emb t r k)).trans (congrFun (V_main_arg2 m c) _)

theorem weights_block (t : Fin 64) : cc0_transform_1 (grid0.coords t) = ![0, 0] := by revert t; decide +kernel

theorem weights_emb (t : Fin 64) (i : Fin 2048) (k : Fin 2048) :
    (Rect.block (s := S2048x2048) S2048x2048.size (cc0_transform_1 (grid0.coords t)) (hinb0_1 (grid0.coords t))).emb (ix2 i k) = ix2 i k :=
  Cert.Dense.block_emb _ (hinb0_1 _) i k _ _ (by rw [weights_block]; exact ((congrArg (· + i.val) (Nat.zero_mul 2048)).trans (Nat.zero_add _)).symm)
    (by rw [weights_block]; exact ((congrArg (· + k.val) (Nat.zero_mul 2048)).trans (Nat.zero_add _)).symm)

theorem weights_at (t : Fin 64) (i : Fin 2048) (k : Fin 2048) : iblk m c 1 t (ix2 i k) = m ((c : Thread nD τ).loc main_arg1) (ix2 i k) :=
  (congrArg (V m c main_v0) (weights_emb t i k)).trans ((congrFun (V_weights m c) _).trans (rfl))

theorem scale_block (t : Fin 64) : cc0_transform_3 (grid0.coords t) = ![0, 0] := by revert t; decide +kernel

theorem scale_emb (t : Fin 64) (i : Fin 1) (k : Fin 2048) :
    (Rect.block (s := S1x2048) S1x2048.size (cc0_transform_3 (grid0.coords t)) (hinb0_3 (grid0.coords t))).emb (ix2 i k) = ix2 i k :=
  Cert.Dense.block_emb _ (hinb0_3 _) i k _ _ (by rw [scale_block]; exact ((congrArg (· + i.val) (Nat.zero_mul 1)).trans (Nat.zero_add _)).symm)
    (by rw [scale_block]; exact ((congrArg (· + k.val) (Nat.zero_mul 2048)).trans (Nat.zero_add _)).symm)

theorem scale_at (t : Fin 64)  (k : Fin 2048) : iblk m c 3 t (ix2 0 k) = m ((c : Thread nD τ).loc main_arg3) (ix1 k) :=
  (congrArg (V m c main_v1) (scale_emb t 0 k)).trans ((congrFun (V_scale m c) _).trans (vector_at _ k))

theorem shift_block (t : Fin 64) : cc0_transform_4 (grid0.coords t) = ![0, 0] := by revert t; decide +kernel

theorem shift_emb (t : Fin 64) (i : Fin 1) (k : Fin 2048) :
    (Rect.block (s := S1x2048) S1x2048.size (cc0_transform_4 (grid0.coords t)) (hinb0_4 (grid0.coords t))).emb (ix2 i k) = ix2 i k :=
  Cert.Dense.block_emb _ (hinb0_4 _) i k _ _ (by rw [shift_block]; exact ((congrArg (· + i.val) (Nat.zero_mul 1)).trans (Nat.zero_add _)).symm)
    (by rw [shift_block]; exact ((congrArg (· + k.val) (Nat.zero_mul 2048)).trans (Nat.zero_add _)).symm)

theorem shift_at (t : Fin 64)  (k : Fin 2048) : iblk m c 4 t (ix2 0 k) = m ((c : Thread nD τ).loc main_arg4) (ix1 k) :=
  (congrArg (V m c main_v2) (shift_emb t 0 k)).trans ((congrFun (V_shift m c) _).trans (vector_at _ k))

theorem out_block (t : Fin 64) : cc0_transform_5 (grid0.coords t) = ![t.val, 0] := by revert t; decide +kernel

theorem out_emb (t : Fin 64) (r : Fin 256) (k : Fin 2048) :
    (Rect.block (s := S16384x2048) S256x2048.size (cc0_transform_5 (grid0.coords t)) (hinb0_5 (grid0.coords t))).emb (ix2 r k) = ix2 (rowAt t r) k :=
  Cert.Dense.block_emb _ (hinb0_5 _) r k _ _ (by rw [out_block]; rfl)
    (by rw [out_block]; exact ((congrArg (· + k.val) (Nat.zero_mul 2048)).trans (Nat.zero_add _)).symm)

/-- Every point leaves its rows of the result. -/
theorem written_at (t : Fin cfg0.N) (r : Fin 256) (d : Fin 2048) :
    out0_5 (iblk m c 0 t) (iblk m c 1 t) (iblk m c 2 t) (iblk m c 3 t) (iblk m c 4 t) (ix2 r d)
      = result (m ((c : Thread nD τ).loc main_arg0)) (m ((c : Thread nD τ).loc main_arg1)) (m ((c : Thread nD τ).loc main_arg2)) (m ((c : Thread nD τ).loc main_arg3)) (m ((c : Thread nD τ).loc main_arg4)) (ix2 (rowAt t r) d) := by
  unfold out0_5
  rw [View.canon_unit_zero (S := S256x2048) origin]
  simp only [View.ld_unit_zero (S := S256x2048) origin, View.ld_unit_zero (S := S1x2048) origin, View.ld_unit_zero (S := S2048x2048) origin]
  refine (block_at _ _ _ _ _ r d).trans ?_
  unfold result Cert.Dense.times
  congr 1
  · exact funext fun j => congrArg₂ (fun x y => Ideal.ofBits .f32 0x3F9837F0#32 * x + y) (residual_at m c t r j)
      (Finset.sum_congr rfl fun k _ => congrArg₂ (· * ·) (input_at m c t r k) (weights_at m c t k j))
  · exact funext fun k => scale_at m c t k
  · exact funext fun k => shift_at m c t k

/-- The output array ends at the norm of every row. -/
theorem final : (dats m 0 c).arrAt 5 cfg0.N = result (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  rw [after0_5]
  blk_simp
  obtain ⟨r, d, rfl⟩ : ∃ (r : Fin 256) (d : Fin 2048), y = ix2 r d := ⟨y 0, y 1, eq_ix2 y⟩
  exact (written_at m c t r d).trans (congrArg (result _ _ _ _ _) (out_emb t r d).symm)

end Cert.MemOutIdeal.Rows

end
-- ==== Proof.MemOutClaims.lean ====
module

public import proofs.«01_k».proof.Defs
public import proofs.«01_k».proof.Proof.MemOutValue
public import proofs.«01_k».proof.Proof.LayerNormReference
public import proofs.«01_k».proof.Proof.Gen.MemOut.Frame
public import proofs.«01_k».proof.Proof.Gen.MemOutReferenceIdeal.Run

@[expose] public section

set_option maxRecDepth 16384

noncomputable section

/-! # The memory output projection: its claims -/

namespace Cert.MemOutClaims

open Idealize.ShloMosaic Idealize.ShloMosaic.TcCoe
open Idealize.SL.Sem

/-- The reference's term, element by element. -/
theorem reference_at (A : FVec Ideal Cert.MemOutReferenceIdeal.S16384x2048 .bf16) (W : FVec Ideal Cert.MemOutReferenceIdeal.S2048x2048 .f32) (X : FVec Ideal Cert.MemOutReferenceIdeal.S16384x2048 .f32) (g b : FVec Ideal Cert.MemOutReferenceIdeal.S2048 .f32) :
    Norm.layer (addf (mulf (broadcastInDim Cert.MemOutReferenceIdeal.S16384x2048 ![] Cert.MemOutReferenceIdeal.Gen.bcast_S_S16384x2048 (constant Cert.MemOutReferenceIdeal.S_ .f32 0x3F9837F0#32)) X)
        (Host.dotGeneral Cert.MemOutReferenceIdeal.dot_S16384x2048_S2048x2048_S16384x2048_1_0_0_1_n_n none (extf .f32 A Cert.MemOutReferenceIdeal.Gen.bitsLt_bf16_f32) W)) g b
      = Cert.MemOutIdeal.Rows.result A W X g b := by
  funext y
  obtain ⟨r, d, rfl⟩ : ∃ (r : Fin 16384) (d : Fin 2048), y = ix2 r d := ⟨y 0, y 1, eq_ix2 y⟩
  refine (Norm.layer_at _ _ _ r d).trans (Norm.normed_congr d (fun k => ?_) (fun k => rfl) fun k => rfl)
  unfold Cert.Dense.times
  pointwise

/-- The kernel as printed runs, and leaves its arguments and every counter as they were. -/
theorem frame_kernel : Cert.quiescent_MemOut := fun m g _ => Cert.MemOut.Gen.frame m g

/-- So it does over the extended reals. -/
theorem frame_ideal : Cert.quiescent_MemOutIdeal := fun m g _ => Cert.MemOutIdeal.Gen.frame m g

/-- The reference: its generated run; it has no semaphore. -/
theorem frame_reference : Cert.quiescent_MemOutReferenceIdeal := fun m g _ =>
  (θ_run Cert.MemOutReferenceIdeal.defs _ _).mono (fun r h => ⟨fun c => (h c).2, sem_eq_zero_of_no_sems (by decide) r.2⟩)
    (Cert.MemOutReferenceIdeal.Value.run (F := Ideal) m g)

/-- The two texts are one. -/
theorem preserves : Cert.preserves_MemOut_MemOutIdeal := trivial

/-- The kernel and the reference leave the same array, the layer norm of every row. -/
theorem algebraic : Cert.algebraic_MemOutIdeal_MemOutReferenceIdeal := by
  intro m g m' g' _ hagree
  refine ⟨fun c => Cert.MemOutIdeal.Rows.result (m ((c.tc : Thread Cert.MemOutIdeal.nD Cert.MemOutIdeal.τ).loc Cert.MemOutIdeal.main_arg0)) (m ((c.tc : Thread Cert.MemOutIdeal.nD Cert.MemOutIdeal.τ).loc Cert.MemOutIdeal.main_arg1)) (m ((c.tc : Thread Cert.MemOutIdeal.nD Cert.MemOutIdeal.τ).loc Cert.MemOutIdeal.main_arg2)) (m ((c.tc : Thread Cert.MemOutIdeal.nD Cert.MemOutIdeal.τ).loc Cert.MemOutIdeal.main_arg3)) (m ((c.tc : Thread Cert.MemOutIdeal.nD Cert.MemOutIdeal.τ).loc Cert.MemOutIdeal.main_arg4)), (θ_run Cert.MemOutIdeal.defs _ _).mono
    (fun _ h c => ⟨(h c).1.trans (Cert.MemOutIdeal.Rows.final m c), (h c).2⟩) (Cert.MemOutIdeal.Value.run_blocks (F := Ideal) m g), ?_⟩
  refine (θ_run Cert.MemOutReferenceIdeal.defs _ _).mono (fun _ h c => ⟨(h c).1.trans ?_, (h c).2⟩)
    (Cert.MemOutReferenceIdeal.Value.run (F := Ideal) m' g')
  obtain ⟨h0, h1, h2, h3, h4⟩ := hagree c
  rw [h0, h1, h2, h3, h4]
  exact reference_at _ _ _ _ _

end Cert.MemOutClaims

end
-- ==== Proof.LastNormValue.lean ====
module

public import proofs.«01_k».proof.Proof.Gen.LastNormIdeal.Value
public import proofs.«01_k».proof.Proof.Norm
public import proofs.«01_k».proof.Proof.Dense
public import Idealize.ShloMosaic.Lib.Pointwise
public import Idealize.ShloMosaic.Lib.Tactic
public import Idealize.ShloMosaic.Lib.Pipeline.ValueKit
public import Idealize.ShloMosaic.PureOps.Ideal.Laws

@[expose] public section

set_option maxRecDepth 16384

noncomputable section

/-! # The last norm's result -/

namespace Cert.LastNormIdeal.Rows

open Idealize.ShloMosaic Idealize.ShloMosaic.TcCoe
open Idealize.SL.Sem
open Idealize.ShloMosaic.Pipeline (Dat Cfg Window)
open Cert.LastNormIdeal Cert.LastNormIdeal.Gen

theorem origin : (![0, 0] : Fin 2 → Nat) = fun _ => 0 := funext fun a => by fin_cases a <;> rfl

variable (m : (ℓ : Loc nD τ sig) → Buf (Elt Ideal) ℓ) (c : Dev nD)

/-- Row `r` of a block's result is the layer norm of the scaled residual plus the sublayer's row. -/
theorem block_at (X Y : S512x2048.Idx → EReal) (G B : S1x2048.Idx → EReal) (r : Fin 512) (d : Fin 2048) :
    k0_pay1 (F := Ideal) X Y G B (ix2 r d)
      = Norm.normed (fun k => Ideal.ofBits .f32 0x3F9837F0#32 * X (ix2 r k) + Y (ix2 r k)) (fun k => G (ix2 0 k)) (fun k => B (ix2 0 k)) d := by
  unfold k0_pay1 Norm.normed Norm.mean
  dsimp only
  pointwise

/-- The result, element by element. -/
def result (X Y : S16384x2048.Idx → EReal) (g b : S2048.Idx → EReal) : S16384x2048.Idx → EReal := fun i =>
  Norm.normed (fun k => Ideal.ofBits .f32 0x3F9837F0#32 * X (ix2 (i 0) k) + Y (ix2 (i 0) k)) (fun k => g (ix1 k)) (fun k => b (ix1 k)) (i 1)

theorem V_scale : V m c main_v0 = shapeCast S1x2048 (m ((c : Thread nD τ).loc main_arg2)) Facts₀.shapeCasts_S2048_S1x2048 := by
  show StableHlo.after hostOps0 _ (Proc.devRef .tc main_v0) = _
  unfold hostOps0
  after_results_simp
  rfl

theorem V_shift : V m c main_v1 = shapeCast S1x2048 (m ((c : Thread nD τ).loc main_arg3)) Facts₀.shapeCasts_S2048_S1x2048 := by
  show StableHlo.after hostOps0 _ (Proc.devRef .tc main_v1) = _
  unfold hostOps0
  after_results_simp
  rfl

theorem vector_at (g : S2048.Idx → EReal) (k : Fin 2048) : shapeCast S1x2048 g Facts₀.shapeCasts_S2048_S1x2048 (ix2 0 k) = g (ix1 k) := by
  pointwise

/-- The row of the array that a point's block holds at its row `r`. -/
def rowAt (t : Fin 32) (r : Fin 512) : Fin 16384 := ⟨t.val * 512 + r.val, by omega⟩

theorem residual_block (t : Fin 32) : cc0_transform_0 (grid0.coords t) = ![t.val, 0] := by revert t; decide +kernel

theorem residual_emb (t : Fin 32) (r : Fin 512) (k : Fin 2048) :
    (Rect.block (s := S16384x2048) S512x2048.size (cc0_transform_0 (grid0.coords t)) (hinb0_0 (grid0.coords t))).emb (ix2 r k) = ix2 (rowAt t r) k :=
  Cert.Dense.block_emb _ (hinb0_0 _) r k _ _ (by rw [residual_block]; rfl)
    (by rw [residual_block]; exact ((congrArg (· + k.val) (Nat.zero_mul 2048)).trans (Nat.zero_add _)).symm)

theorem residual_at (t : Fin 32) (r : Fin 512) (k : Fin 2048) : iblk m c 0 t (ix2 r k) = m ((c : Thread nD τ).loc main_arg0) (ix2 (rowAt t r) k) :=
  (congrArg (V m c main_arg0) (residual_emb t r k)).trans (congrFun (V_main_arg0 m c) _)

theorem sublayer_block (t : Fin 32) : cc0_transform_1 (grid0.coords t) = ![t.val, 0] := by revert t; decide +kernel

theorem sublayer_emb (t : Fin 32) (r : Fin 512) (k : Fin 2048) :
    (Rect.block (s := S16384x2048) S512x2048.size (cc0_transform_1 (grid0.coords t)) (hinb0_1 (grid0.coords t))).emb (ix2 r k) = ix2 (rowAt t r) k :=
  Cert.Dense.block_emb _ (hinb0_1 _) r k _ _ (by rw [sublayer_block]; rfl)
    (by rw [sublayer_block]; exact ((congrArg (· + k.val) (Nat.zero_mul 2048)).trans (Nat.zero_add _)).symm)

theorem sublayer_at (t : Fin 32) (r : Fin 512) (k : Fin 2048) : iblk m c 1 t (ix2 r k) = m ((c : Thread nD τ).loc main_arg1) (ix2 (rowAt t r) k) :=
  (congrArg (V m c main_arg1) (sublayer_emb t r k)).trans (congrFun (V_main_arg1 m c) _)

theorem scale_block (t : Fin 32) : cc0_transform_2 (grid0.coords t) = ![0, 0] := by revert t; decide +kernel

theorem scale_emb (t : Fin 32) (i : Fin 1) (k : Fin 2048) :
    (Rect.block (s := S1x2048) S1x2048.size (cc0_transform_2 (grid0.coords t)) (hinb0_2 (grid0.coords t))).emb (ix2 i k) = ix2 i k :=
  Cert.Dense.block_emb _ (hinb0_2 _) i k _ _ (by rw [scale_block]; exact ((congrArg (· + i.val) (Nat.zero_mul 1)).trans (Nat.zero_add _)).symm)
    (by rw [scale_block]; exact ((congrArg (· + k.val) (Nat.zero_mul 2048)).trans (Nat.zero_add _)).symm)

theorem scale_at (t : Fin 32)  (k : Fin 2048) : iblk m c 2 t (ix2 0 k) = m ((c : Thread nD τ).loc main_arg2) (ix1 k) :=
  (congrArg (V m c main_v0) (scale_emb t 0 k)).trans ((congrFun (V_scale m c) _).trans (vector_at _ k))

theorem shift_block (t : Fin 32) : cc0_transform_3 (grid0.coords t) = ![0, 0] := by revert t; decide +kernel

theorem shift_emb (t : Fin 32) (i : Fin 1) (k : Fin 2048) :
    (Rect.block (s := S1x2048) S1x2048.size (cc0_transform_3 (grid0.coords t)) (hinb0_3 (grid0.coords t))).emb (ix2 i k) = ix2 i k :=
  Cert.Dense.block_emb _ (hinb0_3 _) i k _ _ (by rw [shift_block]; exact ((congrArg (· + i.val) (Nat.zero_mul 1)).trans (Nat.zero_add _)).symm)
    (by rw [shift_block]; exact ((congrArg (· + k.val) (Nat.zero_mul 2048)).trans (Nat.zero_add _)).symm)

theorem shift_at (t : Fin 32)  (k : Fin 2048) : iblk m c 3 t (ix2 0 k) = m ((c : Thread nD τ).loc main_arg3) (ix1 k) :=
  (congrArg (V m c main_v1) (shift_emb t 0 k)).trans ((congrFun (V_shift m c) _).trans (vector_at _ k))

theorem out_block (t : Fin 32) : cc0_transform_4 (grid0.coords t) = ![t.val, 0] := by revert t; decide +kernel

theorem out_emb (t : Fin 32) (r : Fin 512) (k : Fin 2048) :
    (Rect.block (s := S16384x2048) S512x2048.size (cc0_transform_4 (grid0.coords t)) (hinb0_4 (grid0.coords t))).emb (ix2 r k) = ix2 (rowAt t r) k :=
  Cert.Dense.block_emb _ (hinb0_4 _) r k _ _ (by rw [out_block]; rfl)
    (by rw [out_block]; exact ((congrArg (· + k.val) (Nat.zero_mul 2048)).trans (Nat.zero_add _)).symm)

/-- Every point leaves its rows of the result. -/
theorem written_at (t : Fin cfg0.N) (r : Fin 512) (d : Fin 2048) :
    out0_4 (iblk m c 0 t) (iblk m c 1 t) (iblk m c 2 t) (iblk m c 3 t) (ix2 r d)
      = result (m ((c : Thread nD τ).loc main_arg0)) (m ((c : Thread nD τ).loc main_arg1)) (m ((c : Thread nD τ).loc main_arg2)) (m ((c : Thread nD τ).loc main_arg3)) (ix2 (rowAt t r) d) := by
  unfold out0_4
  rw [View.canon_unit_zero (S := S512x2048) origin]
  simp only [View.ld_unit_zero (S := S512x2048) origin, View.ld_unit_zero (S := S1x2048) origin]
  refine (block_at _ _ _ _ r d).trans ?_
  unfold result
  congr 1
  · exact funext fun k => congrArg₂ (fun x y => Ideal.ofBits .f32 0x3F9837F0#32 * x + y) (residual_at m c t r k) (sublayer_at m c t r k)
  · exact funext fun k => scale_at m c t k
  · exact funext fun k => shift_at m c t k

/-- The output array ends at the norm of every row. -/
theorem final : (dats m 0 c).arrAt 4 cfg0.N = result (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  rw [after0_4]
  blk_simp
  obtain ⟨r, d, rfl⟩ : ∃ (r : Fin 512) (d : Fin 2048), y = ix2 r d := ⟨y 0, y 1, eq_ix2 y⟩
  exact (written_at m c t r d).trans (congrArg (result _ _ _ _) (out_emb t r d).symm)

end Cert.LastNormIdeal.Rows

end
-- ==== Proof.LastNormClaims.lean ====
module

public import proofs.«01_k».proof.Defs
public import proofs.«01_k».proof.Proof.LastNormValue
public import proofs.«01_k».proof.Proof.LayerNormReference
public import proofs.«01_k».proof.Proof.Gen.LastNorm.Frame
public import proofs.«01_k».proof.Proof.Gen.LastNormReferenceIdeal.Run

@[expose] public section

set_option maxRecDepth 16384

noncomputable section

/-! # The last norm: its claims -/

namespace Cert.LastNormClaims

open Idealize.ShloMosaic Idealize.ShloMosaic.TcCoe
open Idealize.SL.Sem

/-- The reference's term, element by element. -/
theorem reference_at (X Y : FVec Ideal Cert.LastNormReferenceIdeal.S16384x2048 .f32) (g b : FVec Ideal Cert.LastNormReferenceIdeal.S2048 .f32) :
    Norm.layer (addf (mulf (broadcastInDim Cert.LastNormReferenceIdeal.S16384x2048 ![] Cert.LastNormReferenceIdeal.Gen.bcast_S_S16384x2048 (constant Cert.LastNormReferenceIdeal.S_ .f32 0x3F9837F0#32)) X) Y) g b
      = Cert.LastNormIdeal.Rows.result X Y g b := by
  funext y
  obtain ⟨r, d, rfl⟩ : ∃ (r : Fin 16384) (d : Fin 2048), y = ix2 r d := ⟨y 0, y 1, eq_ix2 y⟩
  refine (Norm.layer_at _ _ _ r d).trans (Norm.normed_congr d (fun k => ?_) (fun k => rfl) fun k => rfl)
  pointwise

/-- The kernel as printed runs, and leaves its arguments and every counter as they were. -/
theorem frame_kernel : Cert.quiescent_LastNorm := fun m g _ => Cert.LastNorm.Gen.frame m g

/-- So it does over the extended reals. -/
theorem frame_ideal : Cert.quiescent_LastNormIdeal := fun m g _ => Cert.LastNormIdeal.Gen.frame m g

/-- The reference: its generated run; it has no semaphore. -/
theorem frame_reference : Cert.quiescent_LastNormReferenceIdeal := fun m g _ =>
  (θ_run Cert.LastNormReferenceIdeal.defs _ _).mono (fun r h => ⟨fun c => (h c).2, sem_eq_zero_of_no_sems (by decide) r.2⟩)
    (Cert.LastNormReferenceIdeal.Value.run (F := Ideal) m g)

/-- The two texts are one. -/
theorem preserves : Cert.preserves_LastNorm_LastNormIdeal := trivial

/-- The kernel and the reference leave the same array, the layer norm of every row. -/
theorem algebraic : Cert.algebraic_LastNormIdeal_LastNormReferenceIdeal := by
  intro m g m' g' _ hagree
  refine ⟨fun c => Cert.LastNormIdeal.Rows.result (m ((c.tc : Thread Cert.LastNormIdeal.nD Cert.LastNormIdeal.τ).loc Cert.LastNormIdeal.main_arg0)) (m ((c.tc : Thread Cert.LastNormIdeal.nD Cert.LastNormIdeal.τ).loc Cert.LastNormIdeal.main_arg1)) (m ((c.tc : Thread Cert.LastNormIdeal.nD Cert.LastNormIdeal.τ).loc Cert.LastNormIdeal.main_arg2)) (m ((c.tc : Thread Cert.LastNormIdeal.nD Cert.LastNormIdeal.τ).loc Cert.LastNormIdeal.main_arg3)), (θ_run Cert.LastNormIdeal.defs _ _).mono
    (fun _ h c => ⟨(h c).1.trans (Cert.LastNormIdeal.Rows.final m c), (h c).2⟩) (Cert.LastNormIdeal.Value.run_blocks (F := Ideal) m g), ?_⟩
  refine (θ_run Cert.LastNormReferenceIdeal.defs _ _).mono (fun _ h c => ⟨(h c).1.trans ?_, (h c).2⟩)
    (Cert.LastNormReferenceIdeal.Value.run (F := Ideal) m' g')
  obtain ⟨h0, h1, h2, h3⟩ := hagree c
  rw [h0, h1, h2, h3]
  exact reference_at _ _ _ _

end Cert.LastNormClaims

end
-- ==== Proof.lean ====
module

public import proofs.«01_k».proof.Proof.Claims
public import proofs.«01_k».proof.Proof.InProjClaims
public import proofs.«01_k».proof.Proof.PeerQueryClaims
public import proofs.«01_k».proof.Proof.MemQueryClaims
public import proofs.«01_k».proof.Proof.AttentionClaims
public import proofs.«01_k».proof.Proof.OutProjClaims
public import proofs.«01_k».proof.Proof.MemOutClaims
public import proofs.«01_k».proof.Proof.LastNormClaims

@[expose] public section

noncomputable section

namespace Cert.Proof

/-- The frames of every kernel, of its ideal and of its reference, the one constant named, and every kernel's ideal against its reference. -/
theorem claim : Cert.Claim := ⟨Cert.Kernel.Gen.facts, Cert.KernelIdeal.Gen.facts, Cert.ReferenceIdeal.Gen.facts,
  Cert.InProj.Gen.facts, Cert.InProjIdeal.Gen.facts, Cert.InProjReferenceIdeal.Gen.facts,
  Cert.PeerQuery.Gen.facts, Cert.PeerQueryIdeal.Gen.facts, Cert.PeerQueryReferenceIdeal.Gen.facts,
  Cert.MemQuery.Gen.facts, Cert.MemQueryIdeal.Gen.facts, Cert.MemQueryReferenceIdeal.Gen.facts,
  Cert.Attention.Gen.facts, Cert.AttentionIdeal.Gen.facts, Cert.AttentionReferenceIdeal.Gen.facts,
  Cert.OutProj.Gen.facts, Cert.OutProjIdeal.Gen.facts, Cert.OutProjReferenceIdeal.Gen.facts,
  Cert.MemOut.Gen.facts, Cert.MemOutIdeal.Gen.facts, Cert.MemOutReferenceIdeal.Gen.facts,
  Cert.LastNorm.Gen.facts, Cert.LastNormIdeal.Gen.facts, Cert.LastNormReferenceIdeal.Gen.facts, preFacts, AttentionClaims.preFinite,
  frame_kernel, frame_ideal, frame_reference,
  InProjClaims.frame_kernel, InProjClaims.frame_ideal, InProjClaims.frame_reference,
  PeerQueryClaims.frame_kernel, PeerQueryClaims.frame_ideal, PeerQueryClaims.frame_reference,
  MemQueryClaims.frame_kernel, MemQueryClaims.frame_ideal, MemQueryClaims.frame_reference,
  AttentionClaims.frame_kernel, AttentionClaims.frame_ideal, AttentionClaims.frame_ideal_finite, AttentionClaims.frame_reference, AttentionClaims.frame_reference_finite,
  OutProjClaims.frame_kernel, OutProjClaims.frame_ideal, OutProjClaims.frame_reference,
  MemOutClaims.frame_kernel, MemOutClaims.frame_ideal, MemOutClaims.frame_reference,
  LastNormClaims.frame_kernel, LastNormClaims.frame_ideal, LastNormClaims.frame_reference,
  preserves, algebraic,
  InProjClaims.preserves, InProjClaims.algebraic,
  PeerQueryClaims.preserves, PeerQueryClaims.algebraic,
  MemQueryClaims.preserves, MemQueryClaims.algebraic,
  AttentionClaims.preserves, AttentionClaims.algebraic,
  OutProjClaims.preserves, OutProjClaims.algebraic,
  MemOutClaims.preserves, MemOutClaims.algebraic,
  LastNormClaims.preserves, LastNormClaims.algebraic⟩

end Cert.Proof

end
